-- ==== Defs.lean ====
def Pre_Kernel [hPre_tokens_named : Cert.Pre_tokens_named.Facts] (m : (ℓ : Loc Cert.Kernel.nD Cert.Kernel.τ Cert.Kernel.sig) → Buf (Elt Bits) ℓ) : Prop :=
  ∀ c : Dev Cert.Kernel.nD,
    (Cert.Pre_tokens_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tokens_named : Cert.Pre_tokens_named.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_named [hPre_tokens_named : Cert.Pre_tokens_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_tokens_named : Cert.Pre_tokens_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tokens_named : Cert.Pre_tokens_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tokens_named [hReferenceIdeal : Cert.ReferenceIdeal.Facts] [hPre_tokens_named : Cert.Pre_tokens_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_temp" .f32 0x3FB6DB6E#32 ((10 / 7 : ℝ) : EReal)

def algebraic_KernelIdeal_ReferenceIdeal [hKernelIdeal : Cert.KernelIdeal.Facts] [hReferenceIdeal : Cert.ReferenceIdeal.Facts] [hPre_tokens_named : Cert.Pre_tokens_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens_named : Cert.Pre_tokens_named.Facts),
    quiescent_Kernel (hKernel := hKernel) (hPre_tokens_named := hPre_tokens_named)
    ∧ quiescent_KernelIdeal (hKernelIdeal := hKernelIdeal) (hPre_tokens_named := hPre_tokens_named)
    ∧ quiescent_ReferenceIdeal (hReferenceIdeal := hReferenceIdeal)
    ∧ quiescent_ReferenceIdeal_pre_tokens_named (hReferenceIdeal := hReferenceIdeal) (hPre_tokens_named := hPre_tokens_named)
    ∧ preserves_Kernel_KernelIdeal
    ∧ algebraic_KernelIdeal_ReferenceIdeal (hKernelIdeal := hKernelIdeal) (hReferenceIdeal := hReferenceIdeal) (hPre_tokens_named := hPre_tokens_named)
-- ==== Pre_tokens_named.lean ====
abbrev S48x5x2560 : Shape := ⟨3, ![48, 5, 2560]⟩
abbrev S48x5 : Shape := ⟨2, ![48, 5]⟩
abbrev S2560x151936 : Shape := ⟨2, ![2560, 151936]⟩
abbrev S151936 : Shape := ⟨1, ![151936]⟩
abbrev S48x4x2560 : Shape := ⟨3, ![48, 4, 2560]⟩
abbrev S48x4 : Shape := ⟨2, ![48, 4]⟩
abbrev S32000 : Shape := ⟨1, ![32000]⟩
abbrev S_ : Shape := ⟨0, ![]⟩

class Facts : Prop where
  bcast_S_S32000 : S_.BroadcastsInDim S32000 (![] : Fin 0 → Fin S32000.rank)
  reducesTo_S32000_S_d0 : S32000.ReducesTo [0] S_
  h_S_ : 0 < S_.numel
  bcast_S_S48x4 : S_.BroadcastsInDim S48x4 (![] : Fin 0 → Fin S48x4.rank)
  reducesTo_S48x4_S_d0_1 : S48x4.ReducesTo [0, 1] S_

variable [Facts]

def fn {F : FTy → Type} [FloatOps F] (main_arg0 : FVec F S48x5x2560 .fp8e4m3) (main_arg1 : FVec F S48x5 .f32) (main_arg2 : FVec F S2560x151936 .fp8e4m3) (main_arg3 : FVec F S151936 .f32) (main_arg4 : FVec F S48x4x2560 .fp8e4m3) (main_arg5 : FVec F S48x4 .f32) (main_arg6 : IVec S32000 32) (main_arg7 : IVec S48x4 32) : IVec S_ 1 :=
  let main_v0 : IVec S32000 32 := iotaInDim S32000 32 0
  let main_v1 : IVec S32000 32 := addi main_arg6 main_v0
  let main_c : IVec S_ 32 := constantI S_ 32 0#32
  let main_v2 : IVec S32000 32 := broadcastInDim S32000 ![] bcast_S_S32000 main_c
  let main_v3 : IVec S32000 1 := cmpi .sge main_v1 main_v2
  let main_c_0 : IVec S_ 32 := constantI S_ 32 151936#32
  let main_v4 : IVec S32000 32 := broadcastInDim S32000 ![] bcast_S_S32000 main_c_0
  let main_v5 : IVec S32000 1 := cmpi .slt main_v1 main_v4
  let main_v6 : IVec S32000 1 := andi main_v3 main_v5
  let main_c_1 : IVec S_ 1 := constantI S_ 1 1#1
  let main_v7 : IVec S_ 1 := (fun x v => Host.reduce IntOp.andi x v reducesTo_S32000_S_d0 h_S_) main_v6 main_c_1
  let main_c_2 : IVec S_ 32 := constantI S_ 32 0#32
  let main_v8 : IVec S48x4 32 := broadcastInDim S48x4 ![] bcast_S_S48x4 main_c_2
  let main_v9 : IVec S48x4 1 := cmpi .sge main_arg7 main_v8
  let main_c_3 : IVec S_ 32 := constantI S_ 32 32000#32
  let main_v10 : IVec S48x4 32 := broadcastInDim S48x4 ![] bcast_S_S48x4 main_c_3
  let main_v11 : IVec S48x4 1 := cmpi .slt main_arg7 main_v10
  let main_v12 : IVec S48x4 1 := andi main_v9 main_v11
  let main_c_4 : IVec S_ 1 := constantI S_ 1 1#1
  let main_v13 : IVec S_ 1 := (fun x v => Host.reduce IntOp.andi x v reducesTo_S48x4_S_d0_1 h_S_) main_v12 main_c_4
  let main_v14 : IVec S_ 1 := andi main_v7 main_v13
  main_v14
-- ==== Kernel.lean ====
abbrev S48x5x2560 : Shape := ⟨3, ![48, 5, 2560]⟩
abbrev S48x5 : Shape := ⟨2, ![48, 5]⟩
abbrev S2560x151936 : Shape := ⟨2, ![2560, 151936]⟩
abbrev S151936 : Shape := ⟨1, ![151936]⟩
abbrev S48x4x2560 : Shape := ⟨3, ![48, 4, 2560]⟩
abbrev S48x4 : Shape := ⟨2, ![48, 4]⟩
abbrev S32000 : Shape := ⟨1, ![32000]⟩
abbrev S5x48x2560 : Shape := ⟨3, ![5, 48, 2560]⟩
abbrev S240x2560 : Shape := ⟨2, ![240, 2560]⟩
abbrev S4x48x2560 : Shape := ⟨3, ![4, 48, 2560]⟩
abbrev S192x2560 : Shape := ⟨2, ![192, 2560]⟩
abbrev S5x48 : Shape := ⟨2, ![5, 48]⟩
abbrev S240x1 : Shape := ⟨2, ![240, 1]⟩
abbrev S4x48 : Shape := ⟨2, ![4, 48]⟩
abbrev S192x1 : Shape := ⟨2, ![192, 1]⟩
abbrev S192 : Shape := ⟨1, ![192]⟩
abbrev S1187x128 : Shape := ⟨2, ![1187, 128]⟩
abbrev S_ : Shape := ⟨0, ![]⟩
abbrev S34816 : Shape := ⟨1, ![34816]⟩
abbrev S272x128 : Shape := ⟨2, ![272, 128]⟩
abbrev S240x151936 : Shape := ⟨2, ![240, 151936]⟩
abbrev S192x32000 : Shape := ⟨2, ![192, 32000]⟩
abbrev S8x128 : Shape := ⟨2, ![8, 128]⟩
abbrev S2560x1024 : Shape := ⟨2, ![2560, 1024]⟩
abbrev S240x1024 : Shape := ⟨2, ![240, 1024]⟩
abbrev S6x2560x256 : Shape := ⟨3, ![6, 2560, 256]⟩
abbrev S6x8x256 : Shape := ⟨3, ![6, 8, 256]⟩
abbrev S251x192x128 : Shape := ⟨3, ![251, 192, 128]⟩
abbrev S250x192x128 : Shape := ⟨3, ![250, 192, 128]⟩
abbrev S192x1024 : Shape := ⟨2, ![192, 1024]⟩
abbrev S240x128 : Shape := ⟨2, ![240, 128]⟩
abbrev S192x128 : Shape := ⟨2, ![192, 128]⟩
abbrev S2x192x256 : Shape := ⟨3, ![2, 192, 256]⟩
abbrev S2 : Shape := ⟨1, ![2]⟩
abbrev S1 : Shape := ⟨1, ![1]⟩
abbrev S1x2560x256 : Shape := ⟨3, ![1, 2560, 256]⟩
abbrev S2560x256 : Shape := ⟨2, ![2560, 256]⟩
abbrev S192x256 : Shape := ⟨2, ![192, 256]⟩
abbrev S1x1x256 : Shape := ⟨3, ![1, 1, 256]⟩
abbrev S1x256 : Shape := ⟨2, ![1, 256]⟩
abbrev S1x192x256 : Shape := ⟨3, ![1, 192, 256]⟩
abbrev S1x192x128 : Shape := ⟨3, ![1, 192, 128]⟩
abbrev S16x128 : Shape := ⟨2, ![16, 128]⟩
abbrev S1x16x128 : Shape := ⟨3, ![1, 16, 128]⟩
abbrev S1x1x1 : Shape := ⟨3, ![1, 1, 1]⟩
abbrev S16x2560 : Shape := ⟨2, ![16, 2560]⟩
abbrev S256x2560 : Shape := ⟨2, ![256, 2560]⟩
abbrev S2560x512 : Shape := ⟨2, ![2560, 512]⟩
abbrev S256x512 : Shape := ⟨2, ![256, 512]⟩
abbrev S240x512 : Shape := ⟨2, ![240, 512]⟩
abbrev S1x128 : Shape := ⟨2, ![1, 128]⟩
abbrev S2560x128 : Shape := ⟨2, ![2560, 128]⟩
abbrev S2560x128x1 : Shape := ⟨3, ![2560, 128, 1]⟩
abbrev S1x2560x128 : Shape := ⟨3, ![1, 2560, 128]⟩
abbrev S8x128x1 : Shape := ⟨3, ![8, 128, 1]⟩
abbrev S1x8x128 : Shape := ⟨3, ![1, 8, 128]⟩
abbrev S192x128x1 : Shape := ⟨3, ![192, 128, 1]⟩
abbrev S240 : Shape := ⟨1, ![240]⟩
abbrev S1x1x128 : Shape := ⟨3, ![1, 1, 128]⟩

abbrev nBuf : Space → Nat
  | .hbm => 30
  | .vmem => 29
  | .smem => 2
  | _ => 0

abbrev bufTy : (tb : Table) → Fin (tcTables nBuf tb) → BufTy
  | .hbm, ⟨0, _⟩ => ⟨S48x5x2560, .fp8e4m3⟩
  | .hbm, ⟨1, _⟩ => ⟨S48x5, .f32⟩
  | .hbm, ⟨2, _⟩ => ⟨S2560x151936, .fp8e4m3⟩
  | .hbm, ⟨3, _⟩ => ⟨S151936, .f32⟩
  | .hbm, ⟨4, _⟩ => ⟨S48x4x2560, .fp8e4m3⟩
  | .hbm, ⟨5, _⟩ => ⟨S48x4, .f32⟩
  | .hbm, ⟨6, _⟩ => ⟨S32000, .i32⟩
  | .hbm, ⟨7, _⟩ => ⟨S48x4, .i32⟩
  | .hbm, ⟨8, _⟩ => ⟨S5x48x2560, .fp8e4m3⟩
  | .hbm, ⟨9, _⟩ => ⟨S240x2560, .fp8e4m3⟩
  | .hbm, ⟨10, _⟩ => ⟨S4x48x2560, .fp8e4m3⟩
  | .hbm, ⟨11, _⟩ => ⟨S192x2560, .fp8e4m3⟩
  | .hbm, ⟨12, _⟩ => ⟨S5x48, .f32⟩
  | .hbm, ⟨13, _⟩ => ⟨S240x1, .f32⟩
  | .hbm, ⟨14, _⟩ => ⟨S4x48, .f32⟩
  | .hbm, ⟨15, _⟩ => ⟨S192x1, .f32⟩
  | .hbm, ⟨16, _⟩ => ⟨S4x48, .i32⟩
  | .hbm, ⟨17, _⟩ => ⟨S192, .i32⟩
  | .hbm, ⟨18, _⟩ => ⟨S1187x128, .f32⟩
  | .hbm, ⟨19, _⟩ => ⟨S_, .i32⟩
  | .hbm, ⟨20, _⟩ => ⟨S_, .i32⟩
  | .hbm, ⟨21, _⟩ => ⟨S34816, .i32⟩
  | .hbm, ⟨22, _⟩ => ⟨S272x128, .i32⟩
  | .hbm, ⟨23, _⟩ => ⟨S192x1, .i32⟩
  | .hbm, ⟨24, _⟩ => ⟨S240x151936, .bf16⟩
  | .hbm, ⟨25, _⟩ => ⟨S192x32000, .bf16⟩
  | .hbm, ⟨26, _⟩ => ⟨S192x1, .f32⟩
  | .hbm, ⟨27, _⟩ => ⟨S192x1, .f32⟩
  | .hbm, ⟨28, _⟩ => ⟨S240x1, .f32⟩
  | .hbm, ⟨29, _⟩ => ⟨S192x1, .f32⟩
  | .local _ .vmem, ⟨0, _⟩ => ⟨S240x2560, .fp8e4m3⟩
  | .local _ .vmem, ⟨1, _⟩ => ⟨S192x2560, .fp8e4m3⟩
  | .local _ .vmem, ⟨2, _⟩ => ⟨S240x1, .f32⟩
  | .local _ .vmem, ⟨3, _⟩ => ⟨S192x1, .f32⟩
  | .local _ .vmem, ⟨4, _⟩ => ⟨S192x1, .i32⟩
  | .local _ .vmem, ⟨5, _⟩ => ⟨S272x128, .i32⟩
  | .local _ .vmem, ⟨6, _⟩ => ⟨S8x128, .f32⟩
  | .local _ .vmem, ⟨7, _⟩ => ⟨S8x128, .f32⟩
  | .local _ .vmem, ⟨8, _⟩ => ⟨S2560x1024, .fp8e4m3⟩
  | .local _ .vmem, ⟨9, _⟩ => ⟨S2560x1024, .fp8e4m3⟩
  | .local _ .vmem, ⟨10, _⟩ => ⟨S240x1024, .bf16⟩
  | .local _ .vmem, ⟨11, _⟩ => ⟨S240x1024, .bf16⟩
  | .local _ .vmem, ⟨12, _⟩ => ⟨S192x1, .f32⟩
  | .local _ .vmem, ⟨13, _⟩ => ⟨S192x1, .f32⟩
  | .local _ .vmem, ⟨14, _⟩ => ⟨S240x1, .f32⟩
  | .local _ .vmem, ⟨15, _⟩ => ⟨S192x1, .f32⟩
  | .local _ .vmem, ⟨16, _⟩ => ⟨S6x2560x256, .fp8e4m3⟩
  | .local _ .vmem, ⟨17, _⟩ => ⟨S6x8x256, .f32⟩
  | .local _ .vmem, ⟨18, _⟩ => ⟨S251x192x128, .f32⟩
  | .local _ .vmem, ⟨19, _⟩ => ⟨S250x192x128, .f32⟩
  | .local _ .vmem, ⟨20, _⟩ => ⟨S192x1024, .f32⟩
  | .local _ .vmem, ⟨21, _⟩ => ⟨S272x128, .i32⟩
  | .local _ .vmem, ⟨22, _⟩ => ⟨S240x128, .f32⟩
  | .local _ .vmem, ⟨23, _⟩ => ⟨S240x128, .f32⟩
  | .local _ .vmem, ⟨24, _⟩ => ⟨S192x128, .f32⟩
  | .local _ .vmem, ⟨25, _⟩ => ⟨S192x128, .f32⟩
  | .local _ .vmem, ⟨26, _⟩ => ⟨S2x192x256, .bf16⟩
  | .local _ .vmem, ⟨27, _⟩ => ⟨S192x128, .f32⟩
  | .local _ .vmem, ⟨28, _⟩ => ⟨S192x128, .f32⟩
  | .local _ .smem, ⟨0, _⟩ => ⟨S192, .i32⟩
  | .local _ .smem, ⟨1, _⟩ => ⟨S2, .i32⟩
  | _, _ => ⟨S48x5x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_stg5_0 : Ref sig .tc := ⟨.smem, 0, rfl⟩
abbrev cc0_scratch13 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![149], ![false]⟩

@[reducible] def k0_t1_loop (v4 : BitVec 32) (v5 : BitVec 32) : Scf.Loop 32 :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_8 : BitVec 32 := 1#32
  ⟨v4, v27, c1_i32_8⟩

def k0_off1 (v4 : BitVec 32) (v5 : BitVec 32) (k0_t1 : Fin (k0_t1_loop v4 v5).trips) : Fin 3 → Nat :=
  let c1_i32_8 : BitVec 32 := 1#32
  let arg31 : BitVec 32 := Scf.iv v4 c1_i32_8 k0_t1
  let c6_i32_585 : BitVec 32 := 6#32
  let c0_i32_586 : BitVec 32 := 0#32
  let v1499 : BitVec 1 := Scalar.cmpi .eq c6_i32_585 c0_i32_586
  let c1_i32_587 : BitVec 32 := 1#32
  let v1500 : BitVec 32 := Scalar.select v1499 c1_i32_587 c6_i32_585
  let v1501 : BitVec 32 := Scalar.remsi arg31 v1500
  let c0_i32_589 : BitVec 32 := 0#32
  let v1503 : BitVec 1 := Scalar.cmpi .slt v1501 c0_i32_589
  let c0_i32_590 : BitVec 32 := 0#32
  let v1504 : BitVec 1 := Scalar.cmpi .slt v1500 c0_i32_590
  let v1505 : BitVec 1 := Scalar.xori v1503 v1504
  let c0_i32_588 : BitVec 32 := 0#32
  let v1502 : BitVec 1 := Scalar.cmpi .ne v1501 c0_i32_588
  let v1506 : BitVec 1 := Scalar.andi v1505 v1502
  let v1507 : BitVec 32 := Scalar.addi v1501 v1500
  let v1508 : BitVec 32 := Scalar.select v1506 v1507 v1501
  let v1511 : Index := Scalar.indexCast v1508
  let c0_593 : Index := 0#32
  let c0_594 : Index := 0#32
  ![v1511.toNat, 0, 0]
def k0_off2 (v4 : BitVec 32) (v5 : BitVec 32) (k0_t1 : Fin (k0_t1_loop v4 v5).trips) : Fin 3 → Nat :=
  let c1_i32_8 : BitVec 32 := 1#32
  let arg31 : BitVec 32 := Scf.iv v4 c1_i32_8 k0_t1
  let c6_i32_585 : BitVec 32 := 6#32
  let c0_i32_586 : BitVec 32 := 0#32
  let v1499 : BitVec 1 := Scalar.cmpi .eq c6_i32_585 c0_i32_586
  let c1_i32_587 : BitVec 32 := 1#32
  let v1500 : BitVec 32 := Scalar.select v1499 c1_i32_587 c6_i32_585
  let v1501 : BitVec 32 := Scalar.remsi arg31 v1500
  let c0_i32_589 : BitVec 32 := 0#32
  let v1503 : BitVec 1 := Scalar.cmpi .slt v1501 c0_i32_589
  let c0_i32_590 : BitVec 32 := 0#32
  let v1504 : BitVec 1 := Scalar.cmpi .slt v1500 c0_i32_590
  let v1505 : BitVec 1 := Scalar.xori v1503 v1504
  let c0_i32_588 : BitVec 32 := 0#32
  let v1502 : BitVec 1 := Scalar.cmpi .ne v1501 c0_i32_588
  let v1506 : BitVec 1 := Scalar.andi v1505 v1502
  let v1507 : BitVec 32 := Scalar.addi v1501 v1500
  let v1508 : BitVec 32 := Scalar.select v1506 v1507 v1501
  let v1515 : Index := Scalar.indexCast v1508
  let c0_596 : Index := 0#32
  let c0_597 : Index := 0#32
  ![v1515.toNat, 0, 0]
def k0_mult1 (v4 : BitVec 32) (v5 : BitVec 32) (k0_t1 : Fin (k0_t1_loop v4 v5).trips) : BitVec 32 :=
  let c1_i32_8 : BitVec 32 := 1#32
  let arg31 : BitVec 32 := Scf.iv v4 c1_i32_8 k0_t1
  let c2_i32_641 : BitVec 32 := 2#32
  let v1603 : BitVec 32 := Scalar.subi arg31 c2_i32_641
  let c256_i32_648 : BitVec 32 := 256#32
  let v1614 : BitVec 32 := Scalar.muli v1603 c256_i32_648
  v1614
def k0_cond2 (v4 : BitVec 32) (v5 : BitVec 32) (k0_t1 : Fin (k0_t1_loop v4 v5).trips) : BitVec 1 :=
  let c1_i32_8 : BitVec 32 := 1#32
  let arg31 : BitVec 32 := Scf.iv v4 c1_i32_8 k0_t1
  let c2_i32 : BitVec 32 := 2#32
  let v1526 : BitVec 1 := Scalar.cmpi .sge arg31 c2_i32
  let v1527 : BitVec 32 := Scalar.extui v1526
  let c0_i32_601 : BitVec 32 := 0#32
  let v1528 : BitVec 1 := Scalar.cmpi .ne v1527 c0_i32_601
  v1528

def k0_off3 (v4 : BitVec 32) (v5 : BitVec 32) (k0_t1 : Fin (k0_t1_loop v4 v5).trips) : Fin 1 → Nat :=
  let c1_i32_8 : BitVec 32 := 1#32
  let arg31 : BitVec 32 := Scf.iv v4 c1_i32_8 k0_t1
  let c2_i32_641 : BitVec 32 := 2#32
  let v1603 : BitVec 32 := Scalar.subi arg31 c2_i32_641
  let c2_i32_649 : BitVec 32 := 2#32
  let c0_i32_650 : BitVec 32 := 0#32
  let v1616 : BitVec 1 := Scalar.cmpi .eq c2_i32_649 c0_i32_650
  let c1_i32_651 : BitVec 32 := 1#32
  let v1617 : BitVec 32 := Scalar.select v1616 c1_i32_651 c2_i32_649
  let v1618 : BitVec 32 := Scalar.remsi v1603 v1617
  let c0_i32_653 : BitVec 32 := 0#32
  let v1620 : BitVec 1 := Scalar.cmpi .slt v1618 c0_i32_653
  let c0_i32_654 : BitVec 32 := 0#32
  let v1621 : BitVec 1 := Scalar.cmpi .slt v1617 c0_i32_654
  let v1622 : BitVec 1 := Scalar.xori v1620 v1621
  let c0_i32_652 : BitVec 32 := 0#32
  let v1619 : BitVec 1 := Scalar.cmpi .ne v1618 c0_i32_652
  let v1623 : BitVec 1 := Scalar.andi v1622 v1619
  let v1624 : BitVec 32 := Scalar.addi v1618 v1617
  let v1625 : BitVec 32 := Scalar.select v1623 v1624 v1618
  ![v1625.toNat]
def k0_off4 (v4 : BitVec 32) (v5 : BitVec 32) (k0_t1 : Fin (k0_t1_loop v4 v5).trips) : Fin 2 → Nat :=
  let c0_i32_655 : BitVec 32 := 0#32
  let c1_i32_8 : BitVec 32 := 1#32
  let arg31 : BitVec 32 := Scf.iv v4 c1_i32_8 k0_t1
  let c2_i32_641 : BitVec 32 := 2#32
  let v1603 : BitVec 32 := Scalar.subi arg31 c2_i32_641
  let c256_i32_648 : BitVec 32 := 256#32
  let v1614 : BitVec 32 := Scalar.muli v1603 c256_i32_648
  let v1615 : BitVec 32 := v1614
  ![0, v1615.toNat]
def k0_off5 (v4 : BitVec 32) (v5 : BitVec 32) (k0_t1 : Fin (k0_t1_loop v4 v5).trips) : Fin 3 → Nat :=
  let c1_i32_8 : BitVec 32 := 1#32
  let arg31 : BitVec 32 := Scf.iv v4 c1_i32_8 k0_t1
  let c2_i32_641 : BitVec 32 := 2#32
  let v1603 : BitVec 32 := Scalar.subi arg31 c2_i32_641
  let c2_i32_642 : BitVec 32 := 2#32
  let c0_i32_643 : BitVec 32 := 0#32
  let v1604 : BitVec 1 := Scalar.cmpi .eq c2_i32_642 c0_i32_643
  let c1_i32_644 : BitVec 32 := 1#32
  let v1605 : BitVec 32 := Scalar.select v1604 c1_i32_644 c2_i32_642
  let v1606 : BitVec 32 := Scalar.remsi v1603 v1605
  let c0_i32_646 : BitVec 32 := 0#32
  let v1608 : BitVec 1 := Scalar.cmpi .slt v1606 c0_i32_646
  let c0_i32_647 : BitVec 32 := 0#32
  let v1609 : BitVec 1 := Scalar.cmpi .slt v1605 c0_i32_647
  let v1610 : BitVec 1 := Scalar.xori v1608 v1609
  let c0_i32_645 : BitVec 32 := 0#32
  let v1607 : BitVec 1 := Scalar.cmpi .ne v1606 c0_i32_645
  let v1611 : BitVec 1 := Scalar.andi v1610 v1607
  let v1612 : BitVec 32 := Scalar.addi v1606 v1605
  let v1613 : BitVec 32 := Scalar.select v1611 v1612 v1606
  let c0_i32_656 : BitVec 32 := 0#32
  let c0_i32_657 : BitVec 32 := 0#32
  ![v1613.toNat, 0, 0]
def k0_off6 (v4 : BitVec 32) (v5 : BitVec 32) (k0_t1 : Fin (k0_t1_loop v4 v5).trips) : Fin 3 → Nat :=
  let c1_i32_8 : BitVec 32 := 1#32
  let arg31 : BitVec 32 := Scf.iv v4 c1_i32_8 k0_t1
  let c2_i32_602 : BitVec 32 := 2#32
  let c0_i32_603 : BitVec 32 := 0#32
  let v1530 : BitVec 1 := Scalar.cmpi .eq c2_i32_602 c0_i32_603
  let c1_i32_604 : BitVec 32 := 1#32
  let v1531 : BitVec 32 := Scalar.select v1530 c1_i32_604 c2_i32_602
  let v1532 : BitVec 32 := Scalar.remsi arg31 v1531
  let c0_i32_606 : BitVec 32 := 0#32
  let v1534 : BitVec 1 := Scalar.cmpi .slt v1532 c0_i32_606
  let c0_i32_607 : BitVec 32 := 0#32
  let v1535 : BitVec 1 := Scalar.cmpi .slt v1531 c0_i32_607
  let v1536 : BitVec 1 := Scalar.xori v1534 v1535
  let c0_i32_605 : BitVec 32 := 0#32
  let v1533 : BitVec 1 := Scalar.cmpi .ne v1532 c0_i32_605
  let v1537 : BitVec 1 := Scalar.andi v1536 v1533
  let v1538 : BitVec 32 := Scalar.addi v1532 v1531
  let v1539 : BitVec 32 := Scalar.select v1537 v1538 v1532
  let v1540 : Index := Scalar.indexCast v1539
  let c0_608 : Index := 0#32
  let c0_609 : Index := 0#32
  ![v1540.toNat, 0, 0]
def k0_mult2 (v4 : BitVec 32) (v5 : BitVec 32) (k0_t1 : Fin (k0_t1_loop v4 v5).trips) : BitVec 32 :=
  let c1_i32_8 : BitVec 32 := 1#32
  let arg31 : BitVec 32 := Scf.iv v4 c1_i32_8 k0_t1
  let c256_i32_616 : BitVec 32 := 256#32
  let v1554 : BitVec 32 := Scalar.muli arg31 c256_i32_616
  v1554
def k0_off7 (v4 : BitVec 32) (v5 : BitVec 32) (k0_t1 : Fin (k0_t1_loop v4 v5).trips) : Fin 1 → Nat :=
  let c1_i32_8 : BitVec 32 := 1#32
  let arg31 : BitVec 32 := Scf.iv v4 c1_i32_8 k0_t1
  let c2_i32_617 : BitVec 32 := 2#32
  let c0_i32_618 : BitVec 32 := 0#32
  let v1556 : BitVec 1 := Scalar.cmpi .eq c2_i32_617 c0_i32_618
  let c1_i32_619 : BitVec 32 := 1#32
  let v1557 : BitVec 32 := Scalar.select v1556 c1_i32_619 c2_i32_617
  let v1558 : BitVec 32 := Scalar.remsi arg31 v1557
  let c0_i32_621 : BitVec 32 := 0#32
  let v1560 : BitVec 1 := Scalar.cmpi .slt v1558 c0_i32_621
  let c0_i32_622 : BitVec 32 := 0#32
  let v1561 : BitVec 1 := Scalar.cmpi .slt v1557 c0_i32_622
  let v1562 : BitVec 1 := Scalar.xori v1560 v1561
  let c0_i32_620 : BitVec 32 := 0#32
  let v1559 : BitVec 1 := Scalar.cmpi .ne v1558 c0_i32_620
  let v1563 : BitVec 1 := Scalar.andi v1562 v1559
  let v1564 : BitVec 32 := Scalar.addi v1558 v1557
  let v1565 : BitVec 32 := Scalar.select v1563 v1564 v1558
  ![v1565.toNat]
def k0_off8 (v4 : BitVec 32) (v5 : BitVec 32) (k0_t1 : Fin (k0_t1_loop v4 v5).trips) : Fin 2 → Nat :=
  let c0_i32_623 : BitVec 32 := 0#32
  let c1_i32_8 : BitVec 32 := 1#32
  let arg31 : BitVec 32 := Scf.iv v4 c1_i32_8 k0_t1
  let c256_i32_616 : BitVec 32 := 256#32
  let v1554 : BitVec 32 := Scalar.muli arg31 c256_i32_616
  let v1555 : BitVec 32 := v1554
  ![0, v1555.toNat]
def k0_off9 (v4 : BitVec 32) (v5 : BitVec 32) (k0_t1 : Fin (k0_t1_loop v4 v5).trips) : Fin 3 → Nat :=
  let c1_i32_8 : BitVec 32 := 1#32
  let arg31 : BitVec 32 := Scf.iv v4 c1_i32_8 k0_t1
  let c2_i32_610 : BitVec 32 := 2#32
  let c0_i32_611 : BitVec 32 := 0#32
  let v1544 : BitVec 1 := Scalar.cmpi .eq c2_i32_610 c0_i32_611
  let c1_i32_612 : BitVec 32 := 1#32
  let v1545 : BitVec 32 := Scalar.select v1544 c1_i32_612 c2_i32_610
  let v1546 : BitVec 32 := Scalar.remsi arg31 v1545
  let c0_i32_614 : BitVec 32 := 0#32
  let v1548 : BitVec 1 := Scalar.cmpi .slt v1546 c0_i32_614
  let c0_i32_615 : BitVec 32 := 0#32
  let v1549 : BitVec 1 := Scalar.cmpi .slt v1545 c0_i32_615
  let v1550 : BitVec 1 := Scalar.xori v1548 v1549
  let c0_i32_613 : BitVec 32 := 0#32
  let v1547 : BitVec 1 := Scalar.cmpi .ne v1546 c0_i32_613
  let v1551 : BitVec 1 := Scalar.andi v1550 v1547
  let v1552 : BitVec 32 := Scalar.addi v1546 v1545
  let v1553 : BitVec 32 := Scalar.select v1551 v1552 v1546
  let c0_i32_624 : BitVec 32 := 0#32
  let c0_i32_625 : BitVec 32 := 0#32
  ![v1553.toNat, 0, 0]
def k0_off10 (v4 : BitVec 32) (v5 : BitVec 32) (k0_t1 : Fin (k0_t1_loop v4 v5).trips) : Fin 3 → Nat :=
  let c2_i32_626 : BitVec 32 := 2#32
  let c1_i32_8 : BitVec 32 := 1#32
  let arg31 : BitVec 32 := Scf.iv v4 c1_i32_8 k0_t1
  let v1573 : BitVec 32 := Scalar.muli c2_i32_626 arg31
  let v1574 : Index := Scalar.indexCast v1573
  let c0_627 : Index := 0#32
  let c0_628 : Index := 0#32
  ![v1574.toNat, 0, 0]
def k0_off11 (v4 : BitVec 32) (v5 : BitVec 32) (k0_t1 : Fin (k0_t1_loop v4 v5).trips) : Fin 3 → Nat :=
  let c2_i32_629 : BitVec 32 := 2#32
  let c1_i32_8 : BitVec 32 := 1#32
  let arg31 : BitVec 32 := Scf.iv v4 c1_i32_8 k0_t1
  let v1578 : BitVec 32 := Scalar.muli c2_i32_629 arg31
  let c1_i32_630 : BitVec 32 := 1#32
  let v1579 : BitVec 32 := Scalar.addi v1578 c1_i32_630
  let v1580 : Index := Scalar.indexCast v1579
  let c0_631 : Index := 0#32
  let c0_632 : Index := 0#32
  ![v1580.toNat, 0, 0]
@[reducible] def k0_t2_loop (v4 : BitVec 32) (v5 : BitVec 32) : Scf.Loop 32 :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let v24 : BitVec 32 := Scalar.addi v4 v23
  let c1_i32_9 : BitVec 32 := 1#32
  ⟨v27, v24, c1_i32_9⟩
def k0_off12 (v4 : BitVec 32) (v5 : BitVec 32) (k0_t2 : Fin (k0_t2_loop v4 v5).trips) : Fin 3 → Nat :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c6_i32_585 : BitVec 32 := 6#32
  let c0_i32_586 : BitVec 32 := 0#32
  let v1499 : BitVec 1 := Scalar.cmpi .eq c6_i32_585 c0_i32_586
  let c1_i32_587 : BitVec 32 := 1#32
  let v1500 : BitVec 32 := Scalar.select v1499 c1_i32_587 c6_i32_585
  let v1501 : BitVec 32 := Scalar.remsi arg31 v1500
  let c0_i32_589 : BitVec 32 := 0#32
  let v1503 : BitVec 1 := Scalar.cmpi .slt v1501 c0_i32_589
  let c0_i32_590 : BitVec 32 := 0#32
  let v1504 : BitVec 1 := Scalar.cmpi .slt v1500 c0_i32_590
  let v1505 : BitVec 1 := Scalar.xori v1503 v1504
  let c0_i32_588 : BitVec 32 := 0#32
  let v1502 : BitVec 1 := Scalar.cmpi .ne v1501 c0_i32_588
  let v1506 : BitVec 1 := Scalar.andi v1505 v1502
  let v1507 : BitVec 32 := Scalar.addi v1501 v1500
  let v1508 : BitVec 32 := Scalar.select v1506 v1507 v1501
  let v1511 : Index := Scalar.indexCast v1508
  let c0_593 : Index := 0#32
  let c0_594 : Index := 0#32
  ![v1511.toNat, 0, 0]
def k0_off13 (v4 : BitVec 32) (v5 : BitVec 32) (k0_t2 : Fin (k0_t2_loop v4 v5).trips) : Fin 3 → Nat :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c6_i32_585 : BitVec 32 := 6#32
  let c0_i32_586 : BitVec 32 := 0#32
  let v1499 : BitVec 1 := Scalar.cmpi .eq c6_i32_585 c0_i32_586
  let c1_i32_587 : BitVec 32 := 1#32
  let v1500 : BitVec 32 := Scalar.select v1499 c1_i32_587 c6_i32_585
  let v1501 : BitVec 32 := Scalar.remsi arg31 v1500
  let c0_i32_589 : BitVec 32 := 0#32
  let v1503 : BitVec 1 := Scalar.cmpi .slt v1501 c0_i32_589
  let c0_i32_590 : BitVec 32 := 0#32
  let v1504 : BitVec 1 := Scalar.cmpi .slt v1500 c0_i32_590
  let v1505 : BitVec 1 := Scalar.xori v1503 v1504
  let c0_i32_588 : BitVec 32 := 0#32
  let v1502 : BitVec 1 := Scalar.cmpi .ne v1501 c0_i32_588
  let v1506 : BitVec 1 := Scalar.andi v1505 v1502
  let v1507 : BitVec 32 := Scalar.addi v1501 v1500
  let v1508 : BitVec 32 := Scalar.select v1506 v1507 v1501
  let v1515 : Index := Scalar.indexCast v1508
  let c0_596 : Index := 0#32
  let c0_597 : Index := 0#32
  ![v1515.toNat, 0, 0]
def k0_mult3 (v4 : BitVec 32) (v5 : BitVec 32) (k0_t2 : Fin (k0_t2_loop v4 v5).trips) : BitVec 32 :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c2_i32_641 : BitVec 32 := 2#32
  let v1603 : BitVec 32 := Scalar.subi arg31 c2_i32_641
  let c256_i32_648 : BitVec 32 := 256#32
  let v1614 : BitVec 32 := Scalar.muli v1603 c256_i32_648
  v1614
def k0_cond3 (v4 : BitVec 32) (v5 : BitVec 32) (k0_t2 : Fin (k0_t2_loop v4 v5).trips) : BitVec 1 :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c2_i32 : BitVec 32 := 2#32
  let v1526 : BitVec 1 := Scalar.cmpi .sge arg31 c2_i32
  let v1527 : BitVec 32 := Scalar.extui v1526
  let c0_i32_601 : BitVec 32 := 0#32
  let v1528 : BitVec 1 := Scalar.cmpi .ne v1527 c0_i32_601
  v1528

def k0_off14 (v4 : BitVec 32) (v5 : BitVec 32) (k0_t2 : Fin (k0_t2_loop v4 v5).trips) : Fin 1 → Nat :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c2_i32_641 : BitVec 32 := 2#32
  let v1603 : BitVec 32 := Scalar.subi arg31 c2_i32_641
  let c2_i32_649 : BitVec 32 := 2#32
  let c0_i32_650 : BitVec 32 := 0#32
  let v1616 : BitVec 1 := Scalar.cmpi .eq c2_i32_649 c0_i32_650
  let c1_i32_651 : BitVec 32 := 1#32
  let v1617 : BitVec 32 := Scalar.select v1616 c1_i32_651 c2_i32_649
  let v1618 : BitVec 32 := Scalar.remsi v1603 v1617
  let c0_i32_653 : BitVec 32 := 0#32
  let v1620 : BitVec 1 := Scalar.cmpi .slt v1618 c0_i32_653
  let c0_i32_654 : BitVec 32 := 0#32
  let v1621 : BitVec 1 := Scalar.cmpi .slt v1617 c0_i32_654
  let v1622 : BitVec 1 := Scalar.xori v1620 v1621
  let c0_i32_652 : BitVec 32 := 0#32
  let v1619 : BitVec 1 := Scalar.cmpi .ne v1618 c0_i32_652
  let v1623 : BitVec 1 := Scalar.andi v1622 v1619
  let v1624 : BitVec 32 := Scalar.addi v1618 v1617
  let v1625 : BitVec 32 := Scalar.select v1623 v1624 v1618
  ![v1625.toNat]
def k0_off15 (v4 : BitVec 32) (v5 : BitVec 32) (k0_t2 : Fin (k0_t2_loop v4 v5).trips) : Fin 2 → Nat :=
  let c0_i32_655 : BitVec 32 := 0#32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c2_i32_641 : BitVec 32 := 2#32
  let v1603 : BitVec 32 := Scalar.subi arg31 c2_i32_641
  let c256_i32_648 : BitVec 32 := 256#32
  let v1614 : BitVec 32 := Scalar.muli v1603 c256_i32_648
  let v1615 : BitVec 32 := v1614
  ![0, v1615.toNat]
def k0_off16 (v4 : BitVec 32) (v5 : BitVec 32) (k0_t2 : Fin (k0_t2_loop v4 v5).trips) : Fin 3 → Nat :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c2_i32_641 : BitVec 32 := 2#32
  let v1603 : BitVec 32 := Scalar.subi arg31 c2_i32_641
  let c2_i32_642 : BitVec 32 := 2#32
  let c0_i32_643 : BitVec 32 := 0#32
  let v1604 : BitVec 1 := Scalar.cmpi .eq c2_i32_642 c0_i32_643
  let c1_i32_644 : BitVec 32 := 1#32
  let v1605 : BitVec 32 := Scalar.select v1604 c1_i32_644 c2_i32_642
  let v1606 : BitVec 32 := Scalar.remsi v1603 v1605
  let c0_i32_646 : BitVec 32 := 0#32
  let v1608 : BitVec 1 := Scalar.cmpi .slt v1606 c0_i32_646
  let c0_i32_647 : BitVec 32 := 0#32
  let v1609 : BitVec 1 := Scalar.cmpi .slt v1605 c0_i32_647
  let v1610 : BitVec 1 := Scalar.xori v1608 v1609
  let c0_i32_645 : BitVec 32 := 0#32
  let v1607 : BitVec 1 := Scalar.cmpi .ne v1606 c0_i32_645
  let v1611 : BitVec 1 := Scalar.andi v1610 v1607
  let v1612 : BitVec 32 := Scalar.addi v1606 v1605
  let v1613 : BitVec 32 := Scalar.select v1611 v1612 v1606
  let c0_i32_656 : BitVec 32 := 0#32
  let c0_i32_657 : BitVec 32 := 0#32
  ![v1613.toNat, 0, 0]
def k0_off17 (v4 : BitVec 32) (v5 : BitVec 32) (k0_t2 : Fin (k0_t2_loop v4 v5).trips) : Fin 3 → Nat :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c2_i32_602 : BitVec 32 := 2#32
  let c0_i32_603 : BitVec 32 := 0#32
  let v1530 : BitVec 1 := Scalar.cmpi .eq c2_i32_602 c0_i32_603
  let c1_i32_604 : BitVec 32 := 1#32
  let v1531 : BitVec 32 := Scalar.select v1530 c1_i32_604 c2_i32_602
  let v1532 : BitVec 32 := Scalar.remsi arg31 v1531
  let c0_i32_606 : BitVec 32 := 0#32
  let v1534 : BitVec 1 := Scalar.cmpi .slt v1532 c0_i32_606
  let c0_i32_607 : BitVec 32 := 0#32
  let v1535 : BitVec 1 := Scalar.cmpi .slt v1531 c0_i32_607
  let v1536 : BitVec 1 := Scalar.xori v1534 v1535
  let c0_i32_605 : BitVec 32 := 0#32
  let v1533 : BitVec 1 := Scalar.cmpi .ne v1532 c0_i32_605
  let v1537 : BitVec 1 := Scalar.andi v1536 v1533
  let v1538 : BitVec 32 := Scalar.addi v1532 v1531
  let v1539 : BitVec 32 := Scalar.select v1537 v1538 v1532
  let v1540 : Index := Scalar.indexCast v1539
  let c0_608 : Index := 0#32
  let c0_609 : Index := 0#32
  ![v1540.toNat, 0, 0]
def k0_mult4 (v4 : BitVec 32) (v5 : BitVec 32) (k0_t2 : Fin (k0_t2_loop v4 v5).trips) : BitVec 32 :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c256_i32_616 : BitVec 32 := 256#32
  let v1554 : BitVec 32 := Scalar.muli arg31 c256_i32_616
  v1554
def k0_off18 (v4 : BitVec 32) (v5 : BitVec 32) (k0_t2 : Fin (k0_t2_loop v4 v5).trips) : Fin 1 → Nat :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c2_i32_617 : BitVec 32 := 2#32
  let c0_i32_618 : BitVec 32 := 0#32
  let v1556 : BitVec 1 := Scalar.cmpi .eq c2_i32_617 c0_i32_618
  let c1_i32_619 : BitVec 32 := 1#32
  let v1557 : BitVec 32 := Scalar.select v1556 c1_i32_619 c2_i32_617
  let v1558 : BitVec 32 := Scalar.remsi arg31 v1557
  let c0_i32_621 : BitVec 32 := 0#32
  let v1560 : BitVec 1 := Scalar.cmpi .slt v1558 c0_i32_621
  let c0_i32_622 : BitVec 32 := 0#32
  let v1561 : BitVec 1 := Scalar.cmpi .slt v1557 c0_i32_622
  let v1562 : BitVec 1 := Scalar.xori v1560 v1561
  let c0_i32_620 : BitVec 32 := 0#32
  let v1559 : BitVec 1 := Scalar.cmpi .ne v1558 c0_i32_620
  let v1563 : BitVec 1 := Scalar.andi v1562 v1559
  let v1564 : BitVec 32 := Scalar.addi v1558 v1557
  let v1565 : BitVec 32 := Scalar.select v1563 v1564 v1558
  ![v1565.toNat]
def k0_off19 (v4 : BitVec 32) (v5 : BitVec 32) (k0_t2 : Fin (k0_t2_loop v4 v5).trips) : Fin 2 → Nat :=
  let c0_i32_623 : BitVec 32 := 0#32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c256_i32_616 : BitVec 32 := 256#32
  let v1554 : BitVec 32 := Scalar.muli arg31 c256_i32_616
  let v1555 : BitVec 32 := v1554
  ![0, v1555.toNat]
def k0_off20 (v4 : BitVec 32) (v5 : BitVec 32) (k0_t2 : Fin (k0_t2_loop v4 v5).trips) : Fin 3 → Nat :=
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let c2_i32_610 : BitVec 32 := 2#32
  let c0_i32_611 : BitVec 32 := 0#32
  let v1544 : BitVec 1 := Scalar.cmpi .eq c2_i32_610 c0_i32_611
  let c1_i32_612 : BitVec 32 := 1#32
  let v1545 : BitVec 32 := Scalar.select v1544 c1_i32_612 c2_i32_610
  let v1546 : BitVec 32 := Scalar.remsi arg31 v1545
  let c0_i32_614 : BitVec 32 := 0#32
  let v1548 : BitVec 1 := Scalar.cmpi .slt v1546 c0_i32_614
  let c0_i32_615 : BitVec 32 := 0#32
  let v1549 : BitVec 1 := Scalar.cmpi .slt v1545 c0_i32_615
  let v1550 : BitVec 1 := Scalar.xori v1548 v1549
  let c0_i32_613 : BitVec 32 := 0#32
  let v1547 : BitVec 1 := Scalar.cmpi .ne v1546 c0_i32_613
  let v1551 : BitVec 1 := Scalar.andi v1550 v1547
  let v1552 : BitVec 32 := Scalar.addi v1546 v1545
  let v1553 : BitVec 32 := Scalar.select v1551 v1552 v1546
  let c0_i32_624 : BitVec 32 := 0#32
  let c0_i32_625 : BitVec 32 := 0#32
  ![v1553.toNat, 0, 0]
def k0_off21 (v4 : BitVec 32) (v5 : BitVec 32) (k0_t2 : Fin (k0_t2_loop v4 v5).trips) : Fin 3 → Nat :=
  let c2_i32_626 : BitVec 32 := 2#32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let v1573 : BitVec 32 := Scalar.muli c2_i32_626 arg31
  let v1574 : Index := Scalar.indexCast v1573
  let c0_627 : Index := 0#32
  let c0_628 : Index := 0#32
  ![v1574.toNat, 0, 0]
def k0_off22 (v4 : BitVec 32) (v5 : BitVec 32) (k0_t2 : Fin (k0_t2_loop v4 v5).trips) : Fin 3 → Nat :=
  let c2_i32_629 : BitVec 32 := 2#32
  let c0_i32_1 : BitVec 32 := 0#32
  let v7 : BitVec 1 := Scalar.cmpi .sgt v5 c0_i32_1
  let v8 : BitVec 32 := Scalar.extui v7
  let c0_i32_2 : BitVec 32 := 0#32
  let v9 : BitVec 1 := Scalar.cmpi .slt v5 c0_i32_2
  let v10 : BitVec 32 := Scalar.extui v9
  let v11 : BitVec 32 := Scalar.subi v8 v10
  let c256_i32 : BitVec 32 := 256#32
  let c0_i32_3 : BitVec 32 := 0#32
  let v12 : BitVec 1 := Scalar.cmpi .sgt c256_i32 c0_i32_3
  let v13 : BitVec 32 := Scalar.extui v12
  let c0_i32_4 : BitVec 32 := 0#32
  let v14 : BitVec 1 := Scalar.cmpi .slt c256_i32 c0_i32_4
  let v15 : BitVec 32 := Scalar.extui v14
  let v16 : BitVec 32 := Scalar.subi v13 v15
  let v17 : BitVec 1 := Scalar.cmpi .ne v11 v16
  let v18 : BitVec 32 := Scalar.remsi v5 c256_i32
  let c0_i32_5 : BitVec 32 := 0#32
  let v19 : BitVec 1 := Scalar.cmpi .ne v18 c0_i32_5
  let v20 : BitVec 1 := Scalar.andi v17 v19
  let v6 : BitVec 32 := Scalar.divsi v5 c256_i32
  let c1_i32 : BitVec 32 := 1#32
  let v21 : BitVec 32 := Scalar.subi v6 c1_i32
  let v22 : BitVec 32 := Scalar.select v20 v21 v6
  let v23 : BitVec 32 := Scalar.subi v22 v4
  let c1_i32_7 : BitVec 32 := 1#32
  let v25 : BitVec 32 := Scalar.divsi v23 c1_i32_7
  let v26 : BitVec 32 := Scalar.muli v25 c1_i32_7
  let v27 : BitVec 32 := Scalar.addi v4 v26
  let c1_i32_9 : BitVec 32 := 1#32
  let arg31 : BitVec 32 := Scf.iv v27 c1_i32_9 k0_t2
  let v1578 : BitVec 32 := Scalar.muli c2_i32_629 arg31
  let c1_i32_630 : BitVec 32 := 1#32
  let v1579 : BitVec 32 := Scalar.addi v1578 c1_i32_630
  let v1580 : Index := Scalar.indexCast v1579
  let c0_631 : Index := 0#32
  let c0_632 : Index := 0#32
  ![v1580.toNat, 0, 0]

def k0_chk1_0 (v4 : BitVec 32) (v5 : BitVec 32) : Prop :=
  ((k0_t1_loop v4 v5).OK) ∧
  (∀ k0_t1 : Fin (k0_t1_loop v4 v5).trips, ∀ a, (k0_off1 v4 v5 k0_t1) a + S1x2560x256.size a ≤ S6x2560x256.size a) ∧
  (∀ k0_t1 : Fin (k0_t1_loop v4 v5).trips, ∀ a, (k0_off2 v4 v5 k0_t1) a + S1x1x256.size a ≤ S6x8x256.size a) ∧
  (∀ k0_t1 : Fin (k0_t1_loop v4 v5).trips, ∀ (k0_h2 : k0_cond2 v4 v5 k0_t1 = 1#1), 256 ∣ (k0_mult1 v4 v5 k0_t1).toNat) ∧
  (∀ k0_t1 : Fin (k0_t1_loop v4 v5).trips, ∀ (k0_h2 : k0_cond2 v4 v5 k0_t1 = 1#1), ∀ a, (k0_off3 v4 v5 k0_t1) a + S1.size a ≤ S2.size a) ∧
  (∀ k0_t1 : Fin (k0_t1_loop v4 v5).trips, ∀ (k0_h2 : k0_cond2 v4 v5 k0_t1 = 1#1), ∀ a, (k0_off4 v4 v5 k0_t1) a + S192x256.size a ≤ S192x32000.size a) ∧
  (∀ k0_t1 : Fin (k0_t1_loop v4 v5).trips, ∀ (k0_h2 : k0_cond2 v4 v5 k0_t1 = 1#1), ∀ a, (k0_off5 v4 v5 k0_t1) a + S1x192x256.size a ≤ S2x192x256.size a) ∧
  (∀ k0_t1 : Fin (k0_t1_loop v4 v5).trips, ∀ (k0_h2 : k0_cond2 v4 v5 k0_t1 = 1#1), ∀ (hinb : ∀ a, (k0_off5 v4 v5 k0_t1) a + S1x192x256.size a ≤ S2x192x256.size a), (Rect.unit (s := S2x192x256) (k0_off5 v4 v5 k0_t1) S1x192x256.size hinb).WholeWords (EltTy.packing .bf16)) ∧
  (∀ k0_t1 : Fin (k0_t1_loop v4 v5).trips, ∀ (k0_h2 : k0_cond2 v4 v5 k0_t1 = 1#1), ∀ (hinb : ∀ a, (k0_off4 v4 v5 k0_t1) a + S192x256.size a ≤ S192x32000.size a), (Rect.unit (s := S192x32000) (k0_off4 v4 v5 k0_t1) S192x256.size hinb).WholeWords (EltTy.packing .bf16)) ∧
  (∀ k0_t1 : Fin (k0_t1_loop v4 v5).trips, ∀ a, (k0_off6 v4 v5 k0_t1) a + S1x192x256.size a ≤ S2x192x256.size a) ∧
  (∀ k0_t1 : Fin (k0_t1_loop v4 v5).trips, ∀ (hinb : ∀ a, (k0_off6 v4 v5 k0_t1) a + S1x192x256.size a ≤ S2x192x256.size a), (Rect.unit (s := S2x192x256) (k0_off6 v4 v5 k0_t1) S1x192x256.size hinb).PackedRows (EltTy.packing .bf16)) ∧
  (∀ k0_t1 : Fin (k0_t1_loop v4 v5).trips, 256 ∣ (k0_mult2 v4 v5 k0_t1).toNat) ∧
  (∀ k0_t1 : Fin (k0_t1_loop v4 v5).trips, ∀ a, (k0_off7 v4 v5 k0_t1) a + S1.size a ≤ S2.size a) ∧
  (∀ k0_t1 : Fin (k0_t1_loop v4 v5).trips, ∀ a, (k0_off8 v4 v5 k0_t1) a + S192x256.size a ≤ S192x32000.size a) ∧
  (∀ k0_t1 : Fin (k0_t1_loop v4 v5).trips, ∀ a, (k0_off9 v4 v5 k0_t1) a + S1x192x256.size a ≤ S2x192x256.size a) ∧
  (∀ k0_t1 : Fin (k0_t1_loop v4 v5).trips, ∀ (hinb : ∀ a, (k0_off9 v4 v5 k0_t1) a + S1x192x256.size a ≤ S2x192x256.size a), (Rect.unit (s := S2x192x256) (k0_off9 v4 v5 k0_t1) S1x192x256.size hinb).WholeWords (EltTy.packing .bf16)) ∧
  (∀ k0_t1 : Fin (k0_t1_loop v4 v5).trips, ∀ (hinb : ∀ a, (k0_off8 v4 v5 k0_t1) a + S192x256.size a ≤ S192x32000.size a), (Rect.unit (s := S192x32000) (k0_off8 v4 v5 k0_t1) S192x256.size hinb).WholeWords (EltTy.packing .bf16)) ∧
  (∀ k0_t1 : Fin (k0_t1_loop v4 v5).trips, ∀ a, (k0_off10 v4 v5 k0_t1) a + S1x192x128.size a ≤ S250x192x128.size a) ∧
  (∀ k0_t1 : Fin (k0_t1_loop v4 v5).trips, ∀ a, (k0_off11 v4 v5 k0_t1) a + S1x192x128.size a ≤ S250x192x128.size a) ∧
  ((k0_t2_loop v4 v5).OK) ∧
  (∀ k0_t2 : Fin (k0_t2_loop v4 v5).trips, ∀ a, (k0_off12 v4 v5 k0_t2) a + S1x2560x256.size a ≤ S6x2560x256.size a) ∧
  (∀ k0_t2 : Fin (k0_t2_loop v4 v5).trips, ∀ a, (k0_off13 v4 v5 k0_t2) a + S1x1x256.size a ≤ S6x8x256.size a) ∧
  (∀ k0_t2 : Fin (k0_t2_loop v4 v5).trips, ∀ (k0_h3 : k0_cond3 v4 v5 k0_t2 = 1#1), 256 ∣ (k0_mult3 v4 v5 k0_t2).toNat) ∧
  (∀ k0_t2 : Fin (k0_t2_loop v4 v5).trips, ∀ (k0_h3 : k0_cond3 v4 v5 k0_t2 = 1#1), ∀ a, (k0_off14 v4 v5 k0_t2) a + S1.size a ≤ S2.size a) ∧
  (∀ k0_t2 : Fin (k0_t2_loop v4 v5).trips, ∀ (k0_h3 : k0_cond3 v4 v5 k0_t2 = 1#1), ∀ a, (k0_off15 v4 v5 k0_t2) a + S192x256.size a ≤ S192x32000.size a) ∧
  (∀ k0_t2 : Fin (k0_t2_loop v4 v5).trips, ∀ (k0_h3 : k0_cond3 v4 v5 k0_t2 = 1#1), ∀ a, (k0_off16 v4 v5 k0_t2) a + S1x192x256.size a ≤ S2x192x256.size a) ∧
  (∀ k0_t2 : Fin (k0_t2_loop v4 v5).trips, ∀ (k0_h3 : k0_cond3 v4 v5 k0_t2 = 1#1), ∀ (hinb : ∀ a, (k0_off16 v4 v5 k0_t2) a + S1x192x256.size a ≤ S2x192x256.size a), (Rect.unit (s := S2x192x256) (k0_off16 v4 v5 k0_t2) S1x192x256.size hinb).WholeWords (EltTy.packing .bf16)) ∧
  (∀ k0_t2 : Fin (k0_t2_loop v4 v5).trips, ∀ (k0_h3 : k0_cond3 v4 v5 k0_t2 = 1#1), ∀ (hinb : ∀ a, (k0_off15 v4 v5 k0_t2) a + S192x256.size a ≤ S192x32000.size a), (Rect.unit (s := S192x32000) (k0_off15 v4 v5 k0_t2) S192x256.size hinb).WholeWords (EltTy.packing .bf16)) ∧
  (∀ k0_t2 : Fin (k0_t2_loop v4 v5).trips, ∀ a, (k0_off17 v4 v5 k0_t2) a + S1x192x256.size a ≤ S2x192x256.size a) ∧
  (∀ k0_t2 : Fin (k0_t2_loop v4 v5).trips, ∀ (hinb : ∀ a, (k0_off17 v4 v5 k0_t2) a + S1x192x256.size a ≤ S2x192x256.size a), (Rect.unit (s := S2x192x256) (k0_off17 v4 v5 k0_t2) S1x192x256.size hinb).PackedRows (EltTy.packing .bf16)) ∧
  (∀ k0_t2 : Fin (k0_t2_loop v4 v5).trips, 256 ∣ (k0_mult4 v4 v5 k0_t2).toNat) ∧
  (∀ k0_t2 : Fin (k0_t2_loop v4 v5).trips, ∀ a, (k0_off18 v4 v5 k0_t2) a + S1.size a ≤ S2.size a)
def k0_chk1_1 (v4 : BitVec 32) (v5 : BitVec 32) : Prop :=
  (∀ k0_t2 : Fin (k0_t2_loop v4 v5).trips, ∀ a, (k0_off19 v4 v5 k0_t2) a + S192x256.size a ≤ S192x32000.size a) ∧
  (∀ k0_t2 : Fin (k0_t2_loop v4 v5).trips, ∀ a, (k0_off20 v4 v5 k0_t2) a + S1x192x256.size a ≤ S2x192x256.size a) ∧
  (∀ k0_t2 : Fin (k0_t2_loop v4 v5).trips, ∀ (hinb : ∀ a, (k0_off20 v4 v5 k0_t2) a + S1x192x256.size a ≤ S2x192x256.size a), (Rect.unit (s := S2x192x256) (k0_off20 v4 v5 k0_t2) S1x192x256.size hinb).WholeWords (EltTy.packing .bf16)) ∧
  (∀ k0_t2 : Fin (k0_t2_loop v4 v5).trips, ∀ (hinb : ∀ a, (k0_off19 v4 v5 k0_t2) a + S192x256.size a ≤ S192x32000.size a), (Rect.unit (s := S192x32000) (k0_off19 v4 v5 k0_t2) S192x256.size hinb).WholeWords (EltTy.packing .bf16)) ∧
  (∀ k0_t2 : Fin (k0_t2_loop v4 v5).trips, ∀ a, (k0_off21 v4 v5 k0_t2) a + S1x192x128.size a ≤ S250x192x128.size a) ∧
  (∀ k0_t2 : Fin (k0_t2_loop v4 v5).trips, ∀ a, (k0_off22 v4 v5 k0_t2) a + S1x192x128.size a ≤ S250x192x128.size a)
def k0_chk1 (v4 : BitVec 32) (v5 : BitVec 32) : Prop :=
  k0_chk1_0 v4 v5 ∧
  k0_chk1_1 v4 v5
theorem k0_t1_ok : ∀ (v4 : BitVec 32) (v5 : BitVec 32) (k0_hw1 : k0_chk1 v4 v5), (k0_t1_loop v4 v5).OK := fun v4 v5 k0_hw1 => k0_hw1.1.1
theorem k0_off1_inb : ∀ (v4 : BitVec 32) (v5 : BitVec 32) (k0_hw1 : k0_chk1 v4 v5) (k0_t1 : Fin (k0_t1_loop v4 v5).trips), ∀ a, (k0_off1 v4 v5 k0_t1) a + S1x2560x256.size a ≤ S6x2560x256.size a := fun v4 v5 k0_hw1 k0_t1 => k0_hw1.1.2.1 k0_t1
theorem k0_off2_inb : ∀ (v4 : BitVec 32) (v5 : BitVec 32) (k0_hw1 : k0_chk1 v4 v5) (k0_t1 : Fin (k0_t1_loop v4 v5).trips), ∀ a, (k0_off2 v4 v5 k0_t1) a + S1x1x256.size a ≤ S6x8x256.size a := fun v4 v5 k0_hw1 k0_t1 => k0_hw1.1.2.2.1 k0_t1
theorem k0_mult1_dvd : ∀ (v4 : BitVec 32) (v5 : BitVec 32) (k0_hw1 : k0_chk1 v4 v5) (k0_t1 : Fin (k0_t1_loop v4 v5).trips), ∀ (k0_h2 : k0_cond2 v4 v5 k0_t1 = 1#1), 256 ∣ (k0_mult1 v4 v5 k0_t1).toNat := fun v4 v5 k0_hw1 k0_t1 k0_h2 => k0_hw1.1.2.2.2.1 k0_t1 k0_h2
theorem k0_off3_inb : ∀ (v4 : BitVec 32) (v5 : BitVec 32) (k0_hw1 : k0_chk1 v4 v5) (k0_t1 : Fin (k0_t1_loop v4 v5).trips), ∀ (k0_h2 : k0_cond2 v4 v5 k0_t1 = 1#1), ∀ a, (k0_off3 v4 v5 k0_t1) a + S1.size a ≤ S2.size a := fun v4 v5 k0_hw1 k0_t1 k0_h2 => k0_hw1.1.2.2.2.2.1 k0_t1 k0_h2
theorem k0_off4_inb : ∀ (v4 : BitVec 32) (v5 : BitVec 32) (k0_hw1 : k0_chk1 v4 v5) (k0_t1 : Fin (k0_t1_loop v4 v5).trips), ∀ (k0_h2 : k0_cond2 v4 v5 k0_t1 = 1#1), ∀ a, (k0_off4 v4 v5 k0_t1) a + S192x256.size a ≤ S192x32000.size a := fun v4 v5 k0_hw1 k0_t1 k0_h2 => k0_hw1.1.2.2.2.2.2.1 k0_t1 k0_h2
theorem k0_off5_inb : ∀ (v4 : BitVec 32) (v5 : BitVec 32) (k0_hw1 : k0_chk1 v4 v5) (k0_t1 : Fin (k0_t1_loop v4 v5).trips), ∀ (k0_h2 : k0_cond2 v4 v5 k0_t1 = 1#1), ∀ a, (k0_off5 v4 v5 k0_t1) a + S1x192x256.size a ≤ S2x192x256.size a := fun v4 v5 k0_hw1 k0_t1 k0_h2 => k0_hw1.1.2.2.2.2.2.2.1 k0_t1 k0_h2
theorem k0_off5_wordsbf16 : ∀ (v4 : BitVec 32) (v5 : BitVec 32) (k0_hw1 : k0_chk1 v4 v5) (k0_t1 : Fin (k0_t1_loop v4 v5).trips), ∀ (k0_h2 : k0_cond2 v4 v5 k0_t1 = 1#1), (Rect.unit (s := S2x192x256) (k0_off5 v4 v5 k0_t1) S1x192x256.size (k0_off5_inb v4 v5 k0_hw1 k0_t1 k0_h2)).WholeWords (EltTy.packing .bf16) := fun v4 v5 k0_hw1 k0_t1 k0_h2 => k0_hw1.1.2.2.2.2.2.2.2.1 k0_t1 k0_h2 (k0_off5_inb v4 v5 k0_hw1 k0_t1 k0_h2)
theorem k0_off4_wordsbf16 : ∀ (v4 : BitVec 32) (v5 : BitVec 32) (k0_hw1 : k0_chk1 v4 v5) (k0_t1 : Fin (k0_t1_loop v4 v5).trips), ∀ (k0_h2 : k0_cond2 v4 v5 k0_t1 = 1#1), (Rect.unit (s := S192x32000) (k0_off4 v4 v5 k0_t1) S192x256.size (k0_off4_inb v4 v5 k0_hw1 k0_t1 k0_h2)).WholeWords (EltTy.packing .bf16) := fun v4 v5 k0_hw1 k0_t1 k0_h2 => k0_hw1.1.2.2.2.2.2.2.2.2.1 k0_t1 k0_h2 (k0_off4_inb v4 v5 k0_hw1 k0_t1 k0_h2)
theorem k0_off6_inb : ∀ (v4 : BitVec 32) (v5 : BitVec 32) (k0_hw1 : k0_chk1 v4 v5) (k0_t1 : Fin (k0_t1_loop v4 v5).trips), ∀ a, (k0_off6 v4 v5 k0_t1) a + S1x192x256.size a ≤ S2x192x256.size a := fun v4 v5 k0_hw1 k0_t1 => k0_hw1.1.2.2.2.2.2.2.2.2.2.1 k0_t1
theorem k0_off6_packedbf16 : ∀ (v4 : BitVec 32) (v5 : BitVec 32) (k0_hw1 : k0_chk1 v4 v5) (k0_t1 : Fin (k0_t1_loop v4 v5).trips), (Rect.unit (s := S2x192x256) (k0_off6 v4 v5 k0_t1) S1x192x256.size (k0_off6_inb v4 v5 k0_hw1 k0_t1)).PackedRows (EltTy.packing .bf16) := fun v4 v5 k0_hw1 k0_t1 => k0_hw1.1.2.2.2.2.2.2.2.2.2.2.1 k0_t1 (k0_off6_inb v4 v5 k0_hw1 k0_t1)
theorem k0_mult2_dvd : ∀ (v4 : BitVec 32) (v5 : BitVec 32) (k0_hw1 : k0_chk1 v4 v5) (k0_t1 : Fin (k0_t1_loop v4 v5).trips), 256 ∣ (k0_mult2 v4 v5 k0_t1).toNat := fun v4 v5 k0_hw1 k0_t1 => k0_hw1.1.2.2.2.2.2.2.2.2.2.2.2.1 k0_t1
theorem k0_off7_inb : ∀ (v4 : BitVec 32) (v5 : BitVec 32) (k0_hw1 : k0_chk1 v4 v5) (k0_t1 : Fin (k0_t1_loop v4 v5).trips), ∀ a, (k0_off7 v4 v5 k0_t1) a + S1.size a ≤ S2.size a := fun v4 v5 k0_hw1 k0_t1 => k0_hw1.1.2.2.2.2.2.2.2.2.2.2.2.2.1 k0_t1
theorem k0_off8_inb : ∀ (v4 : BitVec 32) (v5 : BitVec 32) (k0_hw1 : k0_chk1 v4 v5) (k0_t1 : Fin (k0_t1_loop v4 v5).trips), ∀ a, (k0_off8 v4 v5 k0_t1) a + S192x256.size a ≤ S192x32000.size a := fun v4 v5 k0_hw1 k0_t1 => k0_hw1.1.2.2.2.2.2.2.2.2.2.2.2.2.2.1 k0_t1
theorem k0_off9_inb : ∀ (v4 : BitVec 32) (v5 : BitVec 32) (k0_hw1 : k0_chk1 v4 v5) (k0_t1 : Fin (k0_t1_loop v4 v5).trips), ∀ a, (k0_off9 v4 v5 k0_t1) a + S1x192x256.size a ≤ S2x192x256.size a := fun v4 v5 k0_hw1 k0_t1 => k0_hw1.1.2.2.2.2.2.2.2.2.2.2.2.2.2.2.1 k0_t1
theorem k0_off9_wordsbf16 : ∀ (v4 : BitVec 32) (v5 : BitVec 32) (k0_hw1 : k0_chk1 v4 v5) (k0_t1 : Fin (k0_t1_loop v4 v5).trips), (Rect.unit (s := S2x192x256) (k0_off9 v4 v5 k0_t1) S1x192x256.size (k0_off9_inb v4 v5 k0_hw1 k0_t1)).WholeWords (EltTy.packing .bf16) := fun v4 v5 k0_hw1 k0_t1 => k0_hw1.1.2.2.2.2.2.2.2.2.2.2.2.2.2.2.2.1 k0_t1 (k0_off9_inb v4 v5 k0_hw1 k0_t1)
theorem k0_off8_wordsbf16 : ∀ (v4 : BitVec 32) (v5 : BitVec 32) (k0_hw1 : k0_chk1 v4 v5) (k0_t1 : Fin (k0_t1_loop v4 v5).trips), (Rect.unit (s := S192x32000) (k0_off8 v4 v5 k0_t1) S192x256.size (k0_off8_inb v4 v5 k0_hw1 k0_t1)).WholeWords (EltTy.packing .bf16) := fun v4 v5 k0_hw1 k0_t1 => k0_hw1.1.2.2.2.2.2.2.2.2.2.2.2.2.2.2.2.2.1 k0_t1 (k0_off8_inb v4 v5 k0_hw1 k0_t1)
theorem k0_off10_inb : ∀ (v4 : BitVec 32) (v5 : BitVec 32) (k0_hw1 : k0_chk1 v4 v5) (k0_t1 : Fin (k0_t1_loop v4 v5).trips), ∀ a, (k0_off10 v4 v5 k0_t1) a + S1x192x128.size a ≤ S250x192x128.size a := fun v4 v5 k0_hw1 k0_t1 => k0_hw1.1.2.2.2.2.2.2.2.2.2.2.2.2.2.2.2.2.2.1 k0_t1
theorem k0_off11_inb : ∀ (v4 : BitVec 32) (v5 : BitVec 32) (k0_hw1 : k0_chk1 v4 v5) (k0_t1 : Fin (k0_t1_loop v4 v5).trips), ∀ a, (k0_off11 v4 v5 k0_t1) a + S1x192x128.size a ≤ S250x192x128.size a := fun v4 v5 k0_hw1 k0_t1 => k0_hw1.1.2.2.2.2.2.2.2.2.2.2.2.2.2.2.2.2.2.2.1 k0_t1
theorem k0_t2_ok : ∀ (v4 : BitVec 32) (v5 : BitVec 32) (k0_hw1 : k0_chk1 v4 v5), (k0_t2_loop v4 v5).OK := fun v4 v5 k0_hw1 => k0_hw1.1.2.2.2.2.2.2.2.2.2.2.2.2.2.2.2.2.2.2.2.1
theorem k0_off12_inb : ∀ (v4 : BitVec 32) (v5 : BitVec 32) (k0_hw1 : k0_chk1 v4 v5) (k0_t2 : Fin (k0_t2_loop v4 v5).trips), ∀ a, (k0_off12 v4 v5 k0_t2) a + S1x2560x256.size a ≤ S6x2560x256.size a := fun v4 v5 k0_hw1 k0_t2 => k0_hw1.1.2.2.2.2.2.2.2.2.2.2.2.2.2.2.2.2.2.2.2.2.1 k0_t2
theorem k0_off13_inb : ∀ (v4 : BitVec 32) (v5 : BitVec 32) (k0_hw1 : k0_chk1 v4 v5) (k0_t2 : Fin (k0_t2_loop v4 v5).trips), ∀ a, (k0_off13 v4 v5 k0_t2) a + S1x1x256.size a ≤ S6x8x256.size a := fun v4 v5 k0_hw1 k0_t2 => k0_hw1.1.2.2.2.2.2.2.2.2.2.2.2.2.2.2.2.2.2.2.2.2.2.1 k0_t2
theorem k0_mult3_dvd : ∀ (v4 : BitVec 32) (v5 : BitVec 32) (k0_hw1 : k0_chk1 v4 v5) (k0_t2 : Fin (k0_t2_loop v4 v5).trips), ∀ (k0_h3 : k0_cond3 v4 v5 k0_t2 = 1#1), 256 ∣ (k0_mult3 v4 v5 k0_t2).toNat := fun v4 v5 k0_hw1 k0_t2 k0_h3 => k0_hw1.1.2.2.2.2.2.2.2.2.2.2.2.2.2.2.2.2.2.2.2.2.2.2.1 k0_t2 k0_h3
theorem k0_off14_inb : ∀ (v4 : BitVec 32) (v5 : BitVec 32) (k0_hw1 : k0_chk1 v4 v5) (k0_t2 : Fin (k0_t2_loop v4 v5).trips), ∀ (k0_h3 : k0_cond3 v4 v5 k0_t2 = 1#1), ∀ a, (k0_off14 v4 v5 k0_t2) a + S1.size a ≤ S2.size a := fun v4 v5 k0_hw1 k0_t2 k0_h3 => k0_hw1.1.2.2.2.2.2.2.2.2.2.2.2.2.2.2.2.2.2.2.2.2.2.2.2.1 k0_t2 k0_h3
theorem k0_off15_inb : ∀ (v4 : BitVec 32) (v5 : BitVec 32) (k0_hw1 : k0_chk1 v4 v5) (k0_t2 : Fin (k0_t2_loop v4 v5).trips), ∀ (k0_h3 : k0_cond3 v4 v5 k0_t2 = 1#1), ∀ a, (k0_off15 v4 v5 k0_t2) a + S192x256.size a ≤ S192x32000.size a := fun v4 v5 k0_hw1 k0_t2 k0_h3 => k0_hw1.1.2.2.2.2.2.2.2.2.2.2.2.2.2.2.2.2.2.2.2.2.2.2.2.2.1 k0_t2 k0_h3
theorem k0_off16_inb : ∀ (v4 : BitVec 32) (v5 : BitVec 32) (k0_hw1 : k0_chk1 v4 v5) (k0_t2 : Fin (k0_t2_loop v4 v5).trips), ∀ (k0_h3 : k0_cond3 v4 v5 k0_t2 = 1#1), ∀ a, (k0_off16 v4 v5 k0_t2) a + S1x192x256.size a ≤ S2x192x256.size a := fun v4 v5 k0_hw1 k0_t2 k0_h3 => k0_hw1.1.2.2.2.2.2.2.2.2.2.2.2.2.2.2.2.2.2.2.2.2.2.2.2.2.2.1 k0_t2 k0_h3
theorem k0_off16_wordsbf16 : ∀ (v4 : BitVec 32) (v5 : BitVec 32) (k0_hw1 : k0_chk1 v4 v5) (k0_t2 : Fin (k0_t2_loop v4 v5).trips), ∀ (k0_h3 : k0_cond3 v4 v5 k0_t2 = 1#1), (Rect.unit (s := S2x192x256) (k0_off16 v4 v5 k0_t2) S1x192x256.size (k0_off16_inb v4 v5 k0_hw1 k0_t2 k0_h3)).WholeWords (EltTy.packing .bf16) := fun v4 v5 k0_hw1 k0_t2 k0_h3 => k0_hw1.1.2.2.2.2.2.2.2.2.2.2.2.2.2.2.2.2.2.2.2.2.2.2.2.2.2.2.1 k0_t2 k0_h3 (k0_off16_inb v4 v5 k0_hw1 k0_t2 k0_h3)
theorem k0_off15_wordsbf16 : ∀ (v4 : BitVec 32) (v5 : BitVec 32) (k0_hw1 : k0_chk1 v4 v5) (k0_t2 : Fin (k0_t2_loop v4 v5).trips), ∀ (k0_h3 : k0_cond3 v4 v5 k0_t2 = 1#1), (Rect.unit (s := S192x32000) (k0_off15 v4 v5 k0_t2) S192x256.size (k0_off15_inb v4 v5 k0_hw1 k0_t2 k0_h3)).WholeWords (EltTy.packing .bf16) := fun v4 v5 k0_hw1 k0_t2 k0_h3 => k0_hw1.1.2.2.2.2.2.2.2.2.2.2.2.2.2.2.2.2.2.2.2.2.2.2.2.2.2.2.2.1 k0_t2 k0_h3 (k0_off15_inb v4 v5 k0_hw1 k0_t2 k0_h3)
theorem k0_off17_inb : ∀ (v4 : BitVec 32) (v5 : BitVec 32) (k0_hw1 : k0_chk1 v4 v5) (k0_t2 : Fin (k0_t2_loop v4 v5).trips), ∀ a, (k0_off17 v4 v5 k0_t2) a + S1x192x256.size a ≤ S2x192x256.size a := fun v4 v5 k0_hw1 k0_t2 => k0_hw1.1.2.2.2.2.2.2.2.2.2.2.2.2.2.2.2.2.2.2.2.2.2.2.2.2.2.2.2.2.1 k0_t2
theorem k0_off17_packedbf16 : ∀ (v4 : BitVec 32) (v5 : BitVec 32) (k0_hw1 : k0_chk1 v4 v5) (k0_t2 : Fin (k0_t2_loop v4 v5).trips), (Rect.unit (s := S2x192x256) (k0_off17 v4 v5 k0_t2) S1x192x256.size (k0_off17_inb v4 v5 k0_hw1 k0_t2)).PackedRows (EltTy.packing .bf16) := fun v4 v5 k0_hw1 k0_t2 => k0_hw1.1.2.2.2.2.2.2.2.2.2.2.2.2.2.2.2.2.2.2.2.2.2.2.2.2.2.2.2.2.2.1 k0_t2 (k0_off17_inb v4 v5 k0_hw1 k0_t2)
theorem k0_mult4_dvd : ∀ (v4 : BitVec 32) (v5 : BitVec 32) (k0_hw1 : k0_chk1 v4 v5) (k0_t2 : Fin (k0_t2_loop v4 v5).trips), 256 ∣ (k0_mult4 v4 v5 k0_t2).toNat := fun v4 v5 k0_hw1 k0_t2 => k0_hw1.1.2.2.2.2.2.2.2.2.2.2.2.2.2.2.2.2.2.2.2.2.2.2.2.2.2.2.2.2.2.2.1 k0_t2
theorem k0_off18_inb : ∀ (v4 : BitVec 32) (v5 : BitVec 32) (k0_hw1 : k0_chk1 v4 v5) (k0_t2 : Fin (k0_t2_loop v4 v5).trips), ∀ a, (k0_off18 v4 v5 k0_t2) a + S1.size a ≤ S2.size a := fun v4 v5 k0_hw1 k0_t2 => k0_hw1.1.2.2.2.2.2.2.2.2.2.2.2.2.2.2.2.2.2.2.2.2.2.2.2.2.2.2.2.2.2.2.2 k0_t2
theorem k0_off19_inb : ∀ (v4 : BitVec 32) (v5 : BitVec 32) (k0_hw1 : k0_chk1 v4 v5) (k0_t2 : Fin (k0_t2_loop v4 v5).trips), ∀ a, (k0_off19 v4 v5 k0_t2) a + S192x256.size a ≤ S192x32000.size a := fun v4 v5 k0_hw1 k0_t2 => k0_hw1.2.1 k0_t2
theorem k0_off20_inb : ∀ (v4 : BitVec 32) (v5 : BitVec 32) (k0_hw1 : k0_chk1 v4 v5) (k0_t2 : Fin (k0_t2_loop v4 v5).trips), ∀ a, (k0_off20 v4 v5 k0_t2) a + S1x192x256.size a ≤ S2x192x256.size a := fun v4 v5 k0_hw1 k0_t2 => k0_hw1.2.2.1 k0_t2
theorem k0_off20_wordsbf16 : ∀ (v4 : BitVec 32) (v5 : BitVec 32) (k0_hw1 : k0_chk1 v4 v5) (k0_t2 : Fin (k0_t2_loop v4 v5).trips), (Rect.unit (s := S2x192x256) (k0_off20 v4 v5 k0_t2) S1x192x256.size (k0_off20_inb v4 v5 k0_hw1 k0_t2)).WholeWords (EltTy.packing .bf16) := fun v4 v5 k0_hw1 k0_t2 => k0_hw1.2.2.2.1 k0_t2 (k0_off20_inb v4 v5 k0_hw1 k0_t2)
theorem k0_off19_wordsbf16 : ∀ (v4 : BitVec 32) (v5 : BitVec 32) (k0_hw1 : k0_chk1 v4 v5) (k0_t2 : Fin (k0_t2_loop v4 v5).trips), (Rect.unit (s := S192x32000) (k0_off19 v4 v5 k0_t2) S192x256.size (k0_off19_inb v4 v5 k0_hw1 k0_t2)).WholeWords (EltTy.packing .bf16) := fun v4 v5 k0_hw1 k0_t2 => k0_hw1.2.2.2.2.1 k0_t2 (k0_off19_inb v4 v5 k0_hw1 k0_t2)
theorem k0_off21_inb : ∀ (v4 : BitVec 32) (v5 : BitVec 32) (k0_hw1 : k0_chk1 v4 v5) (k0_t2 : Fin (k0_t2_loop v4 v5).trips), ∀ a, (k0_off21 v4 v5 k0_t2) a + S1x192x128.size a ≤ S250x192x128.size a := fun v4 v5 k0_hw1 k0_t2 => k0_hw1.2.2.2.2.2.1 k0_t2
theorem k0_off22_inb : ∀ (v4 : BitVec 32) (v5 : BitVec 32) (k0_hw1 : k0_chk1 v4 v5) (k0_t2 : Fin (k0_t2_loop v4 v5).trips), ∀ a, (k0_off22 v4 v5 k0_t2) a + S1x192x128.size a ≤ S250x192x128.size a := fun v4 v5 k0_hw1 k0_t2 => k0_hw1.2.2.2.2.2.2 k0_t2

def k0_mult5 (v29 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  v31

def k0_off23 (v29 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let v32 : BitVec 32 := v31
  let v33 : Index := Scalar.indexCast v32
  let c0_12 : Index := 0#32
  ![v33.toNat, 0]
def k0_off24 (v29 : BitVec 32) : Fin 2 → Nat :=
  let c7_i32 : BitVec 32 := 7#32
  let v392 : BitVec 32 := Scalar.shrsi v29 c7_i32
  let v398 : Index := Scalar.indexCast v392
  let c0_173 : Index := 0#32
  ![v398.toNat, 0]
def k0_off25 (v29 : BitVec 32) : Fin 2 → Nat :=
  let c7_i32 : BitVec 32 := 7#32
  let v392 : BitVec 32 := Scalar.shrsi v29 c7_i32
  let c1_i32_174 : BitVec 32 := 1#32
  let v400 : BitVec 32 := Scalar.addi v392 c1_i32_174
  let v401 : Index := Scalar.indexCast v400
  let c0_175 : Index := 0#32
  ![v401.toNat, 0]
def k0_mult6 (v29 : BitVec 32) : BitVec 32 :=
  let c7_i32 : BitVec 32 := 7#32
  let v392 : BitVec 32 := Scalar.shrsi v29 c7_i32
  let c1_i32_183 : BitVec 32 := 1#32
  let v421 : BitVec 32 := Scalar.andi v392 c1_i32_183
  let c128_i32_184 : BitVec 32 := 128#32
  let v422 : BitVec 32 := Scalar.muli v421 c128_i32_184
  v422
def k0_mult7 (v29 : BitVec 32) : BitVec 32 :=
  let c7_i32 : BitVec 32 := 7#32
  let v392 : BitVec 32 := Scalar.shrsi v29 c7_i32
  let c1_i32_193 : BitVec 32 := 1#32
  let v436 : BitVec 32 := Scalar.addi v392 c1_i32_193
  let c1_i32_194 : BitVec 32 := 1#32
  let v437 : BitVec 32 := Scalar.andi v436 c1_i32_194
  let c128_i32_195 : BitVec 32 := 128#32
  let v438 : BitVec 32 := Scalar.muli v437 c128_i32_195
  v438
def k0_off26 (v29 : BitVec 32) : Fin 3 → Nat :=
  let c7_i32 : BitVec 32 := 7#32
  let v392 : BitVec 32 := Scalar.shrsi v29 c7_i32
  let c1_i32_185 : BitVec 32 := 1#32
  let v424 : BitVec 32 := Scalar.addi v392 c1_i32_185
  let c1_i32_186 : BitVec 32 := 1#32
  let v425 : BitVec 32 := Scalar.shrsi v424 c1_i32_186
  let c6_i32_187 : BitVec 32 := 6#32
  let c0_i32_188 : BitVec 32 := 0#32
  let v426 : BitVec 1 := Scalar.cmpi .eq c6_i32_187 c0_i32_188
  let c1_i32_189 : BitVec 32 := 1#32
  let v427 : BitVec 32 := Scalar.select v426 c1_i32_189 c6_i32_187
  let v428 : BitVec 32 := Scalar.remsi v425 v427
  let c0_i32_191 : BitVec 32 := 0#32
  let v430 : BitVec 1 := Scalar.cmpi .slt v428 c0_i32_191
  let c0_i32_192 : BitVec 32 := 0#32
  let v431 : BitVec 1 := Scalar.cmpi .slt v427 c0_i32_192
  let v432 : BitVec 1 := Scalar.xori v430 v431
  let c0_i32_190 : BitVec 32 := 0#32
  let v429 : BitVec 1 := Scalar.cmpi .ne v428 c0_i32_190
  let v433 : BitVec 1 := Scalar.andi v432 v429
  let v434 : BitVec 32 := Scalar.addi v428 v427
  let v435 : BitVec 32 := Scalar.select v433 v434 v428
  let v458 : Index := Scalar.indexCast v435
  let c0_201 : Index := 0#32
  let c1_i32_193 : BitVec 32 := 1#32
  let v436 : BitVec 32 := Scalar.addi v392 c1_i32_193
  let c1_i32_194 : BitVec 32 := 1#32
  let v437 : BitVec 32 := Scalar.andi v436 c1_i32_194
  let c128_i32_195 : BitVec 32 := 128#32
  let v438 : BitVec 32 := Scalar.muli v437 c128_i32_195
  let v439 : BitVec 32 := v438
  let v459 : Index := Scalar.indexCast v439
  ![v458.toNat, 0, v459.toNat]
def k0_off27 (v29 : BitVec 32) : Fin 3 → Nat :=
  let c7_i32 : BitVec 32 := 7#32
  let v392 : BitVec 32 := Scalar.shrsi v29 c7_i32
  let c1_i32_177 : BitVec 32 := 1#32
  let v410 : BitVec 32 := Scalar.shrsi v392 c1_i32_177
  let c6_i32 : BitVec 32 := 6#32
  let c0_i32_178 : BitVec 32 := 0#32
  let v411 : BitVec 1 := Scalar.cmpi .eq c6_i32 c0_i32_178
  let c1_i32_179 : BitVec 32 := 1#32
  let v412 : BitVec 32 := Scalar.select v411 c1_i32_179 c6_i32
  let v413 : BitVec 32 := Scalar.remsi v410 v412
  let c0_i32_181 : BitVec 32 := 0#32
  let v415 : BitVec 1 := Scalar.cmpi .slt v413 c0_i32_181
  let c0_i32_182 : BitVec 32 := 0#32
  let v416 : BitVec 1 := Scalar.cmpi .slt v412 c0_i32_182
  let v417 : BitVec 1 := Scalar.xori v415 v416
  let c0_i32_180 : BitVec 32 := 0#32
  let v414 : BitVec 1 := Scalar.cmpi .ne v413 c0_i32_180
  let v418 : BitVec 1 := Scalar.andi v417 v414
  let v419 : BitVec 32 := Scalar.addi v413 v412
  let v420 : BitVec 32 := Scalar.select v418 v419 v413
  let v463 : Index := Scalar.indexCast v420
  let c0_202 : Index := 0#32
  let c1_i32_183 : BitVec 32 := 1#32
  let v421 : BitVec 32 := Scalar.andi v392 c1_i32_183
  let c128_i32_184 : BitVec 32 := 128#32
  let v422 : BitVec 32 := Scalar.muli v421 c128_i32_184
  let v423 : BitVec 32 := v422
  let v464 : Index := Scalar.indexCast v423
  ![v463.toNat, 0, v464.toNat]
def k0_off28 (v29 : BitVec 32) : Fin 3 → Nat :=
  let c7_i32 : BitVec 32 := 7#32
  let v392 : BitVec 32 := Scalar.shrsi v29 c7_i32
  let c1_i32_185 : BitVec 32 := 1#32
  let v424 : BitVec 32 := Scalar.addi v392 c1_i32_185
  let c1_i32_186 : BitVec 32 := 1#32
  let v425 : BitVec 32 := Scalar.shrsi v424 c1_i32_186
  let c6_i32_187 : BitVec 32 := 6#32
  let c0_i32_188 : BitVec 32 := 0#32
  let v426 : BitVec 1 := Scalar.cmpi .eq c6_i32_187 c0_i32_188
  let c1_i32_189 : BitVec 32 := 1#32
  let v427 : BitVec 32 := Scalar.select v426 c1_i32_189 c6_i32_187
  let v428 : BitVec 32 := Scalar.remsi v425 v427
  let c0_i32_191 : BitVec 32 := 0#32
  let v430 : BitVec 1 := Scalar.cmpi .slt v428 c0_i32_191
  let c0_i32_192 : BitVec 32 := 0#32
  let v431 : BitVec 1 := Scalar.cmpi .slt v427 c0_i32_192
  let v432 : BitVec 1 := Scalar.xori v430 v431
  let c0_i32_190 : BitVec 32 := 0#32
  let v429 : BitVec 1 := Scalar.cmpi .ne v428 c0_i32_190
  let v433 : BitVec 1 := Scalar.andi v432 v429
  let v434 : BitVec 32 := Scalar.addi v428 v427
  let v435 : BitVec 32 := Scalar.select v433 v434 v428
  let v494 : Index := Scalar.indexCast v435
  let c0_209 : Index := 0#32
  let c1_i32_193 : BitVec 32 := 1#32
  let v436 : BitVec 32 := Scalar.addi v392 c1_i32_193
  let c1_i32_194 : BitVec 32 := 1#32
  let v437 : BitVec 32 := Scalar.andi v436 c1_i32_194
  let c128_i32_195 : BitVec 32 := 128#32
  let v438 : BitVec 32 := Scalar.muli v437 c128_i32_195
  let v439 : BitVec 32 := v438
  let v495 : Index := Scalar.indexCast v439
  ![v494.toNat, 0, v495.toNat]
def k0_off29 (v29 : BitVec 32) : Fin 3 → Nat :=
  let c7_i32 : BitVec 32 := 7#32
  let v392 : BitVec 32 := Scalar.shrsi v29 c7_i32
  let c1_i32_177 : BitVec 32 := 1#32
  let v410 : BitVec 32 := Scalar.shrsi v392 c1_i32_177
  let c6_i32 : BitVec 32 := 6#32
  let c0_i32_178 : BitVec 32 := 0#32
  let v411 : BitVec 1 := Scalar.cmpi .eq c6_i32 c0_i32_178
  let c1_i32_179 : BitVec 32 := 1#32
  let v412 : BitVec 32 := Scalar.select v411 c1_i32_179 c6_i32
  let v413 : BitVec 32 := Scalar.remsi v410 v412
  let c0_i32_181 : BitVec 32 := 0#32
  let v415 : BitVec 1 := Scalar.cmpi .slt v413 c0_i32_181
  let c0_i32_182 : BitVec 32 := 0#32
  let v416 : BitVec 1 := Scalar.cmpi .slt v412 c0_i32_182
  let v417 : BitVec 1 := Scalar.xori v415 v416
  let c0_i32_180 : BitVec 32 := 0#32
  let v414 : BitVec 1 := Scalar.cmpi .ne v413 c0_i32_180
  let v418 : BitVec 1 := Scalar.andi v417 v414
  let v419 : BitVec 32 := Scalar.addi v413 v412
  let v420 : BitVec 32 := Scalar.select v418 v419 v413
  let v499 : Index := Scalar.indexCast v420
  let c0_210 : Index := 0#32
  let c1_i32_183 : BitVec 32 := 1#32
  let v421 : BitVec 32 := Scalar.andi v392 c1_i32_183
  let c128_i32_184 : BitVec 32 := 128#32
  let v422 : BitVec 32 := Scalar.muli v421 c128_i32_184
  let v423 : BitVec 32 := v422
  let v500 : Index := Scalar.indexCast v423
  ![v499.toNat, 0, v500.toNat]
def k0_off30 (v29 : BitVec 32) : Fin 3 → Nat :=
  let c7_i32 : BitVec 32 := 7#32
  let v392 : BitVec 32 := Scalar.shrsi v29 c7_i32
  let c1_i32_172 : BitVec 32 := 1#32
  let v393 : BitVec 32 := Scalar.addi v392 c1_i32_172
  let c250_i32 : BitVec 32 := 250#32
  let v394 : BitVec 32 := Scalar.minsi v393 c250_i32
  let v521 : Index := Scalar.indexCast v394
  let c0_216 : Index := 0#32
  let c0_217 : Index := 0#32
  ![v521.toNat, 0, 0]
def k0_off31 (v29 : BitVec 32) : Fin 3 → Nat :=
  let c7_i32 : BitVec 32 := 7#32
  let v392 : BitVec 32 := Scalar.shrsi v29 c7_i32
  let v525 : Index := Scalar.indexCast v392
  let c0_218 : Index := 0#32
  let c0_219 : Index := 0#32
  ![v525.toNat, 0, 0]

def k0_chk2 (v29 : BitVec 32) : Prop :=
  (8 ∣ (k0_mult5 v29).toNat) ∧
  (∀ a, (k0_off23 v29) a + S16x128.size a ≤ S272x128.size a) ∧
  (∀ a, (k0_off24 v29) a + S1x128.size a ≤ S272x128.size a) ∧
  (∀ a, (k0_off25 v29) a + S1x128.size a ≤ S272x128.size a) ∧
  (128 ∣ (k0_mult6 v29).toNat) ∧
  (128 ∣ (k0_mult7 v29).toNat) ∧
  (∀ a, (k0_off26 v29) a + S1x2560x128.size a ≤ S6x2560x256.size a) ∧
  (∀ (hinb : ∀ a, (k0_off26 v29) a + S1x2560x128.size a ≤ S6x2560x256.size a), (Rect.unit (s := S6x2560x256) (k0_off26 v29) S1x2560x128.size hinb).PackedRows (EltTy.packing .fp8e4m3)) ∧
  (∀ a, (k0_off27 v29) a + S1x2560x128.size a ≤ S6x2560x256.size a) ∧
  (∀ (hinb : ∀ a, (k0_off27 v29) a + S1x2560x128.size a ≤ S6x2560x256.size a), (Rect.unit (s := S6x2560x256) (k0_off27 v29) S1x2560x128.size hinb).PackedRows (EltTy.packing .fp8e4m3)) ∧
  (∀ a, (k0_off28 v29) a + S1x8x128.size a ≤ S6x8x256.size a) ∧
  (∀ a, (k0_off29 v29) a + S1x8x128.size a ≤ S6x8x256.size a) ∧
  (∀ a, (k0_off30 v29) a + S1x192x128.size a ≤ S251x192x128.size a) ∧
  (∀ a, (k0_off31 v29) a + S1x192x128.size a ≤ S251x192x128.size a)
theorem k0_mult5_dvd : ∀ (v29 : BitVec 32) (k0_hw2 : k0_chk2 v29), 8 ∣ (k0_mult5 v29).toNat := fun v29 k0_hw2 => k0_hw2.1
theorem k0_off23_inb : ∀ (v29 : BitVec 32) (k0_hw2 : k0_chk2 v29), ∀ a, (k0_off23 v29) a + S16x128.size a ≤ S272x128.size a := fun v29 k0_hw2 => k0_hw2.2.1
theorem k0_off24_inb : ∀ (v29 : BitVec 32) (k0_hw2 : k0_chk2 v29), ∀ a, (k0_off24 v29) a + S1x128.size a ≤ S272x128.size a := fun v29 k0_hw2 => k0_hw2.2.2.1
theorem k0_off25_inb : ∀ (v29 : BitVec 32) (k0_hw2 : k0_chk2 v29), ∀ a, (k0_off25 v29) a + S1x128.size a ≤ S272x128.size a := fun v29 k0_hw2 => k0_hw2.2.2.2.1
theorem k0_mult6_dvd : ∀ (v29 : BitVec 32) (k0_hw2 : k0_chk2 v29), 128 ∣ (k0_mult6 v29).toNat := fun v29 k0_hw2 => k0_hw2.2.2.2.2.1
theorem k0_mult7_dvd : ∀ (v29 : BitVec 32) (k0_hw2 : k0_chk2 v29), 128 ∣ (k0_mult7 v29).toNat := fun v29 k0_hw2 => k0_hw2.2.2.2.2.2.1
theorem k0_off26_inb : ∀ (v29 : BitVec 32) (k0_hw2 : k0_chk2 v29), ∀ a, (k0_off26 v29) a + S1x2560x128.size a ≤ S6x2560x256.size a := fun v29 k0_hw2 => k0_hw2.2.2.2.2.2.2.1
theorem k0_off26_packedfp8e4m3 : ∀ (v29 : BitVec 32) (k0_hw2 : k0_chk2 v29), (Rect.unit (s := S6x2560x256) (k0_off26 v29) S1x2560x128.size (k0_off26_inb v29 k0_hw2)).PackedRows (EltTy.packing .fp8e4m3) := fun v29 k0_hw2 => k0_hw2.2.2.2.2.2.2.2.1 (k0_off26_inb v29 k0_hw2)
theorem k0_off27_inb : ∀ (v29 : BitVec 32) (k0_hw2 : k0_chk2 v29), ∀ a, (k0_off27 v29) a + S1x2560x128.size a ≤ S6x2560x256.size a := fun v29 k0_hw2 => k0_hw2.2.2.2.2.2.2.2.2.1
theorem k0_off27_packedfp8e4m3 : ∀ (v29 : BitVec 32) (k0_hw2 : k0_chk2 v29), (Rect.unit (s := S6x2560x256) (k0_off27 v29) S1x2560x128.size (k0_off27_inb v29 k0_hw2)).PackedRows (EltTy.packing .fp8e4m3) := fun v29 k0_hw2 => k0_hw2.2.2.2.2.2.2.2.2.2.1 (k0_off27_inb v29 k0_hw2)
theorem k0_off28_inb : ∀ (v29 : BitVec 32) (k0_hw2 : k0_chk2 v29), ∀ a, (k0_off28 v29) a + S1x8x128.size a ≤ S6x8x256.size a := fun v29 k0_hw2 => k0_hw2.2.2.2.2.2.2.2.2.2.2.1
theorem k0_off29_inb : ∀ (v29 : BitVec 32) (k0_hw2 : k0_chk2 v29), ∀ a, (k0_off29 v29) a + S1x8x128.size a ≤ S6x8x256.size a := fun v29 k0_hw2 => k0_hw2.2.2.2.2.2.2.2.2.2.2.2.1
theorem k0_off30_inb : ∀ (v29 : BitVec 32) (k0_hw2 : k0_chk2 v29), ∀ a, (k0_off30 v29) a + S1x192x128.size a ≤ S251x192x128.size a := fun v29 k0_hw2 => k0_hw2.2.2.2.2.2.2.2.2.2.2.2.2.1
theorem k0_off31_inb : ∀ (v29 : BitVec 32) (k0_hw2 : k0_chk2 v29), ∀ a, (k0_off31 v29) a + S1x192x128.size a ≤ S251x192x128.size a := fun v29 k0_hw2 => k0_hw2.2.2.2.2.2.2.2.2.2.2.2.2.2

def k0_off32 (v29 : BitVec 32) (v47 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let v536 : Index := Scalar.indexCast v530
  let c0_224 : Index := 0#32
  ![v536.toNat, 0]

def k0_off33 (v29 : BitVec 32) (v47 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let c1_i32_225 : BitVec 32 := 1#32
  let v538 : BitVec 32 := Scalar.addi v530 c1_i32_225
  let v539 : Index := Scalar.indexCast v538
  let c0_226 : Index := 0#32
  ![v539.toNat, 0]
def k0_mult8 (v29 : BitVec 32) (v47 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let c1_i32_235 : BitVec 32 := 1#32
  let v559 : BitVec 32 := Scalar.andi v530 c1_i32_235
  let c128_i32_236 : BitVec 32 := 128#32
  let v560 : BitVec 32 := Scalar.muli v559 c128_i32_236
  v560
def k0_mult9 (v29 : BitVec 32) (v47 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let c1_i32_245 : BitVec 32 := 1#32
  let v574 : BitVec 32 := Scalar.addi v530 c1_i32_245
  let c1_i32_246 : BitVec 32 := 1#32
  let v575 : BitVec 32 := Scalar.andi v574 c1_i32_246
  let c128_i32_247 : BitVec 32 := 128#32
  let v576 : BitVec 32 := Scalar.muli v575 c128_i32_247
  v576
def k0_off34 (v29 : BitVec 32) (v47 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let c1_i32_237 : BitVec 32 := 1#32
  let v562 : BitVec 32 := Scalar.addi v530 c1_i32_237
  let c1_i32_238 : BitVec 32 := 1#32
  let v563 : BitVec 32 := Scalar.shrsi v562 c1_i32_238
  let c6_i32_239 : BitVec 32 := 6#32
  let c0_i32_240 : BitVec 32 := 0#32
  let v564 : BitVec 1 := Scalar.cmpi .eq c6_i32_239 c0_i32_240
  let c1_i32_241 : BitVec 32 := 1#32
  let v565 : BitVec 32 := Scalar.select v564 c1_i32_241 c6_i32_239
  let v566 : BitVec 32 := Scalar.remsi v563 v565
  let c0_i32_243 : BitVec 32 := 0#32
  let v568 : BitVec 1 := Scalar.cmpi .slt v566 c0_i32_243
  let c0_i32_244 : BitVec 32 := 0#32
  let v569 : BitVec 1 := Scalar.cmpi .slt v565 c0_i32_244
  let v570 : BitVec 1 := Scalar.xori v568 v569
  let c0_i32_242 : BitVec 32 := 0#32
  let v567 : BitVec 1 := Scalar.cmpi .ne v566 c0_i32_242
  let v571 : BitVec 1 := Scalar.andi v570 v567
  let v572 : BitVec 32 := Scalar.addi v566 v565
  let v573 : BitVec 32 := Scalar.select v571 v572 v566
  let v596 : Index := Scalar.indexCast v573
  let c0_253 : Index := 0#32
  let c1_i32_245 : BitVec 32 := 1#32
  let v574 : BitVec 32 := Scalar.addi v530 c1_i32_245
  let c1_i32_246 : BitVec 32 := 1#32
  let v575 : BitVec 32 := Scalar.andi v574 c1_i32_246
  let c128_i32_247 : BitVec 32 := 128#32
  let v576 : BitVec 32 := Scalar.muli v575 c128_i32_247
  let v577 : BitVec 32 := v576
  let v597 : Index := Scalar.indexCast v577
  ![v596.toNat, 0, v597.toNat]
def k0_off35 (v29 : BitVec 32) (v47 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let c1_i32_228 : BitVec 32 := 1#32
  let v548 : BitVec 32 := Scalar.shrsi v530 c1_i32_228
  let c6_i32_229 : BitVec 32 := 6#32
  let c0_i32_230 : BitVec 32 := 0#32
  let v549 : BitVec 1 := Scalar.cmpi .eq c6_i32_229 c0_i32_230
  let c1_i32_231 : BitVec 32 := 1#32
  let v550 : BitVec 32 := Scalar.select v549 c1_i32_231 c6_i32_229
  let v551 : BitVec 32 := Scalar.remsi v548 v550
  let c0_i32_233 : BitVec 32 := 0#32
  let v553 : BitVec 1 := Scalar.cmpi .slt v551 c0_i32_233
  let c0_i32_234 : BitVec 32 := 0#32
  let v554 : BitVec 1 := Scalar.cmpi .slt v550 c0_i32_234
  let v555 : BitVec 1 := Scalar.xori v553 v554
  let c0_i32_232 : BitVec 32 := 0#32
  let v552 : BitVec 1 := Scalar.cmpi .ne v551 c0_i32_232
  let v556 : BitVec 1 := Scalar.andi v555 v552
  let v557 : BitVec 32 := Scalar.addi v551 v550
  let v558 : BitVec 32 := Scalar.select v556 v557 v551
  let v601 : Index := Scalar.indexCast v558
  let c0_254 : Index := 0#32
  let c1_i32_235 : BitVec 32 := 1#32
  let v559 : BitVec 32 := Scalar.andi v530 c1_i32_235
  let c128_i32_236 : BitVec 32 := 128#32
  let v560 : BitVec 32 := Scalar.muli v559 c128_i32_236
  let v561 : BitVec 32 := v560
  let v602 : Index := Scalar.indexCast v561
  ![v601.toNat, 0, v602.toNat]
def k0_off36 (v29 : BitVec 32) (v47 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let c1_i32_237 : BitVec 32 := 1#32
  let v562 : BitVec 32 := Scalar.addi v530 c1_i32_237
  let c1_i32_238 : BitVec 32 := 1#32
  let v563 : BitVec 32 := Scalar.shrsi v562 c1_i32_238
  let c6_i32_239 : BitVec 32 := 6#32
  let c0_i32_240 : BitVec 32 := 0#32
  let v564 : BitVec 1 := Scalar.cmpi .eq c6_i32_239 c0_i32_240
  let c1_i32_241 : BitVec 32 := 1#32
  let v565 : BitVec 32 := Scalar.select v564 c1_i32_241 c6_i32_239
  let v566 : BitVec 32 := Scalar.remsi v563 v565
  let c0_i32_243 : BitVec 32 := 0#32
  let v568 : BitVec 1 := Scalar.cmpi .slt v566 c0_i32_243
  let c0_i32_244 : BitVec 32 := 0#32
  let v569 : BitVec 1 := Scalar.cmpi .slt v565 c0_i32_244
  let v570 : BitVec 1 := Scalar.xori v568 v569
  let c0_i32_242 : BitVec 32 := 0#32
  let v567 : BitVec 1 := Scalar.cmpi .ne v566 c0_i32_242
  let v571 : BitVec 1 := Scalar.andi v570 v567
  let v572 : BitVec 32 := Scalar.addi v566 v565
  let v573 : BitVec 32 := Scalar.select v571 v572 v566
  let v632 : Index := Scalar.indexCast v573
  let c0_261 : Index := 0#32
  let c1_i32_245 : BitVec 32 := 1#32
  let v574 : BitVec 32 := Scalar.addi v530 c1_i32_245
  let c1_i32_246 : BitVec 32 := 1#32
  let v575 : BitVec 32 := Scalar.andi v574 c1_i32_246
  let c128_i32_247 : BitVec 32 := 128#32
  let v576 : BitVec 32 := Scalar.muli v575 c128_i32_247
  let v577 : BitVec 32 := v576
  let v633 : Index := Scalar.indexCast v577
  ![v632.toNat, 0, v633.toNat]
def k0_off37 (v29 : BitVec 32) (v47 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let c1_i32_228 : BitVec 32 := 1#32
  let v548 : BitVec 32 := Scalar.shrsi v530 c1_i32_228
  let c6_i32_229 : BitVec 32 := 6#32
  let c0_i32_230 : BitVec 32 := 0#32
  let v549 : BitVec 1 := Scalar.cmpi .eq c6_i32_229 c0_i32_230
  let c1_i32_231 : BitVec 32 := 1#32
  let v550 : BitVec 32 := Scalar.select v549 c1_i32_231 c6_i32_229
  let v551 : BitVec 32 := Scalar.remsi v548 v550
  let c0_i32_233 : BitVec 32 := 0#32
  let v553 : BitVec 1 := Scalar.cmpi .slt v551 c0_i32_233
  let c0_i32_234 : BitVec 32 := 0#32
  let v554 : BitVec 1 := Scalar.cmpi .slt v550 c0_i32_234
  let v555 : BitVec 1 := Scalar.xori v553 v554
  let c0_i32_232 : BitVec 32 := 0#32
  let v552 : BitVec 1 := Scalar.cmpi .ne v551 c0_i32_232
  let v556 : BitVec 1 := Scalar.andi v555 v552
  let v557 : BitVec 32 := Scalar.addi v551 v550
  let v558 : BitVec 32 := Scalar.select v556 v557 v551
  let v637 : Index := Scalar.indexCast v558
  let c0_262 : Index := 0#32
  let c1_i32_235 : BitVec 32 := 1#32
  let v559 : BitVec 32 := Scalar.andi v530 c1_i32_235
  let c128_i32_236 : BitVec 32 := 128#32
  let v560 : BitVec 32 := Scalar.muli v559 c128_i32_236
  let v561 : BitVec 32 := v560
  let v638 : Index := Scalar.indexCast v561
  ![v637.toNat, 0, v638.toNat]
def k0_off38 (v29 : BitVec 32) (v47 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let c1_i32_221 : BitVec 32 := 1#32
  let v531 : BitVec 32 := Scalar.addi v530 c1_i32_221
  let c250_i32_222 : BitVec 32 := 250#32
  let v532 : BitVec 32 := Scalar.minsi v531 c250_i32_222
  let v659 : Index := Scalar.indexCast v532
  let c0_268 : Index := 0#32
  let c0_269 : Index := 0#32
  ![v659.toNat, 0, 0]
def k0_off39 (v29 : BitVec 32) (v47 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_15 : BitVec 32 := 128#32
  let v46 : BitVec 32 := Scalar.muli v31 c128_i32_15
  let v48 : BitVec 32 := Scalar.addi v46 v47
  let c7_i32_220 : BitVec 32 := 7#32
  let v530 : BitVec 32 := Scalar.shrsi v48 c7_i32_220
  let v663 : Index := Scalar.indexCast v530
  let c0_270 : Index := 0#32
  let c0_271 : Index := 0#32
  ![v663.toNat, 0, 0]

def k0_chk3 (v29 : BitVec 32) (v47 : BitVec 32) : Prop :=
  (∀ a, (k0_off32 v29 v47) a + S1x128.size a ≤ S272x128.size a) ∧
  (∀ a, (k0_off33 v29 v47) a + S1x128.size a ≤ S272x128.size a) ∧
  (128 ∣ (k0_mult8 v29 v47).toNat) ∧
  (128 ∣ (k0_mult9 v29 v47).toNat) ∧
  (∀ a, (k0_off34 v29 v47) a + S1x2560x128.size a ≤ S6x2560x256.size a) ∧
  (∀ (hinb : ∀ a, (k0_off34 v29 v47) a + S1x2560x128.size a ≤ S6x2560x256.size a), (Rect.unit (s := S6x2560x256) (k0_off34 v29 v47) S1x2560x128.size hinb).PackedRows (EltTy.packing .fp8e4m3)) ∧
  (∀ a, (k0_off35 v29 v47) a + S1x2560x128.size a ≤ S6x2560x256.size a) ∧
  (∀ (hinb : ∀ a, (k0_off35 v29 v47) a + S1x2560x128.size a ≤ S6x2560x256.size a), (Rect.unit (s := S6x2560x256) (k0_off35 v29 v47) S1x2560x128.size hinb).PackedRows (EltTy.packing .fp8e4m3)) ∧
  (∀ a, (k0_off36 v29 v47) a + S1x8x128.size a ≤ S6x8x256.size a) ∧
  (∀ a, (k0_off37 v29 v47) a + S1x8x128.size a ≤ S6x8x256.size a) ∧
  (∀ a, (k0_off38 v29 v47) a + S1x192x128.size a ≤ S251x192x128.size a) ∧
  (∀ a, (k0_off39 v29 v47) a + S1x192x128.size a ≤ S251x192x128.size a)
theorem k0_off32_inb : ∀ (v29 : BitVec 32) (v47 : BitVec 32) (k0_hw3 : k0_chk3 v29 v47), ∀ a, (k0_off32 v29 v47) a + S1x128.size a ≤ S272x128.size a := fun v29 v47 k0_hw3 => k0_hw3.1
theorem k0_off33_inb : ∀ (v29 : BitVec 32) (v47 : BitVec 32) (k0_hw3 : k0_chk3 v29 v47), ∀ a, (k0_off33 v29 v47) a + S1x128.size a ≤ S272x128.size a := fun v29 v47 k0_hw3 => k0_hw3.2.1
theorem k0_mult8_dvd : ∀ (v29 : BitVec 32) (v47 : BitVec 32) (k0_hw3 : k0_chk3 v29 v47), 128 ∣ (k0_mult8 v29 v47).toNat := fun v29 v47 k0_hw3 => k0_hw3.2.2.1
theorem k0_mult9_dvd : ∀ (v29 : BitVec 32) (v47 : BitVec 32) (k0_hw3 : k0_chk3 v29 v47), 128 ∣ (k0_mult9 v29 v47).toNat := fun v29 v47 k0_hw3 => k0_hw3.2.2.2.1
theorem k0_off34_inb : ∀ (v29 : BitVec 32) (v47 : BitVec 32) (k0_hw3 : k0_chk3 v29 v47), ∀ a, (k0_off34 v29 v47) a + S1x2560x128.size a ≤ S6x2560x256.size a := fun v29 v47 k0_hw3 => k0_hw3.2.2.2.2.1
theorem k0_off34_packedfp8e4m3 : ∀ (v29 : BitVec 32) (v47 : BitVec 32) (k0_hw3 : k0_chk3 v29 v47), (Rect.unit (s := S6x2560x256) (k0_off34 v29 v47) S1x2560x128.size (k0_off34_inb v29 v47 k0_hw3)).PackedRows (EltTy.packing .fp8e4m3) := fun v29 v47 k0_hw3 => k0_hw3.2.2.2.2.2.1 (k0_off34_inb v29 v47 k0_hw3)
theorem k0_off35_inb : ∀ (v29 : BitVec 32) (v47 : BitVec 32) (k0_hw3 : k0_chk3 v29 v47), ∀ a, (k0_off35 v29 v47) a + S1x2560x128.size a ≤ S6x2560x256.size a := fun v29 v47 k0_hw3 => k0_hw3.2.2.2.2.2.2.1
theorem k0_off35_packedfp8e4m3 : ∀ (v29 : BitVec 32) (v47 : BitVec 32) (k0_hw3 : k0_chk3 v29 v47), (Rect.unit (s := S6x2560x256) (k0_off35 v29 v47) S1x2560x128.size (k0_off35_inb v29 v47 k0_hw3)).PackedRows (EltTy.packing .fp8e4m3) := fun v29 v47 k0_hw3 => k0_hw3.2.2.2.2.2.2.2.1 (k0_off35_inb v29 v47 k0_hw3)
theorem k0_off36_inb : ∀ (v29 : BitVec 32) (v47 : BitVec 32) (k0_hw3 : k0_chk3 v29 v47), ∀ a, (k0_off36 v29 v47) a + S1x8x128.size a ≤ S6x8x256.size a := fun v29 v47 k0_hw3 => k0_hw3.2.2.2.2.2.2.2.2.1
theorem k0_off37_inb : ∀ (v29 : BitVec 32) (v47 : BitVec 32) (k0_hw3 : k0_chk3 v29 v47), ∀ a, (k0_off37 v29 v47) a + S1x8x128.size a ≤ S6x8x256.size a := fun v29 v47 k0_hw3 => k0_hw3.2.2.2.2.2.2.2.2.2.1
theorem k0_off38_inb : ∀ (v29 : BitVec 32) (v47 : BitVec 32) (k0_hw3 : k0_chk3 v29 v47), ∀ a, (k0_off38 v29 v47) a + S1x192x128.size a ≤ S251x192x128.size a := fun v29 v47 k0_hw3 => k0_hw3.2.2.2.2.2.2.2.2.2.2.1
theorem k0_off39_inb : ∀ (v29 : BitVec 32) (v47 : BitVec 32) (k0_hw3 : k0_chk3 v29 v47), ∀ a, (k0_off39 v29 v47) a + S1x192x128.size a ≤ S251x192x128.size a := fun v29 v47 k0_hw3 => k0_hw3.2.2.2.2.2.2.2.2.2.2.2

def k0_off40 (v29 : BitVec 32) (v61 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let v674 : Index := Scalar.indexCast v668
  let c0_276 : Index := 0#32
  ![v674.toNat, 0]

def k0_off41 (v29 : BitVec 32) (v61 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let c1_i32_277 : BitVec 32 := 1#32
  let v676 : BitVec 32 := Scalar.addi v668 c1_i32_277
  let v677 : Index := Scalar.indexCast v676
  let c0_278 : Index := 0#32
  ![v677.toNat, 0]
def k0_mult10 (v29 : BitVec 32) (v61 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let c1_i32_287 : BitVec 32 := 1#32
  let v697 : BitVec 32 := Scalar.andi v668 c1_i32_287
  let c128_i32_288 : BitVec 32 := 128#32
  let v698 : BitVec 32 := Scalar.muli v697 c128_i32_288
  v698
def k0_mult11 (v29 : BitVec 32) (v61 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let c1_i32_297 : BitVec 32 := 1#32
  let v712 : BitVec 32 := Scalar.addi v668 c1_i32_297
  let c1_i32_298 : BitVec 32 := 1#32
  let v713 : BitVec 32 := Scalar.andi v712 c1_i32_298
  let c128_i32_299 : BitVec 32 := 128#32
  let v714 : BitVec 32 := Scalar.muli v713 c128_i32_299
  v714
def k0_off42 (v29 : BitVec 32) (v61 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let c1_i32_289 : BitVec 32 := 1#32
  let v700 : BitVec 32 := Scalar.addi v668 c1_i32_289
  let c1_i32_290 : BitVec 32 := 1#32
  let v701 : BitVec 32 := Scalar.shrsi v700 c1_i32_290
  let c6_i32_291 : BitVec 32 := 6#32
  let c0_i32_292 : BitVec 32 := 0#32
  let v702 : BitVec 1 := Scalar.cmpi .eq c6_i32_291 c0_i32_292
  let c1_i32_293 : BitVec 32 := 1#32
  let v703 : BitVec 32 := Scalar.select v702 c1_i32_293 c6_i32_291
  let v704 : BitVec 32 := Scalar.remsi v701 v703
  let c0_i32_295 : BitVec 32 := 0#32
  let v706 : BitVec 1 := Scalar.cmpi .slt v704 c0_i32_295
  let c0_i32_296 : BitVec 32 := 0#32
  let v707 : BitVec 1 := Scalar.cmpi .slt v703 c0_i32_296
  let v708 : BitVec 1 := Scalar.xori v706 v707
  let c0_i32_294 : BitVec 32 := 0#32
  let v705 : BitVec 1 := Scalar.cmpi .ne v704 c0_i32_294
  let v709 : BitVec 1 := Scalar.andi v708 v705
  let v710 : BitVec 32 := Scalar.addi v704 v703
  let v711 : BitVec 32 := Scalar.select v709 v710 v704
  let v734 : Index := Scalar.indexCast v711
  let c0_305 : Index := 0#32
  let c1_i32_297 : BitVec 32 := 1#32
  let v712 : BitVec 32 := Scalar.addi v668 c1_i32_297
  let c1_i32_298 : BitVec 32 := 1#32
  let v713 : BitVec 32 := Scalar.andi v712 c1_i32_298
  let c128_i32_299 : BitVec 32 := 128#32
  let v714 : BitVec 32 := Scalar.muli v713 c128_i32_299
  let v715 : BitVec 32 := v714
  let v735 : Index := Scalar.indexCast v715
  ![v734.toNat, 0, v735.toNat]
def k0_off43 (v29 : BitVec 32) (v61 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let c1_i32_280 : BitVec 32 := 1#32
  let v686 : BitVec 32 := Scalar.shrsi v668 c1_i32_280
  let c6_i32_281 : BitVec 32 := 6#32
  let c0_i32_282 : BitVec 32 := 0#32
  let v687 : BitVec 1 := Scalar.cmpi .eq c6_i32_281 c0_i32_282
  let c1_i32_283 : BitVec 32 := 1#32
  let v688 : BitVec 32 := Scalar.select v687 c1_i32_283 c6_i32_281
  let v689 : BitVec 32 := Scalar.remsi v686 v688
  let c0_i32_285 : BitVec 32 := 0#32
  let v691 : BitVec 1 := Scalar.cmpi .slt v689 c0_i32_285
  let c0_i32_286 : BitVec 32 := 0#32
  let v692 : BitVec 1 := Scalar.cmpi .slt v688 c0_i32_286
  let v693 : BitVec 1 := Scalar.xori v691 v692
  let c0_i32_284 : BitVec 32 := 0#32
  let v690 : BitVec 1 := Scalar.cmpi .ne v689 c0_i32_284
  let v694 : BitVec 1 := Scalar.andi v693 v690
  let v695 : BitVec 32 := Scalar.addi v689 v688
  let v696 : BitVec 32 := Scalar.select v694 v695 v689
  let v739 : Index := Scalar.indexCast v696
  let c0_306 : Index := 0#32
  let c1_i32_287 : BitVec 32 := 1#32
  let v697 : BitVec 32 := Scalar.andi v668 c1_i32_287
  let c128_i32_288 : BitVec 32 := 128#32
  let v698 : BitVec 32 := Scalar.muli v697 c128_i32_288
  let v699 : BitVec 32 := v698
  let v740 : Index := Scalar.indexCast v699
  ![v739.toNat, 0, v740.toNat]
def k0_off44 (v29 : BitVec 32) (v61 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let c1_i32_289 : BitVec 32 := 1#32
  let v700 : BitVec 32 := Scalar.addi v668 c1_i32_289
  let c1_i32_290 : BitVec 32 := 1#32
  let v701 : BitVec 32 := Scalar.shrsi v700 c1_i32_290
  let c6_i32_291 : BitVec 32 := 6#32
  let c0_i32_292 : BitVec 32 := 0#32
  let v702 : BitVec 1 := Scalar.cmpi .eq c6_i32_291 c0_i32_292
  let c1_i32_293 : BitVec 32 := 1#32
  let v703 : BitVec 32 := Scalar.select v702 c1_i32_293 c6_i32_291
  let v704 : BitVec 32 := Scalar.remsi v701 v703
  let c0_i32_295 : BitVec 32 := 0#32
  let v706 : BitVec 1 := Scalar.cmpi .slt v704 c0_i32_295
  let c0_i32_296 : BitVec 32 := 0#32
  let v707 : BitVec 1 := Scalar.cmpi .slt v703 c0_i32_296
  let v708 : BitVec 1 := Scalar.xori v706 v707
  let c0_i32_294 : BitVec 32 := 0#32
  let v705 : BitVec 1 := Scalar.cmpi .ne v704 c0_i32_294
  let v709 : BitVec 1 := Scalar.andi v708 v705
  let v710 : BitVec 32 := Scalar.addi v704 v703
  let v711 : BitVec 32 := Scalar.select v709 v710 v704
  let v770 : Index := Scalar.indexCast v711
  let c0_313 : Index := 0#32
  let c1_i32_297 : BitVec 32 := 1#32
  let v712 : BitVec 32 := Scalar.addi v668 c1_i32_297
  let c1_i32_298 : BitVec 32 := 1#32
  let v713 : BitVec 32 := Scalar.andi v712 c1_i32_298
  let c128_i32_299 : BitVec 32 := 128#32
  let v714 : BitVec 32 := Scalar.muli v713 c128_i32_299
  let v715 : BitVec 32 := v714
  let v771 : Index := Scalar.indexCast v715
  ![v770.toNat, 0, v771.toNat]
def k0_off45 (v29 : BitVec 32) (v61 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let c1_i32_280 : BitVec 32 := 1#32
  let v686 : BitVec 32 := Scalar.shrsi v668 c1_i32_280
  let c6_i32_281 : BitVec 32 := 6#32
  let c0_i32_282 : BitVec 32 := 0#32
  let v687 : BitVec 1 := Scalar.cmpi .eq c6_i32_281 c0_i32_282
  let c1_i32_283 : BitVec 32 := 1#32
  let v688 : BitVec 32 := Scalar.select v687 c1_i32_283 c6_i32_281
  let v689 : BitVec 32 := Scalar.remsi v686 v688
  let c0_i32_285 : BitVec 32 := 0#32
  let v691 : BitVec 1 := Scalar.cmpi .slt v689 c0_i32_285
  let c0_i32_286 : BitVec 32 := 0#32
  let v692 : BitVec 1 := Scalar.cmpi .slt v688 c0_i32_286
  let v693 : BitVec 1 := Scalar.xori v691 v692
  let c0_i32_284 : BitVec 32 := 0#32
  let v690 : BitVec 1 := Scalar.cmpi .ne v689 c0_i32_284
  let v694 : BitVec 1 := Scalar.andi v693 v690
  let v695 : BitVec 32 := Scalar.addi v689 v688
  let v696 : BitVec 32 := Scalar.select v694 v695 v689
  let v775 : Index := Scalar.indexCast v696
  let c0_314 : Index := 0#32
  let c1_i32_287 : BitVec 32 := 1#32
  let v697 : BitVec 32 := Scalar.andi v668 c1_i32_287
  let c128_i32_288 : BitVec 32 := 128#32
  let v698 : BitVec 32 := Scalar.muli v697 c128_i32_288
  let v699 : BitVec 32 := v698
  let v776 : Index := Scalar.indexCast v699
  ![v775.toNat, 0, v776.toNat]
def k0_off46 (v29 : BitVec 32) (v61 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let c1_i32_273 : BitVec 32 := 1#32
  let v669 : BitVec 32 := Scalar.addi v668 c1_i32_273
  let c250_i32_274 : BitVec 32 := 250#32
  let v670 : BitVec 32 := Scalar.minsi v669 c250_i32_274
  let v797 : Index := Scalar.indexCast v670
  let c0_320 : Index := 0#32
  let c0_321 : Index := 0#32
  ![v797.toNat, 0, 0]
def k0_off47 (v29 : BitVec 32) (v61 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_21 : BitVec 32 := 128#32
  let v60 : BitVec 32 := Scalar.muli v31 c128_i32_21
  let v62 : BitVec 32 := Scalar.addi v60 v61
  let c7_i32_272 : BitVec 32 := 7#32
  let v668 : BitVec 32 := Scalar.shrsi v62 c7_i32_272
  let v801 : Index := Scalar.indexCast v668
  let c0_322 : Index := 0#32
  let c0_323 : Index := 0#32
  ![v801.toNat, 0, 0]

def k0_chk4 (v29 : BitVec 32) (v61 : BitVec 32) : Prop :=
  (∀ a, (k0_off40 v29 v61) a + S1x128.size a ≤ S272x128.size a) ∧
  (∀ a, (k0_off41 v29 v61) a + S1x128.size a ≤ S272x128.size a) ∧
  (128 ∣ (k0_mult10 v29 v61).toNat) ∧
  (128 ∣ (k0_mult11 v29 v61).toNat) ∧
  (∀ a, (k0_off42 v29 v61) a + S1x2560x128.size a ≤ S6x2560x256.size a) ∧
  (∀ (hinb : ∀ a, (k0_off42 v29 v61) a + S1x2560x128.size a ≤ S6x2560x256.size a), (Rect.unit (s := S6x2560x256) (k0_off42 v29 v61) S1x2560x128.size hinb).PackedRows (EltTy.packing .fp8e4m3)) ∧
  (∀ a, (k0_off43 v29 v61) a + S1x2560x128.size a ≤ S6x2560x256.size a) ∧
  (∀ (hinb : ∀ a, (k0_off43 v29 v61) a + S1x2560x128.size a ≤ S6x2560x256.size a), (Rect.unit (s := S6x2560x256) (k0_off43 v29 v61) S1x2560x128.size hinb).PackedRows (EltTy.packing .fp8e4m3)) ∧
  (∀ a, (k0_off44 v29 v61) a + S1x8x128.size a ≤ S6x8x256.size a) ∧
  (∀ a, (k0_off45 v29 v61) a + S1x8x128.size a ≤ S6x8x256.size a) ∧
  (∀ a, (k0_off46 v29 v61) a + S1x192x128.size a ≤ S251x192x128.size a) ∧
  (∀ a, (k0_off47 v29 v61) a + S1x192x128.size a ≤ S251x192x128.size a)
theorem k0_off40_inb : ∀ (v29 : BitVec 32) (v61 : BitVec 32) (k0_hw4 : k0_chk4 v29 v61), ∀ a, (k0_off40 v29 v61) a + S1x128.size a ≤ S272x128.size a := fun v29 v61 k0_hw4 => k0_hw4.1
theorem k0_off41_inb : ∀ (v29 : BitVec 32) (v61 : BitVec 32) (k0_hw4 : k0_chk4 v29 v61), ∀ a, (k0_off41 v29 v61) a + S1x128.size a ≤ S272x128.size a := fun v29 v61 k0_hw4 => k0_hw4.2.1
theorem k0_mult10_dvd : ∀ (v29 : BitVec 32) (v61 : BitVec 32) (k0_hw4 : k0_chk4 v29 v61), 128 ∣ (k0_mult10 v29 v61).toNat := fun v29 v61 k0_hw4 => k0_hw4.2.2.1
theorem k0_mult11_dvd : ∀ (v29 : BitVec 32) (v61 : BitVec 32) (k0_hw4 : k0_chk4 v29 v61), 128 ∣ (k0_mult11 v29 v61).toNat := fun v29 v61 k0_hw4 => k0_hw4.2.2.2.1
theorem k0_off42_inb : ∀ (v29 : BitVec 32) (v61 : BitVec 32) (k0_hw4 : k0_chk4 v29 v61), ∀ a, (k0_off42 v29 v61) a + S1x2560x128.size a ≤ S6x2560x256.size a := fun v29 v61 k0_hw4 => k0_hw4.2.2.2.2.1
theorem k0_off42_packedfp8e4m3 : ∀ (v29 : BitVec 32) (v61 : BitVec 32) (k0_hw4 : k0_chk4 v29 v61), (Rect.unit (s := S6x2560x256) (k0_off42 v29 v61) S1x2560x128.size (k0_off42_inb v29 v61 k0_hw4)).PackedRows (EltTy.packing .fp8e4m3) := fun v29 v61 k0_hw4 => k0_hw4.2.2.2.2.2.1 (k0_off42_inb v29 v61 k0_hw4)
theorem k0_off43_inb : ∀ (v29 : BitVec 32) (v61 : BitVec 32) (k0_hw4 : k0_chk4 v29 v61), ∀ a, (k0_off43 v29 v61) a + S1x2560x128.size a ≤ S6x2560x256.size a := fun v29 v61 k0_hw4 => k0_hw4.2.2.2.2.2.2.1
theorem k0_off43_packedfp8e4m3 : ∀ (v29 : BitVec 32) (v61 : BitVec 32) (k0_hw4 : k0_chk4 v29 v61), (Rect.unit (s := S6x2560x256) (k0_off43 v29 v61) S1x2560x128.size (k0_off43_inb v29 v61 k0_hw4)).PackedRows (EltTy.packing .fp8e4m3) := fun v29 v61 k0_hw4 => k0_hw4.2.2.2.2.2.2.2.1 (k0_off43_inb v29 v61 k0_hw4)
theorem k0_off44_inb : ∀ (v29 : BitVec 32) (v61 : BitVec 32) (k0_hw4 : k0_chk4 v29 v61), ∀ a, (k0_off44 v29 v61) a + S1x8x128.size a ≤ S6x8x256.size a := fun v29 v61 k0_hw4 => k0_hw4.2.2.2.2.2.2.2.2.1
theorem k0_off45_inb : ∀ (v29 : BitVec 32) (v61 : BitVec 32) (k0_hw4 : k0_chk4 v29 v61), ∀ a, (k0_off45 v29 v61) a + S1x8x128.size a ≤ S6x8x256.size a := fun v29 v61 k0_hw4 => k0_hw4.2.2.2.2.2.2.2.2.2.1
theorem k0_off46_inb : ∀ (v29 : BitVec 32) (v61 : BitVec 32) (k0_hw4 : k0_chk4 v29 v61), ∀ a, (k0_off46 v29 v61) a + S1x192x128.size a ≤ S251x192x128.size a := fun v29 v61 k0_hw4 => k0_hw4.2.2.2.2.2.2.2.2.2.2.1
theorem k0_off47_inb : ∀ (v29 : BitVec 32) (v61 : BitVec 32) (k0_hw4 : k0_chk4 v29 v61), ∀ a, (k0_off47 v29 v61) a + S1x192x128.size a ≤ S251x192x128.size a := fun v29 v61 k0_hw4 => k0_hw4.2.2.2.2.2.2.2.2.2.2.2

def k0_off48 (v29 : BitVec 32) (v75 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let v812 : Index := Scalar.indexCast v806
  let c0_328 : Index := 0#32
  ![v812.toNat, 0]

def k0_off49 (v29 : BitVec 32) (v75 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let c1_i32_329 : BitVec 32 := 1#32
  let v814 : BitVec 32 := Scalar.addi v806 c1_i32_329
  let v815 : Index := Scalar.indexCast v814
  let c0_330 : Index := 0#32
  ![v815.toNat, 0]
def k0_mult12 (v29 : BitVec 32) (v75 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let c1_i32_339 : BitVec 32 := 1#32
  let v835 : BitVec 32 := Scalar.andi v806 c1_i32_339
  let c128_i32_340 : BitVec 32 := 128#32
  let v836 : BitVec 32 := Scalar.muli v835 c128_i32_340
  v836
def k0_mult13 (v29 : BitVec 32) (v75 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let c1_i32_349 : BitVec 32 := 1#32
  let v850 : BitVec 32 := Scalar.addi v806 c1_i32_349
  let c1_i32_350 : BitVec 32 := 1#32
  let v851 : BitVec 32 := Scalar.andi v850 c1_i32_350
  let c128_i32_351 : BitVec 32 := 128#32
  let v852 : BitVec 32 := Scalar.muli v851 c128_i32_351
  v852
def k0_off50 (v29 : BitVec 32) (v75 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let c1_i32_341 : BitVec 32 := 1#32
  let v838 : BitVec 32 := Scalar.addi v806 c1_i32_341
  let c1_i32_342 : BitVec 32 := 1#32
  let v839 : BitVec 32 := Scalar.shrsi v838 c1_i32_342
  let c6_i32_343 : BitVec 32 := 6#32
  let c0_i32_344 : BitVec 32 := 0#32
  let v840 : BitVec 1 := Scalar.cmpi .eq c6_i32_343 c0_i32_344
  let c1_i32_345 : BitVec 32 := 1#32
  let v841 : BitVec 32 := Scalar.select v840 c1_i32_345 c6_i32_343
  let v842 : BitVec 32 := Scalar.remsi v839 v841
  let c0_i32_347 : BitVec 32 := 0#32
  let v844 : BitVec 1 := Scalar.cmpi .slt v842 c0_i32_347
  let c0_i32_348 : BitVec 32 := 0#32
  let v845 : BitVec 1 := Scalar.cmpi .slt v841 c0_i32_348
  let v846 : BitVec 1 := Scalar.xori v844 v845
  let c0_i32_346 : BitVec 32 := 0#32
  let v843 : BitVec 1 := Scalar.cmpi .ne v842 c0_i32_346
  let v847 : BitVec 1 := Scalar.andi v846 v843
  let v848 : BitVec 32 := Scalar.addi v842 v841
  let v849 : BitVec 32 := Scalar.select v847 v848 v842
  let v872 : Index := Scalar.indexCast v849
  let c0_357 : Index := 0#32
  let c1_i32_349 : BitVec 32 := 1#32
  let v850 : BitVec 32 := Scalar.addi v806 c1_i32_349
  let c1_i32_350 : BitVec 32 := 1#32
  let v851 : BitVec 32 := Scalar.andi v850 c1_i32_350
  let c128_i32_351 : BitVec 32 := 128#32
  let v852 : BitVec 32 := Scalar.muli v851 c128_i32_351
  let v853 : BitVec 32 := v852
  let v873 : Index := Scalar.indexCast v853
  ![v872.toNat, 0, v873.toNat]
def k0_off51 (v29 : BitVec 32) (v75 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let c1_i32_332 : BitVec 32 := 1#32
  let v824 : BitVec 32 := Scalar.shrsi v806 c1_i32_332
  let c6_i32_333 : BitVec 32 := 6#32
  let c0_i32_334 : BitVec 32 := 0#32
  let v825 : BitVec 1 := Scalar.cmpi .eq c6_i32_333 c0_i32_334
  let c1_i32_335 : BitVec 32 := 1#32
  let v826 : BitVec 32 := Scalar.select v825 c1_i32_335 c6_i32_333
  let v827 : BitVec 32 := Scalar.remsi v824 v826
  let c0_i32_337 : BitVec 32 := 0#32
  let v829 : BitVec 1 := Scalar.cmpi .slt v827 c0_i32_337
  let c0_i32_338 : BitVec 32 := 0#32
  let v830 : BitVec 1 := Scalar.cmpi .slt v826 c0_i32_338
  let v831 : BitVec 1 := Scalar.xori v829 v830
  let c0_i32_336 : BitVec 32 := 0#32
  let v828 : BitVec 1 := Scalar.cmpi .ne v827 c0_i32_336
  let v832 : BitVec 1 := Scalar.andi v831 v828
  let v833 : BitVec 32 := Scalar.addi v827 v826
  let v834 : BitVec 32 := Scalar.select v832 v833 v827
  let v877 : Index := Scalar.indexCast v834
  let c0_358 : Index := 0#32
  let c1_i32_339 : BitVec 32 := 1#32
  let v835 : BitVec 32 := Scalar.andi v806 c1_i32_339
  let c128_i32_340 : BitVec 32 := 128#32
  let v836 : BitVec 32 := Scalar.muli v835 c128_i32_340
  let v837 : BitVec 32 := v836
  let v878 : Index := Scalar.indexCast v837
  ![v877.toNat, 0, v878.toNat]
def k0_off52 (v29 : BitVec 32) (v75 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let c1_i32_341 : BitVec 32 := 1#32
  let v838 : BitVec 32 := Scalar.addi v806 c1_i32_341
  let c1_i32_342 : BitVec 32 := 1#32
  let v839 : BitVec 32 := Scalar.shrsi v838 c1_i32_342
  let c6_i32_343 : BitVec 32 := 6#32
  let c0_i32_344 : BitVec 32 := 0#32
  let v840 : BitVec 1 := Scalar.cmpi .eq c6_i32_343 c0_i32_344
  let c1_i32_345 : BitVec 32 := 1#32
  let v841 : BitVec 32 := Scalar.select v840 c1_i32_345 c6_i32_343
  let v842 : BitVec 32 := Scalar.remsi v839 v841
  let c0_i32_347 : BitVec 32 := 0#32
  let v844 : BitVec 1 := Scalar.cmpi .slt v842 c0_i32_347
  let c0_i32_348 : BitVec 32 := 0#32
  let v845 : BitVec 1 := Scalar.cmpi .slt v841 c0_i32_348
  let v846 : BitVec 1 := Scalar.xori v844 v845
  let c0_i32_346 : BitVec 32 := 0#32
  let v843 : BitVec 1 := Scalar.cmpi .ne v842 c0_i32_346
  let v847 : BitVec 1 := Scalar.andi v846 v843
  let v848 : BitVec 32 := Scalar.addi v842 v841
  let v849 : BitVec 32 := Scalar.select v847 v848 v842
  let v908 : Index := Scalar.indexCast v849
  let c0_365 : Index := 0#32
  let c1_i32_349 : BitVec 32 := 1#32
  let v850 : BitVec 32 := Scalar.addi v806 c1_i32_349
  let c1_i32_350 : BitVec 32 := 1#32
  let v851 : BitVec 32 := Scalar.andi v850 c1_i32_350
  let c128_i32_351 : BitVec 32 := 128#32
  let v852 : BitVec 32 := Scalar.muli v851 c128_i32_351
  let v853 : BitVec 32 := v852
  let v909 : Index := Scalar.indexCast v853
  ![v908.toNat, 0, v909.toNat]
def k0_off53 (v29 : BitVec 32) (v75 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let c1_i32_332 : BitVec 32 := 1#32
  let v824 : BitVec 32 := Scalar.shrsi v806 c1_i32_332
  let c6_i32_333 : BitVec 32 := 6#32
  let c0_i32_334 : BitVec 32 := 0#32
  let v825 : BitVec 1 := Scalar.cmpi .eq c6_i32_333 c0_i32_334
  let c1_i32_335 : BitVec 32 := 1#32
  let v826 : BitVec 32 := Scalar.select v825 c1_i32_335 c6_i32_333
  let v827 : BitVec 32 := Scalar.remsi v824 v826
  let c0_i32_337 : BitVec 32 := 0#32
  let v829 : BitVec 1 := Scalar.cmpi .slt v827 c0_i32_337
  let c0_i32_338 : BitVec 32 := 0#32
  let v830 : BitVec 1 := Scalar.cmpi .slt v826 c0_i32_338
  let v831 : BitVec 1 := Scalar.xori v829 v830
  let c0_i32_336 : BitVec 32 := 0#32
  let v828 : BitVec 1 := Scalar.cmpi .ne v827 c0_i32_336
  let v832 : BitVec 1 := Scalar.andi v831 v828
  let v833 : BitVec 32 := Scalar.addi v827 v826
  let v834 : BitVec 32 := Scalar.select v832 v833 v827
  let v913 : Index := Scalar.indexCast v834
  let c0_366 : Index := 0#32
  let c1_i32_339 : BitVec 32 := 1#32
  let v835 : BitVec 32 := Scalar.andi v806 c1_i32_339
  let c128_i32_340 : BitVec 32 := 128#32
  let v836 : BitVec 32 := Scalar.muli v835 c128_i32_340
  let v837 : BitVec 32 := v836
  let v914 : Index := Scalar.indexCast v837
  ![v913.toNat, 0, v914.toNat]
def k0_off54 (v29 : BitVec 32) (v75 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let c1_i32_325 : BitVec 32 := 1#32
  let v807 : BitVec 32 := Scalar.addi v806 c1_i32_325
  let c250_i32_326 : BitVec 32 := 250#32
  let v808 : BitVec 32 := Scalar.minsi v807 c250_i32_326
  let v935 : Index := Scalar.indexCast v808
  let c0_372 : Index := 0#32
  let c0_373 : Index := 0#32
  ![v935.toNat, 0, 0]
def k0_off55 (v29 : BitVec 32) (v75 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_26 : BitVec 32 := 128#32
  let v74 : BitVec 32 := Scalar.muli v31 c128_i32_26
  let v76 : BitVec 32 := Scalar.addi v74 v75
  let c7_i32_324 : BitVec 32 := 7#32
  let v806 : BitVec 32 := Scalar.shrsi v76 c7_i32_324
  let v939 : Index := Scalar.indexCast v806
  let c0_374 : Index := 0#32
  let c0_375 : Index := 0#32
  ![v939.toNat, 0, 0]

def k0_chk5 (v29 : BitVec 32) (v75 : BitVec 32) : Prop :=
  (∀ a, (k0_off48 v29 v75) a + S1x128.size a ≤ S272x128.size a) ∧
  (∀ a, (k0_off49 v29 v75) a + S1x128.size a ≤ S272x128.size a) ∧
  (128 ∣ (k0_mult12 v29 v75).toNat) ∧
  (128 ∣ (k0_mult13 v29 v75).toNat) ∧
  (∀ a, (k0_off50 v29 v75) a + S1x2560x128.size a ≤ S6x2560x256.size a) ∧
  (∀ (hinb : ∀ a, (k0_off50 v29 v75) a + S1x2560x128.size a ≤ S6x2560x256.size a), (Rect.unit (s := S6x2560x256) (k0_off50 v29 v75) S1x2560x128.size hinb).PackedRows (EltTy.packing .fp8e4m3)) ∧
  (∀ a, (k0_off51 v29 v75) a + S1x2560x128.size a ≤ S6x2560x256.size a) ∧
  (∀ (hinb : ∀ a, (k0_off51 v29 v75) a + S1x2560x128.size a ≤ S6x2560x256.size a), (Rect.unit (s := S6x2560x256) (k0_off51 v29 v75) S1x2560x128.size hinb).PackedRows (EltTy.packing .fp8e4m3)) ∧
  (∀ a, (k0_off52 v29 v75) a + S1x8x128.size a ≤ S6x8x256.size a) ∧
  (∀ a, (k0_off53 v29 v75) a + S1x8x128.size a ≤ S6x8x256.size a) ∧
  (∀ a, (k0_off54 v29 v75) a + S1x192x128.size a ≤ S251x192x128.size a) ∧
  (∀ a, (k0_off55 v29 v75) a + S1x192x128.size a ≤ S251x192x128.size a)
theorem k0_off48_inb : ∀ (v29 : BitVec 32) (v75 : BitVec 32) (k0_hw5 : k0_chk5 v29 v75), ∀ a, (k0_off48 v29 v75) a + S1x128.size a ≤ S272x128.size a := fun v29 v75 k0_hw5 => k0_hw5.1
theorem k0_off49_inb : ∀ (v29 : BitVec 32) (v75 : BitVec 32) (k0_hw5 : k0_chk5 v29 v75), ∀ a, (k0_off49 v29 v75) a + S1x128.size a ≤ S272x128.size a := fun v29 v75 k0_hw5 => k0_hw5.2.1
theorem k0_mult12_dvd : ∀ (v29 : BitVec 32) (v75 : BitVec 32) (k0_hw5 : k0_chk5 v29 v75), 128 ∣ (k0_mult12 v29 v75).toNat := fun v29 v75 k0_hw5 => k0_hw5.2.2.1
theorem k0_mult13_dvd : ∀ (v29 : BitVec 32) (v75 : BitVec 32) (k0_hw5 : k0_chk5 v29 v75), 128 ∣ (k0_mult13 v29 v75).toNat := fun v29 v75 k0_hw5 => k0_hw5.2.2.2.1
theorem k0_off50_inb : ∀ (v29 : BitVec 32) (v75 : BitVec 32) (k0_hw5 : k0_chk5 v29 v75), ∀ a, (k0_off50 v29 v75) a + S1x2560x128.size a ≤ S6x2560x256.size a := fun v29 v75 k0_hw5 => k0_hw5.2.2.2.2.1
theorem k0_off50_packedfp8e4m3 : ∀ (v29 : BitVec 32) (v75 : BitVec 32) (k0_hw5 : k0_chk5 v29 v75), (Rect.unit (s := S6x2560x256) (k0_off50 v29 v75) S1x2560x128.size (k0_off50_inb v29 v75 k0_hw5)).PackedRows (EltTy.packing .fp8e4m3) := fun v29 v75 k0_hw5 => k0_hw5.2.2.2.2.2.1 (k0_off50_inb v29 v75 k0_hw5)
theorem k0_off51_inb : ∀ (v29 : BitVec 32) (v75 : BitVec 32) (k0_hw5 : k0_chk5 v29 v75), ∀ a, (k0_off51 v29 v75) a + S1x2560x128.size a ≤ S6x2560x256.size a := fun v29 v75 k0_hw5 => k0_hw5.2.2.2.2.2.2.1
theorem k0_off51_packedfp8e4m3 : ∀ (v29 : BitVec 32) (v75 : BitVec 32) (k0_hw5 : k0_chk5 v29 v75), (Rect.unit (s := S6x2560x256) (k0_off51 v29 v75) S1x2560x128.size (k0_off51_inb v29 v75 k0_hw5)).PackedRows (EltTy.packing .fp8e4m3) := fun v29 v75 k0_hw5 => k0_hw5.2.2.2.2.2.2.2.1 (k0_off51_inb v29 v75 k0_hw5)
theorem k0_off52_inb : ∀ (v29 : BitVec 32) (v75 : BitVec 32) (k0_hw5 : k0_chk5 v29 v75), ∀ a, (k0_off52 v29 v75) a + S1x8x128.size a ≤ S6x8x256.size a := fun v29 v75 k0_hw5 => k0_hw5.2.2.2.2.2.2.2.2.1
theorem k0_off53_inb : ∀ (v29 : BitVec 32) (v75 : BitVec 32) (k0_hw5 : k0_chk5 v29 v75), ∀ a, (k0_off53 v29 v75) a + S1x8x128.size a ≤ S6x8x256.size a := fun v29 v75 k0_hw5 => k0_hw5.2.2.2.2.2.2.2.2.2.1
theorem k0_off54_inb : ∀ (v29 : BitVec 32) (v75 : BitVec 32) (k0_hw5 : k0_chk5 v29 v75), ∀ a, (k0_off54 v29 v75) a + S1x192x128.size a ≤ S251x192x128.size a := fun v29 v75 k0_hw5 => k0_hw5.2.2.2.2.2.2.2.2.2.2.1
theorem k0_off55_inb : ∀ (v29 : BitVec 32) (v75 : BitVec 32) (k0_hw5 : k0_chk5 v29 v75), ∀ a, (k0_off55 v29 v75) a + S1x192x128.size a ≤ S251x192x128.size a := fun v29 v75 k0_hw5 => k0_hw5.2.2.2.2.2.2.2.2.2.2.2

def k0_off56 (v29 : BitVec 32) (v89 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let v950 : Index := Scalar.indexCast v944
  let c0_380 : Index := 0#32
  ![v950.toNat, 0]

def k0_off57 (v29 : BitVec 32) (v89 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let c1_i32_381 : BitVec 32 := 1#32
  let v952 : BitVec 32 := Scalar.addi v944 c1_i32_381
  let v953 : Index := Scalar.indexCast v952
  let c0_382 : Index := 0#32
  ![v953.toNat, 0]
def k0_mult14 (v29 : BitVec 32) (v89 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let c1_i32_391 : BitVec 32 := 1#32
  let v973 : BitVec 32 := Scalar.andi v944 c1_i32_391
  let c128_i32_392 : BitVec 32 := 128#32
  let v974 : BitVec 32 := Scalar.muli v973 c128_i32_392
  v974
def k0_mult15 (v29 : BitVec 32) (v89 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let c1_i32_401 : BitVec 32 := 1#32
  let v988 : BitVec 32 := Scalar.addi v944 c1_i32_401
  let c1_i32_402 : BitVec 32 := 1#32
  let v989 : BitVec 32 := Scalar.andi v988 c1_i32_402
  let c128_i32_403 : BitVec 32 := 128#32
  let v990 : BitVec 32 := Scalar.muli v989 c128_i32_403
  v990
def k0_off58 (v29 : BitVec 32) (v89 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let c1_i32_393 : BitVec 32 := 1#32
  let v976 : BitVec 32 := Scalar.addi v944 c1_i32_393
  let c1_i32_394 : BitVec 32 := 1#32
  let v977 : BitVec 32 := Scalar.shrsi v976 c1_i32_394
  let c6_i32_395 : BitVec 32 := 6#32
  let c0_i32_396 : BitVec 32 := 0#32
  let v978 : BitVec 1 := Scalar.cmpi .eq c6_i32_395 c0_i32_396
  let c1_i32_397 : BitVec 32 := 1#32
  let v979 : BitVec 32 := Scalar.select v978 c1_i32_397 c6_i32_395
  let v980 : BitVec 32 := Scalar.remsi v977 v979
  let c0_i32_399 : BitVec 32 := 0#32
  let v982 : BitVec 1 := Scalar.cmpi .slt v980 c0_i32_399
  let c0_i32_400 : BitVec 32 := 0#32
  let v983 : BitVec 1 := Scalar.cmpi .slt v979 c0_i32_400
  let v984 : BitVec 1 := Scalar.xori v982 v983
  let c0_i32_398 : BitVec 32 := 0#32
  let v981 : BitVec 1 := Scalar.cmpi .ne v980 c0_i32_398
  let v985 : BitVec 1 := Scalar.andi v984 v981
  let v986 : BitVec 32 := Scalar.addi v980 v979
  let v987 : BitVec 32 := Scalar.select v985 v986 v980
  let v1010 : Index := Scalar.indexCast v987
  let c0_409 : Index := 0#32
  let c1_i32_401 : BitVec 32 := 1#32
  let v988 : BitVec 32 := Scalar.addi v944 c1_i32_401
  let c1_i32_402 : BitVec 32 := 1#32
  let v989 : BitVec 32 := Scalar.andi v988 c1_i32_402
  let c128_i32_403 : BitVec 32 := 128#32
  let v990 : BitVec 32 := Scalar.muli v989 c128_i32_403
  let v991 : BitVec 32 := v990
  let v1011 : Index := Scalar.indexCast v991
  ![v1010.toNat, 0, v1011.toNat]
def k0_off59 (v29 : BitVec 32) (v89 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let c1_i32_384 : BitVec 32 := 1#32
  let v962 : BitVec 32 := Scalar.shrsi v944 c1_i32_384
  let c6_i32_385 : BitVec 32 := 6#32
  let c0_i32_386 : BitVec 32 := 0#32
  let v963 : BitVec 1 := Scalar.cmpi .eq c6_i32_385 c0_i32_386
  let c1_i32_387 : BitVec 32 := 1#32
  let v964 : BitVec 32 := Scalar.select v963 c1_i32_387 c6_i32_385
  let v965 : BitVec 32 := Scalar.remsi v962 v964
  let c0_i32_389 : BitVec 32 := 0#32
  let v967 : BitVec 1 := Scalar.cmpi .slt v965 c0_i32_389
  let c0_i32_390 : BitVec 32 := 0#32
  let v968 : BitVec 1 := Scalar.cmpi .slt v964 c0_i32_390
  let v969 : BitVec 1 := Scalar.xori v967 v968
  let c0_i32_388 : BitVec 32 := 0#32
  let v966 : BitVec 1 := Scalar.cmpi .ne v965 c0_i32_388
  let v970 : BitVec 1 := Scalar.andi v969 v966
  let v971 : BitVec 32 := Scalar.addi v965 v964
  let v972 : BitVec 32 := Scalar.select v970 v971 v965
  let v1015 : Index := Scalar.indexCast v972
  let c0_410 : Index := 0#32
  let c1_i32_391 : BitVec 32 := 1#32
  let v973 : BitVec 32 := Scalar.andi v944 c1_i32_391
  let c128_i32_392 : BitVec 32 := 128#32
  let v974 : BitVec 32 := Scalar.muli v973 c128_i32_392
  let v975 : BitVec 32 := v974
  let v1016 : Index := Scalar.indexCast v975
  ![v1015.toNat, 0, v1016.toNat]
def k0_off60 (v29 : BitVec 32) (v89 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let c1_i32_393 : BitVec 32 := 1#32
  let v976 : BitVec 32 := Scalar.addi v944 c1_i32_393
  let c1_i32_394 : BitVec 32 := 1#32
  let v977 : BitVec 32 := Scalar.shrsi v976 c1_i32_394
  let c6_i32_395 : BitVec 32 := 6#32
  let c0_i32_396 : BitVec 32 := 0#32
  let v978 : BitVec 1 := Scalar.cmpi .eq c6_i32_395 c0_i32_396
  let c1_i32_397 : BitVec 32 := 1#32
  let v979 : BitVec 32 := Scalar.select v978 c1_i32_397 c6_i32_395
  let v980 : BitVec 32 := Scalar.remsi v977 v979
  let c0_i32_399 : BitVec 32 := 0#32
  let v982 : BitVec 1 := Scalar.cmpi .slt v980 c0_i32_399
  let c0_i32_400 : BitVec 32 := 0#32
  let v983 : BitVec 1 := Scalar.cmpi .slt v979 c0_i32_400
  let v984 : BitVec 1 := Scalar.xori v982 v983
  let c0_i32_398 : BitVec 32 := 0#32
  let v981 : BitVec 1 := Scalar.cmpi .ne v980 c0_i32_398
  let v985 : BitVec 1 := Scalar.andi v984 v981
  let v986 : BitVec 32 := Scalar.addi v980 v979
  let v987 : BitVec 32 := Scalar.select v985 v986 v980
  let v1046 : Index := Scalar.indexCast v987
  let c0_417 : Index := 0#32
  let c1_i32_401 : BitVec 32 := 1#32
  let v988 : BitVec 32 := Scalar.addi v944 c1_i32_401
  let c1_i32_402 : BitVec 32 := 1#32
  let v989 : BitVec 32 := Scalar.andi v988 c1_i32_402
  let c128_i32_403 : BitVec 32 := 128#32
  let v990 : BitVec 32 := Scalar.muli v989 c128_i32_403
  let v991 : BitVec 32 := v990
  let v1047 : Index := Scalar.indexCast v991
  ![v1046.toNat, 0, v1047.toNat]
def k0_off61 (v29 : BitVec 32) (v89 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let c1_i32_384 : BitVec 32 := 1#32
  let v962 : BitVec 32 := Scalar.shrsi v944 c1_i32_384
  let c6_i32_385 : BitVec 32 := 6#32
  let c0_i32_386 : BitVec 32 := 0#32
  let v963 : BitVec 1 := Scalar.cmpi .eq c6_i32_385 c0_i32_386
  let c1_i32_387 : BitVec 32 := 1#32
  let v964 : BitVec 32 := Scalar.select v963 c1_i32_387 c6_i32_385
  let v965 : BitVec 32 := Scalar.remsi v962 v964
  let c0_i32_389 : BitVec 32 := 0#32
  let v967 : BitVec 1 := Scalar.cmpi .slt v965 c0_i32_389
  let c0_i32_390 : BitVec 32 := 0#32
  let v968 : BitVec 1 := Scalar.cmpi .slt v964 c0_i32_390
  let v969 : BitVec 1 := Scalar.xori v967 v968
  let c0_i32_388 : BitVec 32 := 0#32
  let v966 : BitVec 1 := Scalar.cmpi .ne v965 c0_i32_388
  let v970 : BitVec 1 := Scalar.andi v969 v966
  let v971 : BitVec 32 := Scalar.addi v965 v964
  let v972 : BitVec 32 := Scalar.select v970 v971 v965
  let v1051 : Index := Scalar.indexCast v972
  let c0_418 : Index := 0#32
  let c1_i32_391 : BitVec 32 := 1#32
  let v973 : BitVec 32 := Scalar.andi v944 c1_i32_391
  let c128_i32_392 : BitVec 32 := 128#32
  let v974 : BitVec 32 := Scalar.muli v973 c128_i32_392
  let v975 : BitVec 32 := v974
  let v1052 : Index := Scalar.indexCast v975
  ![v1051.toNat, 0, v1052.toNat]
def k0_off62 (v29 : BitVec 32) (v89 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let c1_i32_377 : BitVec 32 := 1#32
  let v945 : BitVec 32 := Scalar.addi v944 c1_i32_377
  let c250_i32_378 : BitVec 32 := 250#32
  let v946 : BitVec 32 := Scalar.minsi v945 c250_i32_378
  let v1073 : Index := Scalar.indexCast v946
  let c0_424 : Index := 0#32
  let c0_425 : Index := 0#32
  ![v1073.toNat, 0, 0]
def k0_off63 (v29 : BitVec 32) (v89 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_31 : BitVec 32 := 128#32
  let v88 : BitVec 32 := Scalar.muli v31 c128_i32_31
  let v90 : BitVec 32 := Scalar.addi v88 v89
  let c7_i32_376 : BitVec 32 := 7#32
  let v944 : BitVec 32 := Scalar.shrsi v90 c7_i32_376
  let v1077 : Index := Scalar.indexCast v944
  let c0_426 : Index := 0#32
  let c0_427 : Index := 0#32
  ![v1077.toNat, 0, 0]

def k0_chk6 (v29 : BitVec 32) (v89 : BitVec 32) : Prop :=
  (∀ a, (k0_off56 v29 v89) a + S1x128.size a ≤ S272x128.size a) ∧
  (∀ a, (k0_off57 v29 v89) a + S1x128.size a ≤ S272x128.size a) ∧
  (128 ∣ (k0_mult14 v29 v89).toNat) ∧
  (128 ∣ (k0_mult15 v29 v89).toNat) ∧
  (∀ a, (k0_off58 v29 v89) a + S1x2560x128.size a ≤ S6x2560x256.size a) ∧
  (∀ (hinb : ∀ a, (k0_off58 v29 v89) a + S1x2560x128.size a ≤ S6x2560x256.size a), (Rect.unit (s := S6x2560x256) (k0_off58 v29 v89) S1x2560x128.size hinb).PackedRows (EltTy.packing .fp8e4m3)) ∧
  (∀ a, (k0_off59 v29 v89) a + S1x2560x128.size a ≤ S6x2560x256.size a) ∧
  (∀ (hinb : ∀ a, (k0_off59 v29 v89) a + S1x2560x128.size a ≤ S6x2560x256.size a), (Rect.unit (s := S6x2560x256) (k0_off59 v29 v89) S1x2560x128.size hinb).PackedRows (EltTy.packing .fp8e4m3)) ∧
  (∀ a, (k0_off60 v29 v89) a + S1x8x128.size a ≤ S6x8x256.size a) ∧
  (∀ a, (k0_off61 v29 v89) a + S1x8x128.size a ≤ S6x8x256.size a) ∧
  (∀ a, (k0_off62 v29 v89) a + S1x192x128.size a ≤ S251x192x128.size a) ∧
  (∀ a, (k0_off63 v29 v89) a + S1x192x128.size a ≤ S251x192x128.size a)
theorem k0_off56_inb : ∀ (v29 : BitVec 32) (v89 : BitVec 32) (k0_hw6 : k0_chk6 v29 v89), ∀ a, (k0_off56 v29 v89) a + S1x128.size a ≤ S272x128.size a := fun v29 v89 k0_hw6 => k0_hw6.1
theorem k0_off57_inb : ∀ (v29 : BitVec 32) (v89 : BitVec 32) (k0_hw6 : k0_chk6 v29 v89), ∀ a, (k0_off57 v29 v89) a + S1x128.size a ≤ S272x128.size a := fun v29 v89 k0_hw6 => k0_hw6.2.1
theorem k0_mult14_dvd : ∀ (v29 : BitVec 32) (v89 : BitVec 32) (k0_hw6 : k0_chk6 v29 v89), 128 ∣ (k0_mult14 v29 v89).toNat := fun v29 v89 k0_hw6 => k0_hw6.2.2.1
theorem k0_mult15_dvd : ∀ (v29 : BitVec 32) (v89 : BitVec 32) (k0_hw6 : k0_chk6 v29 v89), 128 ∣ (k0_mult15 v29 v89).toNat := fun v29 v89 k0_hw6 => k0_hw6.2.2.2.1
theorem k0_off58_inb : ∀ (v29 : BitVec 32) (v89 : BitVec 32) (k0_hw6 : k0_chk6 v29 v89), ∀ a, (k0_off58 v29 v89) a + S1x2560x128.size a ≤ S6x2560x256.size a := fun v29 v89 k0_hw6 => k0_hw6.2.2.2.2.1
theorem k0_off58_packedfp8e4m3 : ∀ (v29 : BitVec 32) (v89 : BitVec 32) (k0_hw6 : k0_chk6 v29 v89), (Rect.unit (s := S6x2560x256) (k0_off58 v29 v89) S1x2560x128.size (k0_off58_inb v29 v89 k0_hw6)).PackedRows (EltTy.packing .fp8e4m3) := fun v29 v89 k0_hw6 => k0_hw6.2.2.2.2.2.1 (k0_off58_inb v29 v89 k0_hw6)
theorem k0_off59_inb : ∀ (v29 : BitVec 32) (v89 : BitVec 32) (k0_hw6 : k0_chk6 v29 v89), ∀ a, (k0_off59 v29 v89) a + S1x2560x128.size a ≤ S6x2560x256.size a := fun v29 v89 k0_hw6 => k0_hw6.2.2.2.2.2.2.1
theorem k0_off59_packedfp8e4m3 : ∀ (v29 : BitVec 32) (v89 : BitVec 32) (k0_hw6 : k0_chk6 v29 v89), (Rect.unit (s := S6x2560x256) (k0_off59 v29 v89) S1x2560x128.size (k0_off59_inb v29 v89 k0_hw6)).PackedRows (EltTy.packing .fp8e4m3) := fun v29 v89 k0_hw6 => k0_hw6.2.2.2.2.2.2.2.1 (k0_off59_inb v29 v89 k0_hw6)
theorem k0_off60_inb : ∀ (v29 : BitVec 32) (v89 : BitVec 32) (k0_hw6 : k0_chk6 v29 v89), ∀ a, (k0_off60 v29 v89) a + S1x8x128.size a ≤ S6x8x256.size a := fun v29 v89 k0_hw6 => k0_hw6.2.2.2.2.2.2.2.2.1
theorem k0_off61_inb : ∀ (v29 : BitVec 32) (v89 : BitVec 32) (k0_hw6 : k0_chk6 v29 v89), ∀ a, (k0_off61 v29 v89) a + S1x8x128.size a ≤ S6x8x256.size a := fun v29 v89 k0_hw6 => k0_hw6.2.2.2.2.2.2.2.2.2.1
theorem k0_off62_inb : ∀ (v29 : BitVec 32) (v89 : BitVec 32) (k0_hw6 : k0_chk6 v29 v89), ∀ a, (k0_off62 v29 v89) a + S1x192x128.size a ≤ S251x192x128.size a := fun v29 v89 k0_hw6 => k0_hw6.2.2.2.2.2.2.2.2.2.2.1
theorem k0_off63_inb : ∀ (v29 : BitVec 32) (v89 : BitVec 32) (k0_hw6 : k0_chk6 v29 v89), ∀ a, (k0_off63 v29 v89) a + S1x192x128.size a ≤ S251x192x128.size a := fun v29 v89 k0_hw6 => k0_hw6.2.2.2.2.2.2.2.2.2.2.2

def k0_off64 (v29 : BitVec 32) (v103 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let v1088 : Index := Scalar.indexCast v1082
  let c0_432 : Index := 0#32
  ![v1088.toNat, 0]

def k0_off65 (v29 : BitVec 32) (v103 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let c1_i32_433 : BitVec 32 := 1#32
  let v1090 : BitVec 32 := Scalar.addi v1082 c1_i32_433
  let v1091 : Index := Scalar.indexCast v1090
  let c0_434 : Index := 0#32
  ![v1091.toNat, 0]
def k0_mult16 (v29 : BitVec 32) (v103 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let c1_i32_443 : BitVec 32 := 1#32
  let v1111 : BitVec 32 := Scalar.andi v1082 c1_i32_443
  let c128_i32_444 : BitVec 32 := 128#32
  let v1112 : BitVec 32 := Scalar.muli v1111 c128_i32_444
  v1112
def k0_mult17 (v29 : BitVec 32) (v103 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let c1_i32_453 : BitVec 32 := 1#32
  let v1126 : BitVec 32 := Scalar.addi v1082 c1_i32_453
  let c1_i32_454 : BitVec 32 := 1#32
  let v1127 : BitVec 32 := Scalar.andi v1126 c1_i32_454
  let c128_i32_455 : BitVec 32 := 128#32
  let v1128 : BitVec 32 := Scalar.muli v1127 c128_i32_455
  v1128
def k0_off66 (v29 : BitVec 32) (v103 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let c1_i32_445 : BitVec 32 := 1#32
  let v1114 : BitVec 32 := Scalar.addi v1082 c1_i32_445
  let c1_i32_446 : BitVec 32 := 1#32
  let v1115 : BitVec 32 := Scalar.shrsi v1114 c1_i32_446
  let c6_i32_447 : BitVec 32 := 6#32
  let c0_i32_448 : BitVec 32 := 0#32
  let v1116 : BitVec 1 := Scalar.cmpi .eq c6_i32_447 c0_i32_448
  let c1_i32_449 : BitVec 32 := 1#32
  let v1117 : BitVec 32 := Scalar.select v1116 c1_i32_449 c6_i32_447
  let v1118 : BitVec 32 := Scalar.remsi v1115 v1117
  let c0_i32_451 : BitVec 32 := 0#32
  let v1120 : BitVec 1 := Scalar.cmpi .slt v1118 c0_i32_451
  let c0_i32_452 : BitVec 32 := 0#32
  let v1121 : BitVec 1 := Scalar.cmpi .slt v1117 c0_i32_452
  let v1122 : BitVec 1 := Scalar.xori v1120 v1121
  let c0_i32_450 : BitVec 32 := 0#32
  let v1119 : BitVec 1 := Scalar.cmpi .ne v1118 c0_i32_450
  let v1123 : BitVec 1 := Scalar.andi v1122 v1119
  let v1124 : BitVec 32 := Scalar.addi v1118 v1117
  let v1125 : BitVec 32 := Scalar.select v1123 v1124 v1118
  let v1148 : Index := Scalar.indexCast v1125
  let c0_461 : Index := 0#32
  let c1_i32_453 : BitVec 32 := 1#32
  let v1126 : BitVec 32 := Scalar.addi v1082 c1_i32_453
  let c1_i32_454 : BitVec 32 := 1#32
  let v1127 : BitVec 32 := Scalar.andi v1126 c1_i32_454
  let c128_i32_455 : BitVec 32 := 128#32
  let v1128 : BitVec 32 := Scalar.muli v1127 c128_i32_455
  let v1129 : BitVec 32 := v1128
  let v1149 : Index := Scalar.indexCast v1129
  ![v1148.toNat, 0, v1149.toNat]
def k0_off67 (v29 : BitVec 32) (v103 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let c1_i32_436 : BitVec 32 := 1#32
  let v1100 : BitVec 32 := Scalar.shrsi v1082 c1_i32_436
  let c6_i32_437 : BitVec 32 := 6#32
  let c0_i32_438 : BitVec 32 := 0#32
  let v1101 : BitVec 1 := Scalar.cmpi .eq c6_i32_437 c0_i32_438
  let c1_i32_439 : BitVec 32 := 1#32
  let v1102 : BitVec 32 := Scalar.select v1101 c1_i32_439 c6_i32_437
  let v1103 : BitVec 32 := Scalar.remsi v1100 v1102
  let c0_i32_441 : BitVec 32 := 0#32
  let v1105 : BitVec 1 := Scalar.cmpi .slt v1103 c0_i32_441
  let c0_i32_442 : BitVec 32 := 0#32
  let v1106 : BitVec 1 := Scalar.cmpi .slt v1102 c0_i32_442
  let v1107 : BitVec 1 := Scalar.xori v1105 v1106
  let c0_i32_440 : BitVec 32 := 0#32
  let v1104 : BitVec 1 := Scalar.cmpi .ne v1103 c0_i32_440
  let v1108 : BitVec 1 := Scalar.andi v1107 v1104
  let v1109 : BitVec 32 := Scalar.addi v1103 v1102
  let v1110 : BitVec 32 := Scalar.select v1108 v1109 v1103
  let v1153 : Index := Scalar.indexCast v1110
  let c0_462 : Index := 0#32
  let c1_i32_443 : BitVec 32 := 1#32
  let v1111 : BitVec 32 := Scalar.andi v1082 c1_i32_443
  let c128_i32_444 : BitVec 32 := 128#32
  let v1112 : BitVec 32 := Scalar.muli v1111 c128_i32_444
  let v1113 : BitVec 32 := v1112
  let v1154 : Index := Scalar.indexCast v1113
  ![v1153.toNat, 0, v1154.toNat]
def k0_off68 (v29 : BitVec 32) (v103 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let c1_i32_445 : BitVec 32 := 1#32
  let v1114 : BitVec 32 := Scalar.addi v1082 c1_i32_445
  let c1_i32_446 : BitVec 32 := 1#32
  let v1115 : BitVec 32 := Scalar.shrsi v1114 c1_i32_446
  let c6_i32_447 : BitVec 32 := 6#32
  let c0_i32_448 : BitVec 32 := 0#32
  let v1116 : BitVec 1 := Scalar.cmpi .eq c6_i32_447 c0_i32_448
  let c1_i32_449 : BitVec 32 := 1#32
  let v1117 : BitVec 32 := Scalar.select v1116 c1_i32_449 c6_i32_447
  let v1118 : BitVec 32 := Scalar.remsi v1115 v1117
  let c0_i32_451 : BitVec 32 := 0#32
  let v1120 : BitVec 1 := Scalar.cmpi .slt v1118 c0_i32_451
  let c0_i32_452 : BitVec 32 := 0#32
  let v1121 : BitVec 1 := Scalar.cmpi .slt v1117 c0_i32_452
  let v1122 : BitVec 1 := Scalar.xori v1120 v1121
  let c0_i32_450 : BitVec 32 := 0#32
  let v1119 : BitVec 1 := Scalar.cmpi .ne v1118 c0_i32_450
  let v1123 : BitVec 1 := Scalar.andi v1122 v1119
  let v1124 : BitVec 32 := Scalar.addi v1118 v1117
  let v1125 : BitVec 32 := Scalar.select v1123 v1124 v1118
  let v1184 : Index := Scalar.indexCast v1125
  let c0_469 : Index := 0#32
  let c1_i32_453 : BitVec 32 := 1#32
  let v1126 : BitVec 32 := Scalar.addi v1082 c1_i32_453
  let c1_i32_454 : BitVec 32 := 1#32
  let v1127 : BitVec 32 := Scalar.andi v1126 c1_i32_454
  let c128_i32_455 : BitVec 32 := 128#32
  let v1128 : BitVec 32 := Scalar.muli v1127 c128_i32_455
  let v1129 : BitVec 32 := v1128
  let v1185 : Index := Scalar.indexCast v1129
  ![v1184.toNat, 0, v1185.toNat]
def k0_off69 (v29 : BitVec 32) (v103 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let c1_i32_436 : BitVec 32 := 1#32
  let v1100 : BitVec 32 := Scalar.shrsi v1082 c1_i32_436
  let c6_i32_437 : BitVec 32 := 6#32
  let c0_i32_438 : BitVec 32 := 0#32
  let v1101 : BitVec 1 := Scalar.cmpi .eq c6_i32_437 c0_i32_438
  let c1_i32_439 : BitVec 32 := 1#32
  let v1102 : BitVec 32 := Scalar.select v1101 c1_i32_439 c6_i32_437
  let v1103 : BitVec 32 := Scalar.remsi v1100 v1102
  let c0_i32_441 : BitVec 32 := 0#32
  let v1105 : BitVec 1 := Scalar.cmpi .slt v1103 c0_i32_441
  let c0_i32_442 : BitVec 32 := 0#32
  let v1106 : BitVec 1 := Scalar.cmpi .slt v1102 c0_i32_442
  let v1107 : BitVec 1 := Scalar.xori v1105 v1106
  let c0_i32_440 : BitVec 32 := 0#32
  let v1104 : BitVec 1 := Scalar.cmpi .ne v1103 c0_i32_440
  let v1108 : BitVec 1 := Scalar.andi v1107 v1104
  let v1109 : BitVec 32 := Scalar.addi v1103 v1102
  let v1110 : BitVec 32 := Scalar.select v1108 v1109 v1103
  let v1189 : Index := Scalar.indexCast v1110
  let c0_470 : Index := 0#32
  let c1_i32_443 : BitVec 32 := 1#32
  let v1111 : BitVec 32 := Scalar.andi v1082 c1_i32_443
  let c128_i32_444 : BitVec 32 := 128#32
  let v1112 : BitVec 32 := Scalar.muli v1111 c128_i32_444
  let v1113 : BitVec 32 := v1112
  let v1190 : Index := Scalar.indexCast v1113
  ![v1189.toNat, 0, v1190.toNat]
def k0_off70 (v29 : BitVec 32) (v103 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let c1_i32_429 : BitVec 32 := 1#32
  let v1083 : BitVec 32 := Scalar.addi v1082 c1_i32_429
  let c250_i32_430 : BitVec 32 := 250#32
  let v1084 : BitVec 32 := Scalar.minsi v1083 c250_i32_430
  let v1211 : Index := Scalar.indexCast v1084
  let c0_476 : Index := 0#32
  let c0_477 : Index := 0#32
  ![v1211.toNat, 0, 0]
def k0_off71 (v29 : BitVec 32) (v103 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_36 : BitVec 32 := 128#32
  let v102 : BitVec 32 := Scalar.muli v31 c128_i32_36
  let v104 : BitVec 32 := Scalar.addi v102 v103
  let c7_i32_428 : BitVec 32 := 7#32
  let v1082 : BitVec 32 := Scalar.shrsi v104 c7_i32_428
  let v1215 : Index := Scalar.indexCast v1082
  let c0_478 : Index := 0#32
  let c0_479 : Index := 0#32
  ![v1215.toNat, 0, 0]

def k0_chk7 (v29 : BitVec 32) (v103 : BitVec 32) : Prop :=
  (∀ a, (k0_off64 v29 v103) a + S1x128.size a ≤ S272x128.size a) ∧
  (∀ a, (k0_off65 v29 v103) a + S1x128.size a ≤ S272x128.size a) ∧
  (128 ∣ (k0_mult16 v29 v103).toNat) ∧
  (128 ∣ (k0_mult17 v29 v103).toNat) ∧
  (∀ a, (k0_off66 v29 v103) a + S1x2560x128.size a ≤ S6x2560x256.size a) ∧
  (∀ (hinb : ∀ a, (k0_off66 v29 v103) a + S1x2560x128.size a ≤ S6x2560x256.size a), (Rect.unit (s := S6x2560x256) (k0_off66 v29 v103) S1x2560x128.size hinb).PackedRows (EltTy.packing .fp8e4m3)) ∧
  (∀ a, (k0_off67 v29 v103) a + S1x2560x128.size a ≤ S6x2560x256.size a) ∧
  (∀ (hinb : ∀ a, (k0_off67 v29 v103) a + S1x2560x128.size a ≤ S6x2560x256.size a), (Rect.unit (s := S6x2560x256) (k0_off67 v29 v103) S1x2560x128.size hinb).PackedRows (EltTy.packing .fp8e4m3)) ∧
  (∀ a, (k0_off68 v29 v103) a + S1x8x128.size a ≤ S6x8x256.size a) ∧
  (∀ a, (k0_off69 v29 v103) a + S1x8x128.size a ≤ S6x8x256.size a) ∧
  (∀ a, (k0_off70 v29 v103) a + S1x192x128.size a ≤ S251x192x128.size a) ∧
  (∀ a, (k0_off71 v29 v103) a + S1x192x128.size a ≤ S251x192x128.size a)
theorem k0_off64_inb : ∀ (v29 : BitVec 32) (v103 : BitVec 32) (k0_hw7 : k0_chk7 v29 v103), ∀ a, (k0_off64 v29 v103) a + S1x128.size a ≤ S272x128.size a := fun v29 v103 k0_hw7 => k0_hw7.1
theorem k0_off65_inb : ∀ (v29 : BitVec 32) (v103 : BitVec 32) (k0_hw7 : k0_chk7 v29 v103), ∀ a, (k0_off65 v29 v103) a + S1x128.size a ≤ S272x128.size a := fun v29 v103 k0_hw7 => k0_hw7.2.1
theorem k0_mult16_dvd : ∀ (v29 : BitVec 32) (v103 : BitVec 32) (k0_hw7 : k0_chk7 v29 v103), 128 ∣ (k0_mult16 v29 v103).toNat := fun v29 v103 k0_hw7 => k0_hw7.2.2.1
theorem k0_mult17_dvd : ∀ (v29 : BitVec 32) (v103 : BitVec 32) (k0_hw7 : k0_chk7 v29 v103), 128 ∣ (k0_mult17 v29 v103).toNat := fun v29 v103 k0_hw7 => k0_hw7.2.2.2.1
theorem k0_off66_inb : ∀ (v29 : BitVec 32) (v103 : BitVec 32) (k0_hw7 : k0_chk7 v29 v103), ∀ a, (k0_off66 v29 v103) a + S1x2560x128.size a ≤ S6x2560x256.size a := fun v29 v103 k0_hw7 => k0_hw7.2.2.2.2.1
theorem k0_off66_packedfp8e4m3 : ∀ (v29 : BitVec 32) (v103 : BitVec 32) (k0_hw7 : k0_chk7 v29 v103), (Rect.unit (s := S6x2560x256) (k0_off66 v29 v103) S1x2560x128.size (k0_off66_inb v29 v103 k0_hw7)).PackedRows (EltTy.packing .fp8e4m3) := fun v29 v103 k0_hw7 => k0_hw7.2.2.2.2.2.1 (k0_off66_inb v29 v103 k0_hw7)
theorem k0_off67_inb : ∀ (v29 : BitVec 32) (v103 : BitVec 32) (k0_hw7 : k0_chk7 v29 v103), ∀ a, (k0_off67 v29 v103) a + S1x2560x128.size a ≤ S6x2560x256.size a := fun v29 v103 k0_hw7 => k0_hw7.2.2.2.2.2.2.1
theorem k0_off67_packedfp8e4m3 : ∀ (v29 : BitVec 32) (v103 : BitVec 32) (k0_hw7 : k0_chk7 v29 v103), (Rect.unit (s := S6x2560x256) (k0_off67 v29 v103) S1x2560x128.size (k0_off67_inb v29 v103 k0_hw7)).PackedRows (EltTy.packing .fp8e4m3) := fun v29 v103 k0_hw7 => k0_hw7.2.2.2.2.2.2.2.1 (k0_off67_inb v29 v103 k0_hw7)
theorem k0_off68_inb : ∀ (v29 : BitVec 32) (v103 : BitVec 32) (k0_hw7 : k0_chk7 v29 v103), ∀ a, (k0_off68 v29 v103) a + S1x8x128.size a ≤ S6x8x256.size a := fun v29 v103 k0_hw7 => k0_hw7.2.2.2.2.2.2.2.2.1
theorem k0_off69_inb : ∀ (v29 : BitVec 32) (v103 : BitVec 32) (k0_hw7 : k0_chk7 v29 v103), ∀ a, (k0_off69 v29 v103) a + S1x8x128.size a ≤ S6x8x256.size a := fun v29 v103 k0_hw7 => k0_hw7.2.2.2.2.2.2.2.2.2.1
theorem k0_off70_inb : ∀ (v29 : BitVec 32) (v103 : BitVec 32) (k0_hw7 : k0_chk7 v29 v103), ∀ a, (k0_off70 v29 v103) a + S1x192x128.size a ≤ S251x192x128.size a := fun v29 v103 k0_hw7 => k0_hw7.2.2.2.2.2.2.2.2.2.2.1
theorem k0_off71_inb : ∀ (v29 : BitVec 32) (v103 : BitVec 32) (k0_hw7 : k0_chk7 v29 v103), ∀ a, (k0_off71 v29 v103) a + S1x192x128.size a ≤ S251x192x128.size a := fun v29 v103 k0_hw7 => k0_hw7.2.2.2.2.2.2.2.2.2.2.2

def k0_off72 (v29 : BitVec 32) (v117 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let v1226 : Index := Scalar.indexCast v1220
  let c0_484 : Index := 0#32
  ![v1226.toNat, 0]

def k0_off73 (v29 : BitVec 32) (v117 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let c1_i32_485 : BitVec 32 := 1#32
  let v1228 : BitVec 32 := Scalar.addi v1220 c1_i32_485
  let v1229 : Index := Scalar.indexCast v1228
  let c0_486 : Index := 0#32
  ![v1229.toNat, 0]
def k0_mult18 (v29 : BitVec 32) (v117 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let c1_i32_495 : BitVec 32 := 1#32
  let v1249 : BitVec 32 := Scalar.andi v1220 c1_i32_495
  let c128_i32_496 : BitVec 32 := 128#32
  let v1250 : BitVec 32 := Scalar.muli v1249 c128_i32_496
  v1250
def k0_mult19 (v29 : BitVec 32) (v117 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let c1_i32_505 : BitVec 32 := 1#32
  let v1264 : BitVec 32 := Scalar.addi v1220 c1_i32_505
  let c1_i32_506 : BitVec 32 := 1#32
  let v1265 : BitVec 32 := Scalar.andi v1264 c1_i32_506
  let c128_i32_507 : BitVec 32 := 128#32
  let v1266 : BitVec 32 := Scalar.muli v1265 c128_i32_507
  v1266
def k0_off74 (v29 : BitVec 32) (v117 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let c1_i32_497 : BitVec 32 := 1#32
  let v1252 : BitVec 32 := Scalar.addi v1220 c1_i32_497
  let c1_i32_498 : BitVec 32 := 1#32
  let v1253 : BitVec 32 := Scalar.shrsi v1252 c1_i32_498
  let c6_i32_499 : BitVec 32 := 6#32
  let c0_i32_500 : BitVec 32 := 0#32
  let v1254 : BitVec 1 := Scalar.cmpi .eq c6_i32_499 c0_i32_500
  let c1_i32_501 : BitVec 32 := 1#32
  let v1255 : BitVec 32 := Scalar.select v1254 c1_i32_501 c6_i32_499
  let v1256 : BitVec 32 := Scalar.remsi v1253 v1255
  let c0_i32_503 : BitVec 32 := 0#32
  let v1258 : BitVec 1 := Scalar.cmpi .slt v1256 c0_i32_503
  let c0_i32_504 : BitVec 32 := 0#32
  let v1259 : BitVec 1 := Scalar.cmpi .slt v1255 c0_i32_504
  let v1260 : BitVec 1 := Scalar.xori v1258 v1259
  let c0_i32_502 : BitVec 32 := 0#32
  let v1257 : BitVec 1 := Scalar.cmpi .ne v1256 c0_i32_502
  let v1261 : BitVec 1 := Scalar.andi v1260 v1257
  let v1262 : BitVec 32 := Scalar.addi v1256 v1255
  let v1263 : BitVec 32 := Scalar.select v1261 v1262 v1256
  let v1286 : Index := Scalar.indexCast v1263
  let c0_513 : Index := 0#32
  let c1_i32_505 : BitVec 32 := 1#32
  let v1264 : BitVec 32 := Scalar.addi v1220 c1_i32_505
  let c1_i32_506 : BitVec 32 := 1#32
  let v1265 : BitVec 32 := Scalar.andi v1264 c1_i32_506
  let c128_i32_507 : BitVec 32 := 128#32
  let v1266 : BitVec 32 := Scalar.muli v1265 c128_i32_507
  let v1267 : BitVec 32 := v1266
  let v1287 : Index := Scalar.indexCast v1267
  ![v1286.toNat, 0, v1287.toNat]
def k0_off75 (v29 : BitVec 32) (v117 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let c1_i32_488 : BitVec 32 := 1#32
  let v1238 : BitVec 32 := Scalar.shrsi v1220 c1_i32_488
  let c6_i32_489 : BitVec 32 := 6#32
  let c0_i32_490 : BitVec 32 := 0#32
  let v1239 : BitVec 1 := Scalar.cmpi .eq c6_i32_489 c0_i32_490
  let c1_i32_491 : BitVec 32 := 1#32
  let v1240 : BitVec 32 := Scalar.select v1239 c1_i32_491 c6_i32_489
  let v1241 : BitVec 32 := Scalar.remsi v1238 v1240
  let c0_i32_493 : BitVec 32 := 0#32
  let v1243 : BitVec 1 := Scalar.cmpi .slt v1241 c0_i32_493
  let c0_i32_494 : BitVec 32 := 0#32
  let v1244 : BitVec 1 := Scalar.cmpi .slt v1240 c0_i32_494
  let v1245 : BitVec 1 := Scalar.xori v1243 v1244
  let c0_i32_492 : BitVec 32 := 0#32
  let v1242 : BitVec 1 := Scalar.cmpi .ne v1241 c0_i32_492
  let v1246 : BitVec 1 := Scalar.andi v1245 v1242
  let v1247 : BitVec 32 := Scalar.addi v1241 v1240
  let v1248 : BitVec 32 := Scalar.select v1246 v1247 v1241
  let v1291 : Index := Scalar.indexCast v1248
  let c0_514 : Index := 0#32
  let c1_i32_495 : BitVec 32 := 1#32
  let v1249 : BitVec 32 := Scalar.andi v1220 c1_i32_495
  let c128_i32_496 : BitVec 32 := 128#32
  let v1250 : BitVec 32 := Scalar.muli v1249 c128_i32_496
  let v1251 : BitVec 32 := v1250
  let v1292 : Index := Scalar.indexCast v1251
  ![v1291.toNat, 0, v1292.toNat]
def k0_off76 (v29 : BitVec 32) (v117 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let c1_i32_497 : BitVec 32 := 1#32
  let v1252 : BitVec 32 := Scalar.addi v1220 c1_i32_497
  let c1_i32_498 : BitVec 32 := 1#32
  let v1253 : BitVec 32 := Scalar.shrsi v1252 c1_i32_498
  let c6_i32_499 : BitVec 32 := 6#32
  let c0_i32_500 : BitVec 32 := 0#32
  let v1254 : BitVec 1 := Scalar.cmpi .eq c6_i32_499 c0_i32_500
  let c1_i32_501 : BitVec 32 := 1#32
  let v1255 : BitVec 32 := Scalar.select v1254 c1_i32_501 c6_i32_499
  let v1256 : BitVec 32 := Scalar.remsi v1253 v1255
  let c0_i32_503 : BitVec 32 := 0#32
  let v1258 : BitVec 1 := Scalar.cmpi .slt v1256 c0_i32_503
  let c0_i32_504 : BitVec 32 := 0#32
  let v1259 : BitVec 1 := Scalar.cmpi .slt v1255 c0_i32_504
  let v1260 : BitVec 1 := Scalar.xori v1258 v1259
  let c0_i32_502 : BitVec 32 := 0#32
  let v1257 : BitVec 1 := Scalar.cmpi .ne v1256 c0_i32_502
  let v1261 : BitVec 1 := Scalar.andi v1260 v1257
  let v1262 : BitVec 32 := Scalar.addi v1256 v1255
  let v1263 : BitVec 32 := Scalar.select v1261 v1262 v1256
  let v1322 : Index := Scalar.indexCast v1263
  let c0_521 : Index := 0#32
  let c1_i32_505 : BitVec 32 := 1#32
  let v1264 : BitVec 32 := Scalar.addi v1220 c1_i32_505
  let c1_i32_506 : BitVec 32 := 1#32
  let v1265 : BitVec 32 := Scalar.andi v1264 c1_i32_506
  let c128_i32_507 : BitVec 32 := 128#32
  let v1266 : BitVec 32 := Scalar.muli v1265 c128_i32_507
  let v1267 : BitVec 32 := v1266
  let v1323 : Index := Scalar.indexCast v1267
  ![v1322.toNat, 0, v1323.toNat]
def k0_off77 (v29 : BitVec 32) (v117 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let c1_i32_488 : BitVec 32 := 1#32
  let v1238 : BitVec 32 := Scalar.shrsi v1220 c1_i32_488
  let c6_i32_489 : BitVec 32 := 6#32
  let c0_i32_490 : BitVec 32 := 0#32
  let v1239 : BitVec 1 := Scalar.cmpi .eq c6_i32_489 c0_i32_490
  let c1_i32_491 : BitVec 32 := 1#32
  let v1240 : BitVec 32 := Scalar.select v1239 c1_i32_491 c6_i32_489
  let v1241 : BitVec 32 := Scalar.remsi v1238 v1240
  let c0_i32_493 : BitVec 32 := 0#32
  let v1243 : BitVec 1 := Scalar.cmpi .slt v1241 c0_i32_493
  let c0_i32_494 : BitVec 32 := 0#32
  let v1244 : BitVec 1 := Scalar.cmpi .slt v1240 c0_i32_494
  let v1245 : BitVec 1 := Scalar.xori v1243 v1244
  let c0_i32_492 : BitVec 32 := 0#32
  let v1242 : BitVec 1 := Scalar.cmpi .ne v1241 c0_i32_492
  let v1246 : BitVec 1 := Scalar.andi v1245 v1242
  let v1247 : BitVec 32 := Scalar.addi v1241 v1240
  let v1248 : BitVec 32 := Scalar.select v1246 v1247 v1241
  let v1327 : Index := Scalar.indexCast v1248
  let c0_522 : Index := 0#32
  let c1_i32_495 : BitVec 32 := 1#32
  let v1249 : BitVec 32 := Scalar.andi v1220 c1_i32_495
  let c128_i32_496 : BitVec 32 := 128#32
  let v1250 : BitVec 32 := Scalar.muli v1249 c128_i32_496
  let v1251 : BitVec 32 := v1250
  let v1328 : Index := Scalar.indexCast v1251
  ![v1327.toNat, 0, v1328.toNat]
def k0_off78 (v29 : BitVec 32) (v117 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let c1_i32_481 : BitVec 32 := 1#32
  let v1221 : BitVec 32 := Scalar.addi v1220 c1_i32_481
  let c250_i32_482 : BitVec 32 := 250#32
  let v1222 : BitVec 32 := Scalar.minsi v1221 c250_i32_482
  let v1349 : Index := Scalar.indexCast v1222
  let c0_528 : Index := 0#32
  let c0_529 : Index := 0#32
  ![v1349.toNat, 0, 0]
def k0_off79 (v29 : BitVec 32) (v117 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_41 : BitVec 32 := 128#32
  let v116 : BitVec 32 := Scalar.muli v31 c128_i32_41
  let v118 : BitVec 32 := Scalar.addi v116 v117
  let c7_i32_480 : BitVec 32 := 7#32
  let v1220 : BitVec 32 := Scalar.shrsi v118 c7_i32_480
  let v1353 : Index := Scalar.indexCast v1220
  let c0_530 : Index := 0#32
  let c0_531 : Index := 0#32
  ![v1353.toNat, 0, 0]

def k0_chk8 (v29 : BitVec 32) (v117 : BitVec 32) : Prop :=
  (∀ a, (k0_off72 v29 v117) a + S1x128.size a ≤ S272x128.size a) ∧
  (∀ a, (k0_off73 v29 v117) a + S1x128.size a ≤ S272x128.size a) ∧
  (128 ∣ (k0_mult18 v29 v117).toNat) ∧
  (128 ∣ (k0_mult19 v29 v117).toNat) ∧
  (∀ a, (k0_off74 v29 v117) a + S1x2560x128.size a ≤ S6x2560x256.size a) ∧
  (∀ (hinb : ∀ a, (k0_off74 v29 v117) a + S1x2560x128.size a ≤ S6x2560x256.size a), (Rect.unit (s := S6x2560x256) (k0_off74 v29 v117) S1x2560x128.size hinb).PackedRows (EltTy.packing .fp8e4m3)) ∧
  (∀ a, (k0_off75 v29 v117) a + S1x2560x128.size a ≤ S6x2560x256.size a) ∧
  (∀ (hinb : ∀ a, (k0_off75 v29 v117) a + S1x2560x128.size a ≤ S6x2560x256.size a), (Rect.unit (s := S6x2560x256) (k0_off75 v29 v117) S1x2560x128.size hinb).PackedRows (EltTy.packing .fp8e4m3)) ∧
  (∀ a, (k0_off76 v29 v117) a + S1x8x128.size a ≤ S6x8x256.size a) ∧
  (∀ a, (k0_off77 v29 v117) a + S1x8x128.size a ≤ S6x8x256.size a) ∧
  (∀ a, (k0_off78 v29 v117) a + S1x192x128.size a ≤ S251x192x128.size a) ∧
  (∀ a, (k0_off79 v29 v117) a + S1x192x128.size a ≤ S251x192x128.size a)
theorem k0_off72_inb : ∀ (v29 : BitVec 32) (v117 : BitVec 32) (k0_hw8 : k0_chk8 v29 v117), ∀ a, (k0_off72 v29 v117) a + S1x128.size a ≤ S272x128.size a := fun v29 v117 k0_hw8 => k0_hw8.1
theorem k0_off73_inb : ∀ (v29 : BitVec 32) (v117 : BitVec 32) (k0_hw8 : k0_chk8 v29 v117), ∀ a, (k0_off73 v29 v117) a + S1x128.size a ≤ S272x128.size a := fun v29 v117 k0_hw8 => k0_hw8.2.1
theorem k0_mult18_dvd : ∀ (v29 : BitVec 32) (v117 : BitVec 32) (k0_hw8 : k0_chk8 v29 v117), 128 ∣ (k0_mult18 v29 v117).toNat := fun v29 v117 k0_hw8 => k0_hw8.2.2.1
theorem k0_mult19_dvd : ∀ (v29 : BitVec 32) (v117 : BitVec 32) (k0_hw8 : k0_chk8 v29 v117), 128 ∣ (k0_mult19 v29 v117).toNat := fun v29 v117 k0_hw8 => k0_hw8.2.2.2.1
theorem k0_off74_inb : ∀ (v29 : BitVec 32) (v117 : BitVec 32) (k0_hw8 : k0_chk8 v29 v117), ∀ a, (k0_off74 v29 v117) a + S1x2560x128.size a ≤ S6x2560x256.size a := fun v29 v117 k0_hw8 => k0_hw8.2.2.2.2.1
theorem k0_off74_packedfp8e4m3 : ∀ (v29 : BitVec 32) (v117 : BitVec 32) (k0_hw8 : k0_chk8 v29 v117), (Rect.unit (s := S6x2560x256) (k0_off74 v29 v117) S1x2560x128.size (k0_off74_inb v29 v117 k0_hw8)).PackedRows (EltTy.packing .fp8e4m3) := fun v29 v117 k0_hw8 => k0_hw8.2.2.2.2.2.1 (k0_off74_inb v29 v117 k0_hw8)
theorem k0_off75_inb : ∀ (v29 : BitVec 32) (v117 : BitVec 32) (k0_hw8 : k0_chk8 v29 v117), ∀ a, (k0_off75 v29 v117) a + S1x2560x128.size a ≤ S6x2560x256.size a := fun v29 v117 k0_hw8 => k0_hw8.2.2.2.2.2.2.1
theorem k0_off75_packedfp8e4m3 : ∀ (v29 : BitVec 32) (v117 : BitVec 32) (k0_hw8 : k0_chk8 v29 v117), (Rect.unit (s := S6x2560x256) (k0_off75 v29 v117) S1x2560x128.size (k0_off75_inb v29 v117 k0_hw8)).PackedRows (EltTy.packing .fp8e4m3) := fun v29 v117 k0_hw8 => k0_hw8.2.2.2.2.2.2.2.1 (k0_off75_inb v29 v117 k0_hw8)
theorem k0_off76_inb : ∀ (v29 : BitVec 32) (v117 : BitVec 32) (k0_hw8 : k0_chk8 v29 v117), ∀ a, (k0_off76 v29 v117) a + S1x8x128.size a ≤ S6x8x256.size a := fun v29 v117 k0_hw8 => k0_hw8.2.2.2.2.2.2.2.2.1
theorem k0_off77_inb : ∀ (v29 : BitVec 32) (v117 : BitVec 32) (k0_hw8 : k0_chk8 v29 v117), ∀ a, (k0_off77 v29 v117) a + S1x8x128.size a ≤ S6x8x256.size a := fun v29 v117 k0_hw8 => k0_hw8.2.2.2.2.2.2.2.2.2.1
theorem k0_off78_inb : ∀ (v29 : BitVec 32) (v117 : BitVec 32) (k0_hw8 : k0_chk8 v29 v117), ∀ a, (k0_off78 v29 v117) a + S1x192x128.size a ≤ S251x192x128.size a := fun v29 v117 k0_hw8 => k0_hw8.2.2.2.2.2.2.2.2.2.2.1
theorem k0_off79_inb : ∀ (v29 : BitVec 32) (v117 : BitVec 32) (k0_hw8 : k0_chk8 v29 v117), ∀ a, (k0_off79 v29 v117) a + S1x192x128.size a ≤ S251x192x128.size a := fun v29 v117 k0_hw8 => k0_hw8.2.2.2.2.2.2.2.2.2.2.2

def k0_off80 (v29 : BitVec 32) (v131 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let v1364 : Index := Scalar.indexCast v1358
  let c0_536 : Index := 0#32
  ![v1364.toNat, 0]

def k0_off81 (v29 : BitVec 32) (v131 : BitVec 32) : Fin 2 → Nat :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let c1_i32_537 : BitVec 32 := 1#32
  let v1366 : BitVec 32 := Scalar.addi v1358 c1_i32_537
  let v1367 : Index := Scalar.indexCast v1366
  let c0_538 : Index := 0#32
  ![v1367.toNat, 0]
def k0_mult20 (v29 : BitVec 32) (v131 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let c1_i32_547 : BitVec 32 := 1#32
  let v1387 : BitVec 32 := Scalar.andi v1358 c1_i32_547
  let c128_i32_548 : BitVec 32 := 128#32
  let v1388 : BitVec 32 := Scalar.muli v1387 c128_i32_548
  v1388
def k0_mult21 (v29 : BitVec 32) (v131 : BitVec 32) : BitVec 32 :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let c1_i32_557 : BitVec 32 := 1#32
  let v1402 : BitVec 32 := Scalar.addi v1358 c1_i32_557
  let c1_i32_558 : BitVec 32 := 1#32
  let v1403 : BitVec 32 := Scalar.andi v1402 c1_i32_558
  let c128_i32_559 : BitVec 32 := 128#32
  let v1404 : BitVec 32 := Scalar.muli v1403 c128_i32_559
  v1404
def k0_off82 (v29 : BitVec 32) (v131 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let c1_i32_549 : BitVec 32 := 1#32
  let v1390 : BitVec 32 := Scalar.addi v1358 c1_i32_549
  let c1_i32_550 : BitVec 32 := 1#32
  let v1391 : BitVec 32 := Scalar.shrsi v1390 c1_i32_550
  let c6_i32_551 : BitVec 32 := 6#32
  let c0_i32_552 : BitVec 32 := 0#32
  let v1392 : BitVec 1 := Scalar.cmpi .eq c6_i32_551 c0_i32_552
  let c1_i32_553 : BitVec 32 := 1#32
  let v1393 : BitVec 32 := Scalar.select v1392 c1_i32_553 c6_i32_551
  let v1394 : BitVec 32 := Scalar.remsi v1391 v1393
  let c0_i32_555 : BitVec 32 := 0#32
  let v1396 : BitVec 1 := Scalar.cmpi .slt v1394 c0_i32_555
  let c0_i32_556 : BitVec 32 := 0#32
  let v1397 : BitVec 1 := Scalar.cmpi .slt v1393 c0_i32_556
  let v1398 : BitVec 1 := Scalar.xori v1396 v1397
  let c0_i32_554 : BitVec 32 := 0#32
  let v1395 : BitVec 1 := Scalar.cmpi .ne v1394 c0_i32_554
  let v1399 : BitVec 1 := Scalar.andi v1398 v1395
  let v1400 : BitVec 32 := Scalar.addi v1394 v1393
  let v1401 : BitVec 32 := Scalar.select v1399 v1400 v1394
  let v1424 : Index := Scalar.indexCast v1401
  let c0_565 : Index := 0#32
  let c1_i32_557 : BitVec 32 := 1#32
  let v1402 : BitVec 32 := Scalar.addi v1358 c1_i32_557
  let c1_i32_558 : BitVec 32 := 1#32
  let v1403 : BitVec 32 := Scalar.andi v1402 c1_i32_558
  let c128_i32_559 : BitVec 32 := 128#32
  let v1404 : BitVec 32 := Scalar.muli v1403 c128_i32_559
  let v1405 : BitVec 32 := v1404
  let v1425 : Index := Scalar.indexCast v1405
  ![v1424.toNat, 0, v1425.toNat]
def k0_off83 (v29 : BitVec 32) (v131 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let c1_i32_540 : BitVec 32 := 1#32
  let v1376 : BitVec 32 := Scalar.shrsi v1358 c1_i32_540
  let c6_i32_541 : BitVec 32 := 6#32
  let c0_i32_542 : BitVec 32 := 0#32
  let v1377 : BitVec 1 := Scalar.cmpi .eq c6_i32_541 c0_i32_542
  let c1_i32_543 : BitVec 32 := 1#32
  let v1378 : BitVec 32 := Scalar.select v1377 c1_i32_543 c6_i32_541
  let v1379 : BitVec 32 := Scalar.remsi v1376 v1378
  let c0_i32_545 : BitVec 32 := 0#32
  let v1381 : BitVec 1 := Scalar.cmpi .slt v1379 c0_i32_545
  let c0_i32_546 : BitVec 32 := 0#32
  let v1382 : BitVec 1 := Scalar.cmpi .slt v1378 c0_i32_546
  let v1383 : BitVec 1 := Scalar.xori v1381 v1382
  let c0_i32_544 : BitVec 32 := 0#32
  let v1380 : BitVec 1 := Scalar.cmpi .ne v1379 c0_i32_544
  let v1384 : BitVec 1 := Scalar.andi v1383 v1380
  let v1385 : BitVec 32 := Scalar.addi v1379 v1378
  let v1386 : BitVec 32 := Scalar.select v1384 v1385 v1379
  let v1429 : Index := Scalar.indexCast v1386
  let c0_566 : Index := 0#32
  let c1_i32_547 : BitVec 32 := 1#32
  let v1387 : BitVec 32 := Scalar.andi v1358 c1_i32_547
  let c128_i32_548 : BitVec 32 := 128#32
  let v1388 : BitVec 32 := Scalar.muli v1387 c128_i32_548
  let v1389 : BitVec 32 := v1388
  let v1430 : Index := Scalar.indexCast v1389
  ![v1429.toNat, 0, v1430.toNat]
def k0_off84 (v29 : BitVec 32) (v131 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let c1_i32_549 : BitVec 32 := 1#32
  let v1390 : BitVec 32 := Scalar.addi v1358 c1_i32_549
  let c1_i32_550 : BitVec 32 := 1#32
  let v1391 : BitVec 32 := Scalar.shrsi v1390 c1_i32_550
  let c6_i32_551 : BitVec 32 := 6#32
  let c0_i32_552 : BitVec 32 := 0#32
  let v1392 : BitVec 1 := Scalar.cmpi .eq c6_i32_551 c0_i32_552
  let c1_i32_553 : BitVec 32 := 1#32
  let v1393 : BitVec 32 := Scalar.select v1392 c1_i32_553 c6_i32_551
  let v1394 : BitVec 32 := Scalar.remsi v1391 v1393
  let c0_i32_555 : BitVec 32 := 0#32
  let v1396 : BitVec 1 := Scalar.cmpi .slt v1394 c0_i32_555
  let c0_i32_556 : BitVec 32 := 0#32
  let v1397 : BitVec 1 := Scalar.cmpi .slt v1393 c0_i32_556
  let v1398 : BitVec 1 := Scalar.xori v1396 v1397
  let c0_i32_554 : BitVec 32 := 0#32
  let v1395 : BitVec 1 := Scalar.cmpi .ne v1394 c0_i32_554
  let v1399 : BitVec 1 := Scalar.andi v1398 v1395
  let v1400 : BitVec 32 := Scalar.addi v1394 v1393
  let v1401 : BitVec 32 := Scalar.select v1399 v1400 v1394
  let v1460 : Index := Scalar.indexCast v1401
  let c0_573 : Index := 0#32
  let c1_i32_557 : BitVec 32 := 1#32
  let v1402 : BitVec 32 := Scalar.addi v1358 c1_i32_557
  let c1_i32_558 : BitVec 32 := 1#32
  let v1403 : BitVec 32 := Scalar.andi v1402 c1_i32_558
  let c128_i32_559 : BitVec 32 := 128#32
  let v1404 : BitVec 32 := Scalar.muli v1403 c128_i32_559
  let v1405 : BitVec 32 := v1404
  let v1461 : Index := Scalar.indexCast v1405
  ![v1460.toNat, 0, v1461.toNat]
def k0_off85 (v29 : BitVec 32) (v131 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let c1_i32_540 : BitVec 32 := 1#32
  let v1376 : BitVec 32 := Scalar.shrsi v1358 c1_i32_540
  let c6_i32_541 : BitVec 32 := 6#32
  let c0_i32_542 : BitVec 32 := 0#32
  let v1377 : BitVec 1 := Scalar.cmpi .eq c6_i32_541 c0_i32_542
  let c1_i32_543 : BitVec 32 := 1#32
  let v1378 : BitVec 32 := Scalar.select v1377 c1_i32_543 c6_i32_541
  let v1379 : BitVec 32 := Scalar.remsi v1376 v1378
  let c0_i32_545 : BitVec 32 := 0#32
  let v1381 : BitVec 1 := Scalar.cmpi .slt v1379 c0_i32_545
  let c0_i32_546 : BitVec 32 := 0#32
  let v1382 : BitVec 1 := Scalar.cmpi .slt v1378 c0_i32_546
  let v1383 : BitVec 1 := Scalar.xori v1381 v1382
  let c0_i32_544 : BitVec 32 := 0#32
  let v1380 : BitVec 1 := Scalar.cmpi .ne v1379 c0_i32_544
  let v1384 : BitVec 1 := Scalar.andi v1383 v1380
  let v1385 : BitVec 32 := Scalar.addi v1379 v1378
  let v1386 : BitVec 32 := Scalar.select v1384 v1385 v1379
  let v1465 : Index := Scalar.indexCast v1386
  let c0_574 : Index := 0#32
  let c1_i32_547 : BitVec 32 := 1#32
  let v1387 : BitVec 32 := Scalar.andi v1358 c1_i32_547
  let c128_i32_548 : BitVec 32 := 128#32
  let v1388 : BitVec 32 := Scalar.muli v1387 c128_i32_548
  let v1389 : BitVec 32 := v1388
  let v1466 : Index := Scalar.indexCast v1389
  ![v1465.toNat, 0, v1466.toNat]
def k0_off86 (v29 : BitVec 32) (v131 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let c1_i32_533 : BitVec 32 := 1#32
  let v1359 : BitVec 32 := Scalar.addi v1358 c1_i32_533
  let c250_i32_534 : BitVec 32 := 250#32
  let v1360 : BitVec 32 := Scalar.minsi v1359 c250_i32_534
  let v1487 : Index := Scalar.indexCast v1360
  let c0_580 : Index := 0#32
  let c0_581 : Index := 0#32
  ![v1487.toNat, 0, 0]
def k0_off87 (v29 : BitVec 32) (v131 : BitVec 32) : Fin 3 → Nat :=
  let c10_i32 : BitVec 32 := 10#32
  let v30 : BitVec 32 := Scalar.shrsi v29 c10_i32
  let c3_i32 : BitVec 32 := 3#32
  let v31 : BitVec 32 := Scalar.shli v30 c3_i32
  let c128_i32_46 : BitVec 32 := 128#32
  let v130 : BitVec 32 := Scalar.muli v31 c128_i32_46
  let v132 : BitVec 32 := Scalar.addi v130 v131
  let c7_i32_532 : BitVec 32 := 7#32
  let v1358 : BitVec 32 := Scalar.shrsi v132 c7_i32_532
  let v1491 : Index := Scalar.indexCast v1358
  let c0_582 : Index := 0#32
  let c0_583 : Index := 0#32
  ![v1491.toNat, 0, 0]

def k0_chk9 (v29 : BitVec 32) (v131 : BitVec 32) : Prop :=
  (∀ a, (k0_off80 v29 v131) a + S1x128.size a ≤ S272x128.size a) ∧
  (∀ a, (k0_off81 v29 v131) a + S1x128.size a ≤ S272x128.size a) ∧
  (128 ∣ (k0_mult20 v29 v131).toNat) ∧
  (128 ∣ (k0_mult21 v29 v131).toNat) ∧
  (∀ a, (k0_off82 v29 v131) a + S1x2560x128.size a ≤ S6x2560x256.size a) ∧
  (∀ (hinb : ∀ a, (k0_off82 v29 v131) a + S1x2560x128.size a ≤ S6x2560x256.size a), (Rect.unit (s := S6x2560x256) (k0_off82 v29 v131) S1x2560x128.size hinb).PackedRows (EltTy.packing .fp8e4m3)) ∧
  (∀ a, (k0_off83 v29 v131) a + S1x2560x128.size a ≤ S6x2560x256.size a) ∧
  (∀ (hinb : ∀ a, (k0_off83 v29 v131) a + S1x2560x128.size a ≤ S6x2560x256.size a), (Rect.unit (s := S6x2560x256) (k0_off83 v29 v131) S1x2560x128.size hinb).PackedRows (EltTy.packing .fp8e4m3)) ∧
  (∀ a, (k0_off84 v29 v131) a + S1x8x128.size a ≤ S6x8x256.size a) ∧
  (∀ a, (k0_off85 v29 v131) a + S1x8x128.size a ≤ S6x8x256.size a) ∧
  (∀ a, (k0_off86 v29 v131) a + S1x192x128.size a ≤ S251x192x128.size a) ∧
  (∀ a, (k0_off87 v29 v131) a + S1x192x128.size a ≤ S251x192x128.size a)
theorem k0_off80_inb : ∀ (v29 : BitVec 32) (v131 : BitVec 32) (k0_hw9 : k0_chk9 v29 v131), ∀ a, (k0_off80 v29 v131) a + S1x128.size a ≤ S272x128.size a := fun v29 v131 k0_hw9 => k0_hw9.1
theorem k0_off81_inb : ∀ (v29 : BitVec 32) (v131 : BitVec 32) (k0_hw9 : k0_chk9 v29 v131), ∀ a, (k0_off81 v29 v131) a + S1x128.size a ≤ S272x128.size a := fun v29 v131 k0_hw9 => k0_hw9.2.1
theorem k0_mult20_dvd : ∀ (v29 : BitVec 32) (v131 : BitVec 32) (k0_hw9 : k0_chk9 v29 v131), 128 ∣ (k0_mult20 v29 v131).toNat := fun v29 v131 k0_hw9 => k0_hw9.2.2.1
theorem k0_mult21_dvd : ∀ (v29 : BitVec 32) (v131 : BitVec 32) (k0_hw9 : k0_chk9 v29 v131), 128 ∣ (k0_mult21 v29 v131).toNat := fun v29 v131 k0_hw9 => k0_hw9.2.2.2.1
theorem k0_off82_inb : ∀ (v29 : BitVec 32) (v131 : BitVec 32) (k0_hw9 : k0_chk9 v29 v131), ∀ a, (k0_off82 v29 v131) a + S1x2560x128.size a ≤ S6x2560x256.size a := fun v29 v131 k0_hw9 => k0_hw9.2.2.2.2.1
theorem k0_off82_packedfp8e4m3 : ∀ (v29 : BitVec 32) (v131 : BitVec 32) (k0_hw9 : k0_chk9 v29 v131), (Rect.unit (s := S6x2560x256) (k0_off82 v29 v131) S1x2560x128.size (k0_off82_inb v29 v131 k0_hw9)).PackedRows (EltTy.packing .fp8e4m3) := fun v29 v131 k0_hw9 => k0_hw9.2.2.2.2.2.1 (k0_off82_inb v29 v131 k0_hw9)
theorem k0_off83_inb : ∀ (v29 : BitVec 32) (v131 : BitVec 32) (k0_hw9 : k0_chk9 v29 v131), ∀ a, (k0_off83 v29 v131) a + S1x2560x128.size a ≤ S6x2560x256.size a := fun v29 v131 k0_hw9 => k0_hw9.2.2.2.2.2.2.1
theorem k0_off83_packedfp8e4m3 : ∀ (v29 : BitVec 32) (v131 : BitVec 32) (k0_hw9 : k0_chk9 v29 v131), (Rect.unit (s := S6x2560x256) (k0_off83 v29 v131) S1x2560x128.size (k0_off83_inb v29 v131 k0_hw9)).PackedRows (EltTy.packing .fp8e4m3) := fun v29 v131 k0_hw9 => k0_hw9.2.2.2.2.2.2.2.1 (k0_off83_inb v29 v131 k0_hw9)
theorem k0_off84_inb : ∀ (v29 : BitVec 32) (v131 : BitVec 32) (k0_hw9 : k0_chk9 v29 v131), ∀ a, (k0_off84 v29 v131) a + S1x8x128.size a ≤ S6x8x256.size a := fun v29 v131 k0_hw9 => k0_hw9.2.2.2.2.2.2.2.2.1
theorem k0_off85_inb : ∀ (v29 : BitVec 32) (v131 : BitVec 32) (k0_hw9 : k0_chk9 v29 v131), ∀ a, (k0_off85 v29 v131) a + S1x8x128.size a ≤ S6x8x256.size a := fun v29 v131 k0_hw9 => k0_hw9.2.2.2.2.2.2.2.2.2.1
theorem k0_off86_inb : ∀ (v29 : BitVec 32) (v131 : BitVec 32) (k0_hw9 : k0_chk9 v29 v131), ∀ a, (k0_off86 v29 v131) a + S1x192x128.size a ≤ S251x192x128.size a := fun v29 v131 k0_hw9 => k0_hw9.2.2.2.2.2.2.2.2.2.2.1
theorem k0_off87_inb : ∀ (v29 : BitVec 32) (v131 : BitVec 32) (k0_hw9 : k0_chk9 v29 v131), ∀ a, (k0_off87 v29 v131) a + S1x192x128.size a ≤ S251x192x128.size a := fun v29 v131 k0_hw9 => k0_hw9.2.2.2.2.2.2.2.2.2.2.2

def k0_cond4 (i : grid0.Coords) : BitVec 1 :=
  let arg0 : BitVec 32 := BitVec.ofNat 32 (i 0).val
  let c148_i32 : BitVec 32 := 148#32
  let v1496 : BitVec 1 := Scalar.cmpi .eq arg0 c148_i32
  let v1497 : BitVec 32 := Scalar.extui v1496
  let c0_i32_584 : BitVec 32 := 0#32
  let v1498 : BitVec 1 := Scalar.cmpi .ne v1497 c0_i32_584
  v1498

@[reducible] def k0_t3_loop (v1499 : BitVec 32) (v1500 : BitVec 32) : Scf.Loop 32 :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_596 : BitVec 32 := 1#32
  ⟨v1499, v1522, c1_i32_596⟩

def k0_off88 (v1499 : BitVec 32) (v1500 : BitVec 32) (k0_t3 : Fin (k0_t3_loop v1499 v1500).trips) : Fin 3 → Nat :=
  let c1_i32_596 : BitVec 32 := 1#32
  let arg31 : BitVec 32 := Scf.iv v1499 c1_i32_596 k0_t3
  let c6_i32_662 : BitVec 32 := 6#32
  let c0_i32_663 : BitVec 32 := 0#32
  let v1608 : BitVec 1 := Scalar.cmpi .eq c6_i32_662 c0_i32_663
  let c1_i32_664 : BitVec 32 := 1#32
  let v1609 : BitVec 32 := Scalar.select v1608 c1_i32_664 c6_i32_662
  let v1610 : BitVec 32 := Scalar.remsi arg31 v1609
  let c0_i32_666 : BitVec 32 := 0#32
  let v1612 : BitVec 1 := Scalar.cmpi .slt v1610 c0_i32_666
  let c0_i32_667 : BitVec 32 := 0#32
  let v1613 : BitVec 1 := Scalar.cmpi .slt v1609 c0_i32_667
  let v1614 : BitVec 1 := Scalar.xori v1612 v1613
  let c0_i32_665 : BitVec 32 := 0#32
  let v1611 : BitVec 1 := Scalar.cmpi .ne v1610 c0_i32_665
  let v1615 : BitVec 1 := Scalar.andi v1614 v1611
  let v1616 : BitVec 32 := Scalar.addi v1610 v1609
  let v1617 : BitVec 32 := Scalar.select v1615 v1616 v1610
  let v1620 : Index := Scalar.indexCast v1617
  let c0_670 : Index := 0#32
  let c0_671 : Index := 0#32
  ![v1620.toNat, 0, 0]
def k0_off89 (v1499 : BitVec 32) (v1500 : BitVec 32) (k0_t3 : Fin (k0_t3_loop v1499 v1500).trips) : Fin 3 → Nat :=
  let c1_i32_596 : BitVec 32 := 1#32
  let arg31 : BitVec 32 := Scf.iv v1499 c1_i32_596 k0_t3
  let c6_i32_662 : BitVec 32 := 6#32
  let c0_i32_663 : BitVec 32 := 0#32
  let v1608 : BitVec 1 := Scalar.cmpi .eq c6_i32_662 c0_i32_663
  let c1_i32_664 : BitVec 32 := 1#32
  let v1609 : BitVec 32 := Scalar.select v1608 c1_i32_664 c6_i32_662
  let v1610 : BitVec 32 := Scalar.remsi arg31 v1609
  let c0_i32_666 : BitVec 32 := 0#32
  let v1612 : BitVec 1 := Scalar.cmpi .slt v1610 c0_i32_666
  let c0_i32_667 : BitVec 32 := 0#32
  let v1613 : BitVec 1 := Scalar.cmpi .slt v1609 c0_i32_667
  let v1614 : BitVec 1 := Scalar.xori v1612 v1613
  let c0_i32_665 : BitVec 32 := 0#32
  let v1611 : BitVec 1 := Scalar.cmpi .ne v1610 c0_i32_665
  let v1615 : BitVec 1 := Scalar.andi v1614 v1611
  let v1616 : BitVec 32 := Scalar.addi v1610 v1609
  let v1617 : BitVec 32 := Scalar.select v1615 v1616 v1610
  let v1624 : Index := Scalar.indexCast v1617
  let c0_673 : Index := 0#32
  let c0_674 : Index := 0#32
  ![v1624.toNat, 0, 0]
def k0_mult22 (v1499 : BitVec 32) (v1500 : BitVec 32) (k0_t3 : Fin (k0_t3_loop v1499 v1500).trips) : BitVec 32 :=
  let c1_i32_596 : BitVec 32 := 1#32
  let arg31 : BitVec 32 := Scf.iv v1499 c1_i32_596 k0_t3
  let c2_i32_718 : BitVec 32 := 2#32
  let v1712 : BitVec 32 := Scalar.subi arg31 c2_i32_718
  let c256_i32_725 : BitVec 32 := 256#32
  let v1723 : BitVec 32 := Scalar.muli v1712 c256_i32_725
  v1723
def k0_cond5 (v1499 : BitVec 32) (v1500 : BitVec 32) (k0_t3 : Fin (k0_t3_loop v1499 v1500).trips) : BitVec 1 :=
  let c1_i32_596 : BitVec 32 := 1#32
  let arg31 : BitVec 32 := Scf.iv v1499 c1_i32_596 k0_t3
  let c2_i32 : BitVec 32 := 2#32
  let v1635 : BitVec 1 := Scalar.cmpi .sge arg31 c2_i32
  let v1636 : BitVec 32 := Scalar.extui v1635
  let c0_i32_678 : BitVec 32 := 0#32
  let v1637 : BitVec 1 := Scalar.cmpi .ne v1636 c0_i32_678
  v1637

def k0_off90 (v1499 : BitVec 32) (v1500 : BitVec 32) (k0_t3 : Fin (k0_t3_loop v1499 v1500).trips) : Fin 1 → Nat :=
  let c1_i32_596 : BitVec 32 := 1#32
  let arg31 : BitVec 32 := Scf.iv v1499 c1_i32_596 k0_t3
  let c2_i32_718 : BitVec 32 := 2#32
  let v1712 : BitVec 32 := Scalar.subi arg31 c2_i32_718
  let c2_i32_726 : BitVec 32 := 2#32
  let c0_i32_727 : BitVec 32 := 0#32
  let v1725 : BitVec 1 := Scalar.cmpi .eq c2_i32_726 c0_i32_727
  let c1_i32_728 : BitVec 32 := 1#32
  let v1726 : BitVec 32 := Scalar.select v1725 c1_i32_728 c2_i32_726
  let v1727 : BitVec 32 := Scalar.remsi v1712 v1726
  let c0_i32_730 : BitVec 32 := 0#32
  let v1729 : BitVec 1 := Scalar.cmpi .slt v1727 c0_i32_730
  let c0_i32_731 : BitVec 32 := 0#32
  let v1730 : BitVec 1 := Scalar.cmpi .slt v1726 c0_i32_731
  let v1731 : BitVec 1 := Scalar.xori v1729 v1730
  let c0_i32_729 : BitVec 32 := 0#32
  let v1728 : BitVec 1 := Scalar.cmpi .ne v1727 c0_i32_729
  let v1732 : BitVec 1 := Scalar.andi v1731 v1728
  let v1733 : BitVec 32 := Scalar.addi v1727 v1726
  let v1734 : BitVec 32 := Scalar.select v1732 v1733 v1727
  ![v1734.toNat]
def k0_off91 (v1499 : BitVec 32) (v1500 : BitVec 32) (k0_t3 : Fin (k0_t3_loop v1499 v1500).trips) : Fin 2 → Nat :=
  let c0_i32_732 : BitVec 32 := 0#32
  let c1_i32_596 : BitVec 32 := 1#32
  let arg31 : BitVec 32 := Scf.iv v1499 c1_i32_596 k0_t3
  let c2_i32_718 : BitVec 32 := 2#32
  let v1712 : BitVec 32 := Scalar.subi arg31 c2_i32_718
  let c256_i32_725 : BitVec 32 := 256#32
  let v1723 : BitVec 32 := Scalar.muli v1712 c256_i32_725
  let v1724 : BitVec 32 := v1723
  ![0, v1724.toNat]
def k0_off92 (v1499 : BitVec 32) (v1500 : BitVec 32) (k0_t3 : Fin (k0_t3_loop v1499 v1500).trips) : Fin 3 → Nat :=
  let c1_i32_596 : BitVec 32 := 1#32
  let arg31 : BitVec 32 := Scf.iv v1499 c1_i32_596 k0_t3
  let c2_i32_718 : BitVec 32 := 2#32
  let v1712 : BitVec 32 := Scalar.subi arg31 c2_i32_718
  let c2_i32_719 : BitVec 32 := 2#32
  let c0_i32_720 : BitVec 32 := 0#32
  let v1713 : BitVec 1 := Scalar.cmpi .eq c2_i32_719 c0_i32_720
  let c1_i32_721 : BitVec 32 := 1#32
  let v1714 : BitVec 32 := Scalar.select v1713 c1_i32_721 c2_i32_719
  let v1715 : BitVec 32 := Scalar.remsi v1712 v1714
  let c0_i32_723 : BitVec 32 := 0#32
  let v1717 : BitVec 1 := Scalar.cmpi .slt v1715 c0_i32_723
  let c0_i32_724 : BitVec 32 := 0#32
  let v1718 : BitVec 1 := Scalar.cmpi .slt v1714 c0_i32_724
  let v1719 : BitVec 1 := Scalar.xori v1717 v1718
  let c0_i32_722 : BitVec 32 := 0#32
  let v1716 : BitVec 1 := Scalar.cmpi .ne v1715 c0_i32_722
  let v1720 : BitVec 1 := Scalar.andi v1719 v1716
  let v1721 : BitVec 32 := Scalar.addi v1715 v1714
  let v1722 : BitVec 32 := Scalar.select v1720 v1721 v1715
  let c0_i32_733 : BitVec 32 := 0#32
  let c0_i32_734 : BitVec 32 := 0#32
  ![v1722.toNat, 0, 0]
def k0_off93 (v1499 : BitVec 32) (v1500 : BitVec 32) (k0_t3 : Fin (k0_t3_loop v1499 v1500).trips) : Fin 3 → Nat :=
  let c1_i32_596 : BitVec 32 := 1#32
  let arg31 : BitVec 32 := Scf.iv v1499 c1_i32_596 k0_t3
  let c2_i32_679 : BitVec 32 := 2#32
  let c0_i32_680 : BitVec 32 := 0#32
  let v1639 : BitVec 1 := Scalar.cmpi .eq c2_i32_679 c0_i32_680
  let c1_i32_681 : BitVec 32 := 1#32
  let v1640 : BitVec 32 := Scalar.select v1639 c1_i32_681 c2_i32_679
  let v1641 : BitVec 32 := Scalar.remsi arg31 v1640
  let c0_i32_683 : BitVec 32 := 0#32
  let v1643 : BitVec 1 := Scalar.cmpi .slt v1641 c0_i32_683
  let c0_i32_684 : BitVec 32 := 0#32
  let v1644 : BitVec 1 := Scalar.cmpi .slt v1640 c0_i32_684
  let v1645 : BitVec 1 := Scalar.xori v1643 v1644
  let c0_i32_682 : BitVec 32 := 0#32
  let v1642 : BitVec 1 := Scalar.cmpi .ne v1641 c0_i32_682
  let v1646 : BitVec 1 := Scalar.andi v1645 v1642
  let v1647 : BitVec 32 := Scalar.addi v1641 v1640
  let v1648 : BitVec 32 := Scalar.select v1646 v1647 v1641
  let v1649 : Index := Scalar.indexCast v1648
  let c0_685 : Index := 0#32
  let c0_686 : Index := 0#32
  ![v1649.toNat, 0, 0]
def k0_mult23 (v1499 : BitVec 32) (v1500 : BitVec 32) (k0_t3 : Fin (k0_t3_loop v1499 v1500).trips) : BitVec 32 :=
  let c1_i32_596 : BitVec 32 := 1#32
  let arg31 : BitVec 32 := Scf.iv v1499 c1_i32_596 k0_t3
  let c256_i32_693 : BitVec 32 := 256#32
  let v1663 : BitVec 32 := Scalar.muli arg31 c256_i32_693
  v1663
def k0_off94 (v1499 : BitVec 32) (v1500 : BitVec 32) (k0_t3 : Fin (k0_t3_loop v1499 v1500).trips) : Fin 1 → Nat :=
  let c1_i32_596 : BitVec 32 := 1#32
  let arg31 : BitVec 32 := Scf.iv v1499 c1_i32_596 k0_t3
  let c2_i32_694 : BitVec 32 := 2#32
  let c0_i32_695 : BitVec 32 := 0#32
  let v1665 : BitVec 1 := Scalar.cmpi .eq c2_i32_694 c0_i32_695
  let c1_i32_696 : BitVec 32 := 1#32
  let v1666 : BitVec 32 := Scalar.select v1665 c1_i32_696 c2_i32_694
  let v1667 : BitVec 32 := Scalar.remsi arg31 v1666
  let c0_i32_698 : BitVec 32 := 0#32
  let v1669 : BitVec 1 := Scalar.cmpi .slt v1667 c0_i32_698
  let c0_i32_699 : BitVec 32 := 0#32
  let v1670 : BitVec 1 := Scalar.cmpi .slt v1666 c0_i32_699
  let v1671 : BitVec 1 := Scalar.xori v1669 v1670
  let c0_i32_697 : BitVec 32 := 0#32
  let v1668 : BitVec 1 := Scalar.cmpi .ne v1667 c0_i32_697
  let v1672 : BitVec 1 := Scalar.andi v1671 v1668
  let v1673 : BitVec 32 := Scalar.addi v1667 v1666
  let v1674 : BitVec 32 := Scalar.select v1672 v1673 v1667
  ![v1674.toNat]
def k0_off95 (v1499 : BitVec 32) (v1500 : BitVec 32) (k0_t3 : Fin (k0_t3_loop v1499 v1500).trips) : Fin 2 → Nat :=
  let c0_i32_700 : BitVec 32 := 0#32
  let c1_i32_596 : BitVec 32 := 1#32
  let arg31 : BitVec 32 := Scf.iv v1499 c1_i32_596 k0_t3
  let c256_i32_693 : BitVec 32 := 256#32
  let v1663 : BitVec 32 := Scalar.muli arg31 c256_i32_693
  let v1664 : BitVec 32 := v1663
  ![0, v1664.toNat]
def k0_off96 (v1499 : BitVec 32) (v1500 : BitVec 32) (k0_t3 : Fin (k0_t3_loop v1499 v1500).trips) : Fin 3 → Nat :=
  let c1_i32_596 : BitVec 32 := 1#32
  let arg31 : BitVec 32 := Scf.iv v1499 c1_i32_596 k0_t3
  let c2_i32_687 : BitVec 32 := 2#32
  let c0_i32_688 : BitVec 32 := 0#32
  let v1653 : BitVec 1 := Scalar.cmpi .eq c2_i32_687 c0_i32_688
  let c1_i32_689 : BitVec 32 := 1#32
  let v1654 : BitVec 32 := Scalar.select v1653 c1_i32_689 c2_i32_687
  let v1655 : BitVec 32 := Scalar.remsi arg31 v1654
  let c0_i32_691 : BitVec 32 := 0#32
  let v1657 : BitVec 1 := Scalar.cmpi .slt v1655 c0_i32_691
  let c0_i32_692 : BitVec 32 := 0#32
  let v1658 : BitVec 1 := Scalar.cmpi .slt v1654 c0_i32_692
  let v1659 : BitVec 1 := Scalar.xori v1657 v1658
  let c0_i32_690 : BitVec 32 := 0#32
  let v1656 : BitVec 1 := Scalar.cmpi .ne v1655 c0_i32_690
  let v1660 : BitVec 1 := Scalar.andi v1659 v1656
  let v1661 : BitVec 32 := Scalar.addi v1655 v1654
  let v1662 : BitVec 32 := Scalar.select v1660 v1661 v1655
  let c0_i32_701 : BitVec 32 := 0#32
  let c0_i32_702 : BitVec 32 := 0#32
  ![v1662.toNat, 0, 0]
def k0_off97 (v1499 : BitVec 32) (v1500 : BitVec 32) (k0_t3 : Fin (k0_t3_loop v1499 v1500).trips) : Fin 3 → Nat :=
  let c2_i32_703 : BitVec 32 := 2#32
  let c1_i32_596 : BitVec 32 := 1#32
  let arg31 : BitVec 32 := Scf.iv v1499 c1_i32_596 k0_t3
  let v1682 : BitVec 32 := Scalar.muli c2_i32_703 arg31
  let v1683 : Index := Scalar.indexCast v1682
  let c0_704 : Index := 0#32
  let c0_705 : Index := 0#32
  ![v1683.toNat, 0, 0]
def k0_off98 (v1499 : BitVec 32) (v1500 : BitVec 32) (k0_t3 : Fin (k0_t3_loop v1499 v1500).trips) : Fin 3 → Nat :=
  let c2_i32_706 : BitVec 32 := 2#32
  let c1_i32_596 : BitVec 32 := 1#32
  let arg31 : BitVec 32 := Scf.iv v1499 c1_i32_596 k0_t3
  let v1687 : BitVec 32 := Scalar.muli c2_i32_706 arg31
  let c1_i32_707 : BitVec 32 := 1#32
  let v1688 : BitVec 32 := Scalar.addi v1687 c1_i32_707
  let v1689 : Index := Scalar.indexCast v1688
  let c0_708 : Index := 0#32
  let c0_709 : Index := 0#32
  ![v1689.toNat, 0, 0]
@[reducible] def k0_t4_loop (v1499 : BitVec 32) (v1500 : BitVec 32) : Scf.Loop 32 :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let v1519 : BitVec 32 := Scalar.addi v1499 v1518
  let c1_i32_597 : BitVec 32 := 1#32
  ⟨v1522, v1519, c1_i32_597⟩
def k0_off99 (v1499 : BitVec 32) (v1500 : BitVec 32) (k0_t4 : Fin (k0_t4_loop v1499 v1500).trips) : Fin 3 → Nat :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c6_i32_662 : BitVec 32 := 6#32
  let c0_i32_663 : BitVec 32 := 0#32
  let v1608 : BitVec 1 := Scalar.cmpi .eq c6_i32_662 c0_i32_663
  let c1_i32_664 : BitVec 32 := 1#32
  let v1609 : BitVec 32 := Scalar.select v1608 c1_i32_664 c6_i32_662
  let v1610 : BitVec 32 := Scalar.remsi arg31 v1609
  let c0_i32_666 : BitVec 32 := 0#32
  let v1612 : BitVec 1 := Scalar.cmpi .slt v1610 c0_i32_666
  let c0_i32_667 : BitVec 32 := 0#32
  let v1613 : BitVec 1 := Scalar.cmpi .slt v1609 c0_i32_667
  let v1614 : BitVec 1 := Scalar.xori v1612 v1613
  let c0_i32_665 : BitVec 32 := 0#32
  let v1611 : BitVec 1 := Scalar.cmpi .ne v1610 c0_i32_665
  let v1615 : BitVec 1 := Scalar.andi v1614 v1611
  let v1616 : BitVec 32 := Scalar.addi v1610 v1609
  let v1617 : BitVec 32 := Scalar.select v1615 v1616 v1610
  let v1620 : Index := Scalar.indexCast v1617
  let c0_670 : Index := 0#32
  let c0_671 : Index := 0#32
  ![v1620.toNat, 0, 0]
def k0_off100 (v1499 : BitVec 32) (v1500 : BitVec 32) (k0_t4 : Fin (k0_t4_loop v1499 v1500).trips) : Fin 3 → Nat :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c6_i32_662 : BitVec 32 := 6#32
  let c0_i32_663 : BitVec 32 := 0#32
  let v1608 : BitVec 1 := Scalar.cmpi .eq c6_i32_662 c0_i32_663
  let c1_i32_664 : BitVec 32 := 1#32
  let v1609 : BitVec 32 := Scalar.select v1608 c1_i32_664 c6_i32_662
  let v1610 : BitVec 32 := Scalar.remsi arg31 v1609
  let c0_i32_666 : BitVec 32 := 0#32
  let v1612 : BitVec 1 := Scalar.cmpi .slt v1610 c0_i32_666
  let c0_i32_667 : BitVec 32 := 0#32
  let v1613 : BitVec 1 := Scalar.cmpi .slt v1609 c0_i32_667
  let v1614 : BitVec 1 := Scalar.xori v1612 v1613
  let c0_i32_665 : BitVec 32 := 0#32
  let v1611 : BitVec 1 := Scalar.cmpi .ne v1610 c0_i32_665
  let v1615 : BitVec 1 := Scalar.andi v1614 v1611
  let v1616 : BitVec 32 := Scalar.addi v1610 v1609
  let v1617 : BitVec 32 := Scalar.select v1615 v1616 v1610
  let v1624 : Index := Scalar.indexCast v1617
  let c0_673 : Index := 0#32
  let c0_674 : Index := 0#32
  ![v1624.toNat, 0, 0]
def k0_mult24 (v1499 : BitVec 32) (v1500 : BitVec 32) (k0_t4 : Fin (k0_t4_loop v1499 v1500).trips) : BitVec 32 :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c2_i32_718 : BitVec 32 := 2#32
  let v1712 : BitVec 32 := Scalar.subi arg31 c2_i32_718
  let c256_i32_725 : BitVec 32 := 256#32
  let v1723 : BitVec 32 := Scalar.muli v1712 c256_i32_725
  v1723
def k0_cond6 (v1499 : BitVec 32) (v1500 : BitVec 32) (k0_t4 : Fin (k0_t4_loop v1499 v1500).trips) : BitVec 1 :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c2_i32 : BitVec 32 := 2#32
  let v1635 : BitVec 1 := Scalar.cmpi .sge arg31 c2_i32
  let v1636 : BitVec 32 := Scalar.extui v1635
  let c0_i32_678 : BitVec 32 := 0#32
  let v1637 : BitVec 1 := Scalar.cmpi .ne v1636 c0_i32_678
  v1637

def k0_off101 (v1499 : BitVec 32) (v1500 : BitVec 32) (k0_t4 : Fin (k0_t4_loop v1499 v1500).trips) : Fin 1 → Nat :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c2_i32_718 : BitVec 32 := 2#32
  let v1712 : BitVec 32 := Scalar.subi arg31 c2_i32_718
  let c2_i32_726 : BitVec 32 := 2#32
  let c0_i32_727 : BitVec 32 := 0#32
  let v1725 : BitVec 1 := Scalar.cmpi .eq c2_i32_726 c0_i32_727
  let c1_i32_728 : BitVec 32 := 1#32
  let v1726 : BitVec 32 := Scalar.select v1725 c1_i32_728 c2_i32_726
  let v1727 : BitVec 32 := Scalar.remsi v1712 v1726
  let c0_i32_730 : BitVec 32 := 0#32
  let v1729 : BitVec 1 := Scalar.cmpi .slt v1727 c0_i32_730
  let c0_i32_731 : BitVec 32 := 0#32
  let v1730 : BitVec 1 := Scalar.cmpi .slt v1726 c0_i32_731
  let v1731 : BitVec 1 := Scalar.xori v1729 v1730
  let c0_i32_729 : BitVec 32 := 0#32
  let v1728 : BitVec 1 := Scalar.cmpi .ne v1727 c0_i32_729
  let v1732 : BitVec 1 := Scalar.andi v1731 v1728
  let v1733 : BitVec 32 := Scalar.addi v1727 v1726
  let v1734 : BitVec 32 := Scalar.select v1732 v1733 v1727
  ![v1734.toNat]
def k0_off102 (v1499 : BitVec 32) (v1500 : BitVec 32) (k0_t4 : Fin (k0_t4_loop v1499 v1500).trips) : Fin 2 → Nat :=
  let c0_i32_732 : BitVec 32 := 0#32
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c2_i32_718 : BitVec 32 := 2#32
  let v1712 : BitVec 32 := Scalar.subi arg31 c2_i32_718
  let c256_i32_725 : BitVec 32 := 256#32
  let v1723 : BitVec 32 := Scalar.muli v1712 c256_i32_725
  let v1724 : BitVec 32 := v1723
  ![0, v1724.toNat]
def k0_off103 (v1499 : BitVec 32) (v1500 : BitVec 32) (k0_t4 : Fin (k0_t4_loop v1499 v1500).trips) : Fin 3 → Nat :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c2_i32_718 : BitVec 32 := 2#32
  let v1712 : BitVec 32 := Scalar.subi arg31 c2_i32_718
  let c2_i32_719 : BitVec 32 := 2#32
  let c0_i32_720 : BitVec 32 := 0#32
  let v1713 : BitVec 1 := Scalar.cmpi .eq c2_i32_719 c0_i32_720
  let c1_i32_721 : BitVec 32 := 1#32
  let v1714 : BitVec 32 := Scalar.select v1713 c1_i32_721 c2_i32_719
  let v1715 : BitVec 32 := Scalar.remsi v1712 v1714
  let c0_i32_723 : BitVec 32 := 0#32
  let v1717 : BitVec 1 := Scalar.cmpi .slt v1715 c0_i32_723
  let c0_i32_724 : BitVec 32 := 0#32
  let v1718 : BitVec 1 := Scalar.cmpi .slt v1714 c0_i32_724
  let v1719 : BitVec 1 := Scalar.xori v1717 v1718
  let c0_i32_722 : BitVec 32 := 0#32
  let v1716 : BitVec 1 := Scalar.cmpi .ne v1715 c0_i32_722
  let v1720 : BitVec 1 := Scalar.andi v1719 v1716
  let v1721 : BitVec 32 := Scalar.addi v1715 v1714
  let v1722 : BitVec 32 := Scalar.select v1720 v1721 v1715
  let c0_i32_733 : BitVec 32 := 0#32
  let c0_i32_734 : BitVec 32 := 0#32
  ![v1722.toNat, 0, 0]
def k0_off104 (v1499 : BitVec 32) (v1500 : BitVec 32) (k0_t4 : Fin (k0_t4_loop v1499 v1500).trips) : Fin 3 → Nat :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c2_i32_679 : BitVec 32 := 2#32
  let c0_i32_680 : BitVec 32 := 0#32
  let v1639 : BitVec 1 := Scalar.cmpi .eq c2_i32_679 c0_i32_680
  let c1_i32_681 : BitVec 32 := 1#32
  let v1640 : BitVec 32 := Scalar.select v1639 c1_i32_681 c2_i32_679
  let v1641 : BitVec 32 := Scalar.remsi arg31 v1640
  let c0_i32_683 : BitVec 32 := 0#32
  let v1643 : BitVec 1 := Scalar.cmpi .slt v1641 c0_i32_683
  let c0_i32_684 : BitVec 32 := 0#32
  let v1644 : BitVec 1 := Scalar.cmpi .slt v1640 c0_i32_684
  let v1645 : BitVec 1 := Scalar.xori v1643 v1644
  let c0_i32_682 : BitVec 32 := 0#32
  let v1642 : BitVec 1 := Scalar.cmpi .ne v1641 c0_i32_682
  let v1646 : BitVec 1 := Scalar.andi v1645 v1642
  let v1647 : BitVec 32 := Scalar.addi v1641 v1640
  let v1648 : BitVec 32 := Scalar.select v1646 v1647 v1641
  let v1649 : Index := Scalar.indexCast v1648
  let c0_685 : Index := 0#32
  let c0_686 : Index := 0#32
  ![v1649.toNat, 0, 0]
def k0_mult25 (v1499 : BitVec 32) (v1500 : BitVec 32) (k0_t4 : Fin (k0_t4_loop v1499 v1500).trips) : BitVec 32 :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c256_i32_693 : BitVec 32 := 256#32
  let v1663 : BitVec 32 := Scalar.muli arg31 c256_i32_693
  v1663
def k0_off105 (v1499 : BitVec 32) (v1500 : BitVec 32) (k0_t4 : Fin (k0_t4_loop v1499 v1500).trips) : Fin 1 → Nat :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c2_i32_694 : BitVec 32 := 2#32
  let c0_i32_695 : BitVec 32 := 0#32
  let v1665 : BitVec 1 := Scalar.cmpi .eq c2_i32_694 c0_i32_695
  let c1_i32_696 : BitVec 32 := 1#32
  let v1666 : BitVec 32 := Scalar.select v1665 c1_i32_696 c2_i32_694
  let v1667 : BitVec 32 := Scalar.remsi arg31 v1666
  let c0_i32_698 : BitVec 32 := 0#32
  let v1669 : BitVec 1 := Scalar.cmpi .slt v1667 c0_i32_698
  let c0_i32_699 : BitVec 32 := 0#32
  let v1670 : BitVec 1 := Scalar.cmpi .slt v1666 c0_i32_699
  let v1671 : BitVec 1 := Scalar.xori v1669 v1670
  let c0_i32_697 : BitVec 32 := 0#32
  let v1668 : BitVec 1 := Scalar.cmpi .ne v1667 c0_i32_697
  let v1672 : BitVec 1 := Scalar.andi v1671 v1668
  let v1673 : BitVec 32 := Scalar.addi v1667 v1666
  let v1674 : BitVec 32 := Scalar.select v1672 v1673 v1667
  ![v1674.toNat]
def k0_off106 (v1499 : BitVec 32) (v1500 : BitVec 32) (k0_t4 : Fin (k0_t4_loop v1499 v1500).trips) : Fin 2 → Nat :=
  let c0_i32_700 : BitVec 32 := 0#32
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c256_i32_693 : BitVec 32 := 256#32
  let v1663 : BitVec 32 := Scalar.muli arg31 c256_i32_693
  let v1664 : BitVec 32 := v1663
  ![0, v1664.toNat]
def k0_off107 (v1499 : BitVec 32) (v1500 : BitVec 32) (k0_t4 : Fin (k0_t4_loop v1499 v1500).trips) : Fin 3 → Nat :=
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let c2_i32_687 : BitVec 32 := 2#32
  let c0_i32_688 : BitVec 32 := 0#32
  let v1653 : BitVec 1 := Scalar.cmpi .eq c2_i32_687 c0_i32_688
  let c1_i32_689 : BitVec 32 := 1#32
  let v1654 : BitVec 32 := Scalar.select v1653 c1_i32_689 c2_i32_687
  let v1655 : BitVec 32 := Scalar.remsi arg31 v1654
  let c0_i32_691 : BitVec 32 := 0#32
  let v1657 : BitVec 1 := Scalar.cmpi .slt v1655 c0_i32_691
  let c0_i32_692 : BitVec 32 := 0#32
  let v1658 : BitVec 1 := Scalar.cmpi .slt v1654 c0_i32_692
  let v1659 : BitVec 1 := Scalar.xori v1657 v1658
  let c0_i32_690 : BitVec 32 := 0#32
  let v1656 : BitVec 1 := Scalar.cmpi .ne v1655 c0_i32_690
  let v1660 : BitVec 1 := Scalar.andi v1659 v1656
  let v1661 : BitVec 32 := Scalar.addi v1655 v1654
  let v1662 : BitVec 32 := Scalar.select v1660 v1661 v1655
  let c0_i32_701 : BitVec 32 := 0#32
  let c0_i32_702 : BitVec 32 := 0#32
  ![v1662.toNat, 0, 0]
def k0_off108 (v1499 : BitVec 32) (v1500 : BitVec 32) (k0_t4 : Fin (k0_t4_loop v1499 v1500).trips) : Fin 3 → Nat :=
  let c2_i32_703 : BitVec 32 := 2#32
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let v1682 : BitVec 32 := Scalar.muli c2_i32_703 arg31
  let v1683 : Index := Scalar.indexCast v1682
  let c0_704 : Index := 0#32
  let c0_705 : Index := 0#32
  ![v1683.toNat, 0, 0]
def k0_off109 (v1499 : BitVec 32) (v1500 : BitVec 32) (k0_t4 : Fin (k0_t4_loop v1499 v1500).trips) : Fin 3 → Nat :=
  let c2_i32_706 : BitVec 32 := 2#32
  let c0_i32_588 : BitVec 32 := 0#32
  let v1502 : BitVec 1 := Scalar.cmpi .sgt v1500 c0_i32_588
  let v1503 : BitVec 32 := Scalar.extui v1502
  let c0_i32_589 : BitVec 32 := 0#32
  let v1504 : BitVec 1 := Scalar.cmpi .slt v1500 c0_i32_589
  let v1505 : BitVec 32 := Scalar.extui v1504
  let v1506 : BitVec 32 := Scalar.subi v1503 v1505
  let c256_i32_587 : BitVec 32 := 256#32
  let c0_i32_590 : BitVec 32 := 0#32
  let v1507 : BitVec 1 := Scalar.cmpi .sgt c256_i32_587 c0_i32_590
  let v1508 : BitVec 32 := Scalar.extui v1507
  let c0_i32_591 : BitVec 32 := 0#32
  let v1509 : BitVec 1 := Scalar.cmpi .slt c256_i32_587 c0_i32_591
  let v1510 : BitVec 32 := Scalar.extui v1509
  let v1511 : BitVec 32 := Scalar.subi v1508 v1510
  let v1512 : BitVec 1 := Scalar.cmpi .ne v1506 v1511
  let v1513 : BitVec 32 := Scalar.remsi v1500 c256_i32_587
  let c0_i32_592 : BitVec 32 := 0#32
  let v1514 : BitVec 1 := Scalar.cmpi .ne v1513 c0_i32_592
  let v1515 : BitVec 1 := Scalar.andi v1512 v1514
  let v1501 : BitVec 32 := Scalar.divsi v1500 c256_i32_587
  let c1_i32_593 : BitVec 32 := 1#32
  let v1516 : BitVec 32 := Scalar.subi v1501 c1_i32_593
  let v1517 : BitVec 32 := Scalar.select v1515 v1516 v1501
  let v1518 : BitVec 32 := Scalar.subi v1517 v1499
  let c1_i32_595 : BitVec 32 := 1#32
  let v1520 : BitVec 32 := Scalar.divsi v1518 c1_i32_595
  let v1521 : BitVec 32 := Scalar.muli v1520 c1_i32_595
  let v1522 : BitVec 32 := Scalar.addi v1499 v1521
  let c1_i32_597 : BitVec 32 := 1#32
  let arg31 : BitVec 32 := Scf.iv v1522 c1_i32_597 k0_t4
  let v1687 : BitVec 32 := Scalar.muli c2_i32_706 arg31
  let c1_i32_707 : BitVec 32 := 1#32
  let v1688 : BitVec 32 := Scalar.addi v1687 c1_i32_707
  let v1689 : Index := Scalar.indexCast v1688
  let c0_708 : Index := 0#32
  let c0_709 : Index := 0#32
  ![v1689.toNat, 0, 0]

def k0_chk10_0 (i : grid0.Coords) (v1499 : BitVec 32) (v1500 : BitVec 32) : Prop :=
  (∀ (k0_h4 : k0_cond4 i = 1#1), (k0_t3_loop v1499 v1500).OK) ∧
  (∀ k0_t3 : Fin (k0_t3_loop v1499 v1500).trips, ∀ (k0_h4 : k0_cond4 i = 1#1), ∀ a, (k0_off88 v1499 v1500 k0_t3) a + S1x2560x256.size a ≤ S6x2560x256.size a) ∧
  (∀ k0_t3 : Fin (k0_t3_loop v1499 v1500).trips, ∀ (k0_h4 : k0_cond4 i = 1#1), ∀ a, (k0_off89 v1499 v1500 k0_t3) a + S1x1x256.size a ≤ S6x8x256.size a) ∧
  (∀ k0_t3 : Fin (k0_t3_loop v1499 v1500).trips, ∀ (k0_h4 : k0_cond4 i = 1#1), ∀ (k0_h5 : k0_cond5 v1499 v1500 k0_t3 = 1#1), 256 ∣ (k0_mult22 v1499 v1500 k0_t3).toNat) ∧
  (∀ k0_t3 : Fin (k0_t3_loop v1499 v1500).trips, ∀ (k0_h4 : k0_cond4 i = 1#1), ∀ (k0_h5 : k0_cond5 v1499 v1500 k0_t3 = 1#1), ∀ a, (k0_off90 v1499 v1500 k0_t3) a + S1.size a ≤ S2.size a) ∧
  (∀ k0_t3 : Fin (k0_t3_loop v1499 v1500).trips, ∀ (k0_h4 : k0_cond4 i = 1#1), ∀ (k0_h5 : k0_cond5 v1499 v1500 k0_t3 = 1#1), ∀ a, (k0_off91 v1499 v1500 k0_t3) a + S192x256.size a ≤ S192x32000.size a) ∧
  (∀ k0_t3 : Fin (k0_t3_loop v1499 v1500).trips, ∀ (k0_h4 : k0_cond4 i = 1#1), ∀ (k0_h5 : k0_cond5 v1499 v1500 k0_t3 = 1#1), ∀ a, (k0_off92 v1499 v1500 k0_t3) a + S1x192x256.size a ≤ S2x192x256.size a) ∧
  (∀ k0_t3 : Fin (k0_t3_loop v1499 v1500).trips, ∀ (k0_h4 : k0_cond4 i = 1#1), ∀ (k0_h5 : k0_cond5 v1499 v1500 k0_t3 = 1#1), ∀ (hinb : ∀ a, (k0_off92 v1499 v1500 k0_t3) a + S1x192x256.size a ≤ S2x192x256.size a), (Rect.unit (s := S2x192x256) (k0_off92 v1499 v1500 k0_t3) S1x192x256.size hinb).WholeWords (EltTy.packing .bf16)) ∧
  (∀ k0_t3 : Fin (k0_t3_loop v1499 v1500).trips, ∀ (k0_h4 : k0_cond4 i = 1#1), ∀ (k0_h5 : k0_cond5 v1499 v1500 k0_t3 = 1#1), ∀ (hinb : ∀ a, (k0_off91 v1499 v1500 k0_t3) a + S192x256.size a ≤ S192x32000.size a), (Rect.unit (s := S192x32000) (k0_off91 v1499 v1500 k0_t3) S192x256.size hinb).WholeWords (EltTy.packing .bf16)) ∧
  (∀ k0_t3 : Fin (k0_t3_loop v1499 v1500).trips, ∀ (k0_h4 : k0_cond4 i = 1#1), ∀ a, (k0_off93 v1499 v1500 k0_t3) a + S1x192x256.size a ≤ S2x192x256.size a) ∧
  (∀ k0_t3 : Fin (k0_t3_loop v1499 v1500).trips, ∀ (k0_h4 : k0_cond4 i = 1#1), ∀ (hinb : ∀ a, (k0_off93 v1499 v1500 k0_t3) a + S1x192x256.size a ≤ S2x192x256.size a), (Rect.unit (s := S2x192x256) (k0_off93 v1499 v1500 k0_t3) S1x192x256.size hinb).PackedRows (EltTy.packing .bf16)) ∧
  (∀ k0_t3 : Fin (k0_t3_loop v1499 v1500).trips, ∀ (k0_h4 : k0_cond4 i = 1#1), 256 ∣ (k0_mult23 v1499 v1500 k0_t3).toNat) ∧
  (∀ k0_t3 : Fin (k0_t3_loop v1499 v1500).trips, ∀ (k0_h4 : k0_cond4 i = 1#1), ∀ a, (k0_off94 v1499 v1500 k0_t3) a + S1.size a ≤ S2.size a) ∧
  (∀ k0_t3 : Fin (k0_t3_loop v1499 v1500).trips, ∀ (k0_h4 : k0_cond4 i = 1#1), ∀ a, (k0_off95 v1499 v1500 k0_t3) a + S192x256.size a ≤ S192x32000.size a) ∧
  (∀ k0_t3 : Fin (k0_t3_loop v1499 v1500).trips, ∀ (k0_h4 : k0_cond4 i = 1#1), ∀ a, (k0_off96 v1499 v1500 k0_t3) a + S1x192x256.size a ≤ S2x192x256.size a) ∧
  (∀ k0_t3 : Fin (k0_t3_loop v1499 v1500).trips, ∀ (k0_h4 : k0_cond4 i = 1#1), ∀ (hinb : ∀ a, (k0_off96 v1499 v1500 k0_t3) a + S1x192x256.size a ≤ S2x192x256.size a), (Rect.unit (s := S2x192x256) (k0_off96 v1499 v1500 k0_t3) S1x192x256.size hinb).WholeWords (EltTy.packing .bf16)) ∧
  (∀ k0_t3 : Fin (k0_t3_loop v1499 v1500).trips, ∀ (k0_h4 : k0_cond4 i = 1#1), ∀ (hinb : ∀ a, (k0_off95 v1499 v1500 k0_t3) a + S192x256.size a ≤ S192x32000.size a), (Rect.unit (s := S192x32000) (k0_off95 v1499 v1500 k0_t3) S192x256.size hinb).WholeWords (EltTy.packing .bf16)) ∧
  (∀ k0_t3 : Fin (k0_t3_loop v1499 v1500).trips, ∀ (k0_h4 : k0_cond4 i = 1#1), ∀ a, (k0_off97 v1499 v1500 k0_t3) a + S1x192x128.size a ≤ S250x192x128.size a) ∧
  (∀ k0_t3 : Fin (k0_t3_loop v1499 v1500).trips, ∀ (k0_h4 : k0_cond4 i = 1#1), ∀ a, (k0_off98 v1499 v1500 k0_t3) a + S1x192x128.size a ≤ S250x192x128.size a) ∧
  (∀ (k0_h4 : k0_cond4 i = 1#1), (k0_t4_loop v1499 v1500).OK) ∧
  (∀ k0_t4 : Fin (k0_t4_loop v1499 v1500).trips, ∀ (k0_h4 : k0_cond4 i = 1#1), ∀ a, (k0_off99 v1499 v1500 k0_t4) a + S1x2560x256.size a ≤ S6x2560x256.size a) ∧
  (∀ k0_t4 : Fin (k0_t4_loop v1499 v1500).trips, ∀ (k0_h4 : k0_cond4 i = 1#1), ∀ a, (k0_off100 v1499 v1500 k0_t4) a + S1x1x256.size a ≤ S6x8x256.size a) ∧
  (∀ k0_t4 : Fin (k0_t4_loop v1499 v1500).trips, ∀ (k0_h4 : k0_cond4 i = 1#1), ∀ (k0_h6 : k0_cond6 v1499 v1500 k0_t4 = 1#1), 256 ∣ (k0_mult24 v1499 v1500 k0_t4).toNat) ∧
  (∀ k0_t4 : Fin (k0_t4_loop v1499 v1500).trips, ∀ (k0_h4 : k0_cond4 i = 1#1), ∀ (k0_h6 : k0_cond6 v1499 v1500 k0_t4 = 1#1), ∀ a, (k0_off101 v1499 v1500 k0_t4) a + S1.size a ≤ S2.size a) ∧
  (∀ k0_t4 : Fin (k0_t4_loop v1499 v1500).trips, ∀ (k0_h4 : k0_cond4 i = 1#1), ∀ (k0_h6 : k0_cond6 v1499 v1500 k0_t4 = 1#1), ∀ a, (k0_off102 v1499 v1500 k0_t4) a + S192x256.size a ≤ S192x32000.size a) ∧
  (∀ k0_t4 : Fin (k0_t4_loop v1499 v1500).trips, ∀ (k0_h4 : k0_cond4 i = 1#1), ∀ (k0_h6 : k0_cond6 v1499 v1500 k0_t4 = 1#1), ∀ a, (k0_off103 v1499 v1500 k0_t4) a + S1x192x256.size a ≤ S2x192x256.size a) ∧
  (∀ k0_t4 : Fin (k0_t4_loop v1499 v1500).trips, ∀ (k0_h4 : k0_cond4 i = 1#1), ∀ (k0_h6 : k0_cond6 v1499 v1500 k0_t4 = 1#1), ∀ (hinb : ∀ a, (k0_off103 v1499 v1500 k0_t4) a + S1x192x256.size a ≤ S2x192x256.size a), (Rect.unit (s := S2x192x256) (k0_off103 v1499 v1500 k0_t4) S1x192x256.size hinb).WholeWords (EltTy.packing .bf16)) ∧
  (∀ k0_t4 : Fin (k0_t4_loop v1499 v1500).trips, ∀ (k0_h4 : k0_cond4 i = 1#1), ∀ (k0_h6 : k0_cond6 v1499 v1500 k0_t4 = 1#1), ∀ (hinb : ∀ a, (k0_off102 v1499 v1500 k0_t4) a + S192x256.size a ≤ S192x32000.size a), (Rect.unit (s := S192x32000) (k0_off102 v1499 v1500 k0_t4) S192x256.size hinb).WholeWords (EltTy.packing .bf16)) ∧
  (∀ k0_t4 : Fin (k0_t4_loop v1499 v1500).trips, ∀ (k0_h4 : k0_cond4 i = 1#1), ∀ a, (k0_off104 v1499 v1500 k0_t4) a + S1x192x256.size a ≤ S2x192x256.size a) ∧
  (∀ k0_t4 : Fin (k0_t4_loop v1499 v1500).trips, ∀ (k0_h4 : k0_cond4 i = 1#1), ∀ (hinb : ∀ a, (k0_off104 v1499 v1500 k0_t4) a + S1x192x256.size a ≤ S2x192x256.size a), (Rect.unit (s := S2x192x256) (k0_off104 v1499 v1500 k0_t4) S1x192x256.size hinb).PackedRows (EltTy.packing .bf16)) ∧
  (∀ k0_t4 : Fin (k0_t4_loop v1499 v1500).trips, ∀ (k0_h4 : k0_cond4 i = 1#1), 256 ∣ (k0_mult25 v1499 v1500 k0_t4).toNat) ∧
  (∀ k0_t4 : Fin (k0_t4_loop v1499 v1500).trips, ∀ (k0_h4 : k0_cond4 i = 1#1), ∀ a, (k0_off105 v1499 v1500 k0_t4) a + S1.size a ≤ S2.size a)
def k0_chk10_1 (i : grid0.Coords) (v1499 : BitVec 32) (v1500 : BitVec 32) : Prop :=
  (∀ k0_t4 : Fin (k0_t4_loop v1499 v1500).trips, ∀ (k0_h4 : k0_cond4 i = 1#1), ∀ a, (k0_off106 v1499 v1500 k0_t4) a + S192x256.size a ≤ S192x32000.size a) ∧
  (∀ k0_t4 : Fin (k0_t4_loop v1499 v1500).trips, ∀ (k0_h4 : k0_cond4 i = 1#1), ∀ a, (k0_off107 v1499 v1500 k0_t4) a + S1x192x256.size a ≤ S2x192x256.size a) ∧
  (∀ k0_t4 : Fin (k0_t4_loop v1499 v1500).trips, ∀ (k0_h4 : k0_cond4 i = 1#1), ∀ (hinb : ∀ a, (k0_off107 v1499 v1500 k0_t4) a + S1x192x256.size a ≤ S2x192x256.size a), (Rect.unit (s := S2x192x256) (k0_off107 v1499 v1500 k0_t4) S1x192x256.size hinb).WholeWords (EltTy.packing .bf16)) ∧
  (∀ k0_t4 : Fin (k0_t4_loop v1499 v1500).trips, ∀ (k0_h4 : k0_cond4 i = 1#1), ∀ (hinb : ∀ a, (k0_off106 v1499 v1500 k0_t4) a + S192x256.size a ≤ S192x32000.size a), (Rect.unit (s := S192x32000) (k0_off106 v1499 v1500 k0_t4) S192x256.size hinb).WholeWords (EltTy.packing .bf16)) ∧
  (∀ k0_t4 : Fin (k0_t4_loop v1499 v1500).trips, ∀ (k0_h4 : k0_cond4 i = 1#1), ∀ a, (k0_off108 v1499 v1500 k0_t4) a + S1x192x128.size a ≤ S250x192x128.size a) ∧
  (∀ k0_t4 : Fin (k0_t4_loop v1499 v1500).trips, ∀ (k0_h4 : k0_cond4 i = 1#1), ∀ a, (k0_off109 v1499 v1500 k0_t4) a + S1x192x128.size a ≤ S250x192x128.size a)
def k0_chk10 (i : grid0.Coords) (v1499 : BitVec 32) (v1500 : BitVec 32) : Prop :=
  k0_chk10_0 i v1499 v1500 ∧
  k0_chk10_1 i v1499 v1500
theorem k0_t3_ok : ∀ (i : grid0.Coords) (v1499 : BitVec 32) (v1500 : BitVec 32) (k0_hw10 : k0_chk10 i v1499 v1500), ∀ (k0_h4 : k0_cond4 i = 1#1), (k0_t3_loop v1499 v1500).OK := fun i v1499 v1500 k0_hw10 k0_h4 => k0_hw10.1.1 k0_h4
theorem k0_off88_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ a, (k0_off88 v1499 v1500 k0_t3) a + S1x2560x256.size a ≤ S6x2560x256.size a := fun i v1499 v1500 k0_hw10 k0_t3 k0_h4 => k0_hw10.1.2.1 k0_t3 k0_h4
theorem k0_off89_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ a, (k0_off89 v1499 v1500 k0_t3) a + S1x1x256.size a ≤ S6x8x256.size a := fun i v1499 v1500 k0_hw10 k0_t3 k0_h4 => k0_hw10.1.2.2.1 k0_t3 k0_h4
theorem k0_mult22_dvd : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ (k0_h5 : k0_cond5 v1499 v1500 k0_t3 = 1#1), 256 ∣ (k0_mult22 v1499 v1500 k0_t3).toNat := fun i v1499 v1500 k0_hw10 k0_t3 k0_h4 k0_h5 => k0_hw10.1.2.2.2.1 k0_t3 k0_h4 k0_h5
theorem k0_off90_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ (k0_h5 : k0_cond5 v1499 v1500 k0_t3 = 1#1), ∀ a, (k0_off90 v1499 v1500 k0_t3) a + S1.size a ≤ S2.size a := fun i v1499 v1500 k0_hw10 k0_t3 k0_h4 k0_h5 => k0_hw10.1.2.2.2.2.1 k0_t3 k0_h4 k0_h5
theorem k0_off91_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ (k0_h5 : k0_cond5 v1499 v1500 k0_t3 = 1#1), ∀ a, (k0_off91 v1499 v1500 k0_t3) a + S192x256.size a ≤ S192x32000.size a := fun i v1499 v1500 k0_hw10 k0_t3 k0_h4 k0_h5 => k0_hw10.1.2.2.2.2.2.1 k0_t3 k0_h4 k0_h5
theorem k0_off92_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ (k0_h5 : k0_cond5 v1499 v1500 k0_t3 = 1#1), ∀ a, (k0_off92 v1499 v1500 k0_t3) a + S1x192x256.size a ≤ S2x192x256.size a := fun i v1499 v1500 k0_hw10 k0_t3 k0_h4 k0_h5 => k0_hw10.1.2.2.2.2.2.2.1 k0_t3 k0_h4 k0_h5
theorem k0_off92_wordsbf16 : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ (k0_h5 : k0_cond5 v1499 v1500 k0_t3 = 1#1), (Rect.unit (s := S2x192x256) (k0_off92 v1499 v1500 k0_t3) S1x192x256.size (k0_off92_inb i v1499 v1500 k0_hw10 k0_t3 k0_h4 k0_h5)).WholeWords (EltTy.packing .bf16) := fun i v1499 v1500 k0_hw10 k0_t3 k0_h4 k0_h5 => k0_hw10.1.2.2.2.2.2.2.2.1 k0_t3 k0_h4 k0_h5 (k0_off92_inb i v1499 v1500 k0_hw10 k0_t3 k0_h4 k0_h5)
theorem k0_off91_wordsbf16 : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ (k0_h5 : k0_cond5 v1499 v1500 k0_t3 = 1#1), (Rect.unit (s := S192x32000) (k0_off91 v1499 v1500 k0_t3) S192x256.size (k0_off91_inb i v1499 v1500 k0_hw10 k0_t3 k0_h4 k0_h5)).WholeWords (EltTy.packing .bf16) := fun i v1499 v1500 k0_hw10 k0_t3 k0_h4 k0_h5 => k0_hw10.1.2.2.2.2.2.2.2.2.1 k0_t3 k0_h4 k0_h5 (k0_off91_inb i v1499 v1500 k0_hw10 k0_t3 k0_h4 k0_h5)
theorem k0_off93_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ a, (k0_off93 v1499 v1500 k0_t3) a + S1x192x256.size a ≤ S2x192x256.size a := fun i v1499 v1500 k0_hw10 k0_t3 k0_h4 => k0_hw10.1.2.2.2.2.2.2.2.2.2.1 k0_t3 k0_h4
theorem k0_off93_packedbf16 : ∀ (i : grid0.Coords) (v1499 : BitVec 32) (v1500 : BitVec 32) (k0_hw10 : k0_chk10 i v1499 v1500) (k0_t3 : Fin (k0_t3_loop v1499 v1500).trips), ∀ (k0_h4 : k0_cond4 i = 1#1), (Rect.unit (s := S2x192x256) (k0_off93 v1499 v1500 k0_t3) S1x192x256.size (k0_off93_inb i v1499 v1500 k0_hw10 k0_t3 k0_h4)).PackedRows (EltTy.packing .bf16) := fun i v1499 v1500 k0_hw10 k0_t3 k0_h4 => k0_hw10.1.2.2.2.2.2.2.2.2.2.2.1 k0_t3 k0_h4 (k0_off93_inb i v1499 v1500 k0_hw10 k0_t3 k0_h4)
theorem k0_mult23_dvd : ∀ (i : grid0.Coords) (v1499 : BitVec 32) (v1500 : BitVec 32) (k0_hw10 : k0_chk10 i v1499 v1500) (k0_t3 : Fin (k0_t3_loop v1499 v1500).trips), ∀ (k0_h4 : k0_cond4 i = 1#1), 256 ∣ (k0_mult23 v1499 v1500 k0_t3).toNat := fun i v1499 v1500 k0_hw10 k0_t3 k0_h4 => k0_hw10.1.2.2.2.2.2.2.2.2.2.2.2.1 k0_t3 k0_h4
theorem k0_off94_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ a, (k0_off94 v1499 v1500 k0_t3) a + S1.size a ≤ S2.size a := fun i v1499 v1500 k0_hw10 k0_t3 k0_h4 => k0_hw10.1.2.2.2.2.2.2.2.2.2.2.2.2.1 k0_t3 k0_h4
theorem k0_off95_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ a, (k0_off95 v1499 v1500 k0_t3) a + S192x256.size a ≤ S192x32000.size a := fun i v1499 v1500 k0_hw10 k0_t3 k0_h4 => k0_hw10.1.2.2.2.2.2.2.2.2.2.2.2.2.2.1 k0_t3 k0_h4
theorem k0_off96_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ a, (k0_off96 v1499 v1500 k0_t3) a + S1x192x256.size a ≤ S2x192x256.size a := fun i v1499 v1500 k0_hw10 k0_t3 k0_h4 => k0_hw10.1.2.2.2.2.2.2.2.2.2.2.2.2.2.2.1 k0_t3 k0_h4
theorem k0_off96_wordsbf16 : ∀ (i : grid0.Coords) (v1499 : BitVec 32) (v1500 : BitVec 32) (k0_hw10 : k0_chk10 i v1499 v1500) (k0_t3 : Fin (k0_t3_loop v1499 v1500).trips), ∀ (k0_h4 : k0_cond4 i = 1#1), (Rect.unit (s := S2x192x256) (k0_off96 v1499 v1500 k0_t3) S1x192x256.size (k0_off96_inb i v1499 v1500 k0_hw10 k0_t3 k0_h4)).WholeWords (EltTy.packing .bf16) := fun i v1499 v1500 k0_hw10 k0_t3 k0_h4 => k0_hw10.1.2.2.2.2.2.2.2.2.2.2.2.2.2.2.2.1 k0_t3 k0_h4 (k0_off96_inb i v1499 v1500 k0_hw10 k0_t3 k0_h4)
theorem k0_off95_wordsbf16 : ∀ (i : grid0.Coords) (v1499 : BitVec 32) (v1500 : BitVec 32) (k0_hw10 : k0_chk10 i v1499 v1500) (k0_t3 : Fin (k0_t3_loop v1499 v1500).trips), ∀ (k0_h4 : k0_cond4 i = 1#1), (Rect.unit (s := S192x32000) (k0_off95 v1499 v1500 k0_t3) S192x256.size (k0_off95_inb i v1499 v1500 k0_hw10 k0_t3 k0_h4)).WholeWords (EltTy.packing .bf16) := fun i v1499 v1500 k0_hw10 k0_t3 k0_h4 => k0_hw10.1.2.2.2.2.2.2.2.2.2.2.2.2.2.2.2.2.1 k0_t3 k0_h4 (k0_off95_inb i v1499 v1500 k0_hw10 k0_t3 k0_h4)
theorem k0_off97_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ a, (k0_off97 v1499 v1500 k0_t3) a + S1x192x128.size a ≤ S250x192x128.size a := fun i v1499 v1500 k0_hw10 k0_t3 k0_h4 => k0_hw10.1.2.2.2.2.2.2.2.2.2.2.2.2.2.2.2.2.2.1 k0_t3 k0_h4
theorem k0_off98_inb : ∀ (i : grid0.Coords) (v1499 : BitVec 32) (v1500 : BitVec 32) (k0_hw10 : k0_chk10 i v1499 v1500) (k0_t3 : Fin (k0_t3_loop v1499 v1500).trips), ∀ (k0_h4 : k0_cond4 i = 1#1), ∀ a, (k0_off98 v1499 v1500 k0_t3) a + S1x192x128.size a ≤ S250x192x128.size a := fun i v1499 v1500 k0_hw10 k0_t3 k0_h4 => k0_hw10.1.2.2.2.2.2.2.2.2.2.2.2.2.2.2.2.2.2.2.1 k0_t3 k0_h4
theorem k0_t4_ok : ∀ (i : grid0.Coords) (v1499 : BitVec 32) (v1500 : BitVec 32) (k0_hw10 : k0_chk10 i v1499 v1500), ∀ (k0_h4 : k0_cond4 i = 1#1), (k0_t4_loop v1499 v1500).OK := fun i v1499 v1500 k0_hw10 k0_h4 => k0_hw10.1.2.2.2.2.2.2.2.2.2.2.2.2.2.2.2.2.2.2.2.1 k0_h4
theorem k0_off99_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ a, (k0_off99 v1499 v1500 k0_t4) a + S1x2560x256.size a ≤ S6x2560x256.size a := fun i v1499 v1500 k0_hw10 k0_t4 k0_h4 => k0_hw10.1.2.2.2.2.2.2.2.2.2.2.2.2.2.2.2.2.2.2.2.2.1 k0_t4 k0_h4
theorem k0_off100_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ a, (k0_off100 v1499 v1500 k0_t4) a + S1x1x256.size a ≤ S6x8x256.size a := fun i v1499 v1500 k0_hw10 k0_t4 k0_h4 => k0_hw10.1.2.2.2.2.2.2.2.2.2.2.2.2.2.2.2.2.2.2.2.2.2.1 k0_t4 k0_h4
theorem k0_mult24_dvd : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ (k0_h6 : k0_cond6 v1499 v1500 k0_t4 = 1#1), 256 ∣ (k0_mult24 v1499 v1500 k0_t4).toNat := fun i v1499 v1500 k0_hw10 k0_t4 k0_h4 k0_h6 => k0_hw10.1.2.2.2.2.2.2.2.2.2.2.2.2.2.2.2.2.2.2.2.2.2.2.1 k0_t4 k0_h4 k0_h6
theorem k0_off101_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ (k0_h6 : k0_cond6 v1499 v1500 k0_t4 = 1#1), ∀ a, (k0_off101 v1499 v1500 k0_t4) a + S1.size a ≤ S2.size a := fun i v1499 v1500 k0_hw10 k0_t4 k0_h4 k0_h6 => k0_hw10.1.2.2.2.2.2.2.2.2.2.2.2.2.2.2.2.2.2.2.2.2.2.2.2.1 k0_t4 k0_h4 k0_h6
theorem k0_off102_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ (k0_h6 : k0_cond6 v1499 v1500 k0_t4 = 1#1), ∀ a, (k0_off102 v1499 v1500 k0_t4) a + S192x256.size a ≤ S192x32000.size a := fun i v1499 v1500 k0_hw10 k0_t4 k0_h4 k0_h6 => k0_hw10.1.2.2.2.2.2.2.2.2.2.2.2.2.2.2.2.2.2.2.2.2.2.2.2.2.1 k0_t4 k0_h4 k0_h6
theorem k0_off103_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ (k0_h6 : k0_cond6 v1499 v1500 k0_t4 = 1#1), ∀ a, (k0_off103 v1499 v1500 k0_t4) a + S1x192x256.size a ≤ S2x192x256.size a := fun i v1499 v1500 k0_hw10 k0_t4 k0_h4 k0_h6 => k0_hw10.1.2.2.2.2.2.2.2.2.2.2.2.2.2.2.2.2.2.2.2.2.2.2.2.2.2.1 k0_t4 k0_h4 k0_h6
theorem k0_off103_wordsbf16 : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ (k0_h6 : k0_cond6 v1499 v1500 k0_t4 = 1#1), (Rect.unit (s := S2x192x256) (k0_off103 v1499 v1500 k0_t4) S1x192x256.size (k0_off103_inb i v1499 v1500 k0_hw10 k0_t4 k0_h4 k0_h6)).WholeWords (EltTy.packing .bf16) := fun i v1499 v1500 k0_hw10 k0_t4 k0_h4 k0_h6 => k0_hw10.1.2.2.2.2.2.2.2.2.2.2.2.2.2.2.2.2.2.2.2.2.2.2.2.2.2.2.1 k0_t4 k0_h4 k0_h6 (k0_off103_inb i v1499 v1500 k0_hw10 k0_t4 k0_h4 k0_h6)
theorem k0_off102_wordsbf16 : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ (k0_h6 : k0_cond6 v1499 v1500 k0_t4 = 1#1), (Rect.unit (s := S192x32000) (k0_off102 v1499 v1500 k0_t4) S192x256.size (k0_off102_inb i v1499 v1500 k0_hw10 k0_t4 k0_h4 k0_h6)).WholeWords (EltTy.packing .bf16) := fun i v1499 v1500 k0_hw10 k0_t4 k0_h4 k0_h6 => k0_hw10.1.2.2.2.2.2.2.2.2.2.2.2.2.2.2.2.2.2.2.2.2.2.2.2.2.2.2.2.1 k0_t4 k0_h4 k0_h6 (k0_off102_inb i v1499 v1500 k0_hw10 k0_t4 k0_h4 k0_h6)
theorem k0_off104_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ a, (k0_off104 v1499 v1500 k0_t4) a + S1x192x256.size a ≤ S2x192x256.size a := fun i v1499 v1500 k0_hw10 k0_t4 k0_h4 => k0_hw10.1.2.2.2.2.2.2.2.2.2.2.2.2.2.2.2.2.2.2.2.2.2.2.2.2.2.2.2.2.1 k0_t4 k0_h4
theorem k0_off104_packedbf16 : ∀ (i : grid0.Coords) (v1499 : BitVec 32) (v1500 : BitVec 32) (k0_hw10 : k0_chk10 i v1499 v1500) (k0_t4 : Fin (k0_t4_loop v1499 v1500).trips), ∀ (k0_h4 : k0_cond4 i = 1#1), (Rect.unit (s := S2x192x256) (k0_off104 v1499 v1500 k0_t4) S1x192x256.size (k0_off104_inb i v1499 v1500 k0_hw10 k0_t4 k0_h4)).PackedRows (EltTy.packing .bf16) := fun i v1499 v1500 k0_hw10 k0_t4 k0_h4 => k0_hw10.1.2.2.2.2.2.2.2.2.2.2.2.2.2.2.2.2.2.2.2.2.2.2.2.2.2.2.2.2.2.1 k0_t4 k0_h4 (k0_off104_inb i v1499 v1500 k0_hw10 k0_t4 k0_h4)
theorem k0_mult25_dvd : ∀ (i : grid0.Coords) (v1499 : BitVec 32) (v1500 : BitVec 32) (k0_hw10 : k0_chk10 i v1499 v1500) (k0_t4 : Fin (k0_t4_loop v1499 v1500).trips), ∀ (k0_h4 : k0_cond4 i = 1#1), 256 ∣ (k0_mult25 v1499 v1500 k0_t4).toNat := fun i v1499 v1500 k0_hw10 k0_t4 k0_h4 => k0_hw10.1.2.2.2.2.2.2.2.2.2.2.2.2.2.2.2.2.2.2.2.2.2.2.2.2.2.2.2.2.2.2.1 k0_t4 k0_h4
theorem k0_off105_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ a, (k0_off105 v1499 v1500 k0_t4) a + S1.size a ≤ S2.size a := fun i v1499 v1500 k0_hw10 k0_t4 k0_h4 => k0_hw10.1.2.2.2.2.2.2.2.2.2.2.2.2.2.2.2.2.2.2.2.2.2.2.2.2.2.2.2.2.2.2.2 k0_t4 k0_h4
theorem k0_off106_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ a, (k0_off106 v1499 v1500 k0_t4) a + S192x256.size a ≤ S192x32000.size a := fun i v1499 v1500 k0_hw10 k0_t4 k0_h4 => k0_hw10.2.1 k0_t4 k0_h4
theorem k0_off107_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ a, (k0_off107 v1499 v1500 k0_t4) a + S1x192x256.size a ≤ S2x192x256.size a := fun i v1499 v1500 k0_hw10 k0_t4 k0_h4 => k0_hw10.2.2.1 k0_t4 k0_h4
theorem k0_off107_wordsbf16 : ∀ (i : grid0.Coords) (v1499 : BitVec 32) (v1500 : BitVec 32) (k0_hw10 : k0_chk10 i v1499 v1500) (k0_t4 : Fin (k0_t4_loop v1499 v1500).trips), ∀ (k0_h4 : k0_cond4 i = 1#1), (Rect.unit (s := S2x192x256) (k0_off107 v1499 v1500 k0_t4) S1x192x256.size (k0_off107_inb i v1499 v1500 k0_hw10 k0_t4 k0_h4)).WholeWords (EltTy.packing .bf16) := fun i v1499 v1500 k0_hw10 k0_t4 k0_h4 => k0_hw10.2.2.2.1 k0_t4 k0_h4 (k0_off107_inb i v1499 v1500 k0_hw10 k0_t4 k0_h4)
theorem k0_off106_wordsbf16 : ∀ (i : grid0.Coords) (v1499 : BitVec 32) (v1500 : BitVec 32) (k0_hw10 : k0_chk10 i v1499 v1500) (k0_t4 : Fin (k0_t4_loop v1499 v1500).trips), ∀ (k0_h4 : k0_cond4 i = 1#1), (Rect.unit (s := S192x32000) (k0_off106 v1499 v1500 k0_t4) S192x256.size (k0_off106_inb i v1499 v1500 k0_hw10 k0_t4 k0_h4)).WholeWords (EltTy.packing .bf16) := fun i v1499 v1500 k0_hw10 k0_t4 k0_h4 => k0_hw10.2.2.2.2.1 k0_t4 k0_h4 (k0_off106_inb i v1499 v1500 k0_hw10 k0_t4 k0_h4)
theorem k0_off108_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ a, (k0_off108 v1499 v1500 k0_t4) a + S1x192x128.size a ≤ S250x192x128.size a := fun i v1499 v1500 k0_hw10 k0_t4 k0_h4 => k0_hw10.2.2.2.2.2.1 k0_t4 k0_h4
theorem k0_off109_inb : ∀ (i : grid0.Coords) (v1499 : BitVec 32) (v1500 : BitVec 32) (k0_hw10 : k0_chk10 i v1499 v1500) (k0_t4 : Fin (k0_t4_loop v1499 v1500).trips), ∀ (k0_h4 : k0_cond4 i = 1#1), ∀ a, (k0_off109 v1499 v1500 k0_t4) a + S1x192x128.size a ≤ S250x192x128.size a := fun i v1499 v1500 k0_hw10 k0_t4 k0_h4 => k0_hw10.2.2.2.2.2.2 k0_t4 k0_h4

def k0_mult26 : BitVec 32 :=
  let c31488_i32 : BitVec 32 := 31488#32
  c31488_i32
def k0_mult27 : BitVec 32 :=
  let c31744_i32 : BitVec 32 := 31744#32
  c31744_i32
@[reducible] def k0_t5_loop : Scf.Loop 32 :=
  let c0_i32_634 : BitVec 32 := 0#32
  let c250_i32_635 : BitVec 32 := 250#32
  let v1581 : BitVec 32 := Scalar.addi c0_i32_634 c250_i32_635
  let c1_i32_636 : BitVec 32 := 1#32
  ⟨c0_i32_634, v1581, c1_i32_636⟩
def k0_off110 (k0_t5 : Fin k0_t5_loop.trips) : Fin 3 → Nat :=
  let c0_i32_634 : BitVec 32 := 0#32
  let c1_i32_636 : BitVec 32 := 1#32
  let arg31 : BitVec 32 := Scf.iv c0_i32_634 c1_i32_636 k0_t5
  let v1609 : Index := Scalar.indexCast arg31
  let c0_664 : Index := 0#32
  let c0_665 : Index := 0#32
  ![v1609.toNat, 0, 0]
def k0_off111 (k0_t5 : Fin k0_t5_loop.trips) : Fin 3 → Nat :=
  let c0_i32_634 : BitVec 32 := 0#32
  let c1_i32_636 : BitVec 32 := 1#32
  let arg31 : BitVec 32 := Scf.iv c0_i32_634 c1_i32_636 k0_t5
  let v1614 : Index := Scalar.indexCast arg31
  let c0_668 : Index := 0#32
  let c0_669 : Index := 0#32
  ![v1614.toNat, 0, 0]
@[reducible] def k0_t6_loop : Scf.Loop 32 :=
  let c0_i32_644 : BitVec 32 := 0#32
  let c192_i32 : BitVec 32 := 192#32
  let v1588 : BitVec 32 := Scalar.addi c0_i32_644 c192_i32
  let c1_i32_645 : BitVec 32 := 1#32
  ⟨c0_i32_644, v1588, c1_i32_645⟩
def k0_off112 (k0_t6 : Fin k0_t6_loop.trips) : Fin 1 → Nat :=
  let c0_i32_644 : BitVec 32 := 0#32
  let c1_i32_645 : BitVec 32 := 1#32
  let arg31 : BitVec 32 := Scf.iv c0_i32_644 c1_i32_645 k0_t6
  let v1608 : Index := Scalar.indexCast arg31
  ![v1608.toNat]
def k0_off113 (k0_t6 : Fin k0_t6_loop.trips) (v1609 : BitVec 32) : Fin 3 → Nat :=
  let c7_i32_662 : BitVec 32 := 7#32
  let v1610 : BitVec 32 := Scalar.shrsi v1609 c7_i32_662
  let v1611 : Index := Scalar.indexCast v1610
  let c0_i32_644 : BitVec 32 := 0#32
  let c1_i32_645 : BitVec 32 := 1#32
  let arg31 : BitVec 32 := Scf.iv c0_i32_644 c1_i32_645 k0_t6
  let v1612 : Index := Scalar.indexCast arg31
  let c0_663 : Index := 0#32
  ![v1611.toNat, v1612.toNat, 0]

def k0_off114 (k0_t6 : Fin k0_t6_loop.trips) : Fin 2 → Nat :=
  let c0_i32_644 : BitVec 32 := 0#32
  let c1_i32_645 : BitVec 32 := 1#32
  let arg31 : BitVec 32 := Scf.iv c0_i32_644 c1_i32_645 k0_t6
  let v1615 : Index := Scalar.indexCast arg31
  let c0_664 : Index := 0#32
  ![v1615.toNat, 0]
def k0_off115 (k0_t6 : Fin k0_t6_loop.trips) (v1609 : BitVec 32) : Fin 3 → Nat :=
  let c7_i32_662 : BitVec 32 := 7#32
  let v1610 : BitVec 32 := Scalar.shrsi v1609 c7_i32_662
  let v1619 : Index := Scalar.indexCast v1610
  let c0_i32_644 : BitVec 32 := 0#32
  let c1_i32_645 : BitVec 32 := 1#32
  let arg31 : BitVec 32 := Scf.iv c0_i32_644 c1_i32_645 k0_t6
  let v1620 : Index := Scalar.indexCast arg31
  let c0_665 : Index := 0#32
  ![v1619.toNat, v1620.toNat, 0]

def k0_chk11 (i : grid0.Coords) (k0_t6 : Fin k0_t6_loop.trips) (v1609 : BitVec 32) : Prop :=
  (∀ (k0_h4 : k0_cond4 i = 1#1), ∀ a, (k0_off113 k0_t6 v1609) a + S1x1x128.size a ≤ S251x192x128.size a) ∧
  (∀ (k0_h4 : k0_cond4 i = 1#1), ∀ a, (k0_off115 k0_t6 v1609) a + S1x1x128.size a ≤ S250x192x128.size a)
theorem k0_off113_inb : ∀ (i : grid0.Coords) (k0_t6 : Fin k0_t6_loop.trips) (v1609 : BitVec 32) (k0_hw11 : k0_chk11 i k0_t6 v1609), ∀ (k0_h4 : k0_cond4 i = 1#1), ∀ a, (k0_off113 k0_t6 v1609) a + S1x1x128.size a ≤ S251x192x128.size a := fun i k0_t6 v1609 k0_hw11 k0_h4 => k0_hw11.1 k0_h4
theorem k0_off115_inb : ∀ (i : grid0.Coords) (k0_t6 : Fin k0_t6_loop.trips) (v1609 : BitVec 32) (k0_hw11 : k0_chk11 i k0_t6 v1609), ∀ (k0_h4 : k0_cond4 i = 1#1), ∀ a, (k0_off115 k0_t6 v1609) a + S1x1x128.size a ≤ S250x192x128.size a := fun i k0_t6 v1609 k0_hw11 k0_h4 => k0_hw11.2 k0_h4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S240x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S240x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S272x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2560x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S240x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S192x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S240x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S192x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "inv_temp" => some ((10 / 7 : ℝ) : EReal)
  | "temp" => some ((7 / 10 : ℝ) : EReal)
  | _ => none
-- ==== ReferenceIdeal.lean ====
abbrev S48x5x2560 : Shape := ⟨3, ![48, 5, 2560]⟩
abbrev S48x5 : Shape := ⟨2, ![48, 5]⟩
abbrev S2560x151936 : Shape := ⟨2, ![2560, 151936]⟩
abbrev S151936 : Shape := ⟨1, ![151936]⟩
abbrev S48x4x2560 : Shape := ⟨3, ![48, 4, 2560]⟩
abbrev S48x4 : Shape := ⟨2, ![48, 4]⟩
abbrev S32000 : Shape := ⟨1, ![32000]⟩
abbrev S5x48x2560 : Shape := ⟨3, ![5, 48, 2560]⟩
abbrev S240x2560 : Shape := ⟨2, ![240, 2560]⟩
abbrev S5x48 : Shape := ⟨2, ![5, 48]⟩
abbrev S240x1 : Shape := ⟨2, ![240, 1]⟩
abbrev S1x151936 : Shape := ⟨2, ![1, 151936]⟩
abbrev S240x151936 : Shape := ⟨2, ![240, 151936]⟩

abbrev nBuf : Space → Nat
  | .hbm => 14
  | .vmem => 5
  | .smem => 0
  | _ => 0

abbrev bufTy : (tb : Table) → Fin (tcTables nBuf tb) → BufTy
  | .hbm, ⟨0, _⟩ => ⟨S48x5x2560, .fp8e4m3⟩
  | .hbm, ⟨1, _⟩ => ⟨S48x5, .f32⟩
  | .hbm, ⟨2, _⟩ => ⟨S2560x151936, .fp8e4m3⟩
  | .hbm, ⟨3, _⟩ => ⟨S151936, .f32⟩
  | .hbm, ⟨4, _⟩ => ⟨S48x4x2560, .fp8e4m3⟩
  | .hbm, ⟨5, _⟩ => ⟨S48x4, .f32⟩
  | .hbm, ⟨6, _⟩ => ⟨S32000, .i32⟩
  | .hbm, ⟨7, _⟩ => ⟨S48x4, .i32⟩
  | .hbm, ⟨8, _⟩ => ⟨S5x48x2560, .fp8e4m3⟩
  | .hbm, ⟨9, _⟩ => ⟨S240x2560, .fp8e4m3⟩
  | .hbm, ⟨10, _⟩ => ⟨S5x48, .f32⟩
  | .hbm, ⟨11, _⟩ => ⟨S240x1, .f32⟩
  | .hbm, ⟨12, _⟩ => ⟨S1x151936, .f32⟩
  | .hbm, ⟨13, _⟩ => ⟨S240x151936, .bf16⟩
  | .local _ .vmem, ⟨0, _⟩ => ⟨S240x2560, .fp8e4m3⟩
  | .local _ .vmem, ⟨1, _⟩ => ⟨S240x1, .f32⟩
  | .local _ .vmem, ⟨2, _⟩ => ⟨S2560x151936, .fp8e4m3⟩
  | .local _ .vmem, ⟨3, _⟩ => ⟨S1x151936, .f32⟩
  | .local _ .vmem, ⟨4, _⟩ => ⟨S240x151936, .bf16⟩
  | _, _ => ⟨S48x5x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "inv_temp" => some ((10 / 7 : ℝ) : EReal)
  | "temp" => some ((7 / 10 : ℝ) : EReal)
  | _ => none

abbrev grid0 : Pipeline.Grid := .none

abbrev stage0_0 : Fin 1 → Memref sig .tc .vmem S240x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x151936 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x151936 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S240x151936 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelChecks.lean ====
module

public import proofs.«01_k».proof.Proof.Gen.Kernel.Skeleton
public import Idealize.ShloMosaic.Lib.Affine
public import Idealize.ShloMosaic.Lib.WordCmp
public import Idealize.ShloMosaic.Lib.Tactic

@[expose] public section

set_option maxRecDepth 16384

/-! The kernel's run-time checks from the two counters' ranges: `n` gathered draft tokens, at most 32000, and `a` column
pairs of draft logits already written, at most `n / 256`. -/

namespace Cert.Kernel.Hand

open Cert.Kernel Cert.Kernel.Gen
open Idealize.ShloMosaic
open Affine

theorem isInt_ofNat {n : ℕ} (h : n < 2 ^ 31) : IsInt (BitVec.ofNat 32 n) (n : ℤ) := ofNat (e := n) n ⟨rfl, h⟩

theorem toInt_of_isInt {x : BitVec 32} {e : ℤ} (h : IsInt x e) : x.toInt = e := by delta Affine.IsInt at h; exact h

theorem eq_of_isInt {x : BitVec 32} {n : ℕ} (h : IsInt x (n : ℤ)) (hn : n < 2 ^ 31) : x = BitVec.ofNat 32 n := by
  exact BitVec.eq_of_toInt_eq ((toInt_of_isInt h).trans (toInt_of_isInt (isInt_ofNat hn)).symm)

/-- The word the kernel computes for `⌊v / 256⌋`. -/
abbrev floor256 (v : BitVec 32) : BitVec 32 :=
  Scalar.select (Scalar.andi
      (Scalar.cmpi .ne (Scalar.subi (Scalar.extui (Scalar.cmpi .sgt v 0#32)) (Scalar.extui (Scalar.cmpi .slt v 0#32)) : BitVec 32)
        (Scalar.subi (Scalar.extui (Scalar.cmpi .sgt 256#32 (0#32 : BitVec 32))) (Scalar.extui (Scalar.cmpi .slt 256#32 (0#32 : BitVec 32)))))
      (Scalar.cmpi .ne (Scalar.remsi v 256#32) 0#32))
    (Scalar.subi (Scalar.divsi v 256#32) 1#32) (Scalar.divsi v 256#32)

theorem floor256_eq {n : ℕ} (hn : n ≤ 32000) : floor256 (BitVec.ofNat 32 n) = BitVec.ofNat 32 (n / 256) := by
  have hd : Scalar.divsi (BitVec.ofNat 32 n) 256#32 = BitVec.ofNat 32 (n / 256) :=
    eq_of_isInt (divsi (e := (n / 256 : ℕ)) (isInt_ofNat (by omega)) (ofNat (e := 256) 256 ⟨rfl, by decide⟩) ⟨by push_cast; rfl, by omega, by omega⟩) (by omega)
  unfold floor256
  rw [hd]
  rcases Nat.eq_zero_or_pos n with rfl | hp
  · decide
  · have h1 : Scalar.cmpi .sgt (BitVec.ofNat 32 n) 0#32 = 1#1 := sgt_holds (isInt_ofNat (by omega)) (ofNat (e := 0) 0 ⟨rfl, by decide⟩) (by omega)
    have h2 : Scalar.cmpi .slt (BitVec.ofNat 32 n) 0#32 = 0#1 := by
      have h := slt_fails (isInt_ofNat (n := n) (by omega)) (ofNat (e := 0) 0 ⟨rfl, by decide⟩) (by omega)
      generalize Scalar.cmpi .slt (BitVec.ofNat 32 n) 0#32 = c at h
      have : ∀ c : BitVec 1, ¬c = 1#1 → c = 0#1 := by decide
      exact this c h
    rw [h1, h2]
    rw [show Scalar.cmpi .ne (Scalar.subi (Scalar.extui 1#1) (Scalar.extui 0#1) : BitVec 32)
        (Scalar.subi (Scalar.extui (Scalar.cmpi .sgt 256#32 (0#32 : BitVec 32))) (Scalar.extui (Scalar.cmpi .slt 256#32 (0#32 : BitVec 32)))) = 0#1 from by decide]
    generalize Scalar.cmpi .ne (Scalar.remsi (BitVec.ofNat 32 n) 256#32) 0#32 = c
    have : Scalar.andi 0#1 c = 0#1 := by revert c; decide
    rw [this]; rfl

section Loop
variable {a n : ℕ}

theorem sub_word (h : a ≤ n) (hn : n < 2 ^ 31) : Scalar.subi (BitVec.ofNat 32 n) (BitVec.ofNat 32 a) = BitVec.ofNat 32 (n - a) :=
  eq_of_isInt (subi (e := (n - a : ℕ)) (isInt_ofNat hn) (isInt_ofNat (by omega)) ⟨by omega, by omega, by omega⟩) (by omega)

theorem whole_word (h : n < 2 ^ 31) : Scalar.muli (Scalar.divsi (BitVec.ofNat 32 n) 1#32) 1#32 = BitVec.ofNat 32 n :=
  eq_of_isInt (muli (e := n) (divsi_one (e := n) (isInt_ofNat h) (ofNat (e := 1) 1 ⟨rfl, by decide⟩) ⟨rfl, rfl⟩)
    (ofNat (e := 1) 1 ⟨rfl, by decide⟩) ⟨by omega, by omega, by omega⟩) h

theorem add_word (h : a + n < 2 ^ 31) : Scalar.addi (BitVec.ofNat 32 a) (BitVec.ofNat 32 n) = BitVec.ofNat 32 (a + n) :=
  eq_of_isInt (addi (e := (a + n : ℕ)) (isInt_ofNat (by omega)) (isInt_ofNat (by omega)) ⟨by push_cast; rfl, by omega, by omega⟩) h

theorem loop1_eq (hn : n ≤ 32000) (ha : a ≤ n / 256) :
    k0_t1_loop (BitVec.ofNat 32 a) (BitVec.ofNat 32 n) = ⟨BitVec.ofNat 32 a, BitVec.ofNat 32 (n / 256), 1#32⟩ := by
  show (⟨BitVec.ofNat 32 a, Scalar.addi (BitVec.ofNat 32 a) (Scalar.muli (Scalar.divsi (Scalar.subi (floor256 (BitVec.ofNat 32 n)) (BitVec.ofNat 32 a)) 1#32) 1#32), 1#32⟩ : Scf.Loop 32) = _
  rw [floor256_eq hn, sub_word ha (by omega), whole_word (by omega), add_word (by omega), Nat.add_sub_cancel' ha]

theorem loop2_eq (hn : n ≤ 32000) (ha : a ≤ n / 256) :
    k0_t2_loop (BitVec.ofNat 32 a) (BitVec.ofNat 32 n) = ⟨BitVec.ofNat 32 (n / 256), BitVec.ofNat 32 (n / 256), 1#32⟩ := by
  show (⟨Scalar.addi (BitVec.ofNat 32 a) (Scalar.muli (Scalar.divsi (Scalar.subi (floor256 (BitVec.ofNat 32 n)) (BitVec.ofNat 32 a)) 1#32) 1#32),
    Scalar.addi (BitVec.ofNat 32 a) (Scalar.subi (floor256 (BitVec.ofNat 32 n)) (BitVec.ofNat 32 a)), 1#32⟩ : Scf.Loop 32) = _
  rw [floor256_eq hn, sub_word ha (by omega), whole_word (by omega), add_word (by omega), Nat.add_sub_cancel' ha]

theorem trips_ofNat (a q : ℕ) (h : a ≤ q) (hq : q < 2 ^ 31) : Scf.trips (BitVec.ofNat 32 a) (BitVec.ofNat 32 q) 1#32 = q - a := by
  have ha := toInt_of_isInt (isInt_ofNat (n := a) (by omega)); have hb := toInt_of_isInt (isInt_ofNat hq)
  unfold Scf.trips; rw [ha, hb]; simp

/-- The draft loop runs once for each pair of column tiles the gathered tokens fill and no earlier step has written; -/
theorem trips1_eq (hn : n ≤ 32000) (ha : a ≤ n / 256) : (k0_t1_loop (BitVec.ofNat 32 a) (BitVec.ofNat 32 n)).trips = n / 256 - a := by
  rw [loop1_eq hn ha]; exact trips_ofNat a _ ha (by omega)
/-- its remainder loop never. -/
theorem trips2_eq (hn : n ≤ 32000) (ha : a ≤ n / 256) : (k0_t2_loop (BitVec.ofNat 32 a) (BitVec.ofNat 32 n)).trips = 0 := by
  rw [loop2_eq hn ha]; exact (trips_ofNat _ _ le_rfl (by omega)).trans (by omega)

theorem iv_word (d k : ℕ) : Scf.iv (BitVec.ofNat 32 d) 1#32 k = BitVec.ofNat 32 (d + k) := by
  unfold Scf.iv; rw [BitVec.mul_one, BitVec.ofNat_add]

end Loop

section Forms
variable (a n : ℕ) (k : Fin (k0_t1_loop (BitVec.ofNat 32 a) (BitVec.ofNat 32 n)).trips) (hk : a + k.val < 125)
include hk

theorem off1_eq : k0_off1 (BitVec.ofNat 32 a) (BitVec.ofNat 32 n) k = ![(a + k.val) % 6, 0, 0] := by
  simp only [k0_off1, iv_word]; generalize a + k.val = d at hk; revert d; decide +kernel
theorem off2_eq : k0_off2 (BitVec.ofNat 32 a) (BitVec.ofNat 32 n) k = ![(a + k.val) % 6, 0, 0] := by
  simp only [k0_off2, iv_word]; generalize a + k.val = d at hk; revert d; decide +kernel
theorem cond2_iff : k0_cond2 (BitVec.ofNat 32 a) (BitVec.ofNat 32 n) k = 1#1 ↔ 2 ≤ a + k.val := by
  simp only [k0_cond2, iv_word]; generalize a + k.val = d at hk; revert d; decide +kernel
theorem off3_eq (h2 : 2 ≤ a + k.val) : k0_off3 (BitVec.ofNat 32 a) (BitVec.ofNat 32 n) k = ![(a + k.val) % 2] := by
  simp only [k0_off3, iv_word]; generalize a + k.val = d at hk h2; revert d; decide +kernel
theorem off4_eq (h2 : 2 ≤ a + k.val) : k0_off4 (BitVec.ofNat 32 a) (BitVec.ofNat 32 n) k = ![0, (a + k.val - 2) * 256] := by
  simp only [k0_off4, iv_word]; generalize a + k.val = d at hk h2; revert d; decide +kernel
theorem mult1_dvd (h2 : 2 ≤ a + k.val) : 256 ∣ (k0_mult1 (BitVec.ofNat 32 a) (BitVec.ofNat 32 n) k).toNat := by
  simp only [k0_mult1, iv_word]; generalize a + k.val = d at hk h2; revert d; decide +kernel
theorem off5_eq (h2 : 2 ≤ a + k.val) : k0_off5 (BitVec.ofNat 32 a) (BitVec.ofNat 32 n) k = ![(a + k.val) % 2, 0, 0] := by
  simp only [k0_off5, iv_word]; generalize a + k.val = d at hk h2; revert d; decide +kernel
theorem off6_eq : k0_off6 (BitVec.ofNat 32 a) (BitVec.ofNat 32 n) k = ![(a + k.val) % 2, 0, 0] := by
  simp only [k0_off6, iv_word]; generalize a + k.val = d at hk; revert d; decide +kernel
theorem mult2_dvd : 256 ∣ (k0_mult2 (BitVec.ofNat 32 a) (BitVec.ofNat 32 n) k).toNat := by
  simp only [k0_mult2, iv_word]; generalize a + k.val = d at hk; revert d; decide +kernel
theorem off7_eq : k0_off7 (BitVec.ofNat 32 a) (BitVec.ofNat 32 n) k = ![(a + k.val) % 2] := by
  simp only [k0_off7, iv_word]; generalize a + k.val = d at hk; revert d; decide +kernel
theorem off8_eq : k0_off8 (BitVec.ofNat 32 a) (BitVec.ofNat 32 n) k = ![0, (a + k.val) * 256] := by
  simp only [k0_off8, iv_word]; generalize a + k.val = d at hk; revert d; decide +kernel
theorem off9_eq : k0_off9 (BitVec.ofNat 32 a) (BitVec.ofNat 32 n) k = ![(a + k.val) % 2, 0, 0] := by
  simp only [k0_off9, iv_word]; generalize a + k.val = d at hk; revert d; decide +kernel
theorem off10_eq : k0_off10 (BitVec.ofNat 32 a) (BitVec.ofNat 32 n) k = ![2 * (a + k.val), 0, 0] := by
  simp only [k0_off10, iv_word]; generalize a + k.val = d at hk; revert d; decide +kernel
theorem off11_eq : k0_off11 (BitVec.ofNat 32 a) (BitVec.ofNat 32 n) k = ![2 * (a + k.val) + 1, 0, 0] := by
  simp only [k0_off11, iv_word]; generalize a + k.val = d at hk; revert d; decide +kernel

end Forms

theorem box3_inb {o : Fin 3 → ℕ} {s : ℕ} {A B : Fin 3 → ℕ} (e : o = ![s, 0, 0]) (h0 : s + A 0 ≤ B 0) (h1 : A 1 ≤ B 1) (h2 : A 2 ≤ B 2) :
    ∀ x, o x + A x ≤ B x := by
  subst e; intro x; fin_cases x
  · exact h0
  · exact (Nat.zero_add _).le.trans h1
  · exact (Nat.zero_add _).le.trans h2
theorem box2_inb {o : Fin 2 → ℕ} {s : ℕ} {A B : Fin 2 → ℕ} (e : o = ![0, s]) (h0 : A 0 ≤ B 0) (h1 : s + A 1 ≤ B 1) :
    ∀ x, o x + A x ≤ B x := by
  subst e; intro x; fin_cases x
  · exact (Nat.zero_add _).le.trans h0
  · exact h1
theorem box1_inb {o : Fin 1 → ℕ} {s : ℕ} {A B : Fin 1 → ℕ} (e : o = ![s]) (h0 : s + A 0 ≤ B 0) : ∀ x, o x + A x ≤ B x := by
  subst e; intro x; fin_cases x; exact h0

theorem slot_words {o : Fin 3 → ℕ} {s : ℕ} (e : o = ![s, 0, 0]) (hinb : ∀ x, o x + S1x192x256.size x ≤ S2x192x256.size x) :
    (Rect.unit (s := S2x192x256) o S1x192x256.size hinb).WholeWords (EltTy.packing .bf16) := by
  subst e
  have hs : s < 2 := by have : s + 1 ≤ 2 := hinb 0; omega
  revert hinb; revert s; decide +kernel
theorem slot_packed {o : Fin 3 → ℕ} {s : ℕ} (e : o = ![s, 0, 0]) (hinb : ∀ x, o x + S1x192x256.size x ≤ S2x192x256.size x) :
    (Rect.unit (s := S2x192x256) o S1x192x256.size hinb).PackedRows (EltTy.packing .bf16) := by
  subst e
  have hs : s < 2 := by have : s + 1 ≤ 2 := hinb 0; omega
  revert hinb; revert s; decide +kernel
theorem hbm_words {o : Fin 2 → ℕ} {d : ℕ} (e : o = ![0, d * 256]) (hinb : ∀ x, o x + S192x256.size x ≤ S192x32000.size x) :
    (Rect.unit (s := S192x32000) o S192x256.size hinb).WholeWords (EltTy.packing .bf16) := by
  subst e
  have hs : d < 125 := by have : d * 256 + 256 ≤ 32000 := hinb 1; omega
  revert hinb; revert d; decide +kernel

theorem chk1 {a n : ℕ} (hn : n ≤ 32000) (ha : a ≤ n / 256) : k0_chk1 (BitVec.ofNat 32 a) (BitVec.ofNat 32 n) := by
  have hlt : ∀ k : Fin (k0_t1_loop (BitVec.ofNat 32 a) (BitVec.ofNat 32 n)).trips, a + k.val < 125 := fun k => by
    have := Nat.lt_of_lt_of_eq k.isLt (trips1_eq hn ha); omega
  have h2 : ∀ {p : Fin (k0_t2_loop (BitVec.ofNat 32 a) (BitVec.ofNat 32 n)).trips → Prop}, ∀ k, p k := fun k =>
    (Nat.not_lt_zero _ (Nat.lt_of_lt_of_eq k.isLt (trips2_eq hn ha))).elim
  have okq : ∀ p q : ℕ, p ≤ q → q ≤ 125 → Scf.OK (BitVec.ofNat 32 p) (BitVec.ofNat 32 q) 1#32 := fun p q h hq => by
    refine ⟨by decide, ?_⟩
    have hp := toInt_of_isInt (isInt_ofNat (n := p) (by omega))
    rw [trips_ofNat p q h (by omega), hp]; have : (1#32 : BitVec 32).toInt = 1 := by decide
    rw [this]; have : (2 : ℤ) ^ (32 - 1) = 2147483648 := by decide
    rw [this]; omega
  have ok1 : (k0_t1_loop (BitVec.ofNat 32 a) (BitVec.ofNat 32 n)).OK := by
    rw [loop1_eq hn ha]; exact okq _ _ ha (by omega)
  have ok2 : (k0_t2_loop (BitVec.ofNat 32 a) (BitVec.ofNat 32 n)).OK := by
    rw [loop2_eq hn ha]; exact okq _ _ le_rfl (by omega)
  have ge : ∀ k, k0_cond2 (BitVec.ofNat 32 a) (BitVec.ofNat 32 n) k = 1#1 → 2 ≤ a + k.val := fun k h => (cond2_iff a n k (hlt k)).mp h
  have m6 : ∀ d : ℕ, d % 6 + 1 ≤ 6 := fun d => by omega
  have m2 : ∀ d : ℕ, d % 2 + 1 ≤ 2 := fun d => by omega
  refine ⟨⟨ok1, fun k => box3_inb (off1_eq a n k (hlt k)) (m6 _) (by decide) (by decide),
    fun k => box3_inb (off2_eq a n k (hlt k)) (m6 _) (by decide) (by decide),
    fun k h => mult1_dvd a n k (hlt k) (ge k h),
    fun k h => box1_inb (off3_eq a n k (hlt k) (ge k h)) (m2 _),
    fun k h => box2_inb (off4_eq a n k (hlt k) (ge k h)) (by decide) (show (_ - 2) * 256 + 256 ≤ 32000 by have := hlt k; omega),
    fun k h => box3_inb (off5_eq a n k (hlt k) (ge k h)) (m2 _) (by decide) (by decide),
    fun k h => slot_words (off5_eq a n k (hlt k) (ge k h)),
    fun k h => hbm_words (off4_eq a n k (hlt k) (ge k h)),
    fun k => box3_inb (off6_eq a n k (hlt k)) (m2 _) (by decide) (by decide),
    fun k => slot_packed (off6_eq a n k (hlt k)),
    fun k => mult2_dvd a n k (hlt k),
    fun k => box1_inb (off7_eq a n k (hlt k)) (m2 _),
    fun k => box2_inb (off8_eq a n k (hlt k)) (by decide) (show _ * 256 + 256 ≤ 32000 by have := hlt k; omega),
    fun k => box3_inb (off9_eq a n k (hlt k)) (m2 _) (by decide) (by decide),
    fun k => slot_words (off9_eq a n k (hlt k)),
    fun k => hbm_words (off8_eq a n k (hlt k)),
    fun k => box3_inb (off10_eq a n k (hlt k)) (show 2 * _ + 1 ≤ 250 by have := hlt k; omega) (by decide) (by decide),
    fun k => box3_inb (off11_eq a n k (hlt k)) (show 2 * _ + 1 + 1 ≤ 250 by have := hlt k; omega) (by decide) (by decide),
    ok2, h2, h2, h2, h2, h2, h2, h2, h2, h2, h2, h2, h2⟩, h2, h2, h2, h2, h2, h2⟩

/-- The last step's loops are the same two loops. -/
theorem chk10 (i : grid0.Coords) {a n : ℕ} (hn : n ≤ 32000) (ha : a ≤ n / 256) : k0_chk10 i (BitVec.ofNat 32 a) (BitVec.ofNat 32 n) := by
  have h := chk1 hn ha
  obtain ⟨⟨ok1, a1, a2, a3, a4, a5, a6, a7, a8, a9, a10, a11, a12, a13, a14, a15, a16, a17, a18, ok2, -⟩, -⟩ := h
  have h2 : ∀ {p : Fin (k0_t2_loop (BitVec.ofNat 32 a) (BitVec.ofNat 32 n)).trips → Prop}, ∀ k, p k := fun k =>
    (Nat.not_lt_zero _ (Nat.lt_of_lt_of_eq k.isLt (trips2_eq hn ha))).elim
  exact ⟨⟨fun _ => ok1, fun k _ => a1 k, fun k _ => a2 k, fun k _ => a3 k, fun k _ => a4 k, fun k _ => a5 k, fun k _ => a6 k, fun k _ => a7 k,
    fun k _ => a8 k, fun k _ => a9 k, fun k _ => a10 k, fun k _ => a11 k, fun k _ => a12 k, fun k _ => a13 k, fun k _ => a14 k,
    fun k _ => a15 k, fun k _ => a16 k, fun k _ => a17 k, fun k _ => a18 k, fun _ => ok2, h2, h2, h2, h2, h2, h2, h2, h2, h2, h2, h2, h2⟩,
    h2, h2, h2, h2, h2, h2⟩

end Cert.Kernel.Hand
-- ==== Proof.KernelTiles.lean ====
module

public import proofs.«01_k».proof.Proof.KernelChecks

@[expose] public section

set_option maxRecDepth 16384

/-! The run-time checks of a step's eight tiles, from the word offset each tile starts at. -/

namespace Cert.Kernel.Hand

open Cert.Kernel Cert.Kernel.Gen
open Idealize.ShloMosaic
open Affine

theorem shr7 {n : ℕ} (hn : n ≤ 32000) : Scalar.shrsi (BitVec.ofNat 32 n) 7#32 = BitVec.ofNat 32 (n / 128) :=
  eq_of_isInt (Affine.shrsi (e := (n / 128 : ℕ)) (isInt_ofNat (by omega)) (ofNat (e := 7) 7 ⟨rfl, by decide⟩) 7 128 (by decide) ⟨by push_cast; rfl, rfl, by decide⟩) (by omega)
theorem shr10 {n : ℕ} (hn : n ≤ 32000) : Scalar.shrsi (BitVec.ofNat 32 n) 10#32 = BitVec.ofNat 32 (n / 1024) :=
  eq_of_isInt (Affine.shrsi (e := (n / 1024 : ℕ)) (isInt_ofNat (by omega)) (ofNat (e := 10) 10 ⟨rfl, by decide⟩) 10 1024 (by decide) ⟨by push_cast; rfl, rfl, by decide⟩) (by omega)
/-- The window's first position. -/
theorem base_word {n : ℕ} (hn : n ≤ 32000) :
    Scalar.muli (Scalar.shli (Scalar.shrsi (BitVec.ofNat 32 n) 10#32) 3#32) 128#32 = BitVec.ofNat 32 (n / 1024 * 1024) := by
  rw [shr10 hn]
  have : n / 1024 < 32 := by omega
  generalize n / 1024 = q at this
  revert q; decide +kernel
theorem addi_ofNat (b c : ℕ) : Scalar.addi (BitVec.ofNat 32 b) (BitVec.ofNat 32 c) = BitVec.ofNat 32 (b + c) := by
  simp [Scalar.addi, IntOp.addi, BitVec.ofNat_add]

theorem row_inb {o : Fin 2 → ℕ} {t : ℕ} (e : o = ![t, 0]) (ht : t + 1 ≤ 272) : ∀ x, o x + S1x128.size x ≤ S272x128.size x := by
  subst e; intro x; fin_cases x
  · exact ht
  · show 0 + 128 ≤ 128; omega
theorem win_inb {o : Fin 2 → ℕ} {t : ℕ} (e : o = ![t, 0]) (ht : t + 16 ≤ 272) : ∀ x, o x + S16x128.size x ≤ S272x128.size x := by
  subst e; intro x; fin_cases x
  · exact ht
  · show 0 + 128 ≤ 128; omega

theorem ring_inb {o : Fin 3 → ℕ} {s l : ℕ} (e : o = ![s, 0, l * 128]) (hs : s + 1 ≤ 6) (hl : l < 2) :
    ∀ x, o x + S1x2560x128.size x ≤ S6x2560x256.size x := by
  subst e; intro x; fin_cases x
  · exact hs
  · show 0 + 2560 ≤ 2560; omega
  · show l * 128 + 128 ≤ 256; omega
theorem sring_inb {o : Fin 3 → ℕ} {s l : ℕ} (e : o = ![s, 0, l * 128]) (hs : s + 1 ≤ 6) (hl : l < 2) :
    ∀ x, o x + S1x8x128.size x ≤ S6x8x256.size x := by
  subst e; intro x; fin_cases x
  · exact hs
  · show 0 + 8 ≤ 8; omega
  · show l * 128 + 128 ≤ 256; omega

theorem lane_packed {o : Fin 3 → ℕ} {s l : ℕ} (e : o = ![s, 0, l * 128]) (hl : l < 2)
    (hinb : ∀ x, o x + S1x2560x128.size x ≤ S6x2560x256.size x) :
    (Rect.unit (s := S6x2560x256) o S1x2560x128.size hinb).PackedRows (EltTy.packing .fp8e4m3) := by
  subst e
  have hs : s < 6 := by have : s + 1 ≤ 6 := hinb 0; omega
  revert hinb; revert s; revert l; decide +kernel

/-- The checks of a tile whose word offset, split by 128, is `t`. -/
theorem chk3 (v29 v47 : BitVec 32) {t : ℕ} (ht : t ≤ 250)
    (h : Scalar.shrsi (Scalar.addi (Scalar.muli (Scalar.shli (Scalar.shrsi v29 10#32) 3#32) 128#32) v47) 7#32 = BitVec.ofNat 32 t) :
    k0_chk3 v29 v47 := by
  have ht' : t < 251 := by omega
  have f32 : k0_off32 v29 v47 = ![t, 0] := by
    simp only [k0_off32, h]; clear h ht; revert t; decide +kernel
  have f33 : k0_off33 v29 v47 = ![t + 1, 0] := by
    simp only [k0_off33, h]; clear h ht f32; revert t; decide +kernel
  have m8 : 128 ∣ (k0_mult8 v29 v47).toNat := by
    simp only [k0_mult8, h]; clear h ht f32 f33; revert t; decide +kernel
  have m9 : 128 ∣ (k0_mult9 v29 v47).toNat := by
    simp only [k0_mult9, h]; clear h ht f32 f33 m8; revert t; decide +kernel
  have f34 : k0_off34 v29 v47 = ![(t + 1) / 2 % 6, 0, (t + 1) % 2 * 128] := by
    simp only [k0_off34, h]; clear h ht f32 f33 m8 m9; revert t; decide +kernel
  have f35 : k0_off35 v29 v47 = ![t / 2 % 6, 0, t % 2 * 128] := by
    simp only [k0_off35, h]; clear h ht f32 f33 m8 m9 f34; revert t; decide +kernel
  have f36 : k0_off36 v29 v47 = ![(t + 1) / 2 % 6, 0, (t + 1) % 2 * 128] := by
    simp only [k0_off36, h]; clear h ht f32 f33 m8 m9 f34 f35; revert t; decide +kernel
  have f37 : k0_off37 v29 v47 = ![t / 2 % 6, 0, t % 2 * 128] := by
    simp only [k0_off37, h]; clear h ht f32 f33 m8 m9 f34 f35 f36; revert t; decide +kernel
  have f38 : k0_off38 v29 v47 = ![min (t + 1) 250, 0, 0] := by
    simp only [k0_off38, h]; clear h ht f32 f33 m8 m9 f34 f35 f36 f37; revert t; decide +kernel
  have f39 : k0_off39 v29 v47 = ![t, 0, 0] := by
    simp only [k0_off39, h]; clear h ht f32 f33 m8 m9 f34 f35 f36 f37 f38; revert t; decide +kernel
  have m6 : ∀ d : ℕ, d % 6 + 1 ≤ 6 := fun d => by omega
  exact ⟨row_inb f32 (by omega), row_inb f33 (by omega), m8, m9,
    ring_inb f34 (m6 _) (by omega), lane_packed f34 (by omega),
    ring_inb f35 (m6 _) (by omega), lane_packed f35 (by omega),
    sring_inb f36 (m6 _) (by omega),
    sring_inb f37 (m6 _) (by omega),
    box3_inb f38 (show min (t + 1) 250 + 1 ≤ 251 by omega) (by decide) (by decide),
    box3_inb f39 (show t + 1 ≤ 251 by omega) (by decide) (by decide)⟩

/-- A step's offset is the window's start plus the count inside it. -/
theorem tile_word {n c : ℕ} (hn : n ≤ 32000) (hc : n / 1024 * 1024 + c ≤ 32000) :
    Scalar.shrsi (Scalar.addi (Scalar.muli (Scalar.shli (Scalar.shrsi (BitVec.ofNat 32 n) 10#32) 3#32) 128#32) (BitVec.ofNat 32 c)) 7#32 =
      BitVec.ofNat 32 ((n / 1024 * 1024 + c) / 128) := by
  rw [base_word hn, addi_ofNat, shr7 hc]

theorem chk2 {n : ℕ} (hn : n ≤ 32000) : k0_chk2 (BitVec.ofNat 32 n) := by
  have h := shr7 hn
  have hb := shr10 hn
  have ht : n / 128 ≤ 250 := by omega
  have hq : n / 1024 < 32 := by omega
  have m5 : 8 ∣ (k0_mult5 (BitVec.ofNat 32 n)).toNat := by
    simp only [k0_mult5, hb]; generalize n / 1024 = q at hq; clear hb h ht hn; revert q; decide +kernel
  have f23 : k0_off23 (BitVec.ofNat 32 n) = ![n / 1024 * 8, 0] := by
    simp only [k0_off23, hb]; generalize n / 1024 = q at hq; clear hb h ht hn m5; revert q; decide +kernel
  generalize n / 128 = t at h ht
  have ht' : t < 251 := by omega
  have f32 : k0_off24 (BitVec.ofNat 32 n) = ![t, 0] := by
    simp only [k0_off24, h]; clear h ht f23 m5; revert t; decide +kernel
  have f33 : k0_off25 (BitVec.ofNat 32 n) = ![t + 1, 0] := by
    simp only [k0_off25, h]; clear h ht f32 f23 m5; revert t; decide +kernel
  have m8 : 128 ∣ (k0_mult6 (BitVec.ofNat 32 n)).toNat := by
    simp only [k0_mult6, h]; clear h ht f32 f33 f23 m5; revert t; decide +kernel
  have m9 : 128 ∣ (k0_mult7 (BitVec.ofNat 32 n)).toNat := by
    simp only [k0_mult7, h]; clear h ht f32 f33 m8 f23 m5; revert t; decide +kernel
  have f34 : k0_off26 (BitVec.ofNat 32 n) = ![(t + 1) / 2 % 6, 0, (t + 1) % 2 * 128] := by
    simp only [k0_off26, h]; clear h ht f32 f33 m8 m9 f23 m5; revert t; decide +kernel
  have f35 : k0_off27 (BitVec.ofNat 32 n) = ![t / 2 % 6, 0, t % 2 * 128] := by
    simp only [k0_off27, h]; clear h ht f32 f33 m8 m9 f34 f23 m5; revert t; decide +kernel
  have f36 : k0_off28 (BitVec.ofNat 32 n) = ![(t + 1) / 2 % 6, 0, (t + 1) % 2 * 128] := by
    simp only [k0_off28, h]; clear h ht f32 f33 m8 m9 f34 f35 f23 m5; revert t; decide +kernel
  have f37 : k0_off29 (BitVec.ofNat 32 n) = ![t / 2 % 6, 0, t % 2 * 128] := by
    simp only [k0_off29, h]; clear h ht f32 f33 m8 m9 f34 f35 f36 f23 m5; revert t; decide +kernel
  have f38 : k0_off30 (BitVec.ofNat 32 n) = ![min (t + 1) 250, 0, 0] := by
    simp only [k0_off30, h]; clear h ht f32 f33 m8 m9 f34 f35 f36 f37 f23 m5; revert t; decide +kernel
  have f39 : k0_off31 (BitVec.ofNat 32 n) = ![t, 0, 0] := by
    simp only [k0_off31, h]; clear h ht f32 f33 m8 m9 f34 f35 f36 f37 f38 f23 m5; revert t; decide +kernel
  have m6 : ∀ d : ℕ, d % 6 + 1 ≤ 6 := fun d => by omega
  exact ⟨m5, win_inb f23 (by omega),
    row_inb f32 (by omega), row_inb f33 (by omega), m8, m9,
    ring_inb f34 (m6 _) (by omega), lane_packed f34 (by omega),
    ring_inb f35 (m6 _) (by omega), lane_packed f35 (by omega),
    sring_inb f36 (m6 _) (by omega),
    sring_inb f37 (m6 _) (by omega),
    box3_inb f38 (show min (t + 1) 250 + 1 ≤ 251 by omega) (by decide) (by decide),
    box3_inb f39 (show t + 1 ≤ 251 by omega) (by decide) (by decide)⟩

theorem chk4 (v29 v47 : BitVec 32) (h : k0_chk3 v29 v47) : k0_chk4 v29 v47 := h
theorem chk5 (v29 v47 : BitVec 32) (h : k0_chk3 v29 v47) : k0_chk5 v29 v47 := h
theorem chk6 (v29 v47 : BitVec 32) (h : k0_chk3 v29 v47) : k0_chk6 v29 v47 := h
theorem chk7 (v29 v47 : BitVec 32) (h : k0_chk3 v29 v47) : k0_chk7 v29 v47 := h
theorem chk8 (v29 v47 : BitVec 32) (h : k0_chk3 v29 v47) : k0_chk8 v29 v47 := h
theorem chk9 (v29 v47 : BitVec 32) (h : k0_chk3 v29 v47) : k0_chk9 v29 v47 := h

end Cert.Kernel.Hand
-- ==== Proof.KernelBase.lean ====
module

public import proofs.«01_k».proof.Proof.KernelTiles
public import proofs.«01_k».proof.Proof.Gen.Kernel.Launch
public import proofs.«01_k».proof.Proof.Gen.Kernel.Points
public import proofs.«01_k».proof.Proof.Gen.Kernel.Loops
public import Idealize.ShloMosaic.Lib.Pipeline.Frame
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! What the kernel's body is run over: the resources, and the rule that runs a printed part and then the rest. -/

/-- The resource algebra: the pipeline library's, beside the counters the kernel's own transfers ride on. -/
abbrev 𝕄 (F : FTy → Type) := MT nD τ sig Unit (Elt F) ℕ (Pipeline.UD sig nD τ) ℕ
abbrev 𝒱₀ : Variants := Variants.none

/-- A memref held whole at contents `f`. -/
abbrev pt (c : Dev nD) {sp : Space} {s : Shape} {e : EltTy} (M : Memref sig .tc sp s e) (f : Buf (Elt F) (M.view.loc (c : Thread nD τ))) : sProp (𝕄 F) :=
  M.view.loc (c : Thread nD τ) ↦[M.view.set]{fullShare} f
/-- A memref held whole at anything. -/
abbrev pa (F : FTy → Type) (c : Dev nD) {sp : Space} {s : Shape} {e : EltTy} (M : Memref sig .tc sp s e) : sProp (𝕄 F) :=
  iprop(∃ f : Buf (Elt F) (M.view.loc (c : Thread nD τ)), M.view.loc (c : Thread nD τ) ↦[M.view.set]{fullShare} f)

/-- The weakest precondition the body is run at. -/
abbrev W {α : Type} (c : Dev nD) (p : Prog (TpuEff nD τ sig (Elt F) Λ₀ .tc) α) (Q : α → sProp (𝕄 F)) : sProp (𝕄 F) :=
  wp frame (wpE (defs₀ (F := F)) 𝒱₀ (c : Thread nD τ) none) Set.univ p Q

/-- A part, then the rest from what the part leaves. -/
theorem seq {α β : Type} {c : Dev nD} {P : sProp (𝕄 F)} {p : Prog (TpuEff nD τ sig (Elt F) Λ₀ .tc) α} {k : α → Prog (TpuEff nD τ sig (Elt F) Λ₀ .tc) β}
    {Q : β → sProp (𝕄 F)} (R : α → sProp (𝕄 F)) (h1 : P ⊢ W c p R) (h2 : ∀ a, R a ⊢ W c (k a) Q) : P ⊢ W c (p >>= k) Q := by
  unfold W; rw [wp_bind]
  iintro H
  iapply (wp_wand_r Idealize.ShloMosaic.frame (wpE (defs₀ (F := F)) 𝒱₀ (c : Thread nD τ) none) Set.univ)
  isplitl [H]
  · iapply h1; iexact H
  · iintro %a H'; iapply (h2 a); iexact H'

end Cert.Kernel.Hand
end
-- ==== Proof.KernelRing.lean ====
module

public import proofs.«01_k».proof.Proof.KernelBase
public import proofs.«01_k».proof.Proof.Gen.Kernel.Launch
public import proofs.«01_k».proof.Proof.Gen.Kernel.Points
public import proofs.«01_k».proof.Proof.Gen.Kernel.Loops
public import Idealize.ShloMosaic.Lib.Pipeline.Frame
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! One pair of columns: its buffer slot waited for, filled, and sent out to the columns' block in HBM. -/

abbrev zdM : Memref sig .tc .hbm S192x32000 .bf16 := Memref.whole main_v14_1
abbrev stM : Memref sig .tc .vmem S2x192x256 .bf16 := Memref.whole cc0_scratch10

abbrev blkOff (b : Fin 125) : Fin 2 → ℕ := ![0, b.val * 256]
theorem blkOff_inb (b : Fin 125) : ∀ a, blkOff b a + S192x256.size a ≤ S192x32000.size a := by
  have := b.isLt; intro a; fin_cases a
  · show 0 + 192 ≤ 192; omega
  · show b.val * 256 + 256 ≤ 32000; omega
abbrev slotOff (s : Fin 2) : Fin 3 → ℕ := ![s.val, 0, 0]
theorem slotOff_inb (s : Fin 2) : ∀ a, slotOff s a + S1x192x256.size a ≤ S2x192x256.size a := by
  have := s.isLt; intro a; fin_cases a
  · show s.val + 1 ≤ 2; omega
  · show 0 + 192 ≤ 192; omega
  · show 0 + 256 ≤ 256; omega
abbrev semOff (s : Fin 2) : Fin 1 → ℕ := ![s.val]
theorem semOff_inb (s : Fin 2) : ∀ a, semOff s a + S1.size a ≤ S2.size a := by
  have := s.isLt; intro a; fin_cases a; show s.val + 1 ≤ 2; omega

/-- Block `b` of the result in HBM: its 256 columns. -/
def hblk (b : Fin 125) : Memref sig .tc .hbm S192x256 .bf16 :=
  zdM.slice (Rect.unit (s := S192x32000) (blkOff b) S192x256.size (blkOff_inb b)) (fun _ => rfl)
/-- Slot `s` of the buffer. -/
def rslot (s : Fin 2) : Memref sig .tc .vmem S192x256 .bf16 :=
  (stM.slice (Rect.unit (s := S2x192x256) (slotOff s) S1x192x256.size (slotOff_inb s)) (fun _ => rfl)).squeeze S192x256 squeezes_S1x192x256_S192x256
/-- Slot `s`'s semaphore. -/
def csm (s : Fin 2) : DmaSems sig S_ := (cc0_scratch14.slice (Rect.unit (s := S2) (semOff s) S1.size (semOff_inb s))).squeeze S_ squeezes_S1_S_

instance (s : Fin 2) : ClosedOff (slotOff s) := ⟨slotOff s, rfl⟩
instance (b : Fin 125) : ClosedOff (blkOff b) := ⟨blkOff b, rfl⟩

theorem csm_congr {off : Fin 1 → ℕ} {s : Fin 2} (e : off = semOff s) (hh) :
    (cc0_scratch14.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 3 → ℕ} {s : Fin 2} (e : off = slotOff s) (hh hs) :
    (stM.slice (Rect.unit (s := S2x192x256) off S1x192x256.size hh) hs).squeeze S192x256 squeezes_S1x192x256_S192x256 = rslot s :=
  congrArg (fun M : Memref sig .tc .vmem S1x192x256 .bf16 => M.squeeze S192x256 squeezes_S1x192x256_S192x256) (Memref.slice_unit_congr _ e _ _ _ _)
theorem hblk_congr {off : Fin 2 → ℕ} {b : Fin 125} (e : off = blkOff b) (hh hs) :
    zdM.slice (Rect.unit (s := S192x32000) off S192x256.size hh) hs = hblk b := Memref.slice_unit_congr _ e _ _ _ (fun _ => rfl)

section Canon
variable {a n : ℕ} (k : Fin (k0_t1_loop (BitVec.ofNat 32 a) (BitVec.ofNat 32 n)).trips)

@[sl_canon] theorem semW (hk : a + k.val < 125) (h2 : 2 ≤ a + k.val) (hh) :
    (cc0_scratch14.slice (Rect.unit (s := S2) (k0_off3 (BitVec.ofNat 32 a) (BitVec.ofNat 32 n) k) S1.size hh)).squeeze S_ squeezes_S1_S_ = csm (Ring.sl 2 (a + k.val)) :=
  csm_congr (off3_eq a n k hk h2) _
@[sl_canon] theorem blkW (hk : a + k.val < 125) (h2 : 2 ≤ a + k.val) (hh hs) :
    zdM.slice (Rect.unit (s := S192x32000) (k0_off4 (BitVec.ofNat 32 a) (BitVec.ofNat 32 n) k) S192x256.size hh) hs = hblk (Ring.bk 125 (a + k.val - 2)) :=
  hblk_congr ((off4_eq a n k hk h2).trans (by unfold blkOff; rw [Ring.bk_val (by omega)])) _ _
@[sl_canon] theorem slotW (hk : a + k.val < 125) (h2 : 2 ≤ a + k.val) (hh hs) :
    (stM.slice (Rect.unit (s := S2x192x256) (k0_off5 (BitVec.ofNat 32 a) (BitVec.ofNat 32 n) k) S1x192x256.size hh) hs).squeeze S192x256 squeezes_S1x192x256_S192x256 = rslot (Ring.sl 2 (a + k.val)) :=
  rslot_congr (off5_eq a n k hk h2) _ _
@[sl_canon] theorem semI (hk : a + k.val < 125) (hh) :
    (cc0_scratch14.slice (Rect.unit (s := S2) (k0_off7 (BitVec.ofNat 32 a) (BitVec.ofNat 32 n) k) S1.size hh)).squeeze S_ squeezes_S1_S_ = csm (Ring.sl 2 (a + k.val)) :=
  csm_congr (off7_eq a n k hk) _
@[sl_canon] theorem blkI (hk : a + k.val < 125) (hh hs) :
    zdM.slice (Rect.unit (s := S192x32000) (k0_off8 (BitVec.ofNat 32 a) (BitVec.ofNat 32 n) k) S192x256.size hh) hs = hblk (Ring.bk 125 (a + k.val)) :=
  hblk_congr ((off8_eq a n k hk).trans (by unfold blkOff; rw [Ring.bk_val hk])) _ _
@[sl_canon] theorem slotI (hk : a + k.val < 125) (hh hs) :
    (stM.slice (Rect.unit (s := S2x192x256) (k0_off9 (BitVec.ofNat 32 a) (BitVec.ofNat 32 n) k) S1x192x256.size hh) hs).squeeze S192x256 squeezes_S1x192x256_S192x256 = rslot (Ring.sl 2 (a + k.val)) :=
  rslot_congr (off9_eq a n k hk) _ _
end Canon

section Pieces
variable (F) (c : Dev nD)

abbrev cellP (s : Fin 2) : sProp (𝕄 F) := semVal ((c : Thread nD τ), SemLoc.dma (csm s).sem) 0
abbrev slotP (s : Fin 2) (f : Buf (Elt F) ((rslot s).view.loc (c : Thread nD τ))) : sProp (𝕄 F) :=
  (rslot s).view.loc (c : Thread nD τ) ↦[(rslot s).view.set]{fullShare} f
abbrev blkP (b : Fin 125) (f : Buf (Elt F) ((hblk b).view.loc (c : Thread nD τ))) : sProp (𝕄 F) :=
  (hblk b).view.loc (c : Thread nD τ) ↦[(hblk b).view.set]{fullShare} f
/-- A block at home, at anything. -/
abbrev homeP (b : Fin 125) : sProp (𝕄 F) := iprop(∃ f, blkP F c b f)
abbrev NN : ℕ := 3072
/-- Slot `s` on its way to block `b`. -/
abbrev flightP (s : Fin 2) (b : Fin 125) (f : Buf (Elt F) ((rslot s).view.loc (c : Thread nD τ))) (g : Buf (Elt F) ((hblk b).view.loc (c : Thread nD τ))) : sProp (𝕄 F) :=
  Transfers.Flight countersEmb (c : Thread nD τ) (SemLoc.dma (csm s).sem) () NN iprop(blkP F c b g ∗ slotP F c s f)
/-- Slot `s` held, and its cell at zero. -/
abbrev freeP (s : Fin 2) : sProp (𝕄 F) := iprop(cellP F c s ∗ ∃ f, slotP F c s f)
abbrev goneP (s : Fin 2) (b : Fin 125) : sProp (𝕄 F) := iprop(∃ f g, flightP F c s b f g)

/-- Slot of pair `d` before pair `d`: with pair `d - 2` on its way, if there is one. -/
def busy (d : ℕ) : sProp (𝕄 F) := if 2 ≤ d then goneP F c (Ring.sl 2 d) (Ring.bk 125 (d - 2)) else freeP F c (Ring.sl 2 d)
/-- The other slot: with pair `d - 1` on its way, if there is one. -/
def prev (d : ℕ) : sProp (𝕄 F) := if 1 ≤ d then goneP F c (Ring.sl 2 (d + 1)) (Ring.bk 125 (d - 1)) else freeP F c (Ring.sl 2 (d + 1))
/-- The blocks at home before pair `d`: all but those two. -/
def homes (d : ℕ) : Finset (Fin 125) := Finset.univ.filter fun b => b.val + 2 ≠ d ∧ b.val + 1 ≠ d
/-- What the pairs' loop holds before pair `d`. -/
def ringAt (d : ℕ) : sProp (𝕄 F) := iprop(bigSep (homes d) (homeP F c) ∗ busy F c d ∗ prev F c d)

theorem mem_homes (d : ℕ) (b : Fin 125) : b ∈ homes d ↔ b.val + 2 ≠ d ∧ b.val + 1 ≠ d := by simp [homes]
theorem homes_here (d : ℕ) (hd : d < 125) :
    bigSep (homes d) (homeP F c) = iprop(homeP F c (Ring.bk 125 d) ∗ bigSep ((homes d).erase (Ring.bk 125 d)) (homeP F c)) := by
  have h : Ring.bk 125 d ∈ homes d := by rw [mem_homes, Ring.bk_val hd]; omega
  conv_lhs => rw [← Finset.insert_erase h, bigSep_insert (Finset.notMem_erase _ _)]
  rfl
theorem homes_next (d : ℕ) (hd : d < 125) (h2 : 2 ≤ d) :
    bigSep (homes (d + 1)) (homeP F c) = iprop(homeP F c (Ring.bk 125 (d - 2)) ∗ bigSep ((homes d).erase (Ring.bk 125 d)) (homeP F c)) := by
  have e : homes (d + 1) = insert (Ring.bk 125 (d - 2)) ((homes d).erase (Ring.bk 125 d)) := by
    ext b; simp only [Finset.mem_insert, Finset.mem_erase, mem_homes, ne_eq, Fin.ext_iff, Ring.bk_val hd, Ring.bk_val (show d - 2 < 125 by omega)]; omega
  have h : Ring.bk 125 (d - 2) ∉ (homes d).erase (Ring.bk 125 d) := by
    simp only [Finset.mem_erase, mem_homes, ne_eq, Fin.ext_iff, Ring.bk_val hd, Ring.bk_val (show d - 2 < 125 by omega)]; omega
  rw [e, bigSep_insert h]; rfl
theorem homes_first (d : ℕ) (hd : d < 2) : homes (d + 1) = (homes d).erase (Ring.bk 125 d) := by
  ext b; simp only [Finset.mem_erase, mem_homes, ne_eq, Fin.ext_iff, Ring.bk_val (show d < 125 by omega)]; omega
theorem busy_succ (d : ℕ) : busy F c (d + 1) = prev F c d := by
  unfold busy prev
  by_cases h : 1 ≤ d
  · rw [if_pos (by omega), if_pos h, show d + 1 - 2 = d - 1 by omega]
  · rw [if_neg (by omega), if_neg h]
theorem prev_succ (d : ℕ) : prev F c (d + 1) = goneP F c (Ring.sl 2 d) (Ring.bk 125 d) := by
  unfold prev; rw [if_pos (by omega), show d + 1 + 1 = d + 2 from rfl, Ring.sl_add, Nat.add_sub_cancel]
end Pieces

section Trip
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)

/-- What the loop holds beside the ring: the projection's operands, and the buffers it updates. -/
abbrev sideP (f2 : Buf (Elt F) (arg2.view.loc (c : Thread nD τ))) (f4 : Buf (Elt F) (arg4.view.loc (c : Thread nD τ))) : sProp (𝕄 F) :=
  iprop(pt c arg2 f2 ∗ pt c arg4 f4 ∗ pa F c arg16 ∗ pa F c arg17 ∗ pa F c arg19 ∗ pa F c arg24 ∗ pa F c arg25)

set_option maxHeartbeats 1000000 in
/-- One pair, its slot's earlier transfer waited for. -/
theorem trip_late {a n : ℕ} (hw : k0_chk1 (BitVec.ofNat 32 a) (BitVec.ofNat 32 n)) (k : Fin (k0_t1_loop (BitVec.ofNat 32 a) (BitVec.ofNat 32 n)).trips)
    (hk : a + k.val < 125) (h2 : 2 ≤ a + k.val) (f2 f4) :
    iprop(sideP c arg2 arg4 arg16 arg17 arg19 arg24 arg25 f2 f4 ∗ (∃ Wt, owes (c : Thread nD τ) 0 Wt) ∗ ringAt F c (a + k.val))
      ⊢ W c (k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 (BitVec.ofNat 32 a) (BitVec.ofNat 32 n) hw k ())
        (fun _ => iprop(sideP c arg2 arg4 arg16 arg17 arg19 arg24 arg25 f2 f4 ∗ (∃ Wt, owes (c : Thread nD τ) 0 Wt) ∗ ringAt F c (a + k.val + 1))) := by
  have hc : k0_cond2 (BitVec.ofNat 32 a) (BitVec.ofNat 32 n) k = 1#1 := (cond2_iff a n k hk).2 h2
  letI : ClosedOff (k0_off6 (BitVec.ofNat 32 a) (BitVec.ofNat 32 n) k) := ⟨slotOff (Ring.sl 2 (a + k.val)), off6_eq a n k hk⟩
  letI : ClosedOff (k0_off10 (BitVec.ofNat 32 a) (BitVec.ofNat 32 n) k) := ⟨_, off10_eq a n k hk⟩
  letI : ClosedOff (k0_off11 (BitVec.ofNat 32 a) (BitVec.ofNat 32 n) k) := ⟨_, off11_eq a n k hk⟩
  unfold ringAt
  rw [homes_here F c _ hk, homes_next F c _ hk h2, busy_succ, prev_succ]
  unfold busy; rw [if_pos h2]
  iintro ⟨⟨H2, H4, ⟨%f16, H16⟩, ⟨%f17, H17⟩, ⟨%f19, H19⟩, ⟨%f24, H24⟩, ⟨%f25, H25⟩⟩, ⟨%Wt, HW⟩, ⟨⟨%fh, Hh⟩, Hr⟩, ⟨%fs, %fg, HF⟩, HP⟩
  unfold W
  sl_unfold [k0_t1_body]
  sl_exec
  sl_step
  isplitl [H2 H4 H16 H17 H19 H24 H25]
  · isplitl [H2]; · iexact H2
    isplitl [H4]; · iexact H4
    isplitl [H16]; · iexists _; iexact H16
    isplitl [H17]; · iexists _; iexact H17
    isplitl [H19]; · iexists _; iexact H19
    isplitl [H24]; · iexists _; iexact H24
    iexists _; iexact H25
  isplitl [HW]; · iexists _; iexact HW
  isplitl [HF_dst Hr]
  · isplitl [HF_dst]; · iexists _; iexact HF_dst
    iexact Hr
  isplitl [HP]; · iexact HP
  iexists _, _; iexact HF

set_option maxHeartbeats 1000000 in
/-- One of the first two pairs: its slot is free. -/
theorem trip_early {a n : ℕ} (hw : k0_chk1 (BitVec.ofNat 32 a) (BitVec.ofNat 32 n)) (k : Fin (k0_t1_loop (BitVec.ofNat 32 a) (BitVec.ofNat 32 n)).trips)
    (hk : a + k.val < 125) (h2 : ¬ 2 ≤ a + k.val) (f2 f4) :
    iprop(sideP c arg2 arg4 arg16 arg17 arg19 arg24 arg25 f2 f4 ∗ (∃ Wt, owes (c : Thread nD τ) 0 Wt) ∗ ringAt F c (a + k.val))
      ⊢ W c (k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 (BitVec.ofNat 32 a) (BitVec.ofNat 32 n) hw k ())
        (fun _ => iprop(sideP c arg2 arg4 arg16 arg17 arg19 arg24 arg25 f2 f4 ∗ (∃ Wt, owes (c : Thread nD τ) 0 Wt) ∗ ringAt F c (a + k.val + 1))) := by
  have hc : ¬ k0_cond2 (BitVec.ofNat 32 a) (BitVec.ofNat 32 n) k = 1#1 := fun h => h2 ((cond2_iff a n k hk).1 h)
  letI : ClosedOff (k0_off6 (BitVec.ofNat 32 a) (BitVec.ofNat 32 n) k) := ⟨slotOff (Ring.sl 2 (a + k.val)), off6_eq a n k hk⟩
  letI : ClosedOff (k0_off10 (BitVec.ofNat 32 a) (BitVec.ofNat 32 n) k) := ⟨_, off10_eq a n k hk⟩
  letI : ClosedOff (k0_off11 (BitVec.ofNat 32 a) (BitVec.ofNat 32 n) k) := ⟨_, off11_eq a n k hk⟩
  unfold ringAt
  rw [homes_here F c _ hk, homes_first _ (by omega), busy_succ, prev_succ]
  unfold busy; rw [if_neg h2]
  iintro ⟨⟨H2, H4, ⟨%f16, H16⟩, ⟨%f17, H17⟩, ⟨%f19, H19⟩, ⟨%f24, H24⟩, ⟨%f25, H25⟩⟩, ⟨%Wt, HW⟩, ⟨⟨%fh, Hh⟩, Hr⟩, ⟨HC, ⟨%fs, HS⟩⟩, HP⟩
  unfold W
  sl_unfold [k0_t1_body]
  sl_exec
  sl_step
  isplitl [H2 H4 H16 H17 H19 H24 H25]
  · isplitl [H2]; · iexact H2
    isplitl [H4]; · iexact H4
    isplitl [H16]; · iexists _; iexact H16
    isplitl [H17]; · iexists _; iexact H17
    isplitl [H19]; · iexists _; iexact H19
    isplitl [H24]; · iexists _; iexact H24
    iexists _; iexact H25
  isplitl [HW]; · iexists _; iexact HW
  isplitl [Hr]; · iexact Hr
  isplitl [HP]; · iexact HP
  iexists _, _; iexact HC
end Trip

end Cert.Kernel.Hand
end
-- ==== Proof.KernelLoops.lean ====
module

public import proofs.«01_k».proof.Proof.KernelRing
public import proofs.«01_k».proof.Proof.Gen.Kernel.Launch
public import proofs.«01_k».proof.Proof.Gen.Kernel.Points
public import proofs.«01_k».proof.Proof.Gen.Kernel.Loops
public import Idealize.ShloMosaic.Lib.Pipeline.Frame
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! The kernel's counted loops: what each holds before a trip. -/

open Affine in
theorem tok_chk (i : grid0.Coords) (k : Fin k0_t6_loop.trips) {t : ℕ} (ht : t < 32000) : k0_chk11 i k (BitVec.ofNat 32 t) := by
  have e : Scalar.shrsi (BitVec.ofNat 32 t) 7#32 = BitVec.ofNat 32 (t / 128) := shr7 (by omega)
  have hk : k.val < 192 := k.isLt
  have hw : Scalar.indexCast (Scf.iv 0#32 1#32 k.val) = BitVec.ofNat 32 k.val := by
    rw [show (0#32 : BitVec 32) = BitVec.ofNat 32 0 from rfl, iv_word, Nat.zero_add]; rfl
  have hq : (BitVec.ofNat 32 (t / 128)).toNat = t / 128 := by simp; omega
  have hk' : (BitVec.ofNat 32 k.val).toNat = k.val := by simp; omega
  have e13 : k0_off113 k (BitVec.ofNat 32 t) = ![t / 128, k.val, 0] := by
    show ![(Scalar.indexCast (Scalar.shrsi (BitVec.ofNat 32 t) 7#32)).toNat, (Scalar.indexCast (Scf.iv 0#32 1#32 k.val)).toNat, 0] = _
    rw [e, hw, hk']; exact congrArg (fun x => ![x, k.val, 0]) hq
  have e15 : k0_off115 k (BitVec.ofNat 32 t) = ![t / 128, k.val, 0] := e13
  refine ⟨fun _ => ?_, fun _ => ?_⟩
  · rw [e13]; intro a; fin_cases a
    · show t / 128 + 1 ≤ 251; omega
    · show k.val + 1 ≤ 192; omega
    · show 0 + 128 ≤ 128; omega
  · rw [e15]; intro a; fin_cases a
    · show t / 128 + 1 ≤ 250; omega
    · show k.val + 1 ≤ 192; omega
    · show 0 + 128 ≤ 128; omega

section Loops
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)

theorem trip {a n : ℕ} (hw : k0_chk1 (BitVec.ofNat 32 a) (BitVec.ofNat 32 n)) (k : Fin (k0_t1_loop (BitVec.ofNat 32 a) (BitVec.ofNat 32 n)).trips)
    (hk : a + k.val < 125) (f2 : Buf (Elt F) (arg2.view.loc (c : Thread nD τ))) (f4 : Buf (Elt F) (arg4.view.loc (c : Thread nD τ))) :
    iprop(sideP c arg2 arg4 arg16 arg17 arg19 arg24 arg25 f2 f4 ∗ (∃ Wt, owes (c : Thread nD τ) 0 Wt) ∗ ringAt F c (a + k.val))
      ⊢ W c (k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 (BitVec.ofNat 32 a) (BitVec.ofNat 32 n) hw k ())
        (fun _ => iprop(sideP c arg2 arg4 arg16 arg17 arg19 arg24 arg25 f2 f4 ∗ (∃ Wt, owes (c : Thread nD τ) 0 Wt) ∗ ringAt F c (a + k.val + 1))) := by
  by_cases h2 : 2 ≤ a + k.val
  · exact trip_late c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw k hk h2 f2 f4
  · exact trip_early c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw k hk h2 f2 f4

/-- What the loop over the pairs holds before its trip `k`, the pairs before `v4` done earlier. -/
@[irreducible] def pairsAt (v4 v5 : BitVec 32) (f2 : Buf (Elt F) (arg2.view.loc (c : Thread nD τ))) (f4 : Buf (Elt F) (arg4.view.loc (c : Thread nD τ))) (k : ℕ) : sProp (𝕄 F) :=
  iprop(⌜v5.toNat ≤ 32000 ∧ v4.toNat ≤ v5.toNat / 256⌝ ∗ sideP c arg2 arg4 arg16 arg17 arg19 arg24 arg25 f2 f4
    ∗ (∃ Wt, owes (c : Thread nD τ) 0 Wt) ∗ ringAt F c (v4.toNat + k))

theorem pairs_step {v4 v5 : BitVec 32} (hw : k0_chk1 v4 v5) (f2 : Buf (Elt F) (arg2.view.loc (c : Thread nD τ))) (f4 : Buf (Elt F) (arg4.view.loc (c : Thread nD τ))) (k : Fin (k0_t1_loop v4 v5).trips) :
    pairsAt c arg2 arg4 arg16 arg17 arg19 arg24 arg25 v4 v5 f2 f4 k
      ⊢ W c (k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 v4 v5 hw k ()) (fun _ => pairsAt c arg2 arg4 arg16 arg17 arg19 arg24 arg25 v4 v5 f2 f4 (k.val + 1)) := by
  unfold pairsAt
  iintro ⟨%hf, H⟩
  generalize ha : v4.toNat = a at hf
  generalize hn : v5.toNat = n at hf
  obtain rfl : v4 = BitVec.ofNat 32 a := by rw [← ha]; simp
  obtain rfl : v5 = BitVec.ofNat 32 n := by rw [← hn]; simp
  have hk : a + k.val < 125 := by have := Nat.lt_of_lt_of_eq k.isLt (trips1_eq hf.1 hf.2); omega
  unfold W
  iapply (wp_wand_r Idealize.ShloMosaic.frame (wpE (defs₀ (F := F)) 𝒱₀ (c : Thread nD τ) none) Set.univ)
  isplitl [H]
  · iapply (trip c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw k hk f2 f4); iexact H
  · iintro %_ H'
    isplitr; · ipureintro; exact hf
    iexact H'

set_option warn.classDefReducibility false in
@[sl_loop] def loopInv1 (v4 v5 : BitVec 32) (hw : k0_chk1 v4 v5) (f2 : Buf (Elt F) (arg2.view.loc (c : Thread nD τ))) (f4 : Buf (Elt F) (arg4.view.loc (c : Thread nD τ))) :
    LoopInvTy_k0_t1 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 v4 v5 hw where
  inv k _ := pairsAt c arg2 arg4 arg16 arg17 arg19 arg24 arg25 v4 v5 f2 f4 k
  step k _ := pairs_step c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw f2 f4 k

/-- The remainder loop never runs. -/
theorem no_rest {v4 v5 : BitVec 32} (h : v5.toNat ≤ 32000 ∧ v4.toNat ≤ v5.toNat / 256) : (k0_t2_loop v4 v5).trips = 0 := by
  have := trips2_eq h.1 h.2; simpa using this

set_option warn.classDefReducibility false in
@[sl_loop] def loopInv2 (v4 v5 : BitVec 32) (hw : k0_chk1 v4 v5) (v27 : BitVec 32) (f2 : Buf (Elt F) (arg2.view.loc (c : Thread nD τ))) (f4 : Buf (Elt F) (arg4.view.loc (c : Thread nD τ))) :
    LoopInvTy_k0_t2 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 v4 v5 hw v27 where
  inv _ _ := pairsAt c arg2 arg4 arg16 arg17 arg19 arg24 arg25 v4 v5 f2 f4 (k0_t1_loop v4 v5).trips
  step k _ := by
    unfold pairsAt; iintro ⟨%hf, -⟩
    exact (Nat.not_lt_zero _ (Nat.lt_of_lt_of_eq k.isLt (no_rest hf))).elim

set_option maxHeartbeats 1000000 in
/-- The last step's loop over the pairs has the same trips. -/
theorem body3 (h4 : k0_cond4 i = 1#1) (v w : BitVec 32) (hw : k0_chk10 i v w) (hw' : k0_chk1 v w) (k : Fin (k0_t3_loop v w).trips) :
    k0_t3_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v w hw k () = k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 v w hw' k () := by
  unfold k0_t3_body k0_t1_body
  rw [k0_part6_eq_skeleton, k0_part7_eq_skeleton, k0_part2_eq_skeleton, k0_part3_eq_skeleton]
  rfl

set_option warn.classDefReducibility false in
@[sl_loop] def loopInv3 (h4 : k0_cond4 i = 1#1) (v w : BitVec 32) (hw : k0_chk10 i v w) (f2 : Buf (Elt F) (arg2.view.loc (c : Thread nD τ))) (f4 : Buf (Elt F) (arg4.view.loc (c : Thread nD τ))) :
    LoopInvTy_k0_t3 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v w hw where
  inv k _ := pairsAt c arg2 arg4 arg16 arg17 arg19 arg24 arg25 v w f2 f4 k
  step k _ := by
    by_cases hf : w.toNat ≤ 32000 ∧ v.toNat ≤ w.toNat / 256
    · have hw' : k0_chk1 v w := by have := chk1 hf.1 hf.2; simpa using this
      rw [body3 i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 h4 v w hw hw' k]
      exact pairs_step c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw' f2 f4 k
    · unfold pairsAt; iintro ⟨%hf', -⟩; exact absurd hf' hf

set_option warn.classDefReducibility false in
@[sl_loop] def loopInv4 (h4 : k0_cond4 i = 1#1) (v w : BitVec 32) (hw : k0_chk10 i v w) (v27 : BitVec 32) (f2 : Buf (Elt F) (arg2.view.loc (c : Thread nD τ))) (f4 : Buf (Elt F) (arg4.view.loc (c : Thread nD τ))) :
    LoopInvTy_k0_t4 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v w hw v27 where
  inv _ _ := pairsAt c arg2 arg4 arg16 arg17 arg19 arg24 arg25 v w f2 f4 (k0_t3_loop v w).trips
  step k _ := by
    unfold pairsAt; iintro ⟨%hf, -⟩
    exact (Nat.not_lt_zero _ (Nat.lt_of_lt_of_eq k.isLt (no_rest hf))).elim

set_option warn.classDefReducibility false in
/-- The residual's sum over the tiles. -/
@[sl_loop] def loopInv5 (h4 : k0_cond4 i = 1#1) (v1559 v1566 : FVec F S192x1 .f32) :
    LoopInvTy_k0_t5 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v1559 v1566 where
  inv _ _ := iprop(pa F c arg18 ∗ pa F c arg19 ∗ pa F c arg22 ∗ pa F c arg24 ∗ pa F c arg25)
  step k _ := by
    iintro ⟨⟨%f18, H18⟩, ⟨%f19, H19⟩, ⟨%f22, H22⟩, ⟨%f24, H24⟩, ⟨%f25, H25⟩⟩
    sl_unfold [k0_t5_body]
    sl_exec
    sl_step
    isplitl [H18]; · iexists _; iexact H18
    isplitl [H19]; · iexists _; iexact H19
    isplitl [H22]; · iexists _; iexact H22
    isplitl [H24]; · iexists _; iexact H24
    iexists _; iexact H25

/-- Every token is an index of the draft's columns. -/
def TokOK (f6 : Buf (Elt F) (arg6.view.loc (c : Thread nD τ))) : Prop :=
  ∀ y, ∃ t : ℕ, t < 32000 ∧ arg6.view.read (Elt F) f6 y = BitVec.ofNat 32 t

set_option warn.classDefReducibility false in
/-- The tokens' columns picked out, row by row. -/
@[sl_loop] def loopInv6 (h4 : k0_cond4 i = 1#1) (v1559 v1566 : FVec F S192x1 .f32) (f6 : Buf (Elt F) (arg6.view.loc (c : Thread nD τ))) :
    LoopInvTy_k0_t6 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v1559 v1566 where
  inv _ _ := iprop(⌜TokOK c arg6 f6⌝ ∗ pt c arg6 f6 ∗ pa F c arg18 ∗ pa F c arg19 ∗ pa F c arg27 ∗ pa F c arg28)
  step k _ := by
    iintro ⟨%ht, H6, ⟨%f18, H18⟩, ⟨%f19, H19⟩, ⟨%f27, H27⟩, ⟨%f28, H28⟩⟩
    have hc : k0_chk11 i k (arg6.view.readAt (Elt F) (Rect.unit (s := S192) (k0_off112 k) S1.size (k0_off112_inb i k h4)).toLoadRect f6 (Shape.Idx.first (show 0 < S1.numel by decide))) := by
      obtain ⟨t, h, e⟩ := ht ((Rect.unit (s := S192) (k0_off112 k) S1.size (k0_off112_inb i k h4)).emb (Shape.Idx.first (show 0 < S1.numel by decide)))
      have e' : arg6.view.readAt (Elt F) (Rect.unit (s := S192) (k0_off112 k) S1.size (k0_off112_inb i k h4)).toLoadRect f6 (Shape.Idx.first (show 0 < S1.numel by decide)) = BitVec.ofNat 32 t := e
      rw [e']; exact tok_chk i k h
    sl_unfold [k0_t6_body]
    sl_exec
    sl_step
    isplitr; · ipureintro; exact ht
    isplitl [H6]; · iexact H6
    isplitl [H18]; · iexists _; iexact H18
    isplitl [H19]; · iexists _; iexact H19
    isplitl [H27]; · iexists _; iexact H27
    iexists _; iexact H28
end Loops

end Cert.Kernel.Hand
end
-- ==== Proof.Counting.lean ====
module

public import Idealize.ShloMosaic.Lib.NatWords
public import Idealize.ShloMosaic.Lib.ValueLayout
public import Idealize.ShloMosaic.PureOps.Ideal.Laws
public import Idealize.ShloMosaic.Lib.Affine

@[expose] public section

set_option maxRecDepth 16384

noncomputable section

/-! How far the kernel's column pointer moves: the count of the draft columns whose target column lies below a bound,
taken over a window of 2048 columns, and the printed float sum that computes it. -/

namespace Cert.Counting

open Idealize.ShloMosaic Idealize.ShloMosaic.ValueIdx

abbrev Tbl : Shape := ⟨2, ![272, 128]⟩
abbrev Win : Shape := ⟨2, ![16, 128]⟩
abbrev Win1 : Shape := ⟨3, ![1, 16, 128]⟩

/-- The number of a window's words below `B`. -/
def cnt (v : Win.Idx → BitVec 32) (B : BitVec 32) : ℕ := (Finset.univ.filter fun y => (v y).slt B).card

/-- The table of target columns by position; past the table, a value above every bound. -/
def flat (g : Tbl.Idx → BitVec 32) (p : ℕ) : ℤ :=
  if h : p < 34816 then (g (ix2 ⟨p / 128, by omega⟩ ⟨p % 128, by omega⟩)).toInt else 2 ^ 30

/-- How many of the 2048 positions from `b` hold a value below `B`. -/
def wc (T : ℕ → ℤ) (b : ℕ) (B : ℤ) : ℕ := ((Finset.range 2048).filter fun q => T (b + q) < B).card

theorem cnt_eq (v : Win.Idx → BitVec 32) (B : BitVec 32) (T : ℕ → ℤ) (b : ℕ)
    (h : ∀ (r : Fin 16) (l : Fin 128), (v (ix2 r l)).toInt = T (b + (r.val * 128 + l.val))) : cnt v B = wc T b B.toInt := by
  unfold cnt wc
  refine Finset.card_bij (fun y _ => (y 0).val * 128 + (y 1).val) ?_ ?_ ?_
  · intro y hy
    obtain ⟨r, l, rfl⟩ : ∃ (r : Fin 16) (l : Fin 128), y = ix2 r l := ⟨y 0, y 1, eq_ix2 y⟩
    have h1 := (Finset.mem_filter.mp hy).2
    have h2 : (v (ix2 r l)).toInt < B.toInt := by simpa [BitVec.slt] using h1
    rw [h] at h2
    refine Finset.mem_filter.mpr ⟨Finset.mem_range.mpr ?_, h2⟩
    show r.val * 128 + l.val < 2048
    omega
  · intro y _ y' _ e
    have e0 : (y 0).val * 128 + (y 1).val = (y' 0).val * 128 + (y' 1).val := e
    have h1 : (y 1).val < 128 := (y 1).isLt
    have h2 : (y' 1).val < 128 := (y' 1).isLt
    funext a; refine Fin.ext ?_
    match a with
    | ⟨0, _⟩ => show (y 0).val = (y' 0).val; omega
    | ⟨1, _⟩ => show (y 1).val = (y' 1).val; omega
  · intro q hq
    obtain ⟨hq1, hq2⟩ := Finset.mem_filter.mp hq
    have hq1 := Finset.mem_range.mp hq1
    refine ⟨ix2 ⟨q / 128, by omega⟩ ⟨q % 128, by omega⟩, Finset.mem_filter.mpr ⟨Finset.mem_univ _, ?_⟩, ?_⟩
    · have := h ⟨q / 128, by omega⟩ ⟨q % 128, by omega⟩
      have e : q / 128 * 128 + q % 128 = q := by omega
      rw [show (⟨q / 128, by omega⟩ : Fin 16).val * 128 + (⟨q % 128, by omega⟩ : Fin 128).val = q from e] at this
      rw [← this] at hq2
      simpa [BitVec.slt] using hq2
    · show q / 128 * 128 + q % 128 = q; omega

theorem cnt_le (v : Win.Idx → BitVec 32) (B : BitVec 32) : cnt v B ≤ 2048 := by
  unfold cnt
  refine le_trans (Finset.card_le_univ _) ?_
  rw [Fintype.card_congr (Shape.rowMajor Win), Fintype.card_fin]; decide

/-! ### The pointer never falls and never passes the last column -/

theorem wc_mono (T : ℕ → ℤ) (b : ℕ) {B B' : ℤ} (h : B ≤ B') : wc T b B ≤ wc T b B' :=
  Finset.card_le_card fun q hq => by
    obtain ⟨h1, h2⟩ := Finset.mem_filter.mp hq
    exact Finset.mem_filter.mpr ⟨h1, lt_of_lt_of_le h2 h⟩

theorem wc_shift (T : ℕ → ℤ) (b : ℕ) (B : ℤ) : wc T b B ≤ 1024 + wc T (b + 1024) B := by
  unfold wc
  have hs : (Finset.range 2048).filter (fun q => T (b + q) < B)
      ⊆ Finset.range 1024 ∪ ((Finset.range 2048).filter fun q => T (b + 1024 + q) < B).image (fun q => q + 1024) := by
    intro q hq
    obtain ⟨h1, h2⟩ := Finset.mem_filter.mp hq
    have h1 := Finset.mem_range.mp h1
    by_cases hc : q < 1024
    · exact Finset.mem_union_left _ (Finset.mem_range.mpr hc)
    · refine Finset.mem_union_right _ (Finset.mem_image.mpr ⟨q - 1024, Finset.mem_filter.mpr ⟨Finset.mem_range.mpr (by omega), ?_⟩, by omega⟩)
      rw [show b + 1024 + (q - 1024) = b + q by omega]; exact h2
  refine le_trans (Finset.card_le_card hs) (le_trans (Finset.card_union_le _ _) ?_)
  rw [Finset.card_range]
  exact Nat.add_le_add_left Finset.card_image_le _

theorem wc_bound (T : ℕ → ℤ) {b : ℕ} {B : ℤ} (hb : b ≤ 32000) (hT : ∀ p, 32000 ≤ p → B ≤ T p) : b + wc T b B ≤ 32000 := by
  have hs : (Finset.range 2048).filter (fun q => T (b + q) < B) ⊆ Finset.range (32000 - b) := by
    intro q hq
    obtain ⟨h1, h2⟩ := Finset.mem_filter.mp hq
    refine Finset.mem_range.mpr ?_
    by_contra hc
    have := hT (b + q) (by omega)
    omega
  have := Finset.card_le_card hs
  rw [Finset.card_range] at this
  show b + ((Finset.range 2048).filter fun q => T (b + q) < B).card ≤ 32000
  omega

theorem wc_all (T : ℕ → ℤ) {b : ℕ} {B : ℤ} (hT : ∀ q < 2048, T (b + q) < B) : wc T b B = 2048 := by
  unfold wc
  rw [Finset.filter_true_of_mem fun q hq => hT q (Finset.mem_range.mp hq), Finset.card_range]

/-- What is known of the pointer before step `t`: every column before it was counted below the step's bound. -/
def Ptr (T : ℕ → ℤ) (t n : ℕ) : Prop :=
  n ≤ 32000 ∧ ∃ m, m * 1024 ≤ n ∧ n ≤ m * 1024 + wc T (m * 1024) (t * 1024 : ℕ)

/-- A table whose positions past 32000 lie above every bound, and whose first 2048 lie below the last. -/
structure TblOK (T : ℕ → ℤ) : Prop where
  big : ∀ p, 32000 ≤ p → 2 ^ 30 ≤ T p
  small : ∀ p, p < 2048 → T p < 152576

theorem ptr_zero (T : ℕ → ℤ) : Ptr T 0 0 := ⟨by omega, 0, by omega, by omega⟩

/-- The pointer after step `t`. -/
def adv (T : ℕ → ℤ) (t n : ℕ) : ℕ := n / 1024 * 1024 + wc T (n / 1024 * 1024) ((t + 1) * 1024 : ℕ)

theorem wc_le (T : ℕ → ℤ) (b : ℕ) (B : ℤ) : wc T b B ≤ 2048 := by
  unfold wc
  exact le_trans (Finset.card_filter_le _ _) (by rw [Finset.card_range])

theorem adv_le {T : ℕ → ℤ} (hT : TblOK T) {t n : ℕ} (ht : t < 149) (hn : n ≤ 32000) : adv T t n ≤ 32000 :=
  wc_bound T (by omega) fun p hp => le_trans (by push_cast; omega) (hT.big p hp)

theorem le_adv {T : ℕ → ℤ} {t n : ℕ} (h : Ptr T t n) : n ≤ adv T t n := by
  obtain ⟨hn, m, h1, h2⟩ := h
  have hw := wc_le T (m * 1024) (t * 1024 : ℕ)
  have hm : wc T (m * 1024) (t * 1024 : ℕ) ≤ wc T (m * 1024) ((t + 1) * 1024 : ℕ) := wc_mono T _ (by push_cast; omega)
  unfold adv
  obtain e | e | e : n / 1024 = m ∨ n / 1024 = m + 1 ∨ n / 1024 = m + 2 := by omega
  · rw [e]; omega
  · have hs := wc_shift T (m * 1024) ((t + 1) * 1024 : ℕ)
    rw [e, show (m + 1) * 1024 = m * 1024 + 1024 by ring]; omega
  · rw [e]; omega

theorem ptr_adv {T : ℕ → ℤ} (hT : TblOK T) {t n : ℕ} (ht : t < 149) (h : Ptr T t n) : Ptr T (t + 1) (adv T t n) :=
  ⟨adv_le hT ht h.1, n / 1024, Nat.le_add_right _ _, le_refl _⟩

theorem adv_last {T : ℕ → ℤ} (hT : TblOK T) (n : ℕ) : 1024 ≤ adv T 148 n := by
  unfold adv
  rcases Nat.eq_zero_or_pos (n / 1024) with e | e
  · rw [e, wc_all T fun q hq => lt_of_lt_of_le (hT.small _ (by omega)) (by norm_num)]; omega
  · omega

/-! ### The printed count -/

/-- The kernel's count as printed: a sum of ones, taken in f32. -/
def cntF {F : FTy → Type} [FloatOps F] (B : BitVec 32) (v : Win.Idx → BitVec 32) (hc : Win.ShapeCasts Win1) (hr : Win1.Reduces [1, 2] ⟨1, ![1]⟩)
    (hc' : (⟨1, ![1]⟩ : Shape).ShapeCasts ⟨3, ![1, 1, 1]⟩) (hp : ∀ a : Fin 3, (![0, 0, 0] : Fin 3 → ℕ) a < (⟨3, ![1, 1, 1]⟩ : Shape).size a) : F .f32 :=
  extractAt ![0, 0, 0] (shapeCast ⟨3, ![1, 1, 1]⟩ (multiReduction .add [1, 2] ⟨1, ![1]⟩
    (shapeCast Win1 (select (cmpi .slt v (broadcast Win B)) (broadcast Win (Scalar.ofBits (F := F) .f32 0x3F800000#32)) (broadcast Win (Scalar.ofBits (F := F) .f32 0x00000000#32))) hc)
    0x00000000#32 hr (.inl rfl) rfl) hc') hp

/-- The formats at which the printed count, read back as a word, is the count. -/
def Counts (F : FTy → Type) [FloatOps F] : Prop :=
  ∀ (B : BitVec 32) (v : Win.Idx → BitVec 32) (hc : Win.ShapeCasts Win1) (hr : Win1.Reduces [1, 2] ⟨1, ![1]⟩)
    (hc' : (⟨1, ![1]⟩ : Shape).ShapeCasts ⟨3, ![1, 1, 1]⟩) (hp : ∀ a : Fin 3, (![0, 0, 0] : Fin 3 → ℕ) a < (⟨3, ![1, 1, 1]⟩ : Shape).size a),
    Scalar.fptosi 32 (cntF (F := F) B v hc hr hc' hp) = BitVec.ofNat 32 (cnt v B)

/-- The window as a stack of one. -/
def lift1 : Win.Idx ≃ Win1.Idx where
  toFun y := ix3 (0 : Fin 1) (y 0) (y 1)
  invFun z := ix2 (z 1) (z 2)
  left_inv y := (eq_ix2 y).symm
  right_inv z := by
    rw [eq_ix3 z]
    have : z 0 = (0 : Fin 1) := Fin.ext (by have : (z 0).val < 1 := (z 0).isLt; show (z 0).val = 0; omega)
    rw [this]; rfl

theorem sel_at {F : FTy → Type} (v : Win.Idx → BitVec 32) (B : BitVec 32) (a b : F .f32) (hc : Win.ShapeCasts Win1) (y : Win.Idx) :
    shapeCast Win1 (select (cmpi .slt v (broadcast Win B)) (broadcast Win a) (broadcast Win b)) hc (lift1 y) = if (v y).slt B then a else b := by
  obtain ⟨r, l, rfl⟩ : ∃ (r : Fin 16) (l : Fin 128), y = ix2 r l := ⟨y 0, y 1, eq_ix2 y⟩
  refine (shapeCast_ab_1ab_apply _ hc 0 r l).trans ?_
  show (if IntOp.cmpi .slt (v (ix2 r l)) B = 1#1 then a else b) = _
  by_cases h : (v (ix2 r l)).slt B <;> simp [IntOp.cmpi, h]

theorem cnt_sum (v : Win.Idx → BitVec 32) (B : BitVec 32) : (∑ z : Win1.Idx, if (v (lift1.symm z)).slt B then 1 else 0) = cnt v B := by
  rw [← Equiv.sum_comp lift1]
  simp only [Equiv.symm_apply_apply]
  unfold cnt; rw [Finset.card_filter]

theorem counts_bits : Counts Bits := by
  intro B v hc hr hc' hp
  have one : (Scalar.ofBits (F := Bits) .f32 0x3F800000#32 : Bits .f32) = Bits.f32OfNat 1 := by rw [Bits.f32OfNat_eq 1 (by decide)]; decide
  have zero : (Scalar.ofBits (F := Bits) .f32 0x00000000#32 : Bits .f32) = Bits.f32OfNat 0 := Bits.f32OfNat_zero.symm
  have hfib : ∀ j, Bits.reduceFiber hr j = Finset.univ := fun j => Finset.filter_true_of_mem fun i _ => funext fun b => Fin.ext (by
    have h1 := (hr.drop i b).isLt; have h2 := (j b).isLt
    have h3 : ∀ b, (⟨1, ![1]⟩ : Shape).size b = 1 := by decide
    have := h3 b; omega)
  have key : ∀ j, multiReduction (F := Bits) .add [1, 2] ⟨1, ![1]⟩
      (shapeCast Win1 (select (cmpi .slt v (broadcast Win B)) (broadcast Win (Scalar.ofBits (F := Bits) .f32 0x3F800000#32)) (broadcast Win (Scalar.ofBits (F := Bits) .f32 0x00000000#32))) hc)
      0x00000000#32 hr (.inl rfl) rfl j = Bits.f32OfNat (cnt v B) := by
    intro j
    have hs : (Bits.reduceFiber hr j).sum (fun z : Win1.Idx => if (v (lift1.symm z)).slt B then 1 else 0) = cnt v B := by
      rw [hfib]; exact cnt_sum v B
    rw [← hs]
    refine Bits.multiReduction_add_nat [1, 2] hr _ j _ ?_ ?_
    · intro z _
      obtain ⟨y, rfl⟩ := lift1.surjective z
      rw [sel_at, Equiv.symm_apply_apply, one, zero]
      split
      · exact Bits.natOfF32?_f32OfNat 1 (by decide)
      · exact Bits.natOfF32?_f32OfNat 0 (by decide)
    · rw [hs]; have := cnt_le v B; omega
  show Bits.fptosi32 32 _ = _
  rw [← Bits.fptosi32_nat (cnt v B) (by have := cnt_le v B; omega)]
  exact congrArg _ (key _)

theorem counts_ideal : Counts Ideal := by
  intro B v hc hr hc' hp
  have one : (Scalar.ofBits (F := Ideal) .f32 0x3F800000#32 : EReal) = ((1 : ℕ) : EReal) := by
    show Ideal.ofBits .f32 0x3F800000#32 = _
    simp [Ideal.ofBits, Ideal.ieee, -EReal.coe_mul]; norm_num
  have zero : (Scalar.ofBits (F := Ideal) .f32 0x00000000#32 : EReal) = ((0 : ℕ) : EReal) := by
    show Ideal.ofBits .f32 0x00000000#32 = _
    rw [Idealize.ShloMosaic.Ideal.ofBits_zero_f32]; simp
  have key : ∀ j, multiReduction (F := Ideal) .add [1, 2] ⟨1, ![1]⟩
      (shapeCast Win1 (select (cmpi .slt v (broadcast Win B)) (broadcast Win (Scalar.ofBits (F := Ideal) .f32 0x3F800000#32)) (broadcast Win (Scalar.ofBits (F := Ideal) .f32 0x00000000#32))) hc)
      0x00000000#32 hr (.inl rfl) rfl j = ((cnt v B : ℕ) : EReal) := by
    intro j
    refine (Idealize.ShloMosaic.Ideal.multiReduction_add_total _ _ hr (by decide) (.inl rfl) rfl j).trans ?_
    rw [← cnt_sum, Nat.cast_sum]
    refine Finset.sum_congr rfl fun z _ => ?_
    obtain ⟨y, rfl⟩ := lift1.surjective z
    rw [sel_at (F := Ideal), Equiv.symm_apply_apply, one, zero]
    split <;> rfl
  show Ideal.fptosi 32 _ = _
  have e : cntF (F := Ideal) B v hc hr hc' hp = ((cnt v B : ℕ) : EReal) := key _
  rw [e]
  have hl := cnt_le v B
  show BitVec.ofInt 32 (Ideal.toIntClamped _ _ (((cnt v B : ℕ) : ℝ) : EReal)) = _
  rw [Ideal.toIntClamped_coe, if_pos (Nat.cast_nonneg _), Int.floor_natCast]
  rw [min_eq_right (by push_cast; omega), max_eq_right (by push_cast; omega), BitVec.ofInt_natCast]

end Cert.Counting
end
-- ==== Proof.KernelCount.lean ====
module

public import proofs.«01_k».proof.Proof.KernelLoops
public import proofs.«01_k».proof.Proof.Counting
public import proofs.«01_k».proof.Proof.Gen.Kernel.Launch
public import proofs.«01_k».proof.Proof.Gen.Kernel.Points
public import proofs.«01_k».proof.Proof.Gen.Kernel.Loops
public import Idealize.ShloMosaic.Lib.Pipeline.Frame
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! The kernel's column pointer: the printed counts, and what the checks of a step's tiles follow from. -/

open Cert.Counting Idealize.ShloMosaic.ValueIdx

theorem off23_eq {n : ℕ} (hn : n ≤ 32000) : k0_off23 (BitVec.ofNat 32 n) = ![n / 1024 * 8, 0] := by
  have hb := shr10 hn
  have hq : n / 1024 < 32 := by omega
  simp only [k0_off23, hb]; generalize n / 1024 = q at hq; clear hb hn; revert q; decide +kernel

/-- A step's window of the table, read as integers. -/
theorem window_flat {n : ℕ} (hn : n ≤ 32000) (g : S272x128.Idx → BitVec 32) (inb : ∀ a, k0_off23 (BitVec.ofNat 32 n) a + S16x128.size a ≤ S272x128.size a)
    (r : Fin 16) (l : Fin 128) :
    (g ((Rect.unit (s := S272x128) (k0_off23 (BitVec.ofNat 32 n)) S16x128.size inb).emb (ix2 r l))).toInt = flat g (n / 1024 * 1024 + (r.val * 128 + l.val)) := by
  have h : n / 1024 * 1024 + (r.val * 128 + l.val) < 34816 := by have := r.isLt; have := l.isLt; omega
  unfold flat; rw [dif_pos h]
  refine congrArg (fun y => (g y).toInt) ?_
  have e := off23_eq hn
  have o0 : k0_off23 (BitVec.ofNat 32 n) 0 = n / 1024 * 8 := congrFun e 0
  have o1 : k0_off23 (BitVec.ofNat 32 n) 1 = 0 := congrFun e 1
  funext a; refine Fin.ext ?_
  match a with
  | ⟨0, _⟩ =>
    show k0_off23 (BitVec.ofNat 32 n) 0 + 1 * r.val = (n / 1024 * 1024 + (r.val * 128 + l.val)) / 128
    rw [o0]; have := l.isLt; omega
  | ⟨1, _⟩ =>
    show k0_off23 (BitVec.ofNat 32 n) 1 + 1 * l.val = (n / 1024 * 1024 + (r.val * 128 + l.val)) % 128
    rw [o1]; have := l.isLt; omega

theorem bound_toInt {i c : ℕ} (hi : i < 149) (hc : c ≤ 1024) :
    (Scalar.addi (Scalar.muli (BitVec.ofNat 32 i) 1024#32) (BitVec.ofNat 32 c)).toInt = ((i * 1024 + c : ℕ) : ℤ) := by
  rw [show Scalar.muli (BitVec.ofNat 32 i) 1024#32 = BitVec.ofNat 32 (i * 1024) by simp [Scalar.muli, IntOp.muli, BitVec.ofNat_mul], addi_ofNat]
  exact toInt_of_isInt (isInt_ofNat (by omega))

section Tiles
variable {n i : ℕ} (hF : Counts F) (hn : n ≤ 32000) (hi : i < 149) (g : S272x128.Idx → BitVec 32)
  (inb : ∀ a, k0_off23 (BitVec.ofNat 32 n) a + S16x128.size a ≤ S272x128.size a)

/-- A step's window of the table. -/
abbrev win (n : ℕ) (g : S272x128.Idx → BitVec 32) (inb : ∀ a, k0_off23 (BitVec.ofNat 32 n) a + S16x128.size a ≤ S272x128.size a) : Vec F S16x128 .i32 :=
  fun y => g ((Rect.unit (s := S272x128) (k0_off23 (BitVec.ofNat 32 n)) S16x128.size inb).emb y)

include hF hn hi in
theorem count_word {c : ℕ} (hc : c ≤ 1024) (x : F .f32)
    (hx : x = cntF (Scalar.addi (Scalar.muli (BitVec.ofNat 32 i) 1024#32) (BitVec.ofNat 32 c)) (win (F := F) n g inb) shapeCasts_S16x128_S1x16x128 reduces_S1x16x128_S1 shapeCasts_S1_S1x1x1 inpos_S1x1x1_p0_0_0) :
    Scalar.fptosi 32 x = BitVec.ofNat 32 (wc (flat g) (n / 1024 * 1024) ((i * 1024 + c : ℕ) : ℤ)) := by
  rw [hx, hF, cnt_eq _ _ (flat g) (n / 1024 * 1024) (window_flat hn g inb), bound_toInt hi hc]

include hF hn hi in
theorem tile_ok (hT : TblOK (flat g)) {c : ℕ} (hc : c ≤ 1024) (x : F .f32)
    (hx : x = cntF (Scalar.addi (Scalar.muli (BitVec.ofNat 32 i) 1024#32) (BitVec.ofNat 32 c)) (win (F := F) n g inb) shapeCasts_S16x128_S1x16x128 reduces_S1x16x128_S1 shapeCasts_S1_S1x1x1 inpos_S1x1x1_p0_0_0) :
    k0_chk3 (BitVec.ofNat 32 n) (Scalar.fptosi 32 x) := by
  have hb : n / 1024 * 1024 + wc (flat g) (n / 1024 * 1024) ((i * 1024 + c : ℕ) : ℤ) ≤ 32000 :=
    wc_bound _ (by omega) fun p hp => le_trans (by push_cast; omega) (hT.big p hp)
  rw [count_word hF hn hi g inb hc x hx]
  exact chk3 _ _ (t := (n / 1024 * 1024 + wc (flat g) (n / 1024 * 1024) ((i * 1024 + c : ℕ) : ℤ)) / 128) (by omega) (tile_word hn hb)

include hF hn hi in
theorem ok3 (hT : TblOK (flat g)) : k0_chk3 (BitVec.ofNat 32 n) (Scalar.fptosi 32 (k0_pay63 (BitVec.ofNat 32 i) (win (F := F) n g inb))) :=
  tile_ok hF hn hi g inb hT (c := 128) (by decide) _ rfl

include hF hn hi in
theorem ok4 (hT : TblOK (flat g)) : k0_chk4 (BitVec.ofNat 32 n) (Scalar.fptosi 32 (k0_pay64 (BitVec.ofNat 32 i) (win (F := F) n g inb))) :=
  chk4 _ _ <| tile_ok hF hn hi g inb hT (c := 256) (by decide) _ rfl

include hF hn hi in
theorem ok5 (hT : TblOK (flat g)) : k0_chk5 (BitVec.ofNat 32 n) (Scalar.fptosi 32 (k0_pay65 (BitVec.ofNat 32 i) (win (F := F) n g inb))) :=
  chk5 _ _ <| tile_ok hF hn hi g inb hT (c := 384) (by decide) _ rfl

include hF hn hi in
theorem ok6 (hT : TblOK (flat g)) : k0_chk6 (BitVec.ofNat 32 n) (Scalar.fptosi 32 (k0_pay66 (BitVec.ofNat 32 i) (win (F := F) n g inb))) :=
  chk6 _ _ <| tile_ok hF hn hi g inb hT (c := 512) (by decide) _ rfl

include hF hn hi in
theorem ok7 (hT : TblOK (flat g)) : k0_chk7 (BitVec.ofNat 32 n) (Scalar.fptosi 32 (k0_pay67 (BitVec.ofNat 32 i) (win (F := F) n g inb))) :=
  chk7 _ _ <| tile_ok hF hn hi g inb hT (c := 640) (by decide) _ rfl

include hF hn hi in
theorem ok8 (hT : TblOK (flat g)) : k0_chk8 (BitVec.ofNat 32 n) (Scalar.fptosi 32 (k0_pay69 (k0_pay68 (BitVec.ofNat 32 i) (win (F := F) n g inb)))) :=
  chk8 _ _ <| tile_ok hF hn hi g inb hT (c := 768) (by decide) _ rfl

include hF hn hi in
theorem ok9 (hT : TblOK (flat g)) : k0_chk9 (BitVec.ofNat 32 n) (Scalar.fptosi 32 (k0_pay70 (BitVec.ofNat 32 i) (win (F := F) n g inb))) :=
  chk9 _ _ <| tile_ok hF hn hi g inb hT (c := 896) (by decide) _ rfl

include hF hn hi in
/-- The pointer's new word. -/
theorem new_word (hT : TblOK (flat g)) :
    Scalar.addi (Scalar.muli (Scalar.shli (Scalar.shrsi (BitVec.ofNat 32 n) 10#32) 3#32) 128#32) (Scalar.fptosi 32 (k0_pay71 (BitVec.ofNat 32 i) (win (F := F) n g inb)))
      = BitVec.ofNat 32 (adv (flat g) i n) := by
  have e := count_word hF hn hi g inb (c := 1024) (by decide) (k0_pay71 (BitVec.ofNat 32 i) (win (F := F) n g inb)) rfl
  rw [e, base_word hn, addi_ofNat, show i * 1024 + 1024 = (i + 1) * 1024 by ring]
  rfl
end Tiles

/-! ### The table -/

/-- What the table is filled from: differences whose running sums are target columns. -/
def DiffOK (v : S272x128.Idx → BitVec 32) : Prop :=
  ∀ (r : Fin 272) (l : Fin 128), r.val * 128 + l.val < 32000 →
    0 ≤ (v (ix2 r l) + BitVec.ofNat 32 (r.val * 128 + l.val)).toInt ∧ (v (ix2 r l) + BitVec.ofNat 32 (r.val * 128 + l.val)).toInt < 151936

theorem pay5_at (v : Vec F S272x128 .i32) (r : Fin 272) (l : Fin 128) :
    k0_pay5 (F := F) v (ix2 r l) = if r.val * 128 + l.val < 32000 then v (ix2 r l) + BitVec.ofNat 32 (r.val * 128 + l.val) else 1073741824#32 := by
  have hp : (addi (muli (iota .tc S272x128 32 [0] iota_S272x128_d0_w32) (broadcast S272x128 128#32)) (iota .tc S272x128 32 [1] iota_S272x128_d1_w32) : IVec S272x128 32) (ix2 r l)
      = BitVec.ofNat 32 (r.val * 128 + l.val) := by
    show IntOp.addi (IntOp.muli (BitVec.ofNat 32 _) 128#32) (BitVec.ofNat 32 _) = _
    simp [IntOp.addi, IntOp.muli, BitVec.ofNat_add, BitVec.ofNat_mul, ix2]
  unfold k0_pay5
  simp only [shapeCast_self]
  show (if IntOp.cmpi .slt (_ : BitVec 32) 32000#32 = 1#1 then IntOp.addi (v (ix2 r l)) (_ : BitVec 32) else 1073741824#32) = _
  rw [hp]
  have ht : (BitVec.ofNat 32 (r.val * 128 + l.val)).toInt = ((r.val * 128 + l.val : ℕ) : ℤ) :=
    toInt_of_isInt (isInt_ofNat (by have := r.isLt; have := l.isLt; omega))
  have hs : (BitVec.ofNat 32 (r.val * 128 + l.val)).slt 32000#32 = decide (r.val * 128 + l.val < 32000) := by
    unfold BitVec.slt; rw [ht, show (32000#32 : BitVec 32).toInt = 32000 by decide]
    exact decide_eq_decide.mpr (by omega)
  by_cases h : r.val * 128 + l.val < 32000 <;> simp [IntOp.cmpi, IntOp.addi, hs, h]

theorem table_ok (v : Vec F S272x128 .i32) (hv : DiffOK v) : TblOK (flat (k0_pay5 (F := F) v)) := by
  constructor
  · intro p hp
    unfold flat
    split
    · rename_i h
      rw [pay5_at, if_neg (by show ¬ (p / 128 * 128 + p % 128 < 32000); omega)]; decide
    · exact le_refl _
  · intro p hp
    unfold flat
    rw [dif_pos (by omega), pay5_at, if_pos (by show p / 128 * 128 + p % 128 < 32000; omega)]
    have := (hv ⟨p / 128, by omega⟩ ⟨p % 128, by omega⟩ (by show p / 128 * 128 + p % 128 < 32000; omega)).2
    omega

/-! ### The two counters -/

/-- The two words kept between steps. -/
def Words (f : S2.Idx → BitVec 32) (n a : ℕ) : Prop :=
  ∀ y : S2.Idx, ((y 0).val = 0 → f y = BitVec.ofNat 32 n) ∧ ((y 0).val = 1 → f y = BitVec.ofNat 32 a)

end Cert.Kernel.Hand
end
-- ==== Proof.KernelStart.lean ====
module

public import proofs.«01_k».proof.Proof.KernelCount
public import Idealize.ShloMosaic.Lib.CellWrites
public import Idealize.ShloMosaic.Lib.VecWindow
public import proofs.«01_k».proof.Proof.Gen.Kernel.Launch
public import proofs.«01_k».proof.Proof.Gen.Kernel.Points
public import proofs.«01_k».proof.Proof.Gen.Kernel.Loops
public import Idealize.ShloMosaic.Lib.Pipeline.Frame
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! A step's start: the table filled at the first step, then the pairs ready by now. -/

open Cert.Counting Idealize.ShloMosaic.ValueIdx

section Start
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)
  (f2 : Buf (Elt F) (arg2.view.loc (c : Thread nD τ))) (f4 : Buf (Elt F) (arg4.view.loc (c : Thread nD τ))) (f7 : Buf (Elt F) (arg7.view.loc (c : Thread nD τ)))

/-- What a step's tiles run from. -/
def Ready (f21 : Buf (Elt F) (arg21.view.loc (c : Thread nD τ))) (f29 : Buf (Elt F) (arg29.view.loc (c : Thread nD τ))) (t n a : ℕ) : Prop :=
  TblOK (flat (arg21.view.read (Elt F) f21)) ∧ Ptr (flat (arg21.view.read (Elt F) f21)) t n ∧ a ≤ n / 256 ∧ Words (arg29.view.read (Elt F) f29) n a

/-- What the start leaves. -/
def started (r : Σ' (arg0 : BitVec 32) (v0 : IVec S8x128 32) (v29 : BitVec 32) (k0_hw2 : k0_chk2 v29), BitVec 32) : sProp (𝕄 F) :=
  iprop(∃ n f21 f29, ⌜r.1 = BitVec.ofNat 32 (i 0).val ∧ r.2.2.1 = BitVec.ofNat 32 n ∧ r.2.2.2.2 = Scalar.shli (Scalar.shrsi (BitVec.ofNat 32 n) 10#32) 3#32
      ∧ Ready c arg21 arg29 f21 f29 (i 0).val n (n / 256)⌝
    ∗ sideP c arg2 arg4 arg16 arg17 arg19 arg24 arg25 f2 f4 ∗ (∃ Wt, owes (c : Thread nD τ) 0 Wt) ∗ ringAt F c (n / 256)
    ∗ pt c arg7 f7 ∗ pt c arg21 f21 ∗ pa F c arg22 ∗ pa F c arg23 ∗ pt c arg29 f29)

theorem word_at (M : Memref sig .tc .smem S2 .i32) (f : Buf (Elt F) (M.view.loc (c : Thread nD τ))) {n a : ℕ} (h : Words (M.view.read (Elt F) f) n a) :
    M.view.readAt (Elt F) (Rect.unit (s := S2) ![0] S1.size inb_S2_S1_0).toLoadRect f (Shape.Idx.first (show 0 < S1.numel by decide)) = BitVec.ofNat 32 n
    ∧ M.view.readAt (Elt F) (Rect.unit (s := S2) ![1] S1.size inb_S2_S1_1).toLoadRect f (Shape.Idx.first (show 0 < S1.numel by decide)) = BitVec.ofNat 32 a :=
  ⟨(h ((Rect.unit (s := S2) ![0] S1.size inb_S2_S1_0).emb (Shape.Idx.first (show 0 < S1.numel by decide)))).1 rfl,
   (h ((Rect.unit (s := S2) ![1] S1.size inb_S2_S1_1).emb (Shape.Idx.first (show 0 < S1.numel by decide)))).2 rfl⟩

/-- The words after the second is set. -/
theorem words_set (M : Memref sig .tc .smem S2 .i32) (f : Buf (Elt F) (M.view.loc (c : Thread nD τ))) {n a : ℕ} {p : BitVec 32} (L : List (View.Piece (Elt F) S2 .i32))
    (h : ∀ y : S2.Idx, (y 0).val = 0 → M.view.read (Elt F) (M.view.writes (Elt F) f L) y = BitVec.ofNat 32 n) (hp : p = BitVec.ofNat 32 a) :
    Words (M.view.read (Elt F) (M.view.writes (Elt F) f (⟨Rect.unit (s := S2) ![1] S1.size inb_S2_S1_1, fun _ => p⟩ :: L))) n a := by
  intro y
  have e := View.read_writes_cons_cell (d := ![2]) (Val := Elt F) M.view f (off := ![1]) inb_S2_S1_1 p L y
  constructor
  · intro hy; exact e.trans ((if_neg (by rw [hy]; decide)).trans (h y hy))
  · intro hy; exact e.trans ((if_pos (by rw [hy]; rfl)).trans hp)
/-- The words after the first is set. -/
theorem words_set0 (M : Memref sig .tc .smem S2 .i32) (f : Buf (Elt F) (M.view.loc (c : Thread nD τ))) {n a : ℕ} {p : BitVec 32} (L : List (View.Piece (Elt F) S2 .i32))
    (h : ∀ y : S2.Idx, (y 0).val = 1 → M.view.read (Elt F) (M.view.writes (Elt F) f L) y = BitVec.ofNat 32 a) (hp : p = BitVec.ofNat 32 n) :
    Words (M.view.read (Elt F) (M.view.writes (Elt F) f (⟨Rect.unit (s := S2) ![0] S1.size inb_S2_S1_0, fun _ => p⟩ :: L))) n a := by
  intro y
  have e := View.read_writes_cons_cell (d := ![2]) (Val := Elt F) M.view f (off := ![0]) inb_S2_S1_0 p L y
  constructor
  · intro hy; exact e.trans ((if_pos (by rw [hy]; rfl)).trans hp)
  · intro hy; exact e.trans ((if_neg (by rw [hy]; decide)).trans (h y hy))
theorem word0_init (M : Memref sig .tc .smem S2 .i32) (f : Buf (Elt F) (M.view.loc (c : Thread nD τ))) (p q : BitVec 32) (y : S2.Idx) (hy : (y 0).val = 0) :
    M.view.read (Elt F) (M.view.writes (Elt F) f [⟨Rect.unit (s := S2) ![1] S1.size inb_S2_S1_1, fun _ => p⟩, ⟨Rect.unit (s := S2) ![0] S1.size inb_S2_S1_0, fun _ => q⟩]) y = q :=
  (View.read_writes_cons_cell (d := ![2]) (Val := Elt F) M.view f (off := ![1]) inb_S2_S1_1 p _ y).trans
    ((if_neg (by rw [hy]; decide)).trans
      ((View.read_writes_cons_cell (d := ![2]) (Val := Elt F) M.view f (off := ![0]) inb_S2_S1_0 q [] y).trans (if_pos (by rw [hy]; rfl))))

set_option maxHeartbeats 1000000 in
theorem start_later (hi : 0 < (i 0).val) {n a : ℕ} (f21 f29) (hR : Ready c arg21 arg29 f21 f29 (i 0).val n a) :
    iprop(sideP c arg2 arg4 arg16 arg17 arg19 arg24 arg25 f2 f4 ∗ (∃ Wt, owes (c : Thread nD τ) 0 Wt) ∗ ringAt F c a
      ∗ pt c arg7 f7 ∗ pt c arg21 f21 ∗ pa F c arg22 ∗ pa F c arg23 ∗ pt c arg29 f29)
    ⊢ W c (k0_part13 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (started c i arg2 arg4 arg7 arg16 arg17 arg19 arg21 arg22 arg23 arg24 arg25 arg29 f2 f4 f7) := by
  rw [k0_part13_eq_skeleton]; unfold k0_part13_skel W
  obtain ⟨hT, hP, ha, hw⟩ := hR
  have hn := hP.1
  obtain ⟨e0, e1⟩ := word_at c arg29 f29 hw
  have h1 : ¬ Scalar.cmpi .ne (Scalar.extui (Scalar.cmpi .eq (BitVec.ofNat 32 (i 0).val) 0#32) : BitVec 32) 0#32 = 1#1 := by
    have h : ∀ t : Fin 149, 0 < t.val → ¬ Scalar.cmpi .ne (Scalar.extui (Scalar.cmpi .eq (BitVec.ofNat 32 t.val) 0#32) : BitVec 32) 0#32 = 1#1 := by decide +kernel
    exact h ⟨(i 0).val, (i 0).isLt⟩ hi
  iintro ⟨HS, HO, HR, H7, H21, H22, H23, H29⟩
  have hc1 : k0_chk1 (arg29.view.readAt (Elt F) (Rect.unit (s := S2) ![1] S1.size inb_S2_S1_1).toLoadRect f29 (Shape.Idx.first (show 0 < S1.numel by decide)))
      (arg29.view.readAt (Elt F) (Rect.unit (s := S2) ![0] S1.size inb_S2_S1_0).toLoadRect f29 (Shape.Idx.first (show 0 < S1.numel by decide))) := by
    rw [e0, e1]; exact chk1 hn ha
  sl_exec
  have er : start_later.sl.r c arg29 f29 = BitVec.ofNat 32 a := e1
  have er' : start_later.sl.r_1 c arg29 f29 = BitVec.ofNat 32 n := e0
  have an : (BitVec.ofNat 32 a).toNat = a := by simp; omega
  have nn : (BitVec.ofNat 32 n).toNat = n := by simp; omega
  ihave HP : pairsAt c arg2 arg4 arg16 arg17 arg19 arg24 arg25 (start_later.sl.r c arg29 f29) (start_later.sl.r_1 c arg29 f29) f2 f4 0 $$ [HS HO HR]
  · unfold pairsAt; rw [er, er', an, nn]
    isplitr; · ipureintro; exact ⟨hn, ha⟩
    isplitl [HS]; · iexact HS
    isplitl [HO]; · iexact HO
    iexact HR
  have hc2 : k0_chk2 (start_later.sl.r_1 c arg29 f29) := by rw [er']; exact chk2 hn
  sl_exec
  sl_step
  have hv : start_later.sl.v22 c arg29 f29 = BitVec.ofNat 32 (n / 256) := by
    show floor256 (start_later.sl.r_1 c arg29 f29) = _
    rw [er']; exact floor256_eq hn
  have ht : a + (k0_t1_loop (start_later.sl.r c arg29 f29) (start_later.sl.r_1 c arg29 f29)).trips = n / 256 := by
    rw [er, er', trips1_eq hn ha]; omega
  unfold pairsAt started
  icases HP with ⟨-, HS, HO, HR⟩
  iexists n; iexists f21; iexists _
  isplitr
  · ipureintro
    refine ⟨rfl, e0, ?_, hT, hP, le_refl _, words_set c arg29 f29 [] (fun y hy => (hw y).1 hy) hv⟩
    show Scalar.shli (Scalar.shrsi (start_later.sl.r_1 c arg29 f29) 10#32) 3#32 = _
    rw [er']
  isplitl [HS]; · iexact HS
  isplitl [HO]; · iexact HO
  isplitl [HR]
  · rw [er, an, ← er, ht]; iexact HR
  isplitl [H7]; · iexact H7
  isplitl [H21]; · iexact H21
  isplitl [H22]; · iexact H22
  isplitl [H23]; · iexact H23
  iexact H29

set_option maxHeartbeats 1000000 in
theorem start_first (hi : (i 0).val = 0) (h7 : DiffOK (arg7.view.read (Elt F) f7)) :
    iprop(sideP c arg2 arg4 arg16 arg17 arg19 arg24 arg25 f2 f4 ∗ (∃ Wt, owes (c : Thread nD τ) 0 Wt) ∗ ringAt F c 0
      ∗ pt c arg7 f7 ∗ pa F c arg21 ∗ pa F c arg22 ∗ pa F c arg23 ∗ pa F c arg29)
    ⊢ W c (k0_part13 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (started c i arg2 arg4 arg7 arg16 arg17 arg19 arg21 arg22 arg23 arg24 arg25 arg29 f2 f4 f7) := by
  rw [k0_part13_eq_skeleton]; unfold k0_part13_skel W
  have h1 : Scalar.cmpi .ne (Scalar.extui (Scalar.cmpi .eq (BitVec.ofNat 32 (i 0).val) 0#32) : BitVec 32) 0#32 = 1#1 := by
    rw [hi]; decide
  iintro ⟨⟨H2, H4, H16, H17, H19, ⟨%f24, H24⟩, ⟨%f25, H25⟩⟩, HO, HR, H7, ⟨%f21, H21⟩, ⟨%f22, H22⟩, ⟨%f23, H23⟩, ⟨%f29, H29⟩⟩
  have hc1 : k0_chk1 0#32 0#32 := chk1 (n := 0) (a := 0) (by decide) (by decide)
  rw [k0_part1_eq_skeleton]; unfold k0_part1_skel
  sl_exec
  sl_step
  unfold started
  iexists 0; iexists (arg21.view.writes (Elt F) arg21.view.junk (start_first.sl.H21_1 c arg7 f7))
  iexists (arg29.view.writes (Elt F) arg29.view.junk (⟨Rect.unit (s := S2) ![1] S1.size inb_S2_S1_1, fun _ => (0#32 : BitVec 32)⟩ :: start_first.sl.H29_2))
  isplitr
  · ipureintro
    have hr : arg21.view.read (Elt F) (arg21.view.writes (Elt F) arg21.view.junk (start_first.sl.H21_1 c arg7 f7))
        = k0_pay5 (F := F) (arg7.view.read (Elt F) f7) := by
      refine (View.read_writes_full arg21.view _ (off := ![0, 0]) inb_S272x128_S272x128_0_0 _ []).trans ?_
      exact congrArg (k0_pay5 (F := F)) (View.readAt_full arg7.view f7 (off := ![0, 0]) inb_S272x128_S272x128_0_0)
    refine ⟨rfl, rfl, rfl, ?_, ?_, le_refl _, words_set c arg29 arg29.view.junk start_first.sl.H29_2 (fun y hy => word0_init c arg29 arg29.view.junk 0#32 0#32 y hy) rfl⟩
    · rw [hr]; exact table_ok _ h7
    · rw [hi]; exact ptr_zero _
  isplitl [H2 H4 H16 H17 H19 H24 H25]
  · isplitl [H2]; · iexact H2
    isplitl [H4]; · iexact H4
    isplitl [H16]; · iexact H16
    isplitl [H17]; · iexact H17
    isplitl [H19]; · iexact H19
    isplitl [H24]; · iexists _; iexact H24
    iexists _; iexact H25
  isplitl [HO]; · iexact HO
  isplitl [HR]; · iexact HR
  isplitl [H7]; · iexact H7
  isplitl [H21]; · iexact H21
  isplitl [H22]; · iexists _; iexact H22
  isplitl [H23]; · iexists _; iexact H23
  iexact H29
end Start

end Cert.Kernel.Hand
end
-- ==== Proof.KernelStep.lean ====
module

public import proofs.«01_k».proof.Proof.KernelStart
public import proofs.«01_k».proof.Proof.Gen.Kernel.Launch
public import proofs.«01_k».proof.Proof.Gen.Kernel.Points
public import proofs.«01_k».proof.Proof.Gen.Kernel.Loops
public import Idealize.ShloMosaic.Lib.Pipeline.Frame
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! A step's eight tiles, after its start. -/

open Cert.Counting Idealize.ShloMosaic.ValueIdx

/-- The eight stores into the logits' buffer, last first: lane tile `j` of the block gets the payload printed for it, each of
    the operands' contents. -/
def ztPieces (X : Vec F S240x2560 .fp8e4m3) (XS : Vec F S240x1 .f32) (WS : Vec F S8x128 .f32) (W : Vec F S2560x1024 .fp8e4m3) :
    List (View.Piece (Elt F) S240x1024 .bf16) :=
  let x := View.ld X (Rect.unit ![0, 0] S240x2560.size inb_S240x2560_S240x2560_0_0)
  let xs := View.ld XS (Rect.unit ![0, 0] S240x1.size inb_S240x1_S240x1_0_0)
  let w0 := View.ld W (Rect.unit ![0, 0] S2560x512.size inb_S2560x1024_S2560x512_0_0)
  let w1 := View.ld W (Rect.unit ![0, 512] S2560x512.size inb_S2560x1024_S2560x512_0_512)
  [⟨Rect.unit ![0, 896] S240x128.size inb_S240x1024_S240x128_0_896,
      k0_pay110 (k0_pay95 x w1) (View.ld WS (Rect.unit ![7, 0] S1x128.size inb_S8x128_S1x128_7_0)) xs⟩,
    ⟨Rect.unit ![0, 768] S240x128.size inb_S240x1024_S240x128_0_768,
      k0_pay105 (k0_pay95 x w1) (View.ld WS (Rect.unit ![6, 0] S1x128.size inb_S8x128_S1x128_6_0)) xs⟩,
    ⟨Rect.unit ![0, 640] S240x128.size inb_S240x1024_S240x128_0_640,
      k0_pay101 (k0_pay95 x w1) (View.ld WS (Rect.unit ![5, 0] S1x128.size inb_S8x128_S1x128_5_0)) xs⟩,
    ⟨Rect.unit ![0, 512] S240x128.size inb_S240x1024_S240x128_0_512,
      k0_pay97 x w1 (View.ld WS (Rect.unit ![4, 0] S1x128.size inb_S8x128_S1x128_4_0)) xs⟩,
    ⟨Rect.unit ![0, 384] S240x128.size inb_S240x1024_S240x128_0_384,
      k0_pay88 (k0_pay86 (k0_pay73 (k0_pay72 x) w0)) (View.ld WS (Rect.unit ![3, 0] S1x128.size inb_S8x128_S1x128_3_0)) xs⟩,
    ⟨Rect.unit ![0, 256] S240x128.size inb_S240x1024_S240x128_0_256,
      k0_pay83 (k0_pay73 (k0_pay72 x) w0) (View.ld WS (Rect.unit ![2, 0] S1x128.size inb_S8x128_S1x128_2_0)) xs⟩,
    ⟨Rect.unit ![0, 128] S240x128.size inb_S240x1024_S240x128_0_128,
      k0_pay79 (k0_pay72 x) w0 (View.ld WS (Rect.unit ![1, 0] S1x128.size inb_S8x128_S1x128_1_0)) xs⟩,
    ⟨Rect.unit ![0, 0] S240x128.size inb_S240x1024_S240x128_0_0,
      k0_pay75 (k0_pay72 x) w0 (View.ld WS (Rect.unit ![0, 0] S1x128.size inb_S8x128_S1x128_0_0)) xs⟩]

/-- The eight lane tiles cover the block. -/
theorem ztCover (X : Vec F S240x2560 .fp8e4m3) (XS : Vec F S240x1 .f32) (WS : Vec F S8x128 .f32) (W : Vec F S2560x1024 .fp8e4m3)
    (y : S240x1024.Idx) : ∃ p ∈ ztPieces X XS WS W, y ∈ p.1.set :=
  View.cover_of_tiledL (ztPieces X XS WS W) S240x128.size (by sl_kernel_rfl) y

/-- What the body leaves in the logits' buffer, of the operands' contents. -/
def zt (X : Vec F S240x2560 .fp8e4m3) (XS : Vec F S240x1 .f32) (WS : Vec F S8x128 .f32) (W : Vec F S2560x1024 .fp8e4m3) : Vec F S240x1024 .bf16 :=
  View.canon (ztPieces X XS WS W)

/-- What a step asks of its seven tile words, and its next counter, over the words as the run names them. -/
theorem stepFacts (hF : Counts F) {n i : ℕ} (hn : n ≤ 32000) (hi : i < 149) (g : S272x128.Idx → BitVec 32) (hT : TblOK (flat g))
    {arg0 v29 v31 : BitVec 32} (q0 : arg0 = BitVec.ofNat 32 i) (q29 : v29 = BitVec.ofNat 32 n)
    (q31 : v31 = Scalar.shli (Scalar.shrsi (BitVec.ofNat 32 n) 10#32) 3#32) (hw : k0_chk2 v29) :
    let w : Vec F S16x128 .i32 := fun y => g ((Rect.unit (s := S272x128) (k0_off23 v29) S16x128.size (k0_off23_inb v29 hw)).emb y)
    k0_chk3 v29 (Scalar.fptosi 32 (k0_pay63 arg0 w)) ∧ k0_chk4 v29 (Scalar.fptosi 32 (k0_pay64 arg0 w))
      ∧ k0_chk5 v29 (Scalar.fptosi 32 (k0_pay65 arg0 w)) ∧ k0_chk6 v29 (Scalar.fptosi 32 (k0_pay66 arg0 w))
      ∧ k0_chk7 v29 (Scalar.fptosi 32 (k0_pay67 arg0 w)) ∧ k0_chk8 v29 (Scalar.fptosi 32 (k0_pay69 (k0_pay68 arg0 w)))
      ∧ k0_chk9 v29 (Scalar.fptosi 32 (k0_pay70 arg0 w))
      ∧ Scalar.addi (Scalar.muli v31 128#32) (Scalar.fptosi 32 (k0_pay71 arg0 w)) = BitVec.ofNat 32 (adv (flat g) i n) := by
  subst q0 q29 q31
  have inb := k0_off23_inb (BitVec.ofNat 32 n) hw
  exact ⟨ok3 hF hn hi g inb hT, ok4 hF hn hi g inb hT, ok5 hF hn hi g inb hT, ok6 hF hn hi g inb hT, ok7 hF hn hi g inb hT,
    ok8 hF hn hi g inb hT, ok9 hF hn hi g inb hT, new_word hF hn hi g inb hT⟩

section Step
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ)))

/-- What a step's tiles leave. -/
def tiled (r : Σ' (arg0 : BitVec 32) (v29 : Elt F .i32) (v131 : BitVec 32) (k0_hw9 : k0_chk9 v29 v131) (v1358 : BitVec 32) (v1475 : IVec S192x128 1), FVec F S192x128 .f32) : sProp (𝕄 F) :=
  iprop(∃ n a f10 f21 f29, ⌜Ready c arg21 arg29 f21 f29 ((i 0).val + 1) n a ∧ ((i 0).val = 148 → 1024 ≤ n)
      ∧ arg10.view.read (Elt F) f10 = zt (arg1.view.read (Elt F) f1) (arg3.view.read (Elt F) f3) (arg8.view.read (Elt F) f8) (arg9.view.read (Elt F) f9)⌝
    ∗ pt c arg1 f1 ∗ pt c arg2 f2 ∗ pt c arg3 f3 ∗ pt c arg4 f4 ∗ pt c arg7 f7 ∗ pt c arg8 f8 ∗ pt c arg9 f9 ∗ pt c arg10 f10 ∗ (∃ Wt, owes (c : Thread nD τ) 0 Wt) ∗ ringAt F c a
    ∗ pa F c arg16 ∗ pa F c arg17 ∗ pa F c arg18 ∗ pa F c arg19 ∗ pa F c arg20 ∗ pa F c arg22 ∗ pa F c arg23 ∗ pa F c arg24 ∗ pa F c arg25 ∗ pt c arg21 f21 ∗ pt c arg29 f29)

set_option maxHeartbeats 4000000 in
theorem tiles (hF : Counts F) (P : sProp (𝕄 F))
    (h : P ⊢ W c (k0_part13 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14)
      (fun r => iprop(started c i arg2 arg4 arg7 arg16 arg17 arg19 arg21 arg22 arg23 arg24 arg25 arg29 f2 f4 f7 r
        ∗ pt c arg1 f1 ∗ pt c arg3 f3 ∗ pt c arg8 f8 ∗ pt c arg9 f9 ∗ pa F c arg10 ∗ pa F c arg18 ∗ pa F c arg20))) :
    P ⊢ W c (k0_part49 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14)
      (tiled c i arg1 arg2 arg3 arg4 arg7 arg8 arg9 arg10 arg16 arg17 arg18 arg19 arg20 arg21 arg22 arg23 arg24 arg25 arg29 f1 f2 f3 f4 f7 f8 f9) := by
  rw [k0_part49_eq_skeleton]; unfold k0_part49_skel
  refine seq _ h ?_
  rintro ⟨arg0, v0, v29, hw2, v31⟩
  unfold started
  iintro ⟨⟨%n, %f21, %f29, %hf, ⟨H2, H4, ⟨%f16, H16⟩, ⟨%f17, H17⟩, ⟨%f19, H19⟩, ⟨%f24, H24⟩, ⟨%f25, H25⟩⟩, HO, HR, H7, H21, ⟨%f22, H22⟩, ⟨%f23, H23⟩, H29⟩,
    H1, H3, H8, H9, ⟨%f10, H10⟩, ⟨%f18, H18⟩, ⟨%f20, H20⟩⟩
  obtain ⟨q0, q29, q31, hT, hP, -, hw⟩ := hf
  dsimp only at q0 q29 q31
  have hn := hP.1
  have hi : (i 0).val < 149 := (i 0).isLt
  have g := stepFacts hF hn hi (arg21.view.read (Elt F) f21) hT q0 q29 q31
  obtain ⟨h3, h4, h5, h6, h7, h8, h9, hv⟩ := g hw2
  unfold W
  dsimp only
  sl_exec
  sl_step
  unfold tiled
  iexists (adv (flat (arg21.view.read (Elt F) f21)) (i 0).val n); iexists (n / 256); iexists _; iexists f21; iexists _
  isplitr
  swap
  · isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    isplitl [HO]; · iexact HO
    isplitl [HR]; · iexact HR
    isplitl [H16]; · iexists _; iexact H16
    isplitl [H17]; · iexists _; iexact H17
    isplitl [H18]; · iexists _; iexact H18
    isplitl [H19]; · iexists _; iexact H19
    isplitl [H20]; · iexists _; iexact H20
    isplitl [H22]; · iexists _; iexact H22
    isplitl [H23]; · iexists _; iexact H23
    isplitl [H24]; · iexists _; iexact H24
    isplitl [H25]; · iexists _; iexact H25
    isplitl [H21]; · iexact H21
    iexact H29
  · ipureintro
    refine ⟨⟨hT, ptr_adv hT hi hP, Nat.div_le_div_right (le_adv hP), ?_⟩, ?_, ?_⟩
    · refine words_set0 c arg29 f29 [] (fun y hy => (hw y).2 hy) ?_
      exact hv
    · intro h; rw [h]; exact adv_last hT n
    · refine View.read_writes_eq_canon arg10.view f10 (ztPieces (arg1.view.read (Elt F) f1) (arg3.view.read (Elt F) f3) (arg8.view.read (Elt F) f8) (arg9.view.read (Elt F) f9)) ?_
      exact ztCover _ _ _ _
end Step

end Cert.Kernel.Hand
end
-- ==== Proof.KernelDrain.lean ====
module

public import proofs.«01_k».proof.Proof.KernelStep
public import proofs.«01_k».proof.Proof.Gen.Kernel.Launch
public import proofs.«01_k».proof.Proof.Gen.Kernel.Points
public import proofs.«01_k».proof.Proof.Gen.Kernel.Loops
public import Idealize.ShloMosaic.Lib.Pipeline.Frame
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! The last step's pairs, and the two transfers it waits for. -/

open Cert.Counting Idealize.ShloMosaic.ValueIdx

@[sl_canon] theorem semE1 (hh) :
    (cc0_scratch14.slice (Rect.unit (s := S2) ![1] S1.size hh)).squeeze S_ squeezes_S1_S_ = csm 1 := csm_congr (s := 1) rfl _
@[sl_canon] theorem semE0 (hh) :
    (cc0_scratch14.slice (Rect.unit (s := S2) ![0] S1.size hh)).squeeze S_ squeezes_S1_S_ = csm 0 := csm_congr (s := 0) rfl _
@[sl_canon] theorem slotE1 (hh hs) :
    (stM.slice (Rect.unit (s := S2x192x256) ![1, 0, 0] S1x192x256.size hh) hs).squeeze S192x256 squeezes_S1x192x256_S192x256 = rslot 1 := rslot_congr (s := 1) rfl _ _
@[sl_canon] theorem slotE0 (hh hs) :
    (stM.slice (Rect.unit (s := S2x192x256) ![0, 0, 0] S1x192x256.size hh) hs).squeeze S192x256 squeezes_S1x192x256_S192x256 = rslot 0 := rslot_congr (s := 0) rfl _ _
@[sl_canon] theorem blkE1 (hh hs) :
    zdM.slice (Rect.unit (s := S192x32000) ![0, 31488] S192x256.size hh) hs = hblk 123 := hblk_congr (b := 123) rfl _ _
@[sl_canon] theorem blkE0 (hh hs) :
    zdM.slice (Rect.unit (s := S192x32000) ![0, 31744] S192x256.size hh) hs = hblk 124 := hblk_congr (b := 124) rfl _ _

section Out
variable (c : Dev nD)

/-- Both slots on their way, to two blocks of the result; the other blocks at home. -/
def bothOut : sProp (𝕄 F) := iprop(∃ (b0 b1 : Fin 125), ⌜b0 ≠ b1⌝ ∗ goneP F c 0 b0 ∗ goneP F c 1 b1 ∗ bigSep ((Finset.univ.erase b0).erase b1) (homeP F c))
/-- Every block at home, both slots held. -/
def allHome : sProp (𝕄 F) := iprop(bigSep Finset.univ (homeP F c) ∗ freeP F c 0 ∗ freeP F c 1)

/-- After two pairs or more, both slots are on their way. -/
theorem ring_out {d : ℕ} (h2 : 2 ≤ d) (hd : d ≤ 125) : ringAt F c d ⊢ bothOut c := by
  have hb2 : (Ring.bk 125 (d - 2)).val = d - 2 := Ring.bk_val (by omega)
  have hb1 : (Ring.bk 125 (d - 1)).val = d - 1 := Ring.bk_val (by omega)
  have hne : Ring.bk 125 (d - 2) ≠ Ring.bk 125 (d - 1) := fun h => by have := congrArg Fin.val h; omega
  have e1 : homes d = (Finset.univ.erase (Ring.bk 125 (d - 2))).erase (Ring.bk 125 (d - 1)) := by
    ext b; simp only [Finset.mem_erase, Finset.mem_univ, mem_homes, ne_eq, Fin.ext_iff, hb1, hb2, and_true]; omega
  have e2 : homes d = (Finset.univ.erase (Ring.bk 125 (d - 1))).erase (Ring.bk 125 (d - 2)) := by
    rw [e1]; exact Finset.erase_right_comm
  unfold ringAt busy prev bothOut
  rw [if_pos h2, if_pos (by omega)]
  rcases Nat.mod_two_eq_zero_or_one d with hp | hp
  · have s0 : Ring.sl 2 d = 0 := Fin.ext hp
    have s1 : Ring.sl 2 (d + 1) = 1 := Fin.ext (show (d + 1) % 2 = 1 by omega)
    rw [s0, s1, e1]
    iintro ⟨HB, H0, H1⟩
    iexists (Ring.bk 125 (d - 2)); iexists (Ring.bk 125 (d - 1))
    isplitr; · ipureintro; exact hne
    isplitl [H0]; · iexact H0
    isplitl [H1]; · iexact H1
    iexact HB
  · have s0 : Ring.sl 2 d = 1 := Fin.ext hp
    have s1 : Ring.sl 2 (d + 1) = 0 := Fin.ext (show (d + 1) % 2 = 0 by omega)
    rw [s0, s1, e2]
    iintro ⟨HB, H0, H1⟩
    iexists (Ring.bk 125 (d - 1)); iexists (Ring.bk 125 (d - 2))
    isplitr; · ipureintro; exact hne.symm
    isplitl [H1]; · iexact H1
    isplitl [H0]; · iexact H0
    iexact HB

/-- The two blocks back, every block is at home. -/
theorem home_again {b0 b1 : Fin 125} (hne : b0 ≠ b1) :
    iprop(homeP F c b0 ∗ homeP F c b1 ∗ bigSep ((Finset.univ.erase b0).erase b1) (homeP F c)) ⊢ bigSep Finset.univ (homeP F c) := by
  have e : (Finset.univ : Finset (Fin 125)) = insert b0 (insert b1 ((Finset.univ.erase b0).erase b1)) := by
    ext b; simp only [Finset.mem_univ, Finset.mem_insert, Finset.mem_erase, ne_eq, and_true, true_iff]; tauto
  have n0 : b0 ∉ insert b1 ((Finset.univ.erase b0).erase b1) := by simp [hne]
  have n1 : b1 ∉ (Finset.univ.erase b0).erase b1 := by simp
  conv_rhs => rw [e, bigSep_insert n0, bigSep_insert n1]
  exact .rfl
end Out

section Last
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ)))

/-- What one step hands the next: the offset table, the two counters, and the ring. -/
def carry (t : ℕ) : sProp (𝕄 F) :=
  if t = 0 ∨ t = 149 then iprop(allHome c ∗ pa F c arg21 ∗ pa F c arg29)
  else iprop(∃ n a f21 f29, ⌜Ready c arg21 arg29 f21 f29 t n a⌝ ∗ ringAt F c a ∗ pt c arg21 f21 ∗ pt c arg29 f29)

/-- What a step leaves. -/
def stepped : sProp (𝕄 F) :=
  iprop((∃ f10, ⌜arg10.view.read (Elt F) f10 = zt (arg1.view.read (Elt F) f1) (arg3.view.read (Elt F) f3) (arg8.view.read (Elt F) f8) (arg9.view.read (Elt F) f9)⌝ ∗ pt c arg10 f10)
    ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pa F c arg12 ∗ pa F c arg13 ∗ pa F c arg14 ∗ pa F c arg15 ∗ (∃ Wt, owes (c : Thread nD τ) 0 Wt)
    ∗ pa F c arg16 ∗ pa F c arg17 ∗ pa F c arg18 ∗ pa F c arg19 ∗ pa F c arg20 ∗ pa F c arg22 ∗ pa F c arg23 ∗ pa F c arg24 ∗ pa F c arg25 ∗ pa F c arg27 ∗ pa F c arg28 ∗ carry c arg21 arg29 ((i 0).val + 1))

theorem cond4_iff : k0_cond4 i = 1#1 ↔ (i 0).val = 148 := by
  have h : ∀ t : Fin 149, Scalar.cmpi .ne (Scalar.extui (Scalar.cmpi .eq (BitVec.ofNat 32 t.val) 148#32) : BitVec 32) 0#32 = 1#1 ↔ t.val = 148 := by decide +kernel
  exact h ⟨(i 0).val, (i 0).isLt⟩

set_option maxHeartbeats 4000000 in
/-- A step's end, after its tiles: the last step also writes the remaining pairs, waits for both slots and folds the vocabulary. -/
theorem finish (h6 : TokOK c arg6 f6) (P : sProp (𝕄 F))
    (h : P ⊢ W c (k0_part49 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14)
      (fun r => iprop(tiled c i arg1 arg2 arg3 arg4 arg7 arg8 arg9 arg10 arg16 arg17 arg18 arg19 arg20 arg21 arg22 arg23 arg24 arg25 arg29 f1 f2 f3 f4 f7 f8 f9 r
        ∗ pt c arg5 f5 ∗ pt c arg6 f6 ∗ pa F c arg12 ∗ pa F c arg13 ∗ pa F c arg14 ∗ pa F c arg15 ∗ pa F c arg27 ∗ pa F c arg28))) :
    P ⊢ W c (cc0_spec_verify (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (fun _ => stepped c i arg1 arg2 arg3 arg4 arg5 arg6 arg7 arg8 arg9 arg10 arg12 arg13 arg14 arg15 arg16 arg17 arg18 arg19 arg20 arg21 arg22 arg23 arg24 arg25 arg27 arg28 arg29 f1 f2 f3 f4 f5 f6 f7 f8 f9) := by
  rw [cc0_spec_verify_eq_skeleton]; unfold cc0_spec_verify_skel
  refine seq _ h ?_
  rintro ⟨arg0, v29, v131, hw9, v1358, v1475, v1486⟩
  unfold tiled
  iintro ⟨⟨%n, %a, %f10, %f21, %f29, %hf, H1, H2, H3, H4, H7, H8, H9, H10, HO, HR, ⟨%f16, H16⟩, ⟨%f17, H17⟩, ⟨%f18, H18⟩, ⟨%f19, H19⟩, ⟨%f20, H20⟩, ⟨%f22, H22⟩, ⟨%f23, H23⟩, ⟨%f24, H24⟩, ⟨%f25, H25⟩, H21, H29⟩,
    H5, H6, ⟨%f12, H12⟩, ⟨%f13, H13⟩, ⟨%f14, H14⟩, ⟨%f15, H15⟩, ⟨%f27, H27⟩, ⟨%f28, H28⟩⟩
  obtain ⟨hR, hlast, hz⟩ := hf
  by_cases h4 : k0_cond4 i = 1#1
  · have hi := (cond4_iff i).1 h4
    have h2 := hlast hi
    obtain ⟨-, hP, ha, hw⟩ := hR
    have hn := hP.1
    obtain ⟨e0, e1⟩ := word_at c arg29 f29 hw
    have hc1 : k0_chk10 i (arg29.view.readAt (Elt F) (Rect.unit (s := S2) ![1] S1.size inb_S2_S1_1).toLoadRect f29 (Shape.Idx.first (show 0 < S1.numel by decide)))
        (arg29.view.readAt (Elt F) (Rect.unit (s := S2) ![0] S1.size inb_S2_S1_0).toLoadRect f29 (Shape.Idx.first (show 0 < S1.numel by decide))) := by
      rw [e0, e1]; exact chk10 i hn ha
    unfold W
    dsimp only
    sl_exec
    have er : finish.sl.r c arg29 f29 = BitVec.ofNat 32 a := e1
    have er' : finish.sl.r_1 c arg29 f29 = BitVec.ofNat 32 n := e0
    have an : (BitVec.ofNat 32 a).toNat = a := by simp; omega
    have nn : (BitVec.ofNat 32 n).toNat = n := by simp; omega
    ihave HP : pairsAt c arg2 arg4 arg16 arg17 arg19 arg24 arg25 (finish.sl.r c arg29 f29) (finish.sl.r_1 c arg29 f29) f2 f4 0 $$ [H2 H4 H16 H17 H19 H24 H25 HO HR]
    · unfold pairsAt; rw [er, er', an, nn]
      isplitr; · ipureintro; exact ⟨hn, ha⟩
      isplitl [H2 H4 H16 H17 H19 H24 H25]
      · isplitl [H2]; · iexact H2
        isplitl [H4]; · iexact H4
        isplitl [H16]; · iexists _; iexact H16
        isplitl [H17]; · iexists _; iexact H17
        isplitl [H19]; · iexists _; iexact H19
        isplitl [H24]; · iexists _; iexact H24
        iexists _; iexact H25
      isplitl [HO]; · iexact HO
      iexact HR
    have hc2 : k0_chk10 i (finish.sl.r c arg29 f29) (finish.sl.r_1 c arg29 f29) := hc1
    sl_exec
    have ht : a + (k0_t3_loop (finish.sl.r c arg29 f29) (finish.sl.r_1 c arg29 f29)).trips = n / 256 := by
      rw [er, er', show k0_t3_loop (BitVec.ofNat 32 a) (BitVec.ofNat 32 n) = k0_t1_loop (BitVec.ofNat 32 a) (BitVec.ofNat 32 n) from rfl, trips1_eq hn ha]; omega
    unfold pairsAt
    rw [er, an, ← er, ht]
    icases HP with ⟨-, ⟨H2, H4, ⟨%g16, H16⟩, ⟨%g17, H17⟩, ⟨%g19, H19⟩, ⟨%g24, H24⟩, ⟨%g25, H25⟩⟩, ⟨%Wt, HO⟩, HR⟩
    ihave HR := (show ringAt F c (n / 256) ⊢ bothOut c from ring_out c (by omega) (by omega)) $$ HR
    unfold bothOut
    icases HR with ⟨%b0, %b1, %hne, ⟨%s0, %g0, HF0⟩, ⟨%s1, %g1, HF1⟩, HB⟩
    sl_exec
    sl_step
    unfold stepped carry
    rw [if_pos (by omega)]
    isplitl [H10]
    · iexists f10
      isplitr; · ipureintro; exact hz
      iexact H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexists _; iexact H12
    isplitl [H13]; · iexists _; iexact H13
    isplitl [H14]; · iexists _; iexact H14
    isplitl [H15]; · iexists _; iexact H15
    isplitl [HO]; · iexists _; iexact HO
    isplitl [H16]; · iexists _; iexact H16
    isplitl [H17]; · iexists _; iexact H17
    isplitl [H18]; · iexists _; iexact H18
    isplitl [H19]; · iexists _; iexact H19
    isplitl [H20]; · iexists _; iexact H20
    isplitl [H22]; · iexists _; iexact H22
    isplitl [H23]; · iexists _; iexact H23
    isplitl [H24]; · iexists _; iexact H24
    isplitl [H25]; · iexists _; iexact H25
    isplitl [H27]; · iexists _; iexact H27
    isplitl [H28]; · iexists _; iexact H28
    isplitl [HB HF1_dst HF1_src HF1 HF0_dst HF0_src HF0]
    · unfold allHome
      isplitl [HB HF1_dst HF0_dst]
      · iapply (home_again c hne)
        isplitl [HF0_dst]; · iexists _; iexact HF0_dst
        isplitl [HF1_dst]; · iexists _; iexact HF1_dst
        iexact HB
      isplitl [HF0 HF0_src]
      · isplitl [HF0]; · iexact HF0
        iexists _; iexact HF0_src
      isplitl [HF1]; · iexact HF1
      iexists _; iexact HF1_src
    isplitl [H21]; · iexists _; iexact H21
    iexists _; iexact H29
  · have hi : (i 0).val ≠ 148 := fun h => h4 ((cond4_iff i).2 h)
    have hlt : (i 0).val < 149 := (i 0).isLt
    unfold W
    dsimp only
    sl_exec
    sl_step
    unfold stepped carry
    rw [if_neg (by omega)]
    isplitl [H10]
    · iexists f10
      isplitr; · ipureintro; exact hz
      iexact H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexists _; iexact H12
    isplitl [H13]; · iexists _; iexact H13
    isplitl [H14]; · iexists _; iexact H14
    isplitl [H15]; · iexists _; iexact H15
    isplitl [HO]; · iexact HO
    isplitl [H16]; · iexists _; iexact H16
    isplitl [H17]; · iexists _; iexact H17
    isplitl [H18]; · iexists _; iexact H18
    isplitl [H19]; · iexists _; iexact H19
    isplitl [H20]; · iexists _; iexact H20
    isplitl [H22]; · iexists _; iexact H22
    isplitl [H23]; · iexists _; iexact H23
    isplitl [H24]; · iexists _; iexact H24
    isplitl [H25]; · iexists _; iexact H25
    isplitl [H27]; · iexists _; iexact H27
    isplitl [H28]; · iexists _; iexact H28
    iexists n; iexists a; iexists f21; iexists f29
    isplitr; · ipureintro; exact hR
    isplitl [HR]; · iexact HR
    isplitl [H21]; · iexact H21
    iexact H29

/-- At the first step the ring is all at home. -/
theorem ring_start : allHome c ⊢ ringAt F c 0 := by
  unfold allHome ringAt busy prev
  rw [if_neg (by omega), if_neg (by omega)]
  have e : homes 0 = Finset.univ := by ext b; simp [mem_homes]
  rw [e]; exact .rfl

/-- The scratch the steps use without keeping anything in it. -/
abbrev freeBufs : sProp (𝕄 F) := iprop(pa F c arg16 ∗ pa F c arg17 ∗ pa F c arg18 ∗ pa F c arg19 ∗ pa F c arg20 ∗ pa F c arg22 ∗ pa F c arg23 ∗ pa F c arg24 ∗ pa F c arg25 ∗ pa F c arg27 ∗ pa F c arg28)

end Last

end Cert.Kernel.Hand
end
-- ==== Proof.KernelBody.lean ====
module

public import proofs.«01_k».proof.Proof.KernelDrain
public import proofs.«01_k».proof.Proof.Gen.Kernel.Launch
public import proofs.«01_k».proof.Proof.Gen.Kernel.Points
public import proofs.«01_k».proof.Proof.Gen.Kernel.Loops
public import Idealize.ShloMosaic.Lib.Pipeline.Frame
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! One whole step. -/

open Cert.Counting Idealize.ShloMosaic.ValueIdx

/-- A run keeps what it does not touch. -/
theorem keep {α : Type} {c : Dev nD} {P : sProp (𝕄 F)} {p : Prog (TpuEff nD τ sig (Elt F) Λ₀ .tc) α} {Q : α → sProp (𝕄 F)} (R : sProp (𝕄 F))
    (h : P ⊢ W c p Q) : iprop(P ∗ R) ⊢ W c p (fun r => iprop(Q r ∗ R)) := by
  unfold W at h ⊢
  iintro ⟨HP, HR⟩
  iapply (wp_wand_r Idealize.ShloMosaic.frame (wpE (defs₀ (F := F)) 𝒱₀ (c : Thread nD τ) none) Set.univ)
  isplitl [HP]; · iapply h; iexact HP
  iintro %a HQ
  isplitl [HQ]; · iexact HQ
  iexact HR

section Step
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ)))

/-- A step's start, the first or a later one. -/
theorem starts (h7 : DiffOK (arg7.view.read (Elt F) f7)) :
    iprop(sideP c arg2 arg4 arg16 arg17 arg19 arg24 arg25 f2 f4 ∗ (∃ Wt, owes (c : Thread nD τ) 0 Wt) ∗ carry c arg21 arg29 (i 0).val ∗ pt c arg7 f7 ∗ pa F c arg22 ∗ pa F c arg23)
    ⊢ W c (k0_part13 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (started c i arg2 arg4 arg7 arg16 arg17 arg19 arg21 arg22 arg23 arg24 arg25 arg29 f2 f4 f7) := by
  have hlt : (i 0).val < 149 := (i 0).isLt
  by_cases hi : (i 0).val = 0
  · unfold carry; rw [if_pos (Or.inl hi)]
    iintro ⟨HS, HO, ⟨HR, H21, H29⟩, H7, H22, H23⟩
    iapply (start_first c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f2 f4 f7 hi h7)
    isplitl [HS]; · iexact HS
    isplitl [HO]; · iexact HO
    isplitl [HR]; · iapply (ring_start c); iexact HR
    isplitl [H7]; · iexact H7
    isplitl [H21]; · iexact H21
    isplitl [H22]; · iexact H22
    isplitl [H23]; · iexact H23
    iexact H29
  · unfold carry; rw [if_neg (by omega)]
    iintro ⟨HS, HO, ⟨%n, %a, %f21, %f29, %hR, HR, H21, H29⟩, H7, H22, H23⟩
    iapply (start_later c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f2 f4 f7 (by omega) f21 f29 hR)
    isplitl [HS]; · iexact HS
    isplitl [HO]; · iexact HO
    isplitl [HR]; · iexact HR
    isplitl [H7]; · iexact H7
    isplitl [H21]; · iexact H21
    isplitl [H22]; · iexact H22
    isplitl [H23]; · iexact H23
    iexact H29

/-- ONE STEP: from the operands' buffers, what the last step handed over and the scratch, to `stepped`. -/
theorem step (hF : Counts F) (h7 : DiffOK (arg7.view.read (Elt F) f7)) (h6 : TokOK c arg6 f6) :
    iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9) ∗ (pa F c arg10 ∗ pa F c arg12 ∗ pa F c arg13 ∗ pa F c arg14 ∗ pa F c arg15) ∗ (∃ Wt, owes (c : Thread nD τ) 0 Wt)
      ∗ freeBufs c arg16 arg17 arg18 arg19 arg20 arg22 arg23 arg24 arg25 arg27 arg28 ∗ carry c arg21 arg29 (i 0).val)
    ⊢ W c (cc0_spec_verify (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (fun _ => stepped c i arg1 arg2 arg3 arg4 arg5 arg6 arg7 arg8 arg9 arg10 arg12 arg13 arg14 arg15 arg16 arg17 arg18 arg19 arg20 arg21 arg22 arg23 arg24 arg25 arg27 arg28 arg29 f1 f2 f3 f4 f5 f6 f7 f8 f9) := by
  have h := (finish c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f1 f2 f3 f4 f5 f6 f7 f8 f9 h6 _
    (keep iprop(pt c arg5 f5 ∗ pt c arg6 f6 ∗ pa F c arg12 ∗ pa F c arg13 ∗ pa F c arg14 ∗ pa F c arg15 ∗ pa F c arg27 ∗ pa F c arg28)
      (tiles c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f1 f2 f3 f4 f7 f8 f9 hF _
        (keep iprop(pt c arg1 f1 ∗ pt c arg3 f3 ∗ pt c arg8 f8 ∗ pt c arg9 f9 ∗ pa F c arg10 ∗ pa F c arg18 ∗ pa F c arg20)
          (starts c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f2 f4 f7 h7)))))
  iintro ⟨⟨H1, H2, H3, H4, H5, H6, H7, H8, H9⟩, ⟨H10, H12, H13, H14, H15⟩, HO, ⟨H16, H17, H18, H19, H20, H22, H23, H24, H25, H27, H28⟩, HC⟩
  iapply h
  isplitr [H5 H6 H12 H13 H14 H15 H27 H28]
  · isplitr [H1 H3 H8 H9 H10 H18 H20]
    · isplitl [H2 H4 H16 H17 H19 H24 H25]
      · isplitl [H2]; · iexact H2
        isplitl [H4]; · iexact H4
        isplitl [H16]; · iexact H16
        isplitl [H17]; · iexact H17
        isplitl [H19]; · iexact H19
        isplitl [H24]; · iexact H24
        iexact H25
      isplitl [HO]; · iexact HO
      isplitl [HC]; · iexact HC
      isplitl [H7]; · iexact H7
      isplitl [H22]; · iexact H22
      iexact H23
    isplitl [H1]; · iexact H1
    isplitl [H3]; · iexact H3
    isplitl [H8]; · iexact H8
    isplitl [H9]; · iexact H9
    isplitl [H10]; · iexact H10
    isplitl [H18]; · iexact H18
    iexact H20
  isplitl [H5]; · iexact H5
  isplitl [H6]; · iexact H6
  isplitl [H12]; · iexact H12
  isplitl [H13]; · iexact H13
  isplitl [H14]; · iexact H14
  isplitl [H15]; · iexact H15
  isplitl [H27]; · iexact H27
  iexact H28
end Step

end Cert.Kernel.Hand
end
-- ==== Proof.KernelHome.lean ====
module

public import proofs.«01_k».proof.Proof.KernelBody
public import proofs.«01_k».proof.Proof.Gen.Kernel.Launch
public import proofs.«01_k».proof.Proof.Gen.Kernel.Points
public import proofs.«01_k».proof.Proof.Gen.Kernel.Loops
public import Idealize.ShloMosaic.Lib.Pipeline.Frame
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Cert.Counting Idealize.ShloMosaic.ValueIdx

/-! The result in HBM and the staging buffer, whole and in their pieces. -/

abbrev G125 (b : Fin 125) : Finset S192x32000.Idx := (Rect.unit (s := S192x32000) (blkOff b) S192x256.size (blkOff_inb b)).set
abbrev G2 (s : Fin 2) : Finset S2x192x256.Idx := (Rect.unit (s := S2x192x256) (slotOff s) S1x192x256.size (slotOff_inb s)).set
theorem hblk_set (b : Fin 125) : (hblk b).view.set = G125 b := View.set_slice_whole _ _
theorem rslot_set (s : Fin 2) : (rslot s).view.set = G2 s := (View.set_reshape _ _).trans (View.set_slice_whole _ _)

theorem mem_G125 (b : Fin 125) (y : S192x32000.Idx) : y ∈ G125 b ↔ (y 1).val / 256 = b.val := by
  rw [Rect.mem_set_unit]
  have h0 : (y 0).val < 192 := (y 0).isLt
  have h1 : (y 1).val < 32000 := (y 1).isLt
  have hb := b.isLt
  constructor
  · intro H; have a1 : b.val * 256 ≤ (y 1).val ∧ (y 1).val < b.val * 256 + 256 := H 1; omega
  · intro H i; fin_cases i
    · show 0 ≤ (y 0).val ∧ (y 0).val < 0 + 192; omega
    · show b.val * 256 ≤ (y 1).val ∧ (y 1).val < b.val * 256 + 256; omega
theorem mem_G2 (s : Fin 2) (y : S2x192x256.Idx) : y ∈ G2 s ↔ (y 0).val = s.val := by
  rw [Rect.mem_set_unit]
  have h1 : (y 1).val < 192 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 192; omega
    · show 0 ≤ (y 2).val ∧ (y 2).val < 0 + 256; omega
theorem G125_disjoint : ∀ b b' : Fin 125, b ≠ b' → Disjoint (G125 b) (G125 b') := by
  intro b b' hne; rw [Finset.disjoint_left]; intro y hy hy'; rw [mem_G125] at hy hy'; exact hne (Fin.ext (hy.symm.trans hy'))
theorem G125_cover : (Finset.univ : Finset (Fin 125)).biUnion G125 = Finset.univ := by
  ext y; simp only [Finset.mem_biUnion, Finset.mem_univ, true_and, iff_true]
  have h1 : (y 1).val < 32000 := (y 1).isLt
  exact ⟨⟨(y 1).val / 256, by omega⟩, (mem_G125 _ _).2 rfl⟩
theorem G2_disjoint : ∀ s s' : Fin 2, s ≠ s' → Disjoint (G2 s) (G2 s') := by
  intro s s' hne; rw [Finset.disjoint_left]; intro y hy hy'; rw [mem_G2] at hy hy'; exact hne (Fin.ext (hy.symm.trans hy'))
theorem G2_cover : (Finset.univ : Finset (Fin 2)).biUnion G2 = Finset.univ := by
  ext y; simp only [Finset.mem_biUnion, Finset.mem_univ, true_and, iff_true]
  have h1 : (y 0).val < 2 := (y 0).isLt
  exact ⟨⟨(y 0).val, h1⟩, (mem_G2 _ _).2 rfl⟩

theorem bigSep_fin2 (Φ : Fin 2 → sProp (𝕄 F)) : bigSep Finset.univ Φ = iprop(Φ 0 ∗ Φ 1) :=
  bigSep_univ_eq_bigSepL [(0 : Fin 2), (1 : Fin 2)] (by decide) (by decide) Φ

theorem entails_of_eq {P Q : sProp (𝕄 F)} (e : P = Q) : P ⊢ Q := e ▸ .rfl

section Whole
variable (c : Dev nD)

abbrev zdAny : sProp (𝕄 F) := iprop(∃ f : Buf (Elt F) ((c : Thread nD τ).loc main_v14_1), ((c : Thread nD τ).loc main_v14_1) ↦{fullShare} f)
abbrev stAny : sProp (𝕄 F) := iprop(∃ f : Buf (Elt F) ((c : Thread nD τ).loc cc0_scratch10), ((c : Thread nD τ).loc cc0_scratch10) ↦{fullShare} f)

theorem blkP_eq (b : Fin 125) (f) : blkP F c b f = (((c : Thread nD τ).loc main_v14_1) ↦[G125 b]{fullShare} f : sProp (𝕄 F)) :=
  congrArg (fun S => (_ ↦[S]{fullShare} f : sProp (𝕄 F))) (hblk_set b)
theorem slotP_eq (s : Fin 2) (f) : slotP F c s f = (((c : Thread nD τ).loc cc0_scratch10) ↦[G2 s]{fullShare} f : sProp (𝕄 F)) :=
  congrArg (fun S => (_ ↦[S]{fullShare} f : sProp (𝕄 F))) (rslot_set s)

theorem zd_piece (b : Fin 125) (f) : (((c : Thread nD τ).loc main_v14_1) ↦[G125 b]{fullShare} f : sProp (𝕄 F)) ⊢ homeP F c b := by
  iintro H; iexists f; iapply (entails_of_eq (blkP_eq c b f).symm); iexact H
theorem zd_piece' (b : Fin 125) : homeP F c b ⊢ (iprop(∃ f, (((c : Thread nD τ).loc main_v14_1) ↦[G125 b]{fullShare} f)) : sProp (𝕄 F)) := by
  iintro ⟨%f, H⟩; iexists f; iapply (entails_of_eq (blkP_eq c b f)); iexact H
theorem zd_pieces (f) : (bigSep Finset.univ (fun b => (((c : Thread nD τ).loc main_v14_1) ↦[G125 b]{fullShare} f)) : sProp (𝕄 F)) ⊢ bigSep Finset.univ (homeP F c) :=
  bigSep_mono fun b _ => zd_piece c b f
theorem zd_pieces' : bigSep Finset.univ (homeP F c) ⊢ (bigSep Finset.univ (fun b => iprop(∃ f, (((c : Thread nD τ).loc main_v14_1) ↦[G125 b]{fullShare} f))) : sProp (𝕄 F)) :=
  bigSep_mono fun b _ => zd_piece' c b
theorem zd_split : zdAny c ⊢ bigSep Finset.univ (homeP F c) := by
  iintro ⟨%f, H⟩
  ihave H2 := (entails_of_eq (Ring.pointsTo_blocks (Ix := Unit) (Name := ℕ) (U := Pipeline.UD sig nD τ) (Lvl := ℕ) (q := fullShare) (ℓ := (c : Thread nD τ).loc main_v14_1) G125 G125_disjoint G125_cover f)) $$ H
  iapply (zd_pieces c f)
  iexact H2
theorem zd_join (f₀ : Buf (Elt F) ((c : Thread nD τ).loc main_v14_1)) : bigSep Finset.univ (homeP F c) ⊢ zdAny c := by
  iintro H
  iapply (Ring.pointsTo_blocks_join_exists (ℓ := (c : Thread nD τ).loc main_v14_1) G125 G125_disjoint G125_cover f₀)
  iapply (zd_pieces' c)
  iexact H
theorem st_split : stAny c ⊢ (iprop((∃ f, slotP F c 0 f) ∗ ∃ f, slotP F c 1 f) : sProp (𝕄 F)) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch10) G2 G2_disjoint G2_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem st_join : (iprop((∃ f, slotP F c 0 f) ∗ ∃ f, slotP F c 1 f) : sProp (𝕄 F)) ⊢ stAny c := by
  iintro ⟨⟨%f0, H0⟩, ⟨%f1, H1⟩⟩
  iapply (Ring.pointsTo_blocks_join_exists (ℓ := (c : Thread nD τ).loc cc0_scratch10) G2 G2_disjoint G2_cover f0)
  irw [bigSep_fin2]
  isplitl [H0]
  · iexists f0; iapply (entails_of_eq (slotP_eq c 0 f0)); iexact H0
  · iexists f1; iapply (entails_of_eq (slotP_eq c 1 f1)); iexact H1
end Whole

/-- The kernel's own two semaphores. -/
abbrev osem : Fin 2 → SemLoc sig := fun s => .dma (csm s).sem
theorem ownSemFacts : Pipeline.OwnSemFacts spec0 osem := by decide
theorem ownSems0_eq (c : Dev nD) : (Pipeline.ownSems0 (Ix := Unit) (Name := ℕ) (U := Pipeline.UD sig nD τ) (Lvl := ℕ) (Val := Elt F) (τ := τ) osem c : sProp (𝕄 F))
    = iprop(cellP F c 0 ∗ cellP F c 1) := by
  unfold Pipeline.ownSems0; rw [bigSep_fin2]

/-- Everything the steps hold beside the windows, before point `t`. -/
def held (c : Dev nD) (t : ℕ) : sProp (𝕄 F) :=
  iprop(freeBufs c (Memref.whole cc0_scratch0) (Memref.whole cc0_scratch1) (Memref.whole cc0_scratch2) (Memref.whole cc0_scratch3) (Memref.whole cc0_scratch4)
      (Memref.whole cc0_scratch6) (Memref.whole cc0_scratch7) (Memref.whole cc0_scratch8) (Memref.whole cc0_scratch9) (Memref.whole cc0_scratch11) (Memref.whole cc0_scratch12)
    ∗ carry c (Memref.whole cc0_scratch5) (Memref.whole cc0_scratch13) t ∗ (∃ r, prngReg c r))

abbrev HH : Finset (Ref sig .tc) := ∅
abbrev RR : Finset (Ref sig .tc) := {main_v14_1}

/-- A whole buffer as a memref's, and back. -/
theorem pa_in (c : Dev nD) (b : Ref sig .tc) :
    (iprop(∃ f : Buf (Elt F) ((c : Thread nD τ).loc b), ((c : Thread nD τ).loc b) ↦{fullShare} f) : sProp (𝕄 F)) ⊢ pa F c (Memref.whole b) := by
  iintro ⟨%f, H⟩; iexists f; simp only [Memref.view_whole, View.set_whole]; iexact H
theorem pa_out (c : Dev nD) (b : Ref sig .tc) :
    pa F c (Memref.whole b) ⊢ (iprop(∃ f : Buf (Elt F) ((c : Thread nD τ).loc b), ((c : Thread nD τ).loc b) ↦{fullShare} f) : sProp (𝕄 F)) := by
  iintro ⟨%f, H⟩; iexists f; simp only [Memref.view_whole, View.set_whole]; iexact H

theorem held_in (V : (c : Dev nD) → (b : Ref sig .tc) → Buf (Elt F) ((c : Thread nD τ).loc b)) (c : Dev nD) :
    Pipeline.ΦDR osem spec0 HH RR V c ⊢ held c 0 := by
  rw [Pipeline.ΦDR_eq, scopedRest0_eq, ownSems0_eq]
  unfold Pipeline.owned held carry
  rw [if_pos (Or.inl rfl), BI.bigSep_empty, bigSep_singleton]
  unfold allHome
  iintro ⟨⟨S0, S1, S2, S3, S4, S5, S6, S7, S8, S9, S10, S11, S12, S13⟩, Hg, ⟨C0, C1⟩, -, HZ⟩
  ihave HS := (st_split c) $$ S10
  icases HS with ⟨T0, T1⟩
  isplitl [S0 S1 S2 S3 S4 S6 S7 S8 S9 S11 S12]
  · isplitl [S0]; · iapply (pa_in c cc0_scratch0); iexact S0
    isplitl [S1]; · iapply (pa_in c cc0_scratch1); iexact S1
    isplitl [S2]; · iapply (pa_in c cc0_scratch2); iexact S2
    isplitl [S3]; · iapply (pa_in c cc0_scratch3); iexact S3
    isplitl [S4]; · iapply (pa_in c cc0_scratch4); iexact S4
    isplitl [S6]; · iapply (pa_in c cc0_scratch6); iexact S6
    isplitl [S7]; · iapply (pa_in c cc0_scratch7); iexact S7
    isplitl [S8]; · iapply (pa_in c cc0_scratch8); iexact S8
    isplitl [S9]; · iapply (pa_in c cc0_scratch9); iexact S9
    isplitl [S11]; · iapply (pa_in c cc0_scratch11); iexact S11
    iapply (pa_in c cc0_scratch12); iexact S12
  isplitl [S5 S13 C0 C1 HZ T0 T1]
  · isplitl [HZ C0 C1 T0 T1]
    · isplitl [HZ]; · iapply (zd_split c); iexact HZ
      isplitl [C0 T0]
      · isplitl [C0]; · iexact C0
        iexact T0
      isplitl [C1]; · iexact C1
      iexact T1
    isplitl [S5]; · iapply (pa_in c cc0_scratch5); iexact S5
    iapply (pa_in c cc0_scratch13); iexact S13
  iexact Hg

theorem held_out (V : (c : Dev nD) → (b : Ref sig .tc) → Buf (Elt F) ((c : Thread nD τ).loc b)) (c : Dev nD) :
    held c 149 ⊢ Pipeline.ΦDR osem spec0 HH RR V c := by
  rw [Pipeline.ΦDR_eq, scopedRest0_eq, ownSems0_eq]
  unfold Pipeline.owned held carry
  rw [if_pos (Or.inr rfl), BI.bigSep_empty, bigSep_singleton]
  unfold allHome
  iintro ⟨⟨S0, S1, S2, S3, S4, S6, S7, S8, S9, S11, S12⟩, ⟨⟨HZ, ⟨C0, T0⟩, ⟨C1, T1⟩⟩, S5, S13⟩, Hg⟩
  isplitl [S0 S1 S2 S3 S4 S5 S6 S7 S8 S9 S11 S12 S13 T0 T1]
  · isplitl [S0]; · iapply (pa_out c cc0_scratch0); iexact S0
    isplitl [S1]; · iapply (pa_out c cc0_scratch1); iexact S1
    isplitl [S2]; · iapply (pa_out c cc0_scratch2); iexact S2
    isplitl [S3]; · iapply (pa_out c cc0_scratch3); iexact S3
    isplitl [S4]; · iapply (pa_out c cc0_scratch4); iexact S4
    isplitl [S5]; · iapply (pa_out c cc0_scratch5); iexact S5
    isplitl [S6]; · iapply (pa_out c cc0_scratch6); iexact S6
    isplitl [S7]; · iapply (pa_out c cc0_scratch7); iexact S7
    isplitl [S8]; · iapply (pa_out c cc0_scratch8); iexact S8
    isplitl [S9]; · iapply (pa_out c cc0_scratch9); iexact S9
    isplitl [T0 T1]
    · iapply (st_join c)
      isplitl [T0]; · iexact T0
      iexact T1
    isplitl [S11]; · iapply (pa_out c cc0_scratch11); iexact S11
    isplitl [S12]; · iapply (pa_out c cc0_scratch12); iexact S12
    iapply (pa_out c cc0_scratch13); iexact S13
  isplitl [Hg]; · iexact Hg
  isplitl [C0 C1]
  · isplitl [C0]; · iexact C0
    iexact C1
  isplitr; · iempintro
  iapply (zd_join c (V c main_v14_1)); iexact HZ

end Cert.Kernel.Hand
end
-- ==== Proof.KernelFrame.lean ====
module

public import proofs.«01_k».proof.Proof.KernelHome
public import proofs.«01_k».proof.Proof.Gen.Kernel.Launch
public import proofs.«01_k».proof.Proof.Gen.Kernel.Points
public import proofs.«01_k».proof.Proof.Gen.Kernel.Loops
public import Idealize.ShloMosaic.Lib.Pipeline.Frame
public import proofs.«01_k».proof.Proof.Gen.Kernel.Frame
public import Idealize.ShloMosaic.Lib.Pipeline.DatRel
public import Idealize.ShloMosaic.Lib.Pipeline.ArrRel
public import Idealize.ShloMosaic.Lib.Ring
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Cert.Counting Idealize.ShloMosaic.ValueIdx

open Idealize.ShloMosaic.Pipeline (Dat RDat Cfg Window BodyObligation cellOf)

/-! The whole run: what every window holds, the launch, and the arguments' return. -/

variable (m : (ℓ : Loc nD τ sig) → Buf (Elt F) ℓ) (ρ : Dev nD → PrngReg)

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 800000 in
theorem enters : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The exact part of the proof data: the operands kept in place hold their block at every point; of the other windows nothing is named here. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
    | ⟨12, _⟩ => fun _ => Classical.arbitrary _
    | ⟨13, _⟩ => fun _ => Classical.arbitrary _
  Φ t := held c t.val
  q _ := fullShare
  owed _ := 0

theorem A_eq (c : Dev nD) (w : Fin cfg0.W) : (dats m 0 c).A w = V m c (Pipeline.arrRef spec0 w) := by dsimp only [dats]

/-- The windows of which the body leaves something that is not named exactly: the two clipped operands and the results. -/
def rel0 : Fin cfg0.W → Bool := fun w => match w with
  | ⟨0, _⟩ => false | ⟨1, _⟩ => false | ⟨2, _⟩ => false | ⟨3, _⟩ => false | ⟨4, _⟩ => false | ⟨5, _⟩ => false | ⟨6, _⟩ => false | ⟨7, _⟩ => true | ⟨8, _⟩ => true | ⟨9, _⟩ => true | ⟨10, _⟩ => true | ⟨11, _⟩ => true | ⟨12, _⟩ => true | ⟨13, _⟩ => true

/-- What is said of them: the tempered logits' buffer holds `zt` of the operands' blocks, those of the two clipped operands padded with anything;
    of the others nothing. -/
def Rl0 (c : Dev nD) : (w : Fin cfg0.W) → Fin cfg0.N → ((cfg0.win w).block.Idx → Elt F (cfg0.win w).elt) → Prop := fun w => match w with
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun _ _ => True
  | ⟨7, _⟩ => fun _ _ => True
  | ⟨8, _⟩ => fun _ _ => True
  | ⟨9, _⟩ => fun t X => ∃ d7 d8, X = zt (iblk m c 0 t) (iblk m c 2 t) ((cfg0.win 7).fill (grid0.coords t) d7 (iblk m c 7 t))
      ((cfg0.win 8).fill (grid0.coords t) d8 (iblk m c 8 t))
  | ⟨10, _⟩ => fun _ _ => True
  | ⟨11, _⟩ => fun _ _ => True
  | ⟨12, _⟩ => fun _ _ => True
  | ⟨13, _⟩ => fun _ _ => True

theorem finds7 (c : Dev nD) (t : Fin cfg0.N) (Y) (h : ((dats m 0 c).toRRel rel0 (Rl0 m c)).Finds 7 t Y) :
    ∃ d, Y = (cfg0.win 7).fill (grid0.coords t) d (iblk m c 7 t) := ((RDat.finds_of_fetch _ (fetch0_7 t) Y).mp h)
theorem finds8 (c : Dev nD) (t : Fin cfg0.N) (Y) (h : ((dats m 0 c).toRRel rel0 (Rl0 m c)).Finds 8 t Y) :
    ∃ d, Y = (cfg0.win 8).fill (grid0.coords t) d (iblk m c 8 t) := ((RDat.finds_of_fetch _ (fetch0_8 t) Y).mp h)

theorem coord (t : Fin cfg0.N) : (grid0.coords t 0).val = t.val := by
  have h : ∀ t : Fin 149, (grid0.coords t 0).val = t.val := by decide +kernel
  exact h t

/-- What is needed of the arguments: the ids lie in range, as the kernel's own blocks of them. -/
def InRange (c : Dev nD) : Prop :=
  (∀ t : Fin cfg0.N, DiffOK (iblk m c 6 t)) ∧ ∀ (t : Fin cfg0.N) (y), ∃ n : ℕ, n < 32000 ∧ iblk m c 5 t y = BitVec.ofNat 32 n

def bodyPre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel rel0 (Rl0 m c)).Finds 7 t Y⌝ ∗ owns (c : Thread nD τ) (st0_7 t) fullShare Y)
    ∗ (∃ Y, ⌜((dats m 0 c).toRRel rel0 (Rl0 m c)).Finds 8 t Y⌝ ∗ owns (c : Thread nD τ) (st0_8 t) fullShare Y)
    ∗ (∃ Y, ⌜((dats m 0 c).toRRel rel0 (Rl0 m c)).Finds 9 t Y⌝ ∗ owns (c : Thread nD τ) (st0_9 t) fullShare Y)
    ∗ (∃ Y, ⌜((dats m 0 c).toRRel rel0 (Rl0 m c)).Finds 10 t Y⌝ ∗ owns (c : Thread nD τ) (st0_10 t) fullShare Y)
    ∗ (∃ Y, ⌜((dats m 0 c).toRRel rel0 (Rl0 m c)).Finds 11 t Y⌝ ∗ owns (c : Thread nD τ) (st0_11 t) fullShare Y)
    ∗ (∃ Y, ⌜((dats m 0 c).toRRel rel0 (Rl0 m c)).Finds 12 t Y⌝ ∗ owns (c : Thread nD τ) (st0_12 t) fullShare Y)
    ∗ (∃ Y, ⌜((dats m 0 c).toRRel rel0 (Rl0 m c)).Finds 13 t Y⌝ ∗ owns (c : Thread nD τ) (st0_13 t) fullShare Y))
def bodyPost (c : Dev nD) (t : Fin cfg0.N) : sProp (𝕄 F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rl0 m c 7 t X⌝ ∗ owns (c : Thread nD τ) (st0_7 t) fullShare X)
    ∗ (∃ X, ⌜Rl0 m c 8 t X⌝ ∗ owns (c : Thread nD τ) (st0_8 t) fullShare X)
    ∗ (∃ X, ⌜Rl0 m c 9 t X⌝ ∗ owns (c : Thread nD τ) (st0_9 t) fullShare X)
    ∗ (∃ X, ⌜Rl0 m c 10 t X⌝ ∗ owns (c : Thread nD τ) (st0_10 t) fullShare X)
    ∗ (∃ X, ⌜Rl0 m c 11 t X⌝ ∗ owns (c : Thread nD τ) (st0_11 t) fullShare X)
    ∗ (∃ X, ⌜Rl0 m c 12 t X⌝ ∗ owns (c : Thread nD τ) (st0_12 t) fullShare X)
    ∗ (∃ X, ⌜Rl0 m c 13 t X⌝ ∗ owns (c : Thread nD τ) (st0_13 t) fullShare X))

theorem owns_eq (c : Dev nD) {sp : Space} {s : Shape} {e : EltTy} (M : Memref sig .tc sp s e) (X : s.Idx → Elt F e) :
    (owns (c : Thread nD τ) M fullShare X : sProp (𝕄 F)) = iprop(∃ g, ⌜M.view.read (Elt F) g = X⌝ ∗ pt c M g) := rfl

theorem any_owns (c : Dev nD) {sp : Space} {s : Shape} {e : EltTy} (M : Memref sig .tc sp s e) :
    pa F c M ⊢ (iprop(∃ X, owns (c : Thread nD τ) M fullShare X) : sProp (𝕄 F)) := by
  iintro ⟨%g, H⟩; iexists (M.view.read (Elt F) g); iapply (entails_of_eq (owns_eq c M _).symm); iexists g; isplitr; swap; · iexact H
  ipureintro; rfl

set_option maxHeartbeats 4000000 in
/-- One step, from the windows' buffers as the pipeline states them. -/
theorem sound_body (hF : Counts F) (c : Dev nD) (hin : InRange m c) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = held c (t.val + 1) from rfl]
  rw [show (dats m 0 c).Φ t.castSucc = held c t.val from rfl]
  unfold Dat.owesAt Pipeline.owesWithin
  rw [show (dats m 0 c).owed t.castSucc = 0 from rfl, show (dats m 0 c).owed t.succ = 0 from rfl]
  simp only [before0 m (dats m 0 c) rfl (fun _ => rfl), before1 m (dats m 0 c) rfl (fun _ => rfl), before2 m (dats m 0 c) rfl (fun _ => rfl), before3 m (dats m 0 c) rfl (fun _ => rfl), before4 m (dats m 0 c) rfl (fun _ => rfl), before5 m (dats m 0 c) rfl (fun _ => rfl), before6 m (dats m 0 c) rfl (fun _ => rfl)]
  unfold held
  iintro ⟨⟨HF, HC, Hg⟩, ⟨%Wt, -, HO⟩, ⟨%d0, H0⟩, ⟨%d1, H1⟩, ⟨%d2, H2⟩, ⟨%d3, H3⟩, ⟨%d4, H4⟩, ⟨%d5, H5⟩, ⟨%d6, H6⟩, ⟨%Y7, %h7, H7⟩, ⟨%Y8, %h8, H8⟩, ⟨%Y9, %h9, H9⟩, ⟨%Y10, %h10, H10⟩, ⟨%Y11, %h11, H11⟩, ⟨%Y12, %h12, H12⟩, ⟨%Y13, %h13, H13⟩⟩
  obtain ⟨d7, rfl⟩ := finds7 m c t Y7 h7
  obtain ⟨d8, rfl⟩ := finds8 m c t Y8 h8
  ihave H0 := (entails_of_eq (owns_eq c (st0_0 t) _)) $$ H0
  icases H0 with ⟨%g0, %e0, H0⟩
  ihave H1 := (entails_of_eq (owns_eq c (st0_1 t) _)) $$ H1
  icases H1 with ⟨%g1, %e1, H1⟩
  ihave H2 := (entails_of_eq (owns_eq c (st0_2 t) _)) $$ H2
  icases H2 with ⟨%g2, %e2, H2⟩
  ihave H3 := (entails_of_eq (owns_eq c (st0_3 t) _)) $$ H3
  icases H3 with ⟨%g3, %e3, H3⟩
  ihave H4 := (entails_of_eq (owns_eq c (st0_4 t) _)) $$ H4
  icases H4 with ⟨%g4, %e4, H4⟩
  ihave H5 := (entails_of_eq (owns_eq c (st0_5 t) _)) $$ H5
  icases H5 with ⟨%g5, %e5, H5⟩
  ihave H6 := (entails_of_eq (owns_eq c (st0_6 t) _)) $$ H6
  icases H6 with ⟨%g6, %e6, H6⟩
  ihave H7 := (entails_of_eq (owns_eq c (st0_7 t) _)) $$ H7
  icases H7 with ⟨%g7, %e7, H7⟩
  ihave H8 := (entails_of_eq (owns_eq c (st0_8 t) _)) $$ H8
  icases H8 with ⟨%g8, %e8, H8⟩
  ihave H9 := (entails_of_eq (owns_eq c (st0_9 t) _)) $$ H9
  icases H9 with ⟨%g9, %e9, H9⟩
  ihave H10 := (entails_of_eq (owns_eq c (st0_10 t) _)) $$ H10
  icases H10 with ⟨%g10, %e10, H10⟩
  ihave H11 := (entails_of_eq (owns_eq c (st0_11 t) _)) $$ H11
  icases H11 with ⟨%g11, %e11, H11⟩
  ihave H12 := (entails_of_eq (owns_eq c (st0_12 t) _)) $$ H12
  icases H12 with ⟨%g12, %e12, H12⟩
  ihave H13 := (entails_of_eq (owns_eq c (st0_13 t) _)) $$ H13
  icases H13 with ⟨%g13, %e13, H13⟩
  have hD : DiffOK ((st0_6 t).view.read (Elt F) g6) := by rw [e6]; exact hin.1 t
  have hT : TokOK c (st0_5 t) g5 := fun y => by rw [e5]; exact hin.2 t y
  have hs := step c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch11) (Memref.isWhole_whole _) (Memref.whole cc0_scratch12) (Memref.isWhole_whole _) (Memref.whole cc0_scratch13) (Memref.isWhole_whole _) g0 g1 g2 g3 g4 g5 g6 g7 g8 hF hD hT
  rw [coord] at hs
  unfold W at hs
  iapply (wp_wand_r Idealize.ShloMosaic.frame (wpE (defs₀ (F := F)) 𝒱₀ (c : Thread nD τ) none) Set.univ)
  isplitr [Hg]
  · iapply hs
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 H10 H11 H12 H13]
    · isplitl [H9]; · iexists _; iexact H9
      isplitl [H10]; · iexists _; iexact H10
      isplitl [H11]; · iexists _; iexact H11
      isplitl [H12]; · iexists _; iexact H12
      iexists _; iexact H13
    isplitl [HO]; · iexists _; iexact HO
    isplitl [HF]; · iexact HF
    iexact HC
  iintro %a HQ
  unfold stepped
  rw [coord]
  icases HQ with ⟨⟨%f10, %e10, Z⟩, H0, H1, H2, H3, H4, H5, H6, H7, H8, A12, A13, A14, A15, ⟨%Wt2, HO⟩, S16, S17, S18, S19, S20, S22, S23, S24, S25, S27, S28, HC⟩
  isplitl [Hg HC S16 S17 S18 S19 S20 S22 S23 S24 S25 S27 S28]
  · isplitl [S16 S17 S18 S19 S20 S22 S23 S24 S25 S27 S28]
    · isplitl [S16]; · iexact S16
      isplitl [S17]; · iexact S17
      isplitl [S18]; · iexact S18
      isplitl [S19]; · iexact S19
      isplitl [S20]; · iexact S20
      isplitl [S22]; · iexact S22
      isplitl [S23]; · iexact S23
      isplitl [S24]; · iexact S24
      isplitl [S25]; · iexact S25
      isplitl [S27]; · iexact S27
      iexact S28
    isplitl [HC]; · iexact HC
    iexact Hg
  isplitl [HO]
  · iexists _; isplitr; swap; · iexact HO
    ipureintro; exact fun _ _ => Or.inl trivial
  isplitl [H0]
  · iapply (entails_of_eq (owns_eq c (st0_0 t) _).symm); iexists _; isplitr; swap; · iexact H0
    ipureintro; exact e0
  isplitl [H1]
  · iapply (entails_of_eq (owns_eq c (st0_1 t) _).symm); iexists _; isplitr; swap; · iexact H1
    ipureintro; exact e1
  isplitl [H2]
  · iapply (entails_of_eq (owns_eq c (st0_2 t) _).symm); iexists _; isplitr; swap; · iexact H2
    ipureintro; exact e2
  isplitl [H3]
  · iapply (entails_of_eq (owns_eq c (st0_3 t) _).symm); iexists _; isplitr; swap; · iexact H3
    ipureintro; exact e3
  isplitl [H4]
  · iapply (entails_of_eq (owns_eq c (st0_4 t) _).symm); iexists _; isplitr; swap; · iexact H4
    ipureintro; exact e4
  isplitl [H5]
  · iapply (entails_of_eq (owns_eq c (st0_5 t) _).symm); iexists _; isplitr; swap; · iexact H5
    ipureintro; exact e5
  isplitl [H6]
  · iapply (entails_of_eq (owns_eq c (st0_6 t) _).symm); iexists _; isplitr; swap; · iexact H6
    ipureintro; exact e6
  isplitl [H7]
  · iexists _; isplitr; swap
    · iapply (entails_of_eq (owns_eq c (st0_7 t) _).symm); iexists _; isplitr; swap; · iexact H7
      ipureintro; exact e7
    ipureintro; exact trivial
  isplitl [H8]
  · iexists _; isplitr; swap
    · iapply (entails_of_eq (owns_eq c (st0_8 t) _).symm); iexists _; isplitr; swap; · iexact H8
      ipureintro; exact e8
    ipureintro; exact trivial
  isplitl [Z]
  · iexists (zt (iblk m c 0 t) (iblk m c 2 t) ((cfg0.win 7).fill (grid0.coords t) d7 (iblk m c 7 t)) ((cfg0.win 8).fill (grid0.coords t) d8 (iblk m c 8 t))); isplitr; swap
    · iapply (entails_of_eq (owns_eq c (st0_9 t) _).symm); iexists _; isplitr; swap; · iexact Z
      ipureintro; rw [e0, e2, e7, e8] at e10; exact e10
    ipureintro; exact ⟨d7, d8, rfl⟩
  ihave A12 := (any_owns c (st0_10 t)) $$ A12
  icases A12 with ⟨%X10, A12⟩
  ihave A13 := (any_owns c (st0_11 t)) $$ A13
  icases A13 with ⟨%X11, A13⟩
  ihave A14 := (any_owns c (st0_12 t)) $$ A14
  icases A14 with ⟨%X12, A14⟩
  ihave A15 := (any_owns c (st0_13 t)) $$ A15
  icases A15 with ⟨%X13, A15⟩
  isplitl [A12]
  · iexists X10; isplitr; swap; · iexact A12
    ipureintro; exact trivial
  isplitl [A13]
  · iexists X11; isplitr; swap; · iexact A13
    ipureintro; exact trivial
  isplitl [A14]
  · iexists X12; isplitr; swap; · iexact A14
    ipureintro; exact trivial
  iexists X13; isplitr; swap; · iexact A15
  ipureintro; exact trivial

theorem defs₀_row (t : Fin cfg0.N) :
    defs₀ (F := F) .tc cfg0.body (cfg0.bodyArgs t (cfg0.slots t)) = bodyAt0 t := by
  unfold defs₀; rw [Defs.onTc_tc]

theorem body_obligation (hF : Counts F) (c : Dev nD) (hin : InRange m c) :
    Pipeline.BodyObligationRel (dats (F := F) m 0 c) (defs₀ (F := F)) Variants.none () Set.univ rel0 (Rl0 m c) := fun t => by
  rw [bigSep_W0, bigSep_W0, defs₀_row]
  exact triple_restated (sound_body m hF c hin t) rfl .rfl fun _ => .rfl

/-- The relational proof data of the run. -/
abbrev rdat (c : Dev nD) : RDat τ (Elt F) Unit ℕ (Pipeline.UD sig nD τ) ℕ cfg0 c := (dats m 0 c).toRRel rel0 (Rl0 m c)

set_option backward.isDefEq.respectTransparency.types false in
theorem run_main (hF : Counts F) (hin : ∀ c, InRange m c) : θ_run defs (onTc (τ := τ) (main (F := F))) (s₀ m ρ)
    (fun r => RDat.FramePostR cfg0 (rdat m) RR (V m) r ∧ r.2.sem = fun _ => 0) :=
  RDat.θ_run_frame_dmaR cfgs (0 : Fin 1) launch0 osem defs₀ Variants.none (rdat m) ownSemFacts HH RR (by decide) (by decide) m ρ main
    (hbody := fun c => (body_obligation m hF c (hin c)).toRRel) (hshare := fun c => (dats m 0 c).share_full fun _ => rfl)
    (howed := fun _ _ => rfl) (V := V m) (hmain := enters m) (hA := A_eq m)
    (hin := fun c => held_in (V m) c) (hout := fun c => held_out (V m) c) (Q' := _)

theorem kept (b : Ref sig .tc) (h : b ∈ Pipeline.restRefs sig spec0) (hb : b ≠ main_v14_1) : b ∈ Pipeline.restRefs sig spec0 \ RR :=
  Finset.mem_sdiff.mpr ⟨h, fun h' => hb (Finset.mem_singleton.mp h')⟩

/-- The run's post gives the arguments back unchanged. -/
theorem frame_post {r : PUnit × MemSt nD τ sig (Elt F)} (h : RDat.FramePostR cfg0 (rdat m) RR (V m) r ∧ r.2.sem = fun _ => 0) :
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  ⟨fun c => ⟨((h.1 c).2 main_arg0 (kept main_arg0 (Pipeline.mem_restRefs_of main_arg0 (by decide) (by decide)) (by decide))).trans (V_main_arg0 m c),
      ((h.1 c).2 main_arg1 (kept main_arg1 (Pipeline.mem_restRefs_of main_arg1 (by decide) (by decide)) (by decide))).trans (V_main_arg1 m c),
      (h.1.arr_in c 8 rfl).trans (V_main_arg2 m c),
      ((h.1 c).2 main_arg3 (kept main_arg3 (Pipeline.mem_restRefs_of main_arg3 (by decide) (by decide)) (by decide))).trans (V_main_arg3 m c),
      ((h.1 c).2 main_arg4 (kept main_arg4 (Pipeline.mem_restRefs_of main_arg4 (by decide) (by decide)) (by decide))).trans (V_main_arg4 m c),
      ((h.1 c).2 main_arg5 (kept main_arg5 (Pipeline.mem_restRefs_of main_arg5 (by decide) (by decide)) (by decide))).trans (V_main_arg5 m c),
      ((h.1 c).2 main_arg6 (kept main_arg6 (Pipeline.mem_restRefs_of main_arg6 (by decide) (by decide)) (by decide))).trans (V_main_arg6 m c),
      ((h.1 c).2 main_arg7 (kept main_arg7 (Pipeline.mem_restRefs_of main_arg7 (by decide) (by decide)) (by decide))).trans (V_main_arg7 m c)⟩, h.2⟩

end Cert.Kernel.Hand
end
-- ==== Proof.Tokens.lean ====
module

public import proofs.«01_k».proof.Defs
public import proofs.«01_k».proof.Proof.Gen.Pre_tokens_named
public import Idealize.ShloMosaic.Lib.ReduceAll
public import Idealize.ShloMosaic.Lib.Pointwise.Index

@[expose] public section

set_option maxRecDepth 16384

noncomputable section

/-! # What the precondition says of the two token arrays

The table of differences names a column of the weights at every position, and every drafted token names a position of the table. -/

namespace Cert.Proof.Tokens

open Idealize.ShloMosaic

variable {F : FTy → Type} [FloatOps F] [Cert.Pre_tokens_named.Facts]

theorem ofBool_and (p q : Bool) : IntOp.andi (BitVec.ofBool p) (BitVec.ofBool q) = BitVec.ofBool (p && q) := by
  cases p <;> cases q <;> decide
theorem ofBool_one (p : Bool) : (BitVec.ofBool p = 1#1) ↔ p = true := by cases p <;> decide
theorem and_one (a b : BitVec 1) (h : IntOp.andi a b = 1#1) : a = 1#1 ∧ b = 1#1 := by
  revert a b; decide

instance : Subsingleton Cert.Pre_tokens_named.S_.Idx := ⟨fun a b => funext fun x => x.elim0⟩

/-- A word between two words as the precondition tests it. -/
theorem between (v b : BitVec 32) (h : IntOp.andi (IntOp.cmpi .sge v 0#32) (IntOp.cmpi .slt v b) = 1#1) : 0 ≤ v.toInt ∧ v.toInt < b.toInt := by
  simp only [IntOp.cmpi, ofBool_and, ofBool_one, Bool.and_eq_true, BitVec.sle_eq_decide, BitVec.slt_eq_decide, decide_eq_true_eq] at h
  have h0 : (0#32 : BitVec 32).toInt = 0 := by decide
  omega

theorem ranges (a0 : FVec F Cert.Pre_tokens_named.S48x5x2560 .fp8e4m3) (a1 : FVec F Cert.Pre_tokens_named.S48x5 .f32)
    (a2 : FVec F Cert.Pre_tokens_named.S2560x151936 .fp8e4m3) (a3 : FVec F Cert.Pre_tokens_named.S151936 .f32)
    (a4 : FVec F Cert.Pre_tokens_named.S48x4x2560 .fp8e4m3) (a5 : FVec F Cert.Pre_tokens_named.S48x4 .f32)
    (a6 : IVec Cert.Pre_tokens_named.S32000 32) (a7 : IVec Cert.Pre_tokens_named.S48x4 32)
    (h : Cert.Pre_tokens_named.fn (F := F) a0 a1 a2 a3 a4 a5 a6 a7 = fun _ => 1#1) :
    (∀ j : Fin 32000, 0 ≤ (a6 (ix1 j) + BitVec.ofNat 32 j.val).toInt ∧ (a6 (ix1 j) + BitVec.ofNat 32 j.val).toInt < 151936)
      ∧ ∀ (r : Fin 48) (k : Fin 4), ∃ n : ℕ, n < 32000 ∧ a7 (ix2 r k) = BitVec.ofNat 32 n := by
  have e := congrFun h (fun x => x.elim0)
  dsimp only [Cert.Pre_tokens_named.fn, andi] at e
  obtain ⟨e6, e7⟩ := and_one _ _ e
  constructor
  · intro j
    exact between _ 151936#32 (Host.reduce_andi_all _ _ _ _ _ e6 (ix1 j))
  · intro r k
    obtain ⟨l, u⟩ := between (a7 (ix2 r k)) 32000#32 (Host.reduce_andi_all _ _ _ _ _ e7 (ix2 r k))
    have h3 : (32000#32 : BitVec 32).toInt = 32000 := by decide
    refine ⟨(a7 (ix2 r k)).toNat, ?_, by simp⟩
    rw [h3] at u
    rw [BitVec.toInt_eq_toNat_cond] at l u
    split at l <;> omega

end Cert.Proof.Tokens
end
-- ==== Proof.KernelInputs.lean ====
module

public import proofs.«01_k».proof.Proof.KernelFrame
public import proofs.«01_k».proof.Proof.Tokens
public import Idealize.ShloMosaic.Lib.StableHlo.ReadAt

@[expose] public section

set_option maxRecDepth 16384

noncomputable section

/-! # The tokens a step sees are in range, of arguments the precondition allows -/

namespace Cert.Kernel.Hand

open Cert.Kernel Cert.Kernel.Gen
open Idealize.ShloMosaic Idealize.ShloMosaic.TcCoe Idealize.SL.Sem
open Idealize.ShloMosaic.Pipeline (Window)

variable {F : FTy → Type} [FloatOps F]
variable (m : (ℓ : Loc nD τ sig) → Buf (Elt F) ℓ)

theorem whole_blocks : ∀ t : Fin grid0.N, win0_5.index t 0 = 0 ∧ win0_6.index t 0 = 0 ∧ win0_6.index t 1 = 0 := by decide +kernel

/-- The table of differences as the call finds it: row by row the argument's, where the argument has a position. -/
theorem table_read (c : Dev nD) (r : Fin 272) (l : Fin 128) (h : r.val * 128 + l.val < 32000) :
    V m c main_v12 (ix2 r l) = m ((c.tc : Thread nD τ).loc main_arg6) (ix1 (⟨r.val * 128 + l.val, h⟩ : Fin 32000)) := by
  unfold V
  after_reads_at
  exact dif_pos h

/-- The drafted tokens as the call finds them: column by column the argument's. -/
theorem drafted_read (c : Dev nD) (y : Fin 192) :
    V m c main_v9 (ix1 y) = m ((c.tc : Thread nD τ).loc main_arg7) (ix2 (⟨y.val % 48, by omega⟩ : Fin 48) (⟨y.val / 48, by omega⟩ : Fin 4)) := by
  unfold V
  after_reads_at

theorem in_range (c : Dev nD) (D : S32000.Idx → BitVec 32) (T : S48x4.Idx → BitVec 32)
    (hD : m ((c.tc : Thread nD τ).loc main_arg6) = D) (hT : m ((c.tc : Thread nD τ).loc main_arg7) = T)
    (h6 : ∀ j : Fin 32000, 0 ≤ (D (ix1 j) + BitVec.ofNat 32 j.val).toInt ∧ (D (ix1 j) + BitVec.ofNat 32 j.val).toInt < 151936)
    (h7 : ∀ (r : Fin 48) (k : Fin 4), ∃ n : ℕ, n < 32000 ∧ T (ix2 r k) = BitVec.ofNat 32 n) :
    InRange m c := by
  constructor
  · intro t r l h
    obtain ⟨-, h60, h61⟩ := whole_blocks t
    have e : (iblk m c 6 t : S272x128.Idx → BitVec 32) (ix2 r l) = D (ix1 (⟨r.val * 128 + l.val, h⟩ : Fin 32000)) := by
      refine Eq.trans ?_ ((table_read m c r l h).trans (congrFun hD _))
      show V m c main_v12 (((cfg0.win 6).rect t).emb (ix2 r l)) = _
      refine congrArg (V m c main_v12) (funext fun a => Fin.ext ?_)
      rw [Window.rect_emb_val (cfg0.win 6)]
      fin_cases a
      · show win0_6.index t 0 * 272 + r.val = r.val; omega
      · show win0_6.index t 1 * 128 + l.val = l.val; omega
    have hj := h6 ⟨r.val * 128 + l.val, h⟩
    rw [← e] at hj
    exact hj
  · intro t y
    obtain ⟨h50, -, -⟩ := whole_blocks t
    have e : (iblk m c 5 t : S192.Idx → BitVec 32) y = T (ix2 (⟨(y 0).val % 48, by omega⟩ : Fin 48) (⟨(y 0).val / 48, by have := (y 0).isLt; change (y 0).val < 192 at this; omega⟩ : Fin 4)) := by
      refine Eq.trans ?_ ((drafted_read m c (y 0)).trans (congrFun hT _))
      show V m c main_v9 (((cfg0.win 5).rect t).emb y) = _
      refine congrArg (V m c main_v9) (funext fun a => Fin.ext ?_)
      rw [Window.rect_emb_val (cfg0.win 5)]
      fin_cases a
      show win0_5.index t 0 * 192 + (y 0).val = (y 0).val; omega
    obtain ⟨n, hn, en⟩ := h7 ⟨(y 0).val % 48, by omega⟩ ⟨(y 0).val / 48, by have := (y 0).isLt; change (y 0).val < 192 at this; omega⟩
    exact ⟨n, hn, e.trans en⟩

/-- Arguments of which the precondition holds are in range. -/
theorem in_range_of_pre [Cert.Pre_tokens_named.Facts] (m : (ℓ : Loc nD τ sig) → Buf (Elt Bits) ℓ) (h : Cert.Pre_Kernel m) (c : Dev nD) : InRange (F := Bits) m c := by
  obtain ⟨h6, h7⟩ := Cert.Proof.Tokens.ranges (F := Bits) _ _ _ _ _ _ _ _ (h c)
  exact in_range m c _ _ rfl rfl h6 h7

end Cert.Kernel.Hand
end
-- ==== Proof.KernelIdealChecks.lean ====
module

public import proofs.«01_k».proof.Proof.Gen.KernelIdeal.Skeleton
public import Idealize.ShloMosaic.Lib.Affine
public import Idealize.ShloMosaic.Lib.WordCmp
public import Idealize.ShloMosaic.Lib.Tactic

@[expose] public section

set_option maxRecDepth 16384

/-! The kernel's run-time checks from the two counters' ranges: `n` gathered draft tokens, at most 32000, and `a` column
pairs of draft logits already written, at most `n / 256`. -/

namespace Cert.KernelIdeal.Hand

open Cert.KernelIdeal Cert.KernelIdeal.Gen
open Idealize.ShloMosaic
open Affine

theorem isInt_ofNat {n : ℕ} (h : n < 2 ^ 31) : IsInt (BitVec.ofNat 32 n) (n : ℤ) := ofNat (e := n) n ⟨rfl, h⟩

theorem toInt_of_isInt {x : BitVec 32} {e : ℤ} (h : IsInt x e) : x.toInt = e := by delta Affine.IsInt at h; exact h

theorem eq_of_isInt {x : BitVec 32} {n : ℕ} (h : IsInt x (n : ℤ)) (hn : n < 2 ^ 31) : x = BitVec.ofNat 32 n := by
  exact BitVec.eq_of_toInt_eq ((toInt_of_isInt h).trans (toInt_of_isInt (isInt_ofNat hn)).symm)

/-- The word the kernel computes for `⌊v / 256⌋`. -/
abbrev floor256 (v : BitVec 32) : BitVec 32 :=
  Scalar.select (Scalar.andi
      (Scalar.cmpi .ne (Scalar.subi (Scalar.extui (Scalar.cmpi .sgt v 0#32)) (Scalar.extui (Scalar.cmpi .slt v 0#32)) : BitVec 32)
        (Scalar.subi (Scalar.extui (Scalar.cmpi .sgt 256#32 (0#32 : BitVec 32))) (Scalar.extui (Scalar.cmpi .slt 256#32 (0#32 : BitVec 32)))))
      (Scalar.cmpi .ne (Scalar.remsi v 256#32) 0#32))
    (Scalar.subi (Scalar.divsi v 256#32) 1#32) (Scalar.divsi v 256#32)

theorem floor256_eq {n : ℕ} (hn : n ≤ 32000) : floor256 (BitVec.ofNat 32 n) = BitVec.ofNat 32 (n / 256) := by
  have hd : Scalar.divsi (BitVec.ofNat 32 n) 256#32 = BitVec.ofNat 32 (n / 256) :=
    eq_of_isInt (divsi (e := (n / 256 : ℕ)) (isInt_ofNat (by omega)) (ofNat (e := 256) 256 ⟨rfl, by decide⟩) ⟨by push_cast; rfl, by omega, by omega⟩) (by omega)
  unfold floor256
  rw [hd]
  rcases Nat.eq_zero_or_pos n with rfl | hp
  · decide
  · have h1 : Scalar.cmpi .sgt (BitVec.ofNat 32 n) 0#32 = 1#1 := sgt_holds (isInt_ofNat (by omega)) (ofNat (e := 0) 0 ⟨rfl, by decide⟩) (by omega)
    have h2 : Scalar.cmpi .slt (BitVec.ofNat 32 n) 0#32 = 0#1 := by
      have h := slt_fails (isInt_ofNat (n := n) (by omega)) (ofNat (e := 0) 0 ⟨rfl, by decide⟩) (by omega)
      generalize Scalar.cmpi .slt (BitVec.ofNat 32 n) 0#32 = c at h
      have : ∀ c : BitVec 1, ¬c = 1#1 → c = 0#1 := by decide
      exact this c h
    rw [h1, h2]
    rw [show Scalar.cmpi .ne (Scalar.subi (Scalar.extui 1#1) (Scalar.extui 0#1) : BitVec 32)
        (Scalar.subi (Scalar.extui (Scalar.cmpi .sgt 256#32 (0#32 : BitVec 32))) (Scalar.extui (Scalar.cmpi .slt 256#32 (0#32 : BitVec 32)))) = 0#1 from by decide]
    generalize Scalar.cmpi .ne (Scalar.remsi (BitVec.ofNat 32 n) 256#32) 0#32 = c
    have : Scalar.andi 0#1 c = 0#1 := by revert c; decide
    rw [this]; rfl

section Loop
variable {a n : ℕ}

theorem sub_word (h : a ≤ n) (hn : n < 2 ^ 31) : Scalar.subi (BitVec.ofNat 32 n) (BitVec.ofNat 32 a) = BitVec.ofNat 32 (n - a) :=
  eq_of_isInt (subi (e := (n - a : ℕ)) (isInt_ofNat hn) (isInt_ofNat (by omega)) ⟨by omega, by omega, by omega⟩) (by omega)

theorem whole_word (h : n < 2 ^ 31) : Scalar.muli (Scalar.divsi (BitVec.ofNat 32 n) 1#32) 1#32 = BitVec.ofNat 32 n :=
  eq_of_isInt (muli (e := n) (divsi_one (e := n) (isInt_ofNat h) (ofNat (e := 1) 1 ⟨rfl, by decide⟩) ⟨rfl, rfl⟩)
    (ofNat (e := 1) 1 ⟨rfl, by decide⟩) ⟨by omega, by omega, by omega⟩) h

theorem add_word (h : a + n < 2 ^ 31) : Scalar.addi (BitVec.ofNat 32 a) (BitVec.ofNat 32 n) = BitVec.ofNat 32 (a + n) :=
  eq_of_isInt (addi (e := (a + n : ℕ)) (isInt_ofNat (by omega)) (isInt_ofNat (by omega)) ⟨by push_cast; rfl, by omega, by omega⟩) h

theorem loop1_eq (hn : n ≤ 32000) (ha : a ≤ n / 256) :
    k0_t1_loop (BitVec.ofNat 32 a) (BitVec.ofNat 32 n) = ⟨BitVec.ofNat 32 a, BitVec.ofNat 32 (n / 256), 1#32⟩ := by
  show (⟨BitVec.ofNat 32 a, Scalar.addi (BitVec.ofNat 32 a) (Scalar.muli (Scalar.divsi (Scalar.subi (floor256 (BitVec.ofNat 32 n)) (BitVec.ofNat 32 a)) 1#32) 1#32), 1#32⟩ : Scf.Loop 32) = _
  rw [floor256_eq hn, sub_word ha (by omega), whole_word (by omega), add_word (by omega), Nat.add_sub_cancel' ha]

theorem loop2_eq (hn : n ≤ 32000) (ha : a ≤ n / 256) :
    k0_t2_loop (BitVec.ofNat 32 a) (BitVec.ofNat 32 n) = ⟨BitVec.ofNat 32 (n / 256), BitVec.ofNat 32 (n / 256), 1#32⟩ := by
  show (⟨Scalar.addi (BitVec.ofNat 32 a) (Scalar.muli (Scalar.divsi (Scalar.subi (floor256 (BitVec.ofNat 32 n)) (BitVec.ofNat 32 a)) 1#32) 1#32),
    Scalar.addi (BitVec.ofNat 32 a) (Scalar.subi (floor256 (BitVec.ofNat 32 n)) (BitVec.ofNat 32 a)), 1#32⟩ : Scf.Loop 32) = _
  rw [floor256_eq hn, sub_word ha (by omega), whole_word (by omega), add_word (by omega), Nat.add_sub_cancel' ha]

theorem trips_ofNat (a q : ℕ) (h : a ≤ q) (hq : q < 2 ^ 31) : Scf.trips (BitVec.ofNat 32 a) (BitVec.ofNat 32 q) 1#32 = q - a := by
  have ha := toInt_of_isInt (isInt_ofNat (n := a) (by omega)); have hb := toInt_of_isInt (isInt_ofNat hq)
  unfold Scf.trips; rw [ha, hb]; simp

/-- The draft loop runs once for each pair of column tiles the gathered tokens fill and no earlier step has written; -/
theorem trips1_eq (hn : n ≤ 32000) (ha : a ≤ n / 256) : (k0_t1_loop (BitVec.ofNat 32 a) (BitVec.ofNat 32 n)).trips = n / 256 - a := by
  rw [loop1_eq hn ha]; exact trips_ofNat a _ ha (by omega)
/-- its remainder loop never. -/
theorem trips2_eq (hn : n ≤ 32000) (ha : a ≤ n / 256) : (k0_t2_loop (BitVec.ofNat 32 a) (BitVec.ofNat 32 n)).trips = 0 := by
  rw [loop2_eq hn ha]; exact (trips_ofNat _ _ le_rfl (by omega)).trans (by omega)

theorem iv_word (d k : ℕ) : Scf.iv (BitVec.ofNat 32 d) 1#32 k = BitVec.ofNat 32 (d + k) := by
  unfold Scf.iv; rw [BitVec.mul_one, BitVec.ofNat_add]

end Loop

section Forms
variable (a n : ℕ) (k : Fin (k0_t1_loop (BitVec.ofNat 32 a) (BitVec.ofNat 32 n)).trips) (hk : a + k.val < 125)
include hk

theorem off1_eq : k0_off1 (BitVec.ofNat 32 a) (BitVec.ofNat 32 n) k = ![(a + k.val) % 6, 0, 0] := by
  simp only [k0_off1, iv_word]; generalize a + k.val = d at hk; revert d; decide +kernel
theorem off2_eq : k0_off2 (BitVec.ofNat 32 a) (BitVec.ofNat 32 n) k = ![(a + k.val) % 6, 0, 0] := by
  simp only [k0_off2, iv_word]; generalize a + k.val = d at hk; revert d; decide +kernel
theorem cond2_iff : k0_cond2 (BitVec.ofNat 32 a) (BitVec.ofNat 32 n) k = 1#1 ↔ 2 ≤ a + k.val := by
  simp only [k0_cond2, iv_word]; generalize a + k.val = d at hk; revert d; decide +kernel
theorem off3_eq (h2 : 2 ≤ a + k.val) : k0_off3 (BitVec.ofNat 32 a) (BitVec.ofNat 32 n) k = ![(a + k.val) % 2] := by
  simp only [k0_off3, iv_word]; generalize a + k.val = d at hk h2; revert d; decide +kernel
theorem off4_eq (h2 : 2 ≤ a + k.val) : k0_off4 (BitVec.ofNat 32 a) (BitVec.ofNat 32 n) k = ![0, (a + k.val - 2) * 256] := by
  simp only [k0_off4, iv_word]; generalize a + k.val = d at hk h2; revert d; decide +kernel
theorem mult1_dvd (h2 : 2 ≤ a + k.val) : 256 ∣ (k0_mult1 (BitVec.ofNat 32 a) (BitVec.ofNat 32 n) k).toNat := by
  simp only [k0_mult1, iv_word]; generalize a + k.val = d at hk h2; revert d; decide +kernel
theorem off5_eq (h2 : 2 ≤ a + k.val) : k0_off5 (BitVec.ofNat 32 a) (BitVec.ofNat 32 n) k = ![(a + k.val) % 2, 0, 0] := by
  simp only [k0_off5, iv_word]; generalize a + k.val = d at hk h2; revert d; decide +kernel
theorem off6_eq : k0_off6 (BitVec.ofNat 32 a) (BitVec.ofNat 32 n) k = ![(a + k.val) % 2, 0, 0] := by
  simp only [k0_off6, iv_word]; generalize a + k.val = d at hk; revert d; decide +kernel
theorem mult2_dvd : 256 ∣ (k0_mult2 (BitVec.ofNat 32 a) (BitVec.ofNat 32 n) k).toNat := by
  simp only [k0_mult2, iv_word]; generalize a + k.val = d at hk; revert d; decide +kernel
theorem off7_eq : k0_off7 (BitVec.ofNat 32 a) (BitVec.ofNat 32 n) k = ![(a + k.val) % 2] := by
  simp only [k0_off7, iv_word]; generalize a + k.val = d at hk; revert d; decide +kernel
theorem off8_eq : k0_off8 (BitVec.ofNat 32 a) (BitVec.ofNat 32 n) k = ![0, (a + k.val) * 256] := by
  simp only [k0_off8, iv_word]; generalize a + k.val = d at hk; revert d; decide +kernel
theorem off9_eq : k0_off9 (BitVec.ofNat 32 a) (BitVec.ofNat 32 n) k = ![(a + k.val) % 2, 0, 0] := by
  simp only [k0_off9, iv_word]; generalize a + k.val = d at hk; revert d; decide +kernel
theorem off10_eq : k0_off10 (BitVec.ofNat 32 a) (BitVec.ofNat 32 n) k = ![2 * (a + k.val), 0, 0] := by
  simp only [k0_off10, iv_word]; generalize a + k.val = d at hk; revert d; decide +kernel
theorem off11_eq : k0_off11 (BitVec.ofNat 32 a) (BitVec.ofNat 32 n) k = ![2 * (a + k.val) + 1, 0, 0] := by
  simp only [k0_off11, iv_word]; generalize a + k.val = d at hk; revert d; decide +kernel

end Forms

theorem box3_inb {o : Fin 3 → ℕ} {s : ℕ} {A B : Fin 3 → ℕ} (e : o = ![s, 0, 0]) (h0 : s + A 0 ≤ B 0) (h1 : A 1 ≤ B 1) (h2 : A 2 ≤ B 2) :
    ∀ x, o x + A x ≤ B x := by
  subst e; intro x; fin_cases x
  · exact h0
  · exact (Nat.zero_add _).le.trans h1
  · exact (Nat.zero_add _).le.trans h2
theorem box2_inb {o : Fin 2 → ℕ} {s : ℕ} {A B : Fin 2 → ℕ} (e : o = ![0, s]) (h0 : A 0 ≤ B 0) (h1 : s + A 1 ≤ B 1) :
    ∀ x, o x + A x ≤ B x := by
  subst e; intro x; fin_cases x
  · exact (Nat.zero_add _).le.trans h0
  · exact h1
theorem box1_inb {o : Fin 1 → ℕ} {s : ℕ} {A B : Fin 1 → ℕ} (e : o = ![s]) (h0 : s + A 0 ≤ B 0) : ∀ x, o x + A x ≤ B x := by
  subst e; intro x; fin_cases x; exact h0

theorem slot_words {o : Fin 3 → ℕ} {s : ℕ} (e : o = ![s, 0, 0]) (hinb : ∀ x, o x + S1x192x256.size x ≤ S2x192x256.size x) :
    (Rect.unit (s := S2x192x256) o S1x192x256.size hinb).WholeWords (EltTy.packing .bf16) := by
  subst e
  have hs : s < 2 := by have : s + 1 ≤ 2 := hinb 0; omega
  revert hinb; revert s; decide +kernel
theorem slot_packed {o : Fin 3 → ℕ} {s : ℕ} (e : o = ![s, 0, 0]) (hinb : ∀ x, o x + S1x192x256.size x ≤ S2x192x256.size x) :
    (Rect.unit (s := S2x192x256) o S1x192x256.size hinb).PackedRows (EltTy.packing .bf16) := by
  subst e
  have hs : s < 2 := by have : s + 1 ≤ 2 := hinb 0; omega
  revert hinb; revert s; decide +kernel
theorem hbm_words {o : Fin 2 → ℕ} {d : ℕ} (e : o = ![0, d * 256]) (hinb : ∀ x, o x + S192x256.size x ≤ S192x32000.size x) :
    (Rect.unit (s := S192x32000) o S192x256.size hinb).WholeWords (EltTy.packing .bf16) := by
  subst e
  have hs : d < 125 := by have : d * 256 + 256 ≤ 32000 := hinb 1; omega
  revert hinb; revert d; decide +kernel

theorem chk1 {a n : ℕ} (hn : n ≤ 32000) (ha : a ≤ n / 256) : k0_chk1 (BitVec.ofNat 32 a) (BitVec.ofNat 32 n) := by
  have hlt : ∀ k : Fin (k0_t1_loop (BitVec.ofNat 32 a) (BitVec.ofNat 32 n)).trips, a + k.val < 125 := fun k => by
    have := Nat.lt_of_lt_of_eq k.isLt (trips1_eq hn ha); omega
  have h2 : ∀ {p : Fin (k0_t2_loop (BitVec.ofNat 32 a) (BitVec.ofNat 32 n)).trips → Prop}, ∀ k, p k := fun k =>
    (Nat.not_lt_zero _ (Nat.lt_of_lt_of_eq k.isLt (trips2_eq hn ha))).elim
  have okq : ∀ p q : ℕ, p ≤ q → q ≤ 125 → Scf.OK (BitVec.ofNat 32 p) (BitVec.ofNat 32 q) 1#32 := fun p q h hq => by
    refine ⟨by decide, ?_⟩
    have hp := toInt_of_isInt (isInt_ofNat (n := p) (by omega))
    rw [trips_ofNat p q h (by omega), hp]; have : (1#32 : BitVec 32).toInt = 1 := by decide
    rw [this]; have : (2 : ℤ) ^ (32 - 1) = 2147483648 := by decide
    rw [this]; omega
  have ok1 : (k0_t1_loop (BitVec.ofNat 32 a) (BitVec.ofNat 32 n)).OK := by
    rw [loop1_eq hn ha]; exact okq _ _ ha (by omega)
  have ok2 : (k0_t2_loop (BitVec.ofNat 32 a) (BitVec.ofNat 32 n)).OK := by
    rw [loop2_eq hn ha]; exact okq _ _ le_rfl (by omega)
  have ge : ∀ k, k0_cond2 (BitVec.ofNat 32 a) (BitVec.ofNat 32 n) k = 1#1 → 2 ≤ a + k.val := fun k h => (cond2_iff a n k (hlt k)).mp h
  have m6 : ∀ d : ℕ, d % 6 + 1 ≤ 6 := fun d => by omega
  have m2 : ∀ d : ℕ, d % 2 + 1 ≤ 2 := fun d => by omega
  refine ⟨⟨ok1, fun k => box3_inb (off1_eq a n k (hlt k)) (m6 _) (by decide) (by decide),
    fun k => box3_inb (off2_eq a n k (hlt k)) (m6 _) (by decide) (by decide),
    fun k h => mult1_dvd a n k (hlt k) (ge k h),
    fun k h => box1_inb (off3_eq a n k (hlt k) (ge k h)) (m2 _),
    fun k h => box2_inb (off4_eq a n k (hlt k) (ge k h)) (by decide) (show (_ - 2) * 256 + 256 ≤ 32000 by have := hlt k; omega),
    fun k h => box3_inb (off5_eq a n k (hlt k) (ge k h)) (m2 _) (by decide) (by decide),
    fun k h => slot_words (off5_eq a n k (hlt k) (ge k h)),
    fun k h => hbm_words (off4_eq a n k (hlt k) (ge k h)),
    fun k => box3_inb (off6_eq a n k (hlt k)) (m2 _) (by decide) (by decide),
    fun k => slot_packed (off6_eq a n k (hlt k)),
    fun k => mult2_dvd a n k (hlt k),
    fun k => box1_inb (off7_eq a n k (hlt k)) (m2 _),
    fun k => box2_inb (off8_eq a n k (hlt k)) (by decide) (show _ * 256 + 256 ≤ 32000 by have := hlt k; omega),
    fun k => box3_inb (off9_eq a n k (hlt k)) (m2 _) (by decide) (by decide),
    fun k => slot_words (off9_eq a n k (hlt k)),
    fun k => hbm_words (off8_eq a n k (hlt k)),
    fun k => box3_inb (off10_eq a n k (hlt k)) (show 2 * _ + 1 ≤ 250 by have := hlt k; omega) (by decide) (by decide),
    fun k => box3_inb (off11_eq a n k (hlt k)) (show 2 * _ + 1 + 1 ≤ 250 by have := hlt k; omega) (by decide) (by decide),
    ok2, h2, h2, h2, h2, h2, h2, h2, h2, h2, h2, h2, h2⟩, h2, h2, h2, h2, h2, h2⟩

/-- The last step's loops are the same two loops. -/
theorem chk10 (i : grid0.Coords) {a n : ℕ} (hn : n ≤ 32000) (ha : a ≤ n / 256) : k0_chk10 i (BitVec.ofNat 32 a) (BitVec.ofNat 32 n) := by
  have h := chk1 hn ha
  obtain ⟨⟨ok1, a1, a2, a3, a4, a5, a6, a7, a8, a9, a10, a11, a12, a13, a14, a15, a16, a17, a18, ok2, -⟩, -⟩ := h
  have h2 : ∀ {p : Fin (k0_t2_loop (BitVec.ofNat 32 a) (BitVec.ofNat 32 n)).trips → Prop}, ∀ k, p k := fun k =>
    (Nat.not_lt_zero _ (Nat.lt_of_lt_of_eq k.isLt (trips2_eq hn ha))).elim
  exact ⟨⟨fun _ => ok1, fun k _ => a1 k, fun k _ => a2 k, fun k _ => a3 k, fun k _ => a4 k, fun k _ => a5 k, fun k _ => a6 k, fun k _ => a7 k,
    fun k _ => a8 k, fun k _ => a9 k, fun k _ => a10 k, fun k _ => a11 k, fun k _ => a12 k, fun k _ => a13 k, fun k _ => a14 k,
    fun k _ => a15 k, fun k _ => a16 k, fun k _ => a17 k, fun k _ => a18 k, fun _ => ok2, h2, h2, h2, h2, h2, h2, h2, h2, h2, h2, h2, h2⟩,
    h2, h2, h2, h2, h2, h2⟩

end Cert.KernelIdeal.Hand
-- ==== Proof.KernelIdealTiles.lean ====
module

public import proofs.«01_k».proof.Proof.KernelIdealChecks

@[expose] public section

set_option maxRecDepth 16384

/-! The run-time checks of a step's eight tiles, from the word offset each tile starts at. -/

namespace Cert.KernelIdeal.Hand

open Cert.KernelIdeal Cert.KernelIdeal.Gen
open Idealize.ShloMosaic
open Affine

theorem shr7 {n : ℕ} (hn : n ≤ 32000) : Scalar.shrsi (BitVec.ofNat 32 n) 7#32 = BitVec.ofNat 32 (n / 128) :=
  eq_of_isInt (Affine.shrsi (e := (n / 128 : ℕ)) (isInt_ofNat (by omega)) (ofNat (e := 7) 7 ⟨rfl, by decide⟩) 7 128 (by decide) ⟨by push_cast; rfl, rfl, by decide⟩) (by omega)
theorem shr10 {n : ℕ} (hn : n ≤ 32000) : Scalar.shrsi (BitVec.ofNat 32 n) 10#32 = BitVec.ofNat 32 (n / 1024) :=
  eq_of_isInt (Affine.shrsi (e := (n / 1024 : ℕ)) (isInt_ofNat (by omega)) (ofNat (e := 10) 10 ⟨rfl, by decide⟩) 10 1024 (by decide) ⟨by push_cast; rfl, rfl, by decide⟩) (by omega)
/-- The window's first position. -/
theorem base_word {n : ℕ} (hn : n ≤ 32000) :
    Scalar.muli (Scalar.shli (Scalar.shrsi (BitVec.ofNat 32 n) 10#32) 3#32) 128#32 = BitVec.ofNat 32 (n / 1024 * 1024) := by
  rw [shr10 hn]
  have : n / 1024 < 32 := by omega
  generalize n / 1024 = q at this
  revert q; decide +kernel
theorem addi_ofNat (b c : ℕ) : Scalar.addi (BitVec.ofNat 32 b) (BitVec.ofNat 32 c) = BitVec.ofNat 32 (b + c) := by
  simp [Scalar.addi, IntOp.addi, BitVec.ofNat_add]

theorem row_inb {o : Fin 2 → ℕ} {t : ℕ} (e : o = ![t, 0]) (ht : t + 1 ≤ 272) : ∀ x, o x + S1x128.size x ≤ S272x128.size x := by
  subst e; intro x; fin_cases x
  · exact ht
  · show 0 + 128 ≤ 128; omega
theorem win_inb {o : Fin 2 → ℕ} {t : ℕ} (e : o = ![t, 0]) (ht : t + 16 ≤ 272) : ∀ x, o x + S16x128.size x ≤ S272x128.size x := by
  subst e; intro x; fin_cases x
  · exact ht
  · show 0 + 128 ≤ 128; omega

theorem ring_inb {o : Fin 3 → ℕ} {s l : ℕ} (e : o = ![s, 0, l * 128]) (hs : s + 1 ≤ 6) (hl : l < 2) :
    ∀ x, o x + S1x2560x128.size x ≤ S6x2560x256.size x := by
  subst e; intro x; fin_cases x
  · exact hs
  · show 0 + 2560 ≤ 2560; omega
  · show l * 128 + 128 ≤ 256; omega
theorem sring_inb {o : Fin 3 → ℕ} {s l : ℕ} (e : o = ![s, 0, l * 128]) (hs : s + 1 ≤ 6) (hl : l < 2) :
    ∀ x, o x + S1x8x128.size x ≤ S6x8x256.size x := by
  subst e; intro x; fin_cases x
  · exact hs
  · show 0 + 8 ≤ 8; omega
  · show l * 128 + 128 ≤ 256; omega

theorem lane_packed {o : Fin 3 → ℕ} {s l : ℕ} (e : o = ![s, 0, l * 128]) (hl : l < 2)
    (hinb : ∀ x, o x + S1x2560x128.size x ≤ S6x2560x256.size x) :
    (Rect.unit (s := S6x2560x256) o S1x2560x128.size hinb).PackedRows (EltTy.packing .fp8e4m3) := by
  subst e
  have hs : s < 6 := by have : s + 1 ≤ 6 := hinb 0; omega
  revert hinb; revert s; revert l; decide +kernel

/-- The checks of a tile whose word offset, split by 128, is `t`. -/
theorem chk3 (v29 v47 : BitVec 32) {t : ℕ} (ht : t ≤ 250)
    (h : Scalar.shrsi (Scalar.addi (Scalar.muli (Scalar.shli (Scalar.shrsi v29 10#32) 3#32) 128#32) v47) 7#32 = BitVec.ofNat 32 t) :
    k0_chk3 v29 v47 := by
  have ht' : t < 251 := by omega
  have f32 : k0_off32 v29 v47 = ![t, 0] := by
    simp only [k0_off32, h]; clear h ht; revert t; decide +kernel
  have f33 : k0_off33 v29 v47 = ![t + 1, 0] := by
    simp only [k0_off33, h]; clear h ht f32; revert t; decide +kernel
  have m8 : 128 ∣ (k0_mult8 v29 v47).toNat := by
    simp only [k0_mult8, h]; clear h ht f32 f33; revert t; decide +kernel
  have m9 : 128 ∣ (k0_mult9 v29 v47).toNat := by
    simp only [k0_mult9, h]; clear h ht f32 f33 m8; revert t; decide +kernel
  have f34 : k0_off34 v29 v47 = ![(t + 1) / 2 % 6, 0, (t + 1) % 2 * 128] := by
    simp only [k0_off34, h]; clear h ht f32 f33 m8 m9; revert t; decide +kernel
  have f35 : k0_off35 v29 v47 = ![t / 2 % 6, 0, t % 2 * 128] := by
    simp only [k0_off35, h]; clear h ht f32 f33 m8 m9 f34; revert t; decide +kernel
  have f36 : k0_off36 v29 v47 = ![(t + 1) / 2 % 6, 0, (t + 1) % 2 * 128] := by
    simp only [k0_off36, h]; clear h ht f32 f33 m8 m9 f34 f35; revert t; decide +kernel
  have f37 : k0_off37 v29 v47 = ![t / 2 % 6, 0, t % 2 * 128] := by
    simp only [k0_off37, h]; clear h ht f32 f33 m8 m9 f34 f35 f36; revert t; decide +kernel
  have f38 : k0_off38 v29 v47 = ![min (t + 1) 250, 0, 0] := by
    simp only [k0_off38, h]; clear h ht f32 f33 m8 m9 f34 f35 f36 f37; revert t; decide +kernel
  have f39 : k0_off39 v29 v47 = ![t, 0, 0] := by
    simp only [k0_off39, h]; clear h ht f32 f33 m8 m9 f34 f35 f36 f37 f38; revert t; decide +kernel
  have m6 : ∀ d : ℕ, d % 6 + 1 ≤ 6 := fun d => by omega
  exact ⟨row_inb f32 (by omega), row_inb f33 (by omega), m8, m9,
    ring_inb f34 (m6 _) (by omega), lane_packed f34 (by omega),
    ring_inb f35 (m6 _) (by omega), lane_packed f35 (by omega),
    sring_inb f36 (m6 _) (by omega),
    sring_inb f37 (m6 _) (by omega),
    box3_inb f38 (show min (t + 1) 250 + 1 ≤ 251 by omega) (by decide) (by decide),
    box3_inb f39 (show t + 1 ≤ 251 by omega) (by decide) (by decide)⟩

/-- A step's offset is the window's start plus the count inside it. -/
theorem tile_word {n c : ℕ} (hn : n ≤ 32000) (hc : n / 1024 * 1024 + c ≤ 32000) :
    Scalar.shrsi (Scalar.addi (Scalar.muli (Scalar.shli (Scalar.shrsi (BitVec.ofNat 32 n) 10#32) 3#32) 128#32) (BitVec.ofNat 32 c)) 7#32 =
      BitVec.ofNat 32 ((n / 1024 * 1024 + c) / 128) := by
  rw [base_word hn, addi_ofNat, shr7 hc]

theorem chk2 {n : ℕ} (hn : n ≤ 32000) : k0_chk2 (BitVec.ofNat 32 n) := by
  have h := shr7 hn
  have hb := shr10 hn
  have ht : n / 128 ≤ 250 := by omega
  have hq : n / 1024 < 32 := by omega
  have m5 : 8 ∣ (k0_mult5 (BitVec.ofNat 32 n)).toNat := by
    simp only [k0_mult5, hb]; generalize n / 1024 = q at hq; clear hb h ht hn; revert q; decide +kernel
  have f23 : k0_off23 (BitVec.ofNat 32 n) = ![n / 1024 * 8, 0] := by
    simp only [k0_off23, hb]; generalize n / 1024 = q at hq; clear hb h ht hn m5; revert q; decide +kernel
  generalize n / 128 = t at h ht
  have ht' : t < 251 := by omega
  have f32 : k0_off24 (BitVec.ofNat 32 n) = ![t, 0] := by
    simp only [k0_off24, h]; clear h ht f23 m5; revert t; decide +kernel
  have f33 : k0_off25 (BitVec.ofNat 32 n) = ![t + 1, 0] := by
    simp only [k0_off25, h]; clear h ht f32 f23 m5; revert t; decide +kernel
  have m8 : 128 ∣ (k0_mult6 (BitVec.ofNat 32 n)).toNat := by
    simp only [k0_mult6, h]; clear h ht f32 f33 f23 m5; revert t; decide +kernel
  have m9 : 128 ∣ (k0_mult7 (BitVec.ofNat 32 n)).toNat := by
    simp only [k0_mult7, h]; clear h ht f32 f33 m8 f23 m5; revert t; decide +kernel
  have f34 : k0_off26 (BitVec.ofNat 32 n) = ![(t + 1) / 2 % 6, 0, (t + 1) % 2 * 128] := by
    simp only [k0_off26, h]; clear h ht f32 f33 m8 m9 f23 m5; revert t; decide +kernel
  have f35 : k0_off27 (BitVec.ofNat 32 n) = ![t / 2 % 6, 0, t % 2 * 128] := by
    simp only [k0_off27, h]; clear h ht f32 f33 m8 m9 f34 f23 m5; revert t; decide +kernel
  have f36 : k0_off28 (BitVec.ofNat 32 n) = ![(t + 1) / 2 % 6, 0, (t + 1) % 2 * 128] := by
    simp only [k0_off28, h]; clear h ht f32 f33 m8 m9 f34 f35 f23 m5; revert t; decide +kernel
  have f37 : k0_off29 (BitVec.ofNat 32 n) = ![t / 2 % 6, 0, t % 2 * 128] := by
    simp only [k0_off29, h]; clear h ht f32 f33 m8 m9 f34 f35 f36 f23 m5; revert t; decide +kernel
  have f38 : k0_off30 (BitVec.ofNat 32 n) = ![min (t + 1) 250, 0, 0] := by
    simp only [k0_off30, h]; clear h ht f32 f33 m8 m9 f34 f35 f36 f37 f23 m5; revert t; decide +kernel
  have f39 : k0_off31 (BitVec.ofNat 32 n) = ![t, 0, 0] := by
    simp only [k0_off31, h]; clear h ht f32 f33 m8 m9 f34 f35 f36 f37 f38 f23 m5; revert t; decide +kernel
  have m6 : ∀ d : ℕ, d % 6 + 1 ≤ 6 := fun d => by omega
  exact ⟨m5, win_inb f23 (by omega),
    row_inb f32 (by omega), row_inb f33 (by omega), m8, m9,
    ring_inb f34 (m6 _) (by omega), lane_packed f34 (by omega),
    ring_inb f35 (m6 _) (by omega), lane_packed f35 (by omega),
    sring_inb f36 (m6 _) (by omega),
    sring_inb f37 (m6 _) (by omega),
    box3_inb f38 (show min (t + 1) 250 + 1 ≤ 251 by omega) (by decide) (by decide),
    box3_inb f39 (show t + 1 ≤ 251 by omega) (by decide) (by decide)⟩

theorem chk4 (v29 v47 : BitVec 32) (h : k0_chk3 v29 v47) : k0_chk4 v29 v47 := h
theorem chk5 (v29 v47 : BitVec 32) (h : k0_chk3 v29 v47) : k0_chk5 v29 v47 := h
theorem chk6 (v29 v47 : BitVec 32) (h : k0_chk3 v29 v47) : k0_chk6 v29 v47 := h
theorem chk7 (v29 v47 : BitVec 32) (h : k0_chk3 v29 v47) : k0_chk7 v29 v47 := h
theorem chk8 (v29 v47 : BitVec 32) (h : k0_chk3 v29 v47) : k0_chk8 v29 v47 := h
theorem chk9 (v29 v47 : BitVec 32) (h : k0_chk3 v29 v47) : k0_chk9 v29 v47 := h

end Cert.KernelIdeal.Hand
-- ==== Proof.KernelIdealBase.lean ====
module

public import proofs.«01_k».proof.Proof.KernelIdealTiles
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! What the kernel's body is run over: the resources, and the rule that runs a printed part and then the rest. -/

/-- The resource algebra: the pipeline library's, beside the counters the kernel's own transfers ride on. -/
abbrev 𝕄 (F : FTy → Type) := MT nD τ sig Unit (Elt F) ℕ (Pipeline.UD sig nD τ) ℕ
abbrev 𝒱₀ : Variants := Variants.none

/-- A memref held whole at contents `f`. -/
abbrev pt (c : Dev nD) {sp : Space} {s : Shape} {e : EltTy} (M : Memref sig .tc sp s e) (f : Buf (Elt F) (M.view.loc (c : Thread nD τ))) : sProp (𝕄 F) :=
  M.view.loc (c : Thread nD τ) ↦[M.view.set]{fullShare} f
/-- A memref held whole at anything. -/
abbrev pa (F : FTy → Type) (c : Dev nD) {sp : Space} {s : Shape} {e : EltTy} (M : Memref sig .tc sp s e) : sProp (𝕄 F) :=
  iprop(∃ f : Buf (Elt F) (M.view.loc (c : Thread nD τ)), M.view.loc (c : Thread nD τ) ↦[M.view.set]{fullShare} f)

/-- The weakest precondition the body is run at. -/
abbrev W {α : Type} (c : Dev nD) (p : Prog (TpuEff nD τ sig (Elt F) Λ₀ .tc) α) (Q : α → sProp (𝕄 F)) : sProp (𝕄 F) :=
  wp frame (wpE (defs₀ (F := F)) 𝒱₀ (c : Thread nD τ) none) Set.univ p Q

/-- A part, then the rest from what the part leaves. -/
theorem seq {α β : Type} {c : Dev nD} {P : sProp (𝕄 F)} {p : Prog (TpuEff nD τ sig (Elt F) Λ₀ .tc) α} {k : α → Prog (TpuEff nD τ sig (Elt F) Λ₀ .tc) β}
    {Q : β → sProp (𝕄 F)} (R : α → sProp (𝕄 F)) (h1 : P ⊢ W c p R) (h2 : ∀ a, R a ⊢ W c (k a) Q) : P ⊢ W c (p >>= k) Q := by
  unfold W; rw [wp_bind]
  iintro H
  iapply (wp_wand_r Idealize.ShloMosaic.frame (wpE (defs₀ (F := F)) 𝒱₀ (c : Thread nD τ) none) Set.univ)
  isplitl [H]
  · iapply h1; iexact H
  · iintro %a H'; iapply (h2 a); iexact H'

end Cert.KernelIdeal.Hand
end
-- ==== Proof.KernelIdealRing.lean ====
module

public import proofs.«01_k».proof.Proof.KernelIdealBase
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! One pair of columns: its buffer slot waited for, filled, and sent out to the columns' block in HBM. -/

abbrev zdM : Memref sig .tc .hbm S192x32000 .bf16 := Memref.whole main_v14_1
abbrev stM : Memref sig .tc .vmem S2x192x256 .bf16 := Memref.whole cc0_scratch10

abbrev blkOff (b : Fin 125) : Fin 2 → ℕ := ![0, b.val * 256]
theorem blkOff_inb (b : Fin 125) : ∀ a, blkOff b a + S192x256.size a ≤ S192x32000.size a := by
  have := b.isLt; intro a; fin_cases a
  · show 0 + 192 ≤ 192; omega
  · show b.val * 256 + 256 ≤ 32000; omega
abbrev slotOff (s : Fin 2) : Fin 3 → ℕ := ![s.val, 0, 0]
theorem slotOff_inb (s : Fin 2) : ∀ a, slotOff s a + S1x192x256.size a ≤ S2x192x256.size a := by
  have := s.isLt; intro a; fin_cases a
  · show s.val + 1 ≤ 2; omega
  · show 0 + 192 ≤ 192; omega
  · show 0 + 256 ≤ 256; omega
abbrev semOff (s : Fin 2) : Fin 1 → ℕ := ![s.val]
theorem semOff_inb (s : Fin 2) : ∀ a, semOff s a + S1.size a ≤ S2.size a := by
  have := s.isLt; intro a; fin_cases a; show s.val + 1 ≤ 2; omega

/-- Block `b` of the result in HBM: its 256 columns. -/
def hblk (b : Fin 125) : Memref sig .tc .hbm S192x256 .bf16 :=
  zdM.slice (Rect.unit (s := S192x32000) (blkOff b) S192x256.size (blkOff_inb b)) (fun _ => rfl)
/-- Slot `s` of the buffer. -/
def rslot (s : Fin 2) : Memref sig .tc .vmem S192x256 .bf16 :=
  (stM.slice (Rect.unit (s := S2x192x256) (slotOff s) S1x192x256.size (slotOff_inb s)) (fun _ => rfl)).squeeze S192x256 squeezes_S1x192x256_S192x256
/-- Slot `s`'s semaphore. -/
def csm (s : Fin 2) : DmaSems sig S_ := (cc0_scratch14.slice (Rect.unit (s := S2) (semOff s) S1.size (semOff_inb s))).squeeze S_ squeezes_S1_S_

instance (s : Fin 2) : ClosedOff (slotOff s) := ⟨slotOff s, rfl⟩
instance (b : Fin 125) : ClosedOff (blkOff b) := ⟨blkOff b, rfl⟩

theorem csm_congr {off : Fin 1 → ℕ} {s : Fin 2} (e : off = semOff s) (hh) :
    (cc0_scratch14.slice (Rect.unit (s := S2) off S1.size hh)).squeeze S_ squeezes_S1_S_ = csm s :=
  congrArg (fun A : DmaSems sig S1 => A.squeeze S_ squeezes_S1_S_) (SemArray.slice_unit_congr _ e _ _)
theorem rslot_congr {off : Fin 3 → ℕ} {s : Fin 2} (e : off = slotOff s) (hh hs) :
    (stM.slice (Rect.unit (s := S2x192x256) off S1x192x256.size hh) hs).squeeze S192x256 squeezes_S1x192x256_S192x256 = rslot s :=
  congrArg (fun M : Memref sig .tc .vmem S1x192x256 .bf16 => M.squeeze S192x256 squeezes_S1x192x256_S192x256) (Memref.slice_unit_congr _ e _ _ _ _)
theorem hblk_congr {off : Fin 2 → ℕ} {b : Fin 125} (e : off = blkOff b) (hh hs) :
    zdM.slice (Rect.unit (s := S192x32000) off S192x256.size hh) hs = hblk b := Memref.slice_unit_congr _ e _ _ _ (fun _ => rfl)

section Canon
variable {a n : ℕ} (k : Fin (k0_t1_loop (BitVec.ofNat 32 a) (BitVec.ofNat 32 n)).trips)

@[sl_canon] theorem semW (hk : a + k.val < 125) (h2 : 2 ≤ a + k.val) (hh) :
    (cc0_scratch14.slice (Rect.unit (s := S2) (k0_off3 (BitVec.ofNat 32 a) (BitVec.ofNat 32 n) k) S1.size hh)).squeeze S_ squeezes_S1_S_ = csm (Ring.sl 2 (a + k.val)) :=
  csm_congr (off3_eq a n k hk h2) _
@[sl_canon] theorem blkW (hk : a + k.val < 125) (h2 : 2 ≤ a + k.val) (hh hs) :
    zdM.slice (Rect.unit (s := S192x32000) (k0_off4 (BitVec.ofNat 32 a) (BitVec.ofNat 32 n) k) S192x256.size hh) hs = hblk (Ring.bk 125 (a + k.val - 2)) :=
  hblk_congr ((off4_eq a n k hk h2).trans (by unfold blkOff; rw [Ring.bk_val (by omega)])) _ _
@[sl_canon] theorem slotW (hk : a + k.val < 125) (h2 : 2 ≤ a + k.val) (hh hs) :
    (stM.slice (Rect.unit (s := S2x192x256) (k0_off5 (BitVec.ofNat 32 a) (BitVec.ofNat 32 n) k) S1x192x256.size hh) hs).squeeze S192x256 squeezes_S1x192x256_S192x256 = rslot (Ring.sl 2 (a + k.val)) :=
  rslot_congr (off5_eq a n k hk h2) _ _
@[sl_canon] theorem semI (hk : a + k.val < 125) (hh) :
    (cc0_scratch14.slice (Rect.unit (s := S2) (k0_off7 (BitVec.ofNat 32 a) (BitVec.ofNat 32 n) k) S1.size hh)).squeeze S_ squeezes_S1_S_ = csm (Ring.sl 2 (a + k.val)) :=
  csm_congr (off7_eq a n k hk) _
@[sl_canon] theorem blkI (hk : a + k.val < 125) (hh hs) :
    zdM.slice (Rect.unit (s := S192x32000) (k0_off8 (BitVec.ofNat 32 a) (BitVec.ofNat 32 n) k) S192x256.size hh) hs = hblk (Ring.bk 125 (a + k.val)) :=
  hblk_congr ((off8_eq a n k hk).trans (by unfold blkOff; rw [Ring.bk_val hk])) _ _
@[sl_canon] theorem slotI (hk : a + k.val < 125) (hh hs) :
    (stM.slice (Rect.unit (s := S2x192x256) (k0_off9 (BitVec.ofNat 32 a) (BitVec.ofNat 32 n) k) S1x192x256.size hh) hs).squeeze S192x256 squeezes_S1x192x256_S192x256 = rslot (Ring.sl 2 (a + k.val)) :=
  rslot_congr (off9_eq a n k hk) _ _
end Canon

section Pieces
variable (F) (c : Dev nD)

abbrev cellP (s : Fin 2) : sProp (𝕄 F) := semVal ((c : Thread nD τ), SemLoc.dma (csm s).sem) 0
abbrev slotP (s : Fin 2) (f : Buf (Elt F) ((rslot s).view.loc (c : Thread nD τ))) : sProp (𝕄 F) :=
  (rslot s).view.loc (c : Thread nD τ) ↦[(rslot s).view.set]{fullShare} f
abbrev blkP (b : Fin 125) (f : Buf (Elt F) ((hblk b).view.loc (c : Thread nD τ))) : sProp (𝕄 F) :=
  (hblk b).view.loc (c : Thread nD τ) ↦[(hblk b).view.set]{fullShare} f
/-- A block at home, at anything. -/
abbrev homeP (b : Fin 125) : sProp (𝕄 F) := iprop(∃ f, blkP F c b f)
abbrev NN : ℕ := 3072
/-- Slot `s` on its way to block `b`. -/
abbrev flightP (s : Fin 2) (b : Fin 125) (f : Buf (Elt F) ((rslot s).view.loc (c : Thread nD τ))) (g : Buf (Elt F) ((hblk b).view.loc (c : Thread nD τ))) : sProp (𝕄 F) :=
  Transfers.Flight countersEmb (c : Thread nD τ) (SemLoc.dma (csm s).sem) () NN iprop(blkP F c b g ∗ slotP F c s f)
/-- Slot `s` held, and its cell at zero. -/
abbrev freeP (s : Fin 2) : sProp (𝕄 F) := iprop(cellP F c s ∗ ∃ f, slotP F c s f)
abbrev goneP (s : Fin 2) (b : Fin 125) : sProp (𝕄 F) := iprop(∃ f g, flightP F c s b f g)

/-- Slot of pair `d` before pair `d`: with pair `d - 2` on its way, if there is one. -/
def busy (d : ℕ) : sProp (𝕄 F) := if 2 ≤ d then goneP F c (Ring.sl 2 d) (Ring.bk 125 (d - 2)) else freeP F c (Ring.sl 2 d)
/-- The other slot: with pair `d - 1` on its way, if there is one. -/
def prev (d : ℕ) : sProp (𝕄 F) := if 1 ≤ d then goneP F c (Ring.sl 2 (d + 1)) (Ring.bk 125 (d - 1)) else freeP F c (Ring.sl 2 (d + 1))
/-- The blocks at home before pair `d`: all but those two. -/
def homes (d : ℕ) : Finset (Fin 125) := Finset.univ.filter fun b => b.val + 2 ≠ d ∧ b.val + 1 ≠ d
/-- What the pairs' loop holds before pair `d`. -/
def ringAt (d : ℕ) : sProp (𝕄 F) := iprop(bigSep (homes d) (homeP F c) ∗ busy F c d ∗ prev F c d)

theorem mem_homes (d : ℕ) (b : Fin 125) : b ∈ homes d ↔ b.val + 2 ≠ d ∧ b.val + 1 ≠ d := by simp [homes]
theorem homes_here (d : ℕ) (hd : d < 125) :
    bigSep (homes d) (homeP F c) = iprop(homeP F c (Ring.bk 125 d) ∗ bigSep ((homes d).erase (Ring.bk 125 d)) (homeP F c)) := by
  have h : Ring.bk 125 d ∈ homes d := by rw [mem_homes, Ring.bk_val hd]; omega
  conv_lhs => rw [← Finset.insert_erase h, bigSep_insert (Finset.notMem_erase _ _)]
  rfl
theorem homes_next (d : ℕ) (hd : d < 125) (h2 : 2 ≤ d) :
    bigSep (homes (d + 1)) (homeP F c) = iprop(homeP F c (Ring.bk 125 (d - 2)) ∗ bigSep ((homes d).erase (Ring.bk 125 d)) (homeP F c)) := by
  have e : homes (d + 1) = insert (Ring.bk 125 (d - 2)) ((homes d).erase (Ring.bk 125 d)) := by
    ext b; simp only [Finset.mem_insert, Finset.mem_erase, mem_homes, ne_eq, Fin.ext_iff, Ring.bk_val hd, Ring.bk_val (show d - 2 < 125 by omega)]; omega
  have h : Ring.bk 125 (d - 2) ∉ (homes d).erase (Ring.bk 125 d) := by
    simp only [Finset.mem_erase, mem_homes, ne_eq, Fin.ext_iff, Ring.bk_val hd, Ring.bk_val (show d - 2 < 125 by omega)]; omega
  rw [e, bigSep_insert h]; rfl
theorem homes_first (d : ℕ) (hd : d < 2) : homes (d + 1) = (homes d).erase (Ring.bk 125 d) := by
  ext b; simp only [Finset.mem_erase, mem_homes, ne_eq, Fin.ext_iff, Ring.bk_val (show d < 125 by omega)]; omega
theorem busy_succ (d : ℕ) : busy F c (d + 1) = prev F c d := by
  unfold busy prev
  by_cases h : 1 ≤ d
  · rw [if_pos (by omega), if_pos h, show d + 1 - 2 = d - 1 by omega]
  · rw [if_neg (by omega), if_neg h]
theorem prev_succ (d : ℕ) : prev F c (d + 1) = goneP F c (Ring.sl 2 d) (Ring.bk 125 d) := by
  unfold prev; rw [if_pos (by omega), show d + 1 + 1 = d + 2 from rfl, Ring.sl_add, Nat.add_sub_cancel]
end Pieces

section Trip
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)

/-- What the loop holds beside the ring: the projection's operands, and the buffers it updates. -/
abbrev sideP (f2 : Buf (Elt F) (arg2.view.loc (c : Thread nD τ))) (f4 : Buf (Elt F) (arg4.view.loc (c : Thread nD τ))) : sProp (𝕄 F) :=
  iprop(pt c arg2 f2 ∗ pt c arg4 f4 ∗ pa F c arg16 ∗ pa F c arg17 ∗ pa F c arg19 ∗ pa F c arg24 ∗ pa F c arg25)

set_option maxHeartbeats 1000000 in
/-- One pair, its slot's earlier transfer waited for. -/
theorem trip_late {a n : ℕ} (hw : k0_chk1 (BitVec.ofNat 32 a) (BitVec.ofNat 32 n)) (k : Fin (k0_t1_loop (BitVec.ofNat 32 a) (BitVec.ofNat 32 n)).trips)
    (hk : a + k.val < 125) (h2 : 2 ≤ a + k.val) (f2 f4) :
    iprop(sideP c arg2 arg4 arg16 arg17 arg19 arg24 arg25 f2 f4 ∗ (∃ Wt, owes (c : Thread nD τ) 0 Wt) ∗ ringAt F c (a + k.val))
      ⊢ W c (k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 (BitVec.ofNat 32 a) (BitVec.ofNat 32 n) hw k ())
        (fun _ => iprop(sideP c arg2 arg4 arg16 arg17 arg19 arg24 arg25 f2 f4 ∗ (∃ Wt, owes (c : Thread nD τ) 0 Wt) ∗ ringAt F c (a + k.val + 1))) := by
  have hc : k0_cond2 (BitVec.ofNat 32 a) (BitVec.ofNat 32 n) k = 1#1 := (cond2_iff a n k hk).2 h2
  letI : ClosedOff (k0_off6 (BitVec.ofNat 32 a) (BitVec.ofNat 32 n) k) := ⟨slotOff (Ring.sl 2 (a + k.val)), off6_eq a n k hk⟩
  letI : ClosedOff (k0_off10 (BitVec.ofNat 32 a) (BitVec.ofNat 32 n) k) := ⟨_, off10_eq a n k hk⟩
  letI : ClosedOff (k0_off11 (BitVec.ofNat 32 a) (BitVec.ofNat 32 n) k) := ⟨_, off11_eq a n k hk⟩
  unfold ringAt
  rw [homes_here F c _ hk, homes_next F c _ hk h2, busy_succ, prev_succ]
  unfold busy; rw [if_pos h2]
  iintro ⟨⟨H2, H4, ⟨%f16, H16⟩, ⟨%f17, H17⟩, ⟨%f19, H19⟩, ⟨%f24, H24⟩, ⟨%f25, H25⟩⟩, ⟨%Wt, HW⟩, ⟨⟨%fh, Hh⟩, Hr⟩, ⟨%fs, %fg, HF⟩, HP⟩
  unfold W
  sl_unfold [k0_t1_body]
  sl_exec
  sl_step
  isplitl [H2 H4 H16 H17 H19 H24 H25]
  · isplitl [H2]; · iexact H2
    isplitl [H4]; · iexact H4
    isplitl [H16]; · iexists _; iexact H16
    isplitl [H17]; · iexists _; iexact H17
    isplitl [H19]; · iexists _; iexact H19
    isplitl [H24]; · iexists _; iexact H24
    iexists _; iexact H25
  isplitl [HW]; · iexists _; iexact HW
  isplitl [HF_dst Hr]
  · isplitl [HF_dst]; · iexists _; iexact HF_dst
    iexact Hr
  isplitl [HP]; · iexact HP
  iexists _, _; iexact HF

set_option maxHeartbeats 1000000 in
/-- One of the first two pairs: its slot is free. -/
theorem trip_early {a n : ℕ} (hw : k0_chk1 (BitVec.ofNat 32 a) (BitVec.ofNat 32 n)) (k : Fin (k0_t1_loop (BitVec.ofNat 32 a) (BitVec.ofNat 32 n)).trips)
    (hk : a + k.val < 125) (h2 : ¬ 2 ≤ a + k.val) (f2 f4) :
    iprop(sideP c arg2 arg4 arg16 arg17 arg19 arg24 arg25 f2 f4 ∗ (∃ Wt, owes (c : Thread nD τ) 0 Wt) ∗ ringAt F c (a + k.val))
      ⊢ W c (k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 (BitVec.ofNat 32 a) (BitVec.ofNat 32 n) hw k ())
        (fun _ => iprop(sideP c arg2 arg4 arg16 arg17 arg19 arg24 arg25 f2 f4 ∗ (∃ Wt, owes (c : Thread nD τ) 0 Wt) ∗ ringAt F c (a + k.val + 1))) := by
  have hc : ¬ k0_cond2 (BitVec.ofNat 32 a) (BitVec.ofNat 32 n) k = 1#1 := fun h => h2 ((cond2_iff a n k hk).1 h)
  letI : ClosedOff (k0_off6 (BitVec.ofNat 32 a) (BitVec.ofNat 32 n) k) := ⟨slotOff (Ring.sl 2 (a + k.val)), off6_eq a n k hk⟩
  letI : ClosedOff (k0_off10 (BitVec.ofNat 32 a) (BitVec.ofNat 32 n) k) := ⟨_, off10_eq a n k hk⟩
  letI : ClosedOff (k0_off11 (BitVec.ofNat 32 a) (BitVec.ofNat 32 n) k) := ⟨_, off11_eq a n k hk⟩
  unfold ringAt
  rw [homes_here F c _ hk, homes_first _ (by omega), busy_succ, prev_succ]
  unfold busy; rw [if_neg h2]
  iintro ⟨⟨H2, H4, ⟨%f16, H16⟩, ⟨%f17, H17⟩, ⟨%f19, H19⟩, ⟨%f24, H24⟩, ⟨%f25, H25⟩⟩, ⟨%Wt, HW⟩, ⟨⟨%fh, Hh⟩, Hr⟩, ⟨HC, ⟨%fs, HS⟩⟩, HP⟩
  unfold W
  sl_unfold [k0_t1_body]
  sl_exec
  sl_step
  isplitl [H2 H4 H16 H17 H19 H24 H25]
  · isplitl [H2]; · iexact H2
    isplitl [H4]; · iexact H4
    isplitl [H16]; · iexists _; iexact H16
    isplitl [H17]; · iexists _; iexact H17
    isplitl [H19]; · iexists _; iexact H19
    isplitl [H24]; · iexists _; iexact H24
    iexists _; iexact H25
  isplitl [HW]; · iexists _; iexact HW
  isplitl [Hr]; · iexact Hr
  isplitl [HP]; · iexact HP
  iexists _, _; iexact HC
end Trip

end Cert.KernelIdeal.Hand
end
-- ==== Proof.KernelIdealLoops.lean ====
module

public import proofs.«01_k».proof.Proof.KernelIdealRing
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! The kernel's counted loops: what each holds before a trip. -/

open Affine in
theorem tok_chk (i : grid0.Coords) (k : Fin k0_t6_loop.trips) {t : ℕ} (ht : t < 32000) : k0_chk11 i k (BitVec.ofNat 32 t) := by
  have e : Scalar.shrsi (BitVec.ofNat 32 t) 7#32 = BitVec.ofNat 32 (t / 128) := shr7 (by omega)
  have hk : k.val < 192 := k.isLt
  have hw : Scalar.indexCast (Scf.iv 0#32 1#32 k.val) = BitVec.ofNat 32 k.val := by
    rw [show (0#32 : BitVec 32) = BitVec.ofNat 32 0 from rfl, iv_word, Nat.zero_add]; rfl
  have hq : (BitVec.ofNat 32 (t / 128)).toNat = t / 128 := by simp; omega
  have hk' : (BitVec.ofNat 32 k.val).toNat = k.val := by simp; omega
  have e13 : k0_off113 k (BitVec.ofNat 32 t) = ![t / 128, k.val, 0] := by
    show ![(Scalar.indexCast (Scalar.shrsi (BitVec.ofNat 32 t) 7#32)).toNat, (Scalar.indexCast (Scf.iv 0#32 1#32 k.val)).toNat, 0] = _
    rw [e, hw, hk']; exact congrArg (fun x => ![x, k.val, 0]) hq
  have e15 : k0_off115 k (BitVec.ofNat 32 t) = ![t / 128, k.val, 0] := e13
  refine ⟨fun _ => ?_, fun _ => ?_⟩
  · rw [e13]; intro a; fin_cases a
    · show t / 128 + 1 ≤ 251; omega
    · show k.val + 1 ≤ 192; omega
    · show 0 + 128 ≤ 128; omega
  · rw [e15]; intro a; fin_cases a
    · show t / 128 + 1 ≤ 250; omega
    · show k.val + 1 ≤ 192; omega
    · show 0 + 128 ≤ 128; omega

section Loops
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)

theorem trip {a n : ℕ} (hw : k0_chk1 (BitVec.ofNat 32 a) (BitVec.ofNat 32 n)) (k : Fin (k0_t1_loop (BitVec.ofNat 32 a) (BitVec.ofNat 32 n)).trips)
    (hk : a + k.val < 125) (f2 : Buf (Elt F) (arg2.view.loc (c : Thread nD τ))) (f4 : Buf (Elt F) (arg4.view.loc (c : Thread nD τ))) :
    iprop(sideP c arg2 arg4 arg16 arg17 arg19 arg24 arg25 f2 f4 ∗ (∃ Wt, owes (c : Thread nD τ) 0 Wt) ∗ ringAt F c (a + k.val))
      ⊢ W c (k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 (BitVec.ofNat 32 a) (BitVec.ofNat 32 n) hw k ())
        (fun _ => iprop(sideP c arg2 arg4 arg16 arg17 arg19 arg24 arg25 f2 f4 ∗ (∃ Wt, owes (c : Thread nD τ) 0 Wt) ∗ ringAt F c (a + k.val + 1))) := by
  by_cases h2 : 2 ≤ a + k.val
  · exact trip_late c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw k hk h2 f2 f4
  · exact trip_early c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw k hk h2 f2 f4

/-- What the loop over the pairs holds before its trip `k`, the pairs before `v4` done earlier. -/
@[irreducible] def pairsAt (v4 v5 : BitVec 32) (f2 : Buf (Elt F) (arg2.view.loc (c : Thread nD τ))) (f4 : Buf (Elt F) (arg4.view.loc (c : Thread nD τ))) (k : ℕ) : sProp (𝕄 F) :=
  iprop(⌜v5.toNat ≤ 32000 ∧ v4.toNat ≤ v5.toNat / 256⌝ ∗ sideP c arg2 arg4 arg16 arg17 arg19 arg24 arg25 f2 f4
    ∗ (∃ Wt, owes (c : Thread nD τ) 0 Wt) ∗ ringAt F c (v4.toNat + k))

theorem pairs_step {v4 v5 : BitVec 32} (hw : k0_chk1 v4 v5) (f2 : Buf (Elt F) (arg2.view.loc (c : Thread nD τ))) (f4 : Buf (Elt F) (arg4.view.loc (c : Thread nD τ))) (k : Fin (k0_t1_loop v4 v5).trips) :
    pairsAt c arg2 arg4 arg16 arg17 arg19 arg24 arg25 v4 v5 f2 f4 k
      ⊢ W c (k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 v4 v5 hw k ()) (fun _ => pairsAt c arg2 arg4 arg16 arg17 arg19 arg24 arg25 v4 v5 f2 f4 (k.val + 1)) := by
  unfold pairsAt
  iintro ⟨%hf, H⟩
  generalize ha : v4.toNat = a at hf
  generalize hn : v5.toNat = n at hf
  obtain rfl : v4 = BitVec.ofNat 32 a := by rw [← ha]; simp
  obtain rfl : v5 = BitVec.ofNat 32 n := by rw [← hn]; simp
  have hk : a + k.val < 125 := by have := Nat.lt_of_lt_of_eq k.isLt (trips1_eq hf.1 hf.2); omega
  unfold W
  iapply (wp_wand_r Idealize.ShloMosaic.frame (wpE (defs₀ (F := F)) 𝒱₀ (c : Thread nD τ) none) Set.univ)
  isplitl [H]
  · iapply (trip c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw k hk f2 f4); iexact H
  · iintro %_ H'
    isplitr; · ipureintro; exact hf
    iexact H'

set_option warn.classDefReducibility false in
@[sl_loop] def loopInv1 (v4 v5 : BitVec 32) (hw : k0_chk1 v4 v5) (f2 : Buf (Elt F) (arg2.view.loc (c : Thread nD τ))) (f4 : Buf (Elt F) (arg4.view.loc (c : Thread nD τ))) :
    LoopInvTy_k0_t1 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 v4 v5 hw where
  inv k _ := pairsAt c arg2 arg4 arg16 arg17 arg19 arg24 arg25 v4 v5 f2 f4 k
  step k _ := pairs_step c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw f2 f4 k

/-- The remainder loop never runs. -/
theorem no_rest {v4 v5 : BitVec 32} (h : v5.toNat ≤ 32000 ∧ v4.toNat ≤ v5.toNat / 256) : (k0_t2_loop v4 v5).trips = 0 := by
  have := trips2_eq h.1 h.2; simpa using this

set_option warn.classDefReducibility false in
@[sl_loop] def loopInv2 (v4 v5 : BitVec 32) (hw : k0_chk1 v4 v5) (v27 : BitVec 32) (f2 : Buf (Elt F) (arg2.view.loc (c : Thread nD τ))) (f4 : Buf (Elt F) (arg4.view.loc (c : Thread nD τ))) :
    LoopInvTy_k0_t2 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 v4 v5 hw v27 where
  inv _ _ := pairsAt c arg2 arg4 arg16 arg17 arg19 arg24 arg25 v4 v5 f2 f4 (k0_t1_loop v4 v5).trips
  step k _ := by
    unfold pairsAt; iintro ⟨%hf, -⟩
    exact (Nat.not_lt_zero _ (Nat.lt_of_lt_of_eq k.isLt (no_rest hf))).elim

set_option maxHeartbeats 1000000 in
/-- The last step's loop over the pairs has the same trips. -/
theorem body3 (h4 : k0_cond4 i = 1#1) (v w : BitVec 32) (hw : k0_chk10 i v w) (hw' : k0_chk1 v w) (k : Fin (k0_t3_loop v w).trips) :
    k0_t3_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v w hw k () = k0_t1_body (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 v w hw' k () := by
  unfold k0_t3_body k0_t1_body
  rw [k0_part6_eq_skeleton, k0_part7_eq_skeleton, k0_part2_eq_skeleton, k0_part3_eq_skeleton]
  rfl

set_option warn.classDefReducibility false in
@[sl_loop] def loopInv3 (h4 : k0_cond4 i = 1#1) (v w : BitVec 32) (hw : k0_chk10 i v w) (f2 : Buf (Elt F) (arg2.view.loc (c : Thread nD τ))) (f4 : Buf (Elt F) (arg4.view.loc (c : Thread nD τ))) :
    LoopInvTy_k0_t3 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v w hw where
  inv k _ := pairsAt c arg2 arg4 arg16 arg17 arg19 arg24 arg25 v w f2 f4 k
  step k _ := by
    by_cases hf : w.toNat ≤ 32000 ∧ v.toNat ≤ w.toNat / 256
    · have hw' : k0_chk1 v w := by have := chk1 hf.1 hf.2; simpa using this
      rw [body3 i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 h4 v w hw hw' k]
      exact pairs_step c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 hw' f2 f4 k
    · unfold pairsAt; iintro ⟨%hf', -⟩; exact absurd hf' hf

set_option warn.classDefReducibility false in
@[sl_loop] def loopInv4 (h4 : k0_cond4 i = 1#1) (v w : BitVec 32) (hw : k0_chk10 i v w) (v27 : BitVec 32) (f2 : Buf (Elt F) (arg2.view.loc (c : Thread nD τ))) (f4 : Buf (Elt F) (arg4.view.loc (c : Thread nD τ))) :
    LoopInvTy_k0_t4 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v w hw v27 where
  inv _ _ := pairsAt c arg2 arg4 arg16 arg17 arg19 arg24 arg25 v w f2 f4 (k0_t3_loop v w).trips
  step k _ := by
    unfold pairsAt; iintro ⟨%hf, -⟩
    exact (Nat.not_lt_zero _ (Nat.lt_of_lt_of_eq k.isLt (no_rest hf))).elim

set_option warn.classDefReducibility false in
/-- The residual's sum over the tiles. -/
@[sl_loop] def loopInv5 (h4 : k0_cond4 i = 1#1) (v1559 v1566 : FVec F S192x1 .f32) :
    LoopInvTy_k0_t5 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v1559 v1566 where
  inv _ _ := iprop(pa F c arg18 ∗ pa F c arg19 ∗ pa F c arg22 ∗ pa F c arg24 ∗ pa F c arg25)
  step k _ := by
    iintro ⟨⟨%f18, H18⟩, ⟨%f19, H19⟩, ⟨%f22, H22⟩, ⟨%f24, H24⟩, ⟨%f25, H25⟩⟩
    sl_unfold [k0_t5_body]
    sl_exec
    sl_step
    isplitl [H18]; · iexists _; iexact H18
    isplitl [H19]; · iexists _; iexact H19
    isplitl [H22]; · iexists _; iexact H22
    isplitl [H24]; · iexists _; iexact H24
    iexists _; iexact H25

/-- Every token is an index of the draft's columns. -/
def TokOK (f6 : Buf (Elt F) (arg6.view.loc (c : Thread nD τ))) : Prop :=
  ∀ y, ∃ t : ℕ, t < 32000 ∧ arg6.view.read (Elt F) f6 y = BitVec.ofNat 32 t

set_option warn.classDefReducibility false in
/-- The tokens' columns picked out, row by row. -/
@[sl_loop] def loopInv6 (h4 : k0_cond4 i = 1#1) (v1559 v1566 : FVec F S192x1 .f32) (f6 : Buf (Elt F) (arg6.view.loc (c : Thread nD τ))) :
    LoopInvTy_k0_t6 (F := F) Unit ℕ (Pipeline.UD sig nD τ) ℕ 𝒱₀ c none Set.univ i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14 h4 v1559 v1566 where
  inv _ _ := iprop(⌜TokOK c arg6 f6⌝ ∗ pt c arg6 f6 ∗ pa F c arg18 ∗ pa F c arg19 ∗ pa F c arg27 ∗ pa F c arg28)
  step k _ := by
    iintro ⟨%ht, H6, ⟨%f18, H18⟩, ⟨%f19, H19⟩, ⟨%f27, H27⟩, ⟨%f28, H28⟩⟩
    have hc : k0_chk11 i k (arg6.view.readAt (Elt F) (Rect.unit (s := S192) (k0_off112 k) S1.size (k0_off112_inb i k h4)).toLoadRect f6 (Shape.Idx.first (show 0 < S1.numel by decide))) := by
      obtain ⟨t, h, e⟩ := ht ((Rect.unit (s := S192) (k0_off112 k) S1.size (k0_off112_inb i k h4)).emb (Shape.Idx.first (show 0 < S1.numel by decide)))
      have e' : arg6.view.readAt (Elt F) (Rect.unit (s := S192) (k0_off112 k) S1.size (k0_off112_inb i k h4)).toLoadRect f6 (Shape.Idx.first (show 0 < S1.numel by decide)) = BitVec.ofNat 32 t := e
      rw [e']; exact tok_chk i k h
    sl_unfold [k0_t6_body]
    sl_exec
    sl_step
    isplitr; · ipureintro; exact ht
    isplitl [H6]; · iexact H6
    isplitl [H18]; · iexists _; iexact H18
    isplitl [H19]; · iexists _; iexact H19
    isplitl [H27]; · iexists _; iexact H27
    iexists _; iexact H28
end Loops

end Cert.KernelIdeal.Hand
end
-- ==== Proof.KernelIdealCount.lean ====
module

public import proofs.«01_k».proof.Proof.KernelIdealLoops
public import proofs.«01_k».proof.Proof.Counting
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! The kernel's column pointer: the printed counts, and what the checks of a step's tiles follow from. -/

open Cert.Counting Idealize.ShloMosaic.ValueIdx

theorem off23_eq {n : ℕ} (hn : n ≤ 32000) : k0_off23 (BitVec.ofNat 32 n) = ![n / 1024 * 8, 0] := by
  have hb := shr10 hn
  have hq : n / 1024 < 32 := by omega
  simp only [k0_off23, hb]; generalize n / 1024 = q at hq; clear hb hn; revert q; decide +kernel

/-- A step's window of the table, read as integers. -/
theorem window_flat {n : ℕ} (hn : n ≤ 32000) (g : S272x128.Idx → BitVec 32) (inb : ∀ a, k0_off23 (BitVec.ofNat 32 n) a + S16x128.size a ≤ S272x128.size a)
    (r : Fin 16) (l : Fin 128) :
    (g ((Rect.unit (s := S272x128) (k0_off23 (BitVec.ofNat 32 n)) S16x128.size inb).emb (ix2 r l))).toInt = flat g (n / 1024 * 1024 + (r.val * 128 + l.val)) := by
  have h : n / 1024 * 1024 + (r.val * 128 + l.val) < 34816 := by have := r.isLt; have := l.isLt; omega
  unfold flat; rw [dif_pos h]
  refine congrArg (fun y => (g y).toInt) ?_
  have e := off23_eq hn
  have o0 : k0_off23 (BitVec.ofNat 32 n) 0 = n / 1024 * 8 := congrFun e 0
  have o1 : k0_off23 (BitVec.ofNat 32 n) 1 = 0 := congrFun e 1
  funext a; refine Fin.ext ?_
  match a with
  | ⟨0, _⟩ =>
    show k0_off23 (BitVec.ofNat 32 n) 0 + 1 * r.val = (n / 1024 * 1024 + (r.val * 128 + l.val)) / 128
    rw [o0]; have := l.isLt; omega
  | ⟨1, _⟩ =>
    show k0_off23 (BitVec.ofNat 32 n) 1 + 1 * l.val = (n / 1024 * 1024 + (r.val * 128 + l.val)) % 128
    rw [o1]; have := l.isLt; omega

theorem bound_toInt {i c : ℕ} (hi : i < 149) (hc : c ≤ 1024) :
    (Scalar.addi (Scalar.muli (BitVec.ofNat 32 i) 1024#32) (BitVec.ofNat 32 c)).toInt = ((i * 1024 + c : ℕ) : ℤ) := by
  rw [show Scalar.muli (BitVec.ofNat 32 i) 1024#32 = BitVec.ofNat 32 (i * 1024) by simp [Scalar.muli, IntOp.muli, BitVec.ofNat_mul], addi_ofNat]
  exact toInt_of_isInt (isInt_ofNat (by omega))

section Tiles
variable {n i : ℕ} (hF : Counts F) (hn : n ≤ 32000) (hi : i < 149) (g : S272x128.Idx → BitVec 32)
  (inb : ∀ a, k0_off23 (BitVec.ofNat 32 n) a + S16x128.size a ≤ S272x128.size a)

/-- A step's window of the table. -/
abbrev win (n : ℕ) (g : S272x128.Idx → BitVec 32) (inb : ∀ a, k0_off23 (BitVec.ofNat 32 n) a + S16x128.size a ≤ S272x128.size a) : Vec F S16x128 .i32 :=
  fun y => g ((Rect.unit (s := S272x128) (k0_off23 (BitVec.ofNat 32 n)) S16x128.size inb).emb y)

include hF hn hi in
theorem count_word {c : ℕ} (hc : c ≤ 1024) (x : F .f32)
    (hx : x = cntF (Scalar.addi (Scalar.muli (BitVec.ofNat 32 i) 1024#32) (BitVec.ofNat 32 c)) (win (F := F) n g inb) shapeCasts_S16x128_S1x16x128 reduces_S1x16x128_S1 shapeCasts_S1_S1x1x1 inpos_S1x1x1_p0_0_0) :
    Scalar.fptosi 32 x = BitVec.ofNat 32 (wc (flat g) (n / 1024 * 1024) ((i * 1024 + c : ℕ) : ℤ)) := by
  rw [hx, hF, cnt_eq _ _ (flat g) (n / 1024 * 1024) (window_flat hn g inb), bound_toInt hi hc]

include hF hn hi in
theorem tile_ok (hT : TblOK (flat g)) {c : ℕ} (hc : c ≤ 1024) (x : F .f32)
    (hx : x = cntF (Scalar.addi (Scalar.muli (BitVec.ofNat 32 i) 1024#32) (BitVec.ofNat 32 c)) (win (F := F) n g inb) shapeCasts_S16x128_S1x16x128 reduces_S1x16x128_S1 shapeCasts_S1_S1x1x1 inpos_S1x1x1_p0_0_0) :
    k0_chk3 (BitVec.ofNat 32 n) (Scalar.fptosi 32 x) := by
  have hb : n / 1024 * 1024 + wc (flat g) (n / 1024 * 1024) ((i * 1024 + c : ℕ) : ℤ) ≤ 32000 :=
    wc_bound _ (by omega) fun p hp => le_trans (by push_cast; omega) (hT.big p hp)
  rw [count_word hF hn hi g inb hc x hx]
  exact chk3 _ _ (t := (n / 1024 * 1024 + wc (flat g) (n / 1024 * 1024) ((i * 1024 + c : ℕ) : ℤ)) / 128) (by omega) (tile_word hn hb)

include hF hn hi in
theorem ok3 (hT : TblOK (flat g)) : k0_chk3 (BitVec.ofNat 32 n) (Scalar.fptosi 32 (k0_pay63 (BitVec.ofNat 32 i) (win (F := F) n g inb))) :=
  tile_ok hF hn hi g inb hT (c := 128) (by decide) _ rfl

include hF hn hi in
theorem ok4 (hT : TblOK (flat g)) : k0_chk4 (BitVec.ofNat 32 n) (Scalar.fptosi 32 (k0_pay64 (BitVec.ofNat 32 i) (win (F := F) n g inb))) :=
  chk4 _ _ <| tile_ok hF hn hi g inb hT (c := 256) (by decide) _ rfl

include hF hn hi in
theorem ok5 (hT : TblOK (flat g)) : k0_chk5 (BitVec.ofNat 32 n) (Scalar.fptosi 32 (k0_pay65 (BitVec.ofNat 32 i) (win (F := F) n g inb))) :=
  chk5 _ _ <| tile_ok hF hn hi g inb hT (c := 384) (by decide) _ rfl

include hF hn hi in
theorem ok6 (hT : TblOK (flat g)) : k0_chk6 (BitVec.ofNat 32 n) (Scalar.fptosi 32 (k0_pay66 (BitVec.ofNat 32 i) (win (F := F) n g inb))) :=
  chk6 _ _ <| tile_ok hF hn hi g inb hT (c := 512) (by decide) _ rfl

include hF hn hi in
theorem ok7 (hT : TblOK (flat g)) : k0_chk7 (BitVec.ofNat 32 n) (Scalar.fptosi 32 (k0_pay67 (BitVec.ofNat 32 i) (win (F := F) n g inb))) :=
  chk7 _ _ <| tile_ok hF hn hi g inb hT (c := 640) (by decide) _ rfl

include hF hn hi in
theorem ok8 (hT : TblOK (flat g)) : k0_chk8 (BitVec.ofNat 32 n) (Scalar.fptosi 32 (k0_pay69 (k0_pay68 (BitVec.ofNat 32 i) (win (F := F) n g inb)))) :=
  chk8 _ _ <| tile_ok hF hn hi g inb hT (c := 768) (by decide) _ rfl

include hF hn hi in
theorem ok9 (hT : TblOK (flat g)) : k0_chk9 (BitVec.ofNat 32 n) (Scalar.fptosi 32 (k0_pay70 (BitVec.ofNat 32 i) (win (F := F) n g inb))) :=
  chk9 _ _ <| tile_ok hF hn hi g inb hT (c := 896) (by decide) _ rfl

include hF hn hi in
/-- The pointer's new word. -/
theorem new_word (hT : TblOK (flat g)) :
    Scalar.addi (Scalar.muli (Scalar.shli (Scalar.shrsi (BitVec.ofNat 32 n) 10#32) 3#32) 128#32) (Scalar.fptosi 32 (k0_pay71 (BitVec.ofNat 32 i) (win (F := F) n g inb)))
      = BitVec.ofNat 32 (adv (flat g) i n) := by
  have e := count_word hF hn hi g inb (c := 1024) (by decide) (k0_pay71 (BitVec.ofNat 32 i) (win (F := F) n g inb)) rfl
  rw [e, base_word hn, addi_ofNat, show i * 1024 + 1024 = (i + 1) * 1024 by ring]
  rfl
end Tiles

/-! ### The table -/

/-- What the table is filled from: differences whose running sums are target columns. -/
def DiffOK (v : S272x128.Idx → BitVec 32) : Prop :=
  ∀ (r : Fin 272) (l : Fin 128), r.val * 128 + l.val < 32000 →
    0 ≤ (v (ix2 r l) + BitVec.ofNat 32 (r.val * 128 + l.val)).toInt ∧ (v (ix2 r l) + BitVec.ofNat 32 (r.val * 128 + l.val)).toInt < 151936

theorem pay5_at (v : Vec F S272x128 .i32) (r : Fin 272) (l : Fin 128) :
    k0_pay5 (F := F) v (ix2 r l) = if r.val * 128 + l.val < 32000 then v (ix2 r l) + BitVec.ofNat 32 (r.val * 128 + l.val) else 1073741824#32 := by
  have hp : (addi (muli (iota .tc S272x128 32 [0] iota_S272x128_d0_w32) (broadcast S272x128 128#32)) (iota .tc S272x128 32 [1] iota_S272x128_d1_w32) : IVec S272x128 32) (ix2 r l)
      = BitVec.ofNat 32 (r.val * 128 + l.val) := by
    show IntOp.addi (IntOp.muli (BitVec.ofNat 32 _) 128#32) (BitVec.ofNat 32 _) = _
    simp [IntOp.addi, IntOp.muli, BitVec.ofNat_add, BitVec.ofNat_mul, ix2]
  unfold k0_pay5
  simp only [shapeCast_self]
  show (if IntOp.cmpi .slt (_ : BitVec 32) 32000#32 = 1#1 then IntOp.addi (v (ix2 r l)) (_ : BitVec 32) else 1073741824#32) = _
  rw [hp]
  have ht : (BitVec.ofNat 32 (r.val * 128 + l.val)).toInt = ((r.val * 128 + l.val : ℕ) : ℤ) :=
    toInt_of_isInt (isInt_ofNat (by have := r.isLt; have := l.isLt; omega))
  have hs : (BitVec.ofNat 32 (r.val * 128 + l.val)).slt 32000#32 = decide (r.val * 128 + l.val < 32000) := by
    unfold BitVec.slt; rw [ht, show (32000#32 : BitVec 32).toInt = 32000 by decide]
    exact decide_eq_decide.mpr (by omega)
  by_cases h : r.val * 128 + l.val < 32000 <;> simp [IntOp.cmpi, IntOp.addi, hs, h]

theorem table_ok (v : Vec F S272x128 .i32) (hv : DiffOK v) : TblOK (flat (k0_pay5 (F := F) v)) := by
  constructor
  · intro p hp
    unfold flat
    split
    · rename_i h
      rw [pay5_at, if_neg (by show ¬ (p / 128 * 128 + p % 128 < 32000); omega)]; decide
    · exact le_refl _
  · intro p hp
    unfold flat
    rw [dif_pos (by omega), pay5_at, if_pos (by show p / 128 * 128 + p % 128 < 32000; omega)]
    have := (hv ⟨p / 128, by omega⟩ ⟨p % 128, by omega⟩ (by show p / 128 * 128 + p % 128 < 32000; omega)).2
    omega

/-! ### The two counters -/

/-- The two words kept between steps. -/
def Words (f : S2.Idx → BitVec 32) (n a : ℕ) : Prop :=
  ∀ y : S2.Idx, ((y 0).val = 0 → f y = BitVec.ofNat 32 n) ∧ ((y 0).val = 1 → f y = BitVec.ofNat 32 a)

end Cert.KernelIdeal.Hand
end
-- ==== Proof.KernelIdealStart.lean ====
module

public import proofs.«01_k».proof.Proof.KernelIdealCount
public import Idealize.ShloMosaic.Lib.CellWrites
public import Idealize.ShloMosaic.Lib.VecWindow
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! A step's start: the table filled at the first step, then the pairs ready by now. -/

open Cert.Counting Idealize.ShloMosaic.ValueIdx

section Start
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)
  (f2 : Buf (Elt F) (arg2.view.loc (c : Thread nD τ))) (f4 : Buf (Elt F) (arg4.view.loc (c : Thread nD τ))) (f7 : Buf (Elt F) (arg7.view.loc (c : Thread nD τ)))

/-- What a step's tiles run from. -/
def Ready (f21 : Buf (Elt F) (arg21.view.loc (c : Thread nD τ))) (f29 : Buf (Elt F) (arg29.view.loc (c : Thread nD τ))) (t n a : ℕ) : Prop :=
  TblOK (flat (arg21.view.read (Elt F) f21)) ∧ Ptr (flat (arg21.view.read (Elt F) f21)) t n ∧ a ≤ n / 256 ∧ Words (arg29.view.read (Elt F) f29) n a

/-- What the start leaves. -/
def started (r : Σ' (arg0 : BitVec 32) (v0 : IVec S8x128 32) (v29 : BitVec 32) (k0_hw2 : k0_chk2 v29), BitVec 32) : sProp (𝕄 F) :=
  iprop(∃ n f21 f29, ⌜r.1 = BitVec.ofNat 32 (i 0).val ∧ r.2.2.1 = BitVec.ofNat 32 n ∧ r.2.2.2.2 = Scalar.shli (Scalar.shrsi (BitVec.ofNat 32 n) 10#32) 3#32
      ∧ Ready c arg21 arg29 f21 f29 (i 0).val n (n / 256)⌝
    ∗ sideP c arg2 arg4 arg16 arg17 arg19 arg24 arg25 f2 f4 ∗ (∃ Wt, owes (c : Thread nD τ) 0 Wt) ∗ ringAt F c (n / 256)
    ∗ pt c arg7 f7 ∗ pt c arg21 f21 ∗ pa F c arg22 ∗ pa F c arg23 ∗ pt c arg29 f29)

theorem word_at (M : Memref sig .tc .smem S2 .i32) (f : Buf (Elt F) (M.view.loc (c : Thread nD τ))) {n a : ℕ} (h : Words (M.view.read (Elt F) f) n a) :
    M.view.readAt (Elt F) (Rect.unit (s := S2) ![0] S1.size inb_S2_S1_0).toLoadRect f (Shape.Idx.first (show 0 < S1.numel by decide)) = BitVec.ofNat 32 n
    ∧ M.view.readAt (Elt F) (Rect.unit (s := S2) ![1] S1.size inb_S2_S1_1).toLoadRect f (Shape.Idx.first (show 0 < S1.numel by decide)) = BitVec.ofNat 32 a :=
  ⟨(h ((Rect.unit (s := S2) ![0] S1.size inb_S2_S1_0).emb (Shape.Idx.first (show 0 < S1.numel by decide)))).1 rfl,
   (h ((Rect.unit (s := S2) ![1] S1.size inb_S2_S1_1).emb (Shape.Idx.first (show 0 < S1.numel by decide)))).2 rfl⟩

/-- The words after the second is set. -/
theorem words_set (M : Memref sig .tc .smem S2 .i32) (f : Buf (Elt F) (M.view.loc (c : Thread nD τ))) {n a : ℕ} {p : BitVec 32} (L : List (View.Piece (Elt F) S2 .i32))
    (h : ∀ y : S2.Idx, (y 0).val = 0 → M.view.read (Elt F) (M.view.writes (Elt F) f L) y = BitVec.ofNat 32 n) (hp : p = BitVec.ofNat 32 a) :
    Words (M.view.read (Elt F) (M.view.writes (Elt F) f (⟨Rect.unit (s := S2) ![1] S1.size inb_S2_S1_1, fun _ => p⟩ :: L))) n a := by
  intro y
  have e := View.read_writes_cons_cell (d := ![2]) (Val := Elt F) M.view f (off := ![1]) inb_S2_S1_1 p L y
  constructor
  · intro hy; exact e.trans ((if_neg (by rw [hy]; decide)).trans (h y hy))
  · intro hy; exact e.trans ((if_pos (by rw [hy]; rfl)).trans hp)
/-- The words after the first is set. -/
theorem words_set0 (M : Memref sig .tc .smem S2 .i32) (f : Buf (Elt F) (M.view.loc (c : Thread nD τ))) {n a : ℕ} {p : BitVec 32} (L : List (View.Piece (Elt F) S2 .i32))
    (h : ∀ y : S2.Idx, (y 0).val = 1 → M.view.read (Elt F) (M.view.writes (Elt F) f L) y = BitVec.ofNat 32 a) (hp : p = BitVec.ofNat 32 n) :
    Words (M.view.read (Elt F) (M.view.writes (Elt F) f (⟨Rect.unit (s := S2) ![0] S1.size inb_S2_S1_0, fun _ => p⟩ :: L))) n a := by
  intro y
  have e := View.read_writes_cons_cell (d := ![2]) (Val := Elt F) M.view f (off := ![0]) inb_S2_S1_0 p L y
  constructor
  · intro hy; exact e.trans ((if_pos (by rw [hy]; rfl)).trans hp)
  · intro hy; exact e.trans ((if_neg (by rw [hy]; decide)).trans (h y hy))
theorem word0_init (M : Memref sig .tc .smem S2 .i32) (f : Buf (Elt F) (M.view.loc (c : Thread nD τ))) (p q : BitVec 32) (y : S2.Idx) (hy : (y 0).val = 0) :
    M.view.read (Elt F) (M.view.writes (Elt F) f [⟨Rect.unit (s := S2) ![1] S1.size inb_S2_S1_1, fun _ => p⟩, ⟨Rect.unit (s := S2) ![0] S1.size inb_S2_S1_0, fun _ => q⟩]) y = q :=
  (View.read_writes_cons_cell (d := ![2]) (Val := Elt F) M.view f (off := ![1]) inb_S2_S1_1 p _ y).trans
    ((if_neg (by rw [hy]; decide)).trans
      ((View.read_writes_cons_cell (d := ![2]) (Val := Elt F) M.view f (off := ![0]) inb_S2_S1_0 q [] y).trans (if_pos (by rw [hy]; rfl))))

set_option maxHeartbeats 1000000 in
theorem start_later (hi : 0 < (i 0).val) {n a : ℕ} (f21 f29) (hR : Ready c arg21 arg29 f21 f29 (i 0).val n a) :
    iprop(sideP c arg2 arg4 arg16 arg17 arg19 arg24 arg25 f2 f4 ∗ (∃ Wt, owes (c : Thread nD τ) 0 Wt) ∗ ringAt F c a
      ∗ pt c arg7 f7 ∗ pt c arg21 f21 ∗ pa F c arg22 ∗ pa F c arg23 ∗ pt c arg29 f29)
    ⊢ W c (k0_part13 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (started c i arg2 arg4 arg7 arg16 arg17 arg19 arg21 arg22 arg23 arg24 arg25 arg29 f2 f4 f7) := by
  rw [k0_part13_eq_skeleton]; unfold k0_part13_skel W
  obtain ⟨hT, hP, ha, hw⟩ := hR
  have hn := hP.1
  obtain ⟨e0, e1⟩ := word_at c arg29 f29 hw
  have h1 : ¬ Scalar.cmpi .ne (Scalar.extui (Scalar.cmpi .eq (BitVec.ofNat 32 (i 0).val) 0#32) : BitVec 32) 0#32 = 1#1 := by
    have h : ∀ t : Fin 149, 0 < t.val → ¬ Scalar.cmpi .ne (Scalar.extui (Scalar.cmpi .eq (BitVec.ofNat 32 t.val) 0#32) : BitVec 32) 0#32 = 1#1 := by decide +kernel
    exact h ⟨(i 0).val, (i 0).isLt⟩ hi
  iintro ⟨HS, HO, HR, H7, H21, H22, H23, H29⟩
  have hc1 : k0_chk1 (arg29.view.readAt (Elt F) (Rect.unit (s := S2) ![1] S1.size inb_S2_S1_1).toLoadRect f29 (Shape.Idx.first (show 0 < S1.numel by decide)))
      (arg29.view.readAt (Elt F) (Rect.unit (s := S2) ![0] S1.size inb_S2_S1_0).toLoadRect f29 (Shape.Idx.first (show 0 < S1.numel by decide))) := by
    rw [e0, e1]; exact chk1 hn ha
  sl_exec
  have er : start_later.sl.r c arg29 f29 = BitVec.ofNat 32 a := e1
  have er' : start_later.sl.r_1 c arg29 f29 = BitVec.ofNat 32 n := e0
  have an : (BitVec.ofNat 32 a).toNat = a := by simp; omega
  have nn : (BitVec.ofNat 32 n).toNat = n := by simp; omega
  ihave HP : pairsAt c arg2 arg4 arg16 arg17 arg19 arg24 arg25 (start_later.sl.r c arg29 f29) (start_later.sl.r_1 c arg29 f29) f2 f4 0 $$ [HS HO HR]
  · unfold pairsAt; rw [er, er', an, nn]
    isplitr; · ipureintro; exact ⟨hn, ha⟩
    isplitl [HS]; · iexact HS
    isplitl [HO]; · iexact HO
    iexact HR
  have hc2 : k0_chk2 (start_later.sl.r_1 c arg29 f29) := by rw [er']; exact chk2 hn
  sl_exec
  sl_step
  have hv : start_later.sl.v22 c arg29 f29 = BitVec.ofNat 32 (n / 256) := by
    show floor256 (start_later.sl.r_1 c arg29 f29) = _
    rw [er']; exact floor256_eq hn
  have ht : a + (k0_t1_loop (start_later.sl.r c arg29 f29) (start_later.sl.r_1 c arg29 f29)).trips = n / 256 := by
    rw [er, er', trips1_eq hn ha]; omega
  unfold pairsAt started
  icases HP with ⟨-, HS, HO, HR⟩
  iexists n; iexists f21; iexists _
  isplitr
  · ipureintro
    refine ⟨rfl, e0, ?_, hT, hP, le_refl _, words_set c arg29 f29 [] (fun y hy => (hw y).1 hy) hv⟩
    show Scalar.shli (Scalar.shrsi (start_later.sl.r_1 c arg29 f29) 10#32) 3#32 = _
    rw [er']
  isplitl [HS]; · iexact HS
  isplitl [HO]; · iexact HO
  isplitl [HR]
  · rw [er, an, ← er, ht]; iexact HR
  isplitl [H7]; · iexact H7
  isplitl [H21]; · iexact H21
  isplitl [H22]; · iexact H22
  isplitl [H23]; · iexact H23
  iexact H29

set_option maxHeartbeats 1000000 in
theorem start_first (hi : (i 0).val = 0) (h7 : DiffOK (arg7.view.read (Elt F) f7)) :
    iprop(sideP c arg2 arg4 arg16 arg17 arg19 arg24 arg25 f2 f4 ∗ (∃ Wt, owes (c : Thread nD τ) 0 Wt) ∗ ringAt F c 0
      ∗ pt c arg7 f7 ∗ pa F c arg21 ∗ pa F c arg22 ∗ pa F c arg23 ∗ pa F c arg29)
    ⊢ W c (k0_part13 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (started c i arg2 arg4 arg7 arg16 arg17 arg19 arg21 arg22 arg23 arg24 arg25 arg29 f2 f4 f7) := by
  rw [k0_part13_eq_skeleton]; unfold k0_part13_skel W
  have h1 : Scalar.cmpi .ne (Scalar.extui (Scalar.cmpi .eq (BitVec.ofNat 32 (i 0).val) 0#32) : BitVec 32) 0#32 = 1#1 := by
    rw [hi]; decide
  iintro ⟨⟨H2, H4, H16, H17, H19, ⟨%f24, H24⟩, ⟨%f25, H25⟩⟩, HO, HR, H7, ⟨%f21, H21⟩, ⟨%f22, H22⟩, ⟨%f23, H23⟩, ⟨%f29, H29⟩⟩
  have hc1 : k0_chk1 0#32 0#32 := chk1 (n := 0) (a := 0) (by decide) (by decide)
  rw [k0_part1_eq_skeleton]; unfold k0_part1_skel
  sl_exec
  sl_step
  unfold started
  iexists 0; iexists (arg21.view.writes (Elt F) arg21.view.junk (start_first.sl.H21_1 c arg7 f7))
  iexists (arg29.view.writes (Elt F) arg29.view.junk (⟨Rect.unit (s := S2) ![1] S1.size inb_S2_S1_1, fun _ => (0#32 : BitVec 32)⟩ :: start_first.sl.H29_2))
  isplitr
  · ipureintro
    have hr : arg21.view.read (Elt F) (arg21.view.writes (Elt F) arg21.view.junk (start_first.sl.H21_1 c arg7 f7))
        = k0_pay5 (F := F) (arg7.view.read (Elt F) f7) := by
      refine (View.read_writes_full arg21.view _ (off := ![0, 0]) inb_S272x128_S272x128_0_0 _ []).trans ?_
      exact congrArg (k0_pay5 (F := F)) (View.readAt_full arg7.view f7 (off := ![0, 0]) inb_S272x128_S272x128_0_0)
    refine ⟨rfl, rfl, rfl, ?_, ?_, le_refl _, words_set c arg29 arg29.view.junk start_first.sl.H29_2 (fun y hy => word0_init c arg29 arg29.view.junk 0#32 0#32 y hy) rfl⟩
    · rw [hr]; exact table_ok _ h7
    · rw [hi]; exact ptr_zero _
  isplitl [H2 H4 H16 H17 H19 H24 H25]
  · isplitl [H2]; · iexact H2
    isplitl [H4]; · iexact H4
    isplitl [H16]; · iexact H16
    isplitl [H17]; · iexact H17
    isplitl [H19]; · iexact H19
    isplitl [H24]; · iexists _; iexact H24
    iexists _; iexact H25
  isplitl [HO]; · iexact HO
  isplitl [HR]; · iexact HR
  isplitl [H7]; · iexact H7
  isplitl [H21]; · iexact H21
  isplitl [H22]; · iexists _; iexact H22
  isplitl [H23]; · iexists _; iexact H23
  iexact H29
end Start

end Cert.KernelIdeal.Hand
end
-- ==== Proof.KernelIdealStep.lean ====
module

public import proofs.«01_k».proof.Proof.KernelIdealStart
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! A step's eight tiles, after its start. -/

open Cert.Counting Idealize.ShloMosaic.ValueIdx

/-- The eight stores into the logits' buffer, last first: lane tile `j` of the block gets the payload printed for it, each of
    the operands' contents. -/
def ztPieces (X : Vec F S240x2560 .fp8e4m3) (XS : Vec F S240x1 .f32) (WS : Vec F S8x128 .f32) (W : Vec F S2560x1024 .fp8e4m3) :
    List (View.Piece (Elt F) S240x1024 .bf16) :=
  let x := View.ld X (Rect.unit ![0, 0] S240x2560.size inb_S240x2560_S240x2560_0_0)
  let xs := View.ld XS (Rect.unit ![0, 0] S240x1.size inb_S240x1_S240x1_0_0)
  let w0 := View.ld W (Rect.unit ![0, 0] S2560x512.size inb_S2560x1024_S2560x512_0_0)
  let w1 := View.ld W (Rect.unit ![0, 512] S2560x512.size inb_S2560x1024_S2560x512_0_512)
  [⟨Rect.unit ![0, 896] S240x128.size inb_S240x1024_S240x128_0_896,
      k0_pay110 (k0_pay95 x w1) (View.ld WS (Rect.unit ![7, 0] S1x128.size inb_S8x128_S1x128_7_0)) xs⟩,
    ⟨Rect.unit ![0, 768] S240x128.size inb_S240x1024_S240x128_0_768,
      k0_pay105 (k0_pay95 x w1) (View.ld WS (Rect.unit ![6, 0] S1x128.size inb_S8x128_S1x128_6_0)) xs⟩,
    ⟨Rect.unit ![0, 640] S240x128.size inb_S240x1024_S240x128_0_640,
      k0_pay101 (k0_pay95 x w1) (View.ld WS (Rect.unit ![5, 0] S1x128.size inb_S8x128_S1x128_5_0)) xs⟩,
    ⟨Rect.unit ![0, 512] S240x128.size inb_S240x1024_S240x128_0_512,
      k0_pay97 x w1 (View.ld WS (Rect.unit ![4, 0] S1x128.size inb_S8x128_S1x128_4_0)) xs⟩,
    ⟨Rect.unit ![0, 384] S240x128.size inb_S240x1024_S240x128_0_384,
      k0_pay88 (k0_pay86 (k0_pay73 (k0_pay72 x) w0)) (View.ld WS (Rect.unit ![3, 0] S1x128.size inb_S8x128_S1x128_3_0)) xs⟩,
    ⟨Rect.unit ![0, 256] S240x128.size inb_S240x1024_S240x128_0_256,
      k0_pay83 (k0_pay73 (k0_pay72 x) w0) (View.ld WS (Rect.unit ![2, 0] S1x128.size inb_S8x128_S1x128_2_0)) xs⟩,
    ⟨Rect.unit ![0, 128] S240x128.size inb_S240x1024_S240x128_0_128,
      k0_pay79 (k0_pay72 x) w0 (View.ld WS (Rect.unit ![1, 0] S1x128.size inb_S8x128_S1x128_1_0)) xs⟩,
    ⟨Rect.unit ![0, 0] S240x128.size inb_S240x1024_S240x128_0_0,
      k0_pay75 (k0_pay72 x) w0 (View.ld WS (Rect.unit ![0, 0] S1x128.size inb_S8x128_S1x128_0_0)) xs⟩]

/-- The eight lane tiles cover the block. -/
theorem ztCover (X : Vec F S240x2560 .fp8e4m3) (XS : Vec F S240x1 .f32) (WS : Vec F S8x128 .f32) (W : Vec F S2560x1024 .fp8e4m3)
    (y : S240x1024.Idx) : ∃ p ∈ ztPieces X XS WS W, y ∈ p.1.set :=
  View.cover_of_tiledL (ztPieces X XS WS W) S240x128.size (by sl_kernel_rfl) y

/-- What the body leaves in the logits' buffer, of the operands' contents. -/
def zt (X : Vec F S240x2560 .fp8e4m3) (XS : Vec F S240x1 .f32) (WS : Vec F S8x128 .f32) (W : Vec F S2560x1024 .fp8e4m3) : Vec F S240x1024 .bf16 :=
  View.canon (ztPieces X XS WS W)

/-- What a step asks of its seven tile words, and its next counter, over the words as the run names them. -/
theorem stepFacts (hF : Counts F) {n i : ℕ} (hn : n ≤ 32000) (hi : i < 149) (g : S272x128.Idx → BitVec 32) (hT : TblOK (flat g))
    {arg0 v29 v31 : BitVec 32} (q0 : arg0 = BitVec.ofNat 32 i) (q29 : v29 = BitVec.ofNat 32 n)
    (q31 : v31 = Scalar.shli (Scalar.shrsi (BitVec.ofNat 32 n) 10#32) 3#32) (hw : k0_chk2 v29) :
    let w : Vec F S16x128 .i32 := fun y => g ((Rect.unit (s := S272x128) (k0_off23 v29) S16x128.size (k0_off23_inb v29 hw)).emb y)
    k0_chk3 v29 (Scalar.fptosi 32 (k0_pay63 arg0 w)) ∧ k0_chk4 v29 (Scalar.fptosi 32 (k0_pay64 arg0 w))
      ∧ k0_chk5 v29 (Scalar.fptosi 32 (k0_pay65 arg0 w)) ∧ k0_chk6 v29 (Scalar.fptosi 32 (k0_pay66 arg0 w))
      ∧ k0_chk7 v29 (Scalar.fptosi 32 (k0_pay67 arg0 w)) ∧ k0_chk8 v29 (Scalar.fptosi 32 (k0_pay69 (k0_pay68 arg0 w)))
      ∧ k0_chk9 v29 (Scalar.fptosi 32 (k0_pay70 arg0 w))
      ∧ Scalar.addi (Scalar.muli v31 128#32) (Scalar.fptosi 32 (k0_pay71 arg0 w)) = BitVec.ofNat 32 (adv (flat g) i n) := by
  subst q0 q29 q31
  have inb := k0_off23_inb (BitVec.ofNat 32 n) hw
  exact ⟨ok3 hF hn hi g inb hT, ok4 hF hn hi g inb hT, ok5 hF hn hi g inb hT, ok6 hF hn hi g inb hT, ok7 hF hn hi g inb hT,
    ok8 hF hn hi g inb hT, ok9 hF hn hi g inb hT, new_word hF hn hi g inb hT⟩

section Step
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ)))

/-- What a step's tiles leave. -/
def tiled (r : Σ' (arg0 : BitVec 32) (v29 : Elt F .i32) (v131 : BitVec 32) (k0_hw9 : k0_chk9 v29 v131) (v1358 : BitVec 32) (v1475 : IVec S192x128 1), FVec F S192x128 .f32) : sProp (𝕄 F) :=
  iprop(∃ n a f10 f21 f29, ⌜Ready c arg21 arg29 f21 f29 ((i 0).val + 1) n a ∧ ((i 0).val = 148 → 1024 ≤ n)
      ∧ arg10.view.read (Elt F) f10 = zt (arg1.view.read (Elt F) f1) (arg3.view.read (Elt F) f3) (arg8.view.read (Elt F) f8) (arg9.view.read (Elt F) f9)⌝
    ∗ pt c arg1 f1 ∗ pt c arg2 f2 ∗ pt c arg3 f3 ∗ pt c arg4 f4 ∗ pt c arg7 f7 ∗ pt c arg8 f8 ∗ pt c arg9 f9 ∗ pt c arg10 f10 ∗ (∃ Wt, owes (c : Thread nD τ) 0 Wt) ∗ ringAt F c a
    ∗ pa F c arg16 ∗ pa F c arg17 ∗ pa F c arg18 ∗ pa F c arg19 ∗ pa F c arg20 ∗ pa F c arg22 ∗ pa F c arg23 ∗ pa F c arg24 ∗ pa F c arg25 ∗ pt c arg21 f21 ∗ pt c arg29 f29)

set_option maxHeartbeats 4000000 in
theorem tiles (hF : Counts F) (P : sProp (𝕄 F))
    (h : P ⊢ W c (k0_part13 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14)
      (fun r => iprop(started c i arg2 arg4 arg7 arg16 arg17 arg19 arg21 arg22 arg23 arg24 arg25 arg29 f2 f4 f7 r
        ∗ pt c arg1 f1 ∗ pt c arg3 f3 ∗ pt c arg8 f8 ∗ pt c arg9 f9 ∗ pa F c arg10 ∗ pa F c arg18 ∗ pa F c arg20))) :
    P ⊢ W c (k0_part49 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14)
      (tiled c i arg1 arg2 arg3 arg4 arg7 arg8 arg9 arg10 arg16 arg17 arg18 arg19 arg20 arg21 arg22 arg23 arg24 arg25 arg29 f1 f2 f3 f4 f7 f8 f9) := by
  rw [k0_part49_eq_skeleton]; unfold k0_part49_skel
  refine seq _ h ?_
  rintro ⟨arg0, v0, v29, hw2, v31⟩
  unfold started
  iintro ⟨⟨%n, %f21, %f29, %hf, ⟨H2, H4, ⟨%f16, H16⟩, ⟨%f17, H17⟩, ⟨%f19, H19⟩, ⟨%f24, H24⟩, ⟨%f25, H25⟩⟩, HO, HR, H7, H21, ⟨%f22, H22⟩, ⟨%f23, H23⟩, H29⟩,
    H1, H3, H8, H9, ⟨%f10, H10⟩, ⟨%f18, H18⟩, ⟨%f20, H20⟩⟩
  obtain ⟨q0, q29, q31, hT, hP, -, hw⟩ := hf
  dsimp only at q0 q29 q31
  have hn := hP.1
  have hi : (i 0).val < 149 := (i 0).isLt
  have g := stepFacts hF hn hi (arg21.view.read (Elt F) f21) hT q0 q29 q31
  obtain ⟨h3, h4, h5, h6, h7, h8, h9, hv⟩ := g hw2
  unfold W
  dsimp only
  sl_exec
  sl_step
  unfold tiled
  iexists (adv (flat (arg21.view.read (Elt F) f21)) (i 0).val n); iexists (n / 256); iexists _; iexists f21; iexists _
  isplitr
  swap
  · isplitl [H1]; · iexact H1
    isplitl [H2]; · iexact H2
    isplitl [H3]; · iexact H3
    isplitl [H4]; · iexact H4
    isplitl [H7]; · iexact H7
    isplitl [H8]; · iexact H8
    isplitl [H9]; · iexact H9
    isplitl [H10]; · iexact H10
    isplitl [HO]; · iexact HO
    isplitl [HR]; · iexact HR
    isplitl [H16]; · iexists _; iexact H16
    isplitl [H17]; · iexists _; iexact H17
    isplitl [H18]; · iexists _; iexact H18
    isplitl [H19]; · iexists _; iexact H19
    isplitl [H20]; · iexists _; iexact H20
    isplitl [H22]; · iexists _; iexact H22
    isplitl [H23]; · iexists _; iexact H23
    isplitl [H24]; · iexists _; iexact H24
    isplitl [H25]; · iexists _; iexact H25
    isplitl [H21]; · iexact H21
    iexact H29
  · ipureintro
    refine ⟨⟨hT, ptr_adv hT hi hP, Nat.div_le_div_right (le_adv hP), ?_⟩, ?_, ?_⟩
    · refine words_set0 c arg29 f29 [] (fun y hy => (hw y).2 hy) ?_
      exact hv
    · intro h; rw [h]; exact adv_last hT n
    · refine View.read_writes_eq_canon arg10.view f10 (ztPieces (arg1.view.read (Elt F) f1) (arg3.view.read (Elt F) f3) (arg8.view.read (Elt F) f8) (arg9.view.read (Elt F) f9)) ?_
      exact ztCover _ _ _ _
end Step

end Cert.KernelIdeal.Hand
end
-- ==== Proof.KernelIdealDrain.lean ====
module

public import proofs.«01_k».proof.Proof.KernelIdealStep
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! The last step's pairs, and the two transfers it waits for. -/

open Cert.Counting Idealize.ShloMosaic.ValueIdx

@[sl_canon] theorem semE1 (hh) :
    (cc0_scratch14.slice (Rect.unit (s := S2) ![1] S1.size hh)).squeeze S_ squeezes_S1_S_ = csm 1 := csm_congr (s := 1) rfl _
@[sl_canon] theorem semE0 (hh) :
    (cc0_scratch14.slice (Rect.unit (s := S2) ![0] S1.size hh)).squeeze S_ squeezes_S1_S_ = csm 0 := csm_congr (s := 0) rfl _
@[sl_canon] theorem slotE1 (hh hs) :
    (stM.slice (Rect.unit (s := S2x192x256) ![1, 0, 0] S1x192x256.size hh) hs).squeeze S192x256 squeezes_S1x192x256_S192x256 = rslot 1 := rslot_congr (s := 1) rfl _ _
@[sl_canon] theorem slotE0 (hh hs) :
    (stM.slice (Rect.unit (s := S2x192x256) ![0, 0, 0] S1x192x256.size hh) hs).squeeze S192x256 squeezes_S1x192x256_S192x256 = rslot 0 := rslot_congr (s := 0) rfl _ _
@[sl_canon] theorem blkE1 (hh hs) :
    zdM.slice (Rect.unit (s := S192x32000) ![0, 31488] S192x256.size hh) hs = hblk 123 := hblk_congr (b := 123) rfl _ _
@[sl_canon] theorem blkE0 (hh hs) :
    zdM.slice (Rect.unit (s := S192x32000) ![0, 31744] S192x256.size hh) hs = hblk 124 := hblk_congr (b := 124) rfl _ _

section Out
variable (c : Dev nD)

/-- Both slots on their way, to two blocks of the result; the other blocks at home. -/
def bothOut : sProp (𝕄 F) := iprop(∃ (b0 b1 : Fin 125), ⌜b0 ≠ b1⌝ ∗ goneP F c 0 b0 ∗ goneP F c 1 b1 ∗ bigSep ((Finset.univ.erase b0).erase b1) (homeP F c))
/-- Every block at home, both slots held. -/
def allHome : sProp (𝕄 F) := iprop(bigSep Finset.univ (homeP F c) ∗ freeP F c 0 ∗ freeP F c 1)

/-- After two pairs or more, both slots are on their way. -/
theorem ring_out {d : ℕ} (h2 : 2 ≤ d) (hd : d ≤ 125) : ringAt F c d ⊢ bothOut c := by
  have hb2 : (Ring.bk 125 (d - 2)).val = d - 2 := Ring.bk_val (by omega)
  have hb1 : (Ring.bk 125 (d - 1)).val = d - 1 := Ring.bk_val (by omega)
  have hne : Ring.bk 125 (d - 2) ≠ Ring.bk 125 (d - 1) := fun h => by have := congrArg Fin.val h; omega
  have e1 : homes d = (Finset.univ.erase (Ring.bk 125 (d - 2))).erase (Ring.bk 125 (d - 1)) := by
    ext b; simp only [Finset.mem_erase, Finset.mem_univ, mem_homes, ne_eq, Fin.ext_iff, hb1, hb2, and_true]; omega
  have e2 : homes d = (Finset.univ.erase (Ring.bk 125 (d - 1))).erase (Ring.bk 125 (d - 2)) := by
    rw [e1]; exact Finset.erase_right_comm
  unfold ringAt busy prev bothOut
  rw [if_pos h2, if_pos (by omega)]
  rcases Nat.mod_two_eq_zero_or_one d with hp | hp
  · have s0 : Ring.sl 2 d = 0 := Fin.ext hp
    have s1 : Ring.sl 2 (d + 1) = 1 := Fin.ext (show (d + 1) % 2 = 1 by omega)
    rw [s0, s1, e1]
    iintro ⟨HB, H0, H1⟩
    iexists (Ring.bk 125 (d - 2)); iexists (Ring.bk 125 (d - 1))
    isplitr; · ipureintro; exact hne
    isplitl [H0]; · iexact H0
    isplitl [H1]; · iexact H1
    iexact HB
  · have s0 : Ring.sl 2 d = 1 := Fin.ext hp
    have s1 : Ring.sl 2 (d + 1) = 0 := Fin.ext (show (d + 1) % 2 = 0 by omega)
    rw [s0, s1, e2]
    iintro ⟨HB, H0, H1⟩
    iexists (Ring.bk 125 (d - 1)); iexists (Ring.bk 125 (d - 2))
    isplitr; · ipureintro; exact hne.symm
    isplitl [H1]; · iexact H1
    isplitl [H0]; · iexact H0
    iexact HB

/-- The two blocks back, every block is at home. -/
theorem home_again {b0 b1 : Fin 125} (hne : b0 ≠ b1) :
    iprop(homeP F c b0 ∗ homeP F c b1 ∗ bigSep ((Finset.univ.erase b0).erase b1) (homeP F c)) ⊢ bigSep Finset.univ (homeP F c) := by
  have e : (Finset.univ : Finset (Fin 125)) = insert b0 (insert b1 ((Finset.univ.erase b0).erase b1)) := by
    ext b; simp only [Finset.mem_univ, Finset.mem_insert, Finset.mem_erase, ne_eq, and_true, true_iff]; tauto
  have n0 : b0 ∉ insert b1 ((Finset.univ.erase b0).erase b1) := by simp [hne]
  have n1 : b1 ∉ (Finset.univ.erase b0).erase b1 := by simp
  conv_rhs => rw [e, bigSep_insert n0, bigSep_insert n1]
  exact .rfl
end Out

section Last
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ)))

/-- What one step hands the next: the offset table, the two counters, and the ring. -/
def carry (t : ℕ) : sProp (𝕄 F) :=
  if t = 0 ∨ t = 149 then iprop(allHome c ∗ pa F c arg21 ∗ pa F c arg29)
  else iprop(∃ n a f21 f29, ⌜Ready c arg21 arg29 f21 f29 t n a⌝ ∗ ringAt F c a ∗ pt c arg21 f21 ∗ pt c arg29 f29)

/-- What a step leaves. -/
def stepped : sProp (𝕄 F) :=
  iprop((∃ f10, ⌜arg10.view.read (Elt F) f10 = zt (arg1.view.read (Elt F) f1) (arg3.view.read (Elt F) f3) (arg8.view.read (Elt F) f8) (arg9.view.read (Elt F) f9)⌝ ∗ pt c arg10 f10)
    ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pa F c arg12 ∗ pa F c arg13 ∗ pa F c arg14 ∗ pa F c arg15 ∗ (∃ Wt, owes (c : Thread nD τ) 0 Wt)
    ∗ pa F c arg16 ∗ pa F c arg17 ∗ pa F c arg18 ∗ pa F c arg19 ∗ pa F c arg20 ∗ pa F c arg22 ∗ pa F c arg23 ∗ pa F c arg24 ∗ pa F c arg25 ∗ pa F c arg27 ∗ pa F c arg28 ∗ carry c arg21 arg29 ((i 0).val + 1))

theorem cond4_iff : k0_cond4 i = 1#1 ↔ (i 0).val = 148 := by
  have h : ∀ t : Fin 149, Scalar.cmpi .ne (Scalar.extui (Scalar.cmpi .eq (BitVec.ofNat 32 t.val) 148#32) : BitVec 32) 0#32 = 1#1 ↔ t.val = 148 := by decide +kernel
  exact h ⟨(i 0).val, (i 0).isLt⟩

set_option maxHeartbeats 4000000 in
/-- A step's end, after its tiles: the last step also writes the remaining pairs, waits for both slots and folds the vocabulary. -/
theorem finish (h6 : TokOK c arg6 f6) (P : sProp (𝕄 F))
    (h : P ⊢ W c (k0_part49 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14)
      (fun r => iprop(tiled c i arg1 arg2 arg3 arg4 arg7 arg8 arg9 arg10 arg16 arg17 arg18 arg19 arg20 arg21 arg22 arg23 arg24 arg25 arg29 f1 f2 f3 f4 f7 f8 f9 r
        ∗ pt c arg5 f5 ∗ pt c arg6 f6 ∗ pa F c arg12 ∗ pa F c arg13 ∗ pa F c arg14 ∗ pa F c arg15 ∗ pa F c arg27 ∗ pa F c arg28))) :
    P ⊢ W c (cc0_spec_verify (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (fun _ => stepped c i arg1 arg2 arg3 arg4 arg5 arg6 arg7 arg8 arg9 arg10 arg12 arg13 arg14 arg15 arg16 arg17 arg18 arg19 arg20 arg21 arg22 arg23 arg24 arg25 arg27 arg28 arg29 f1 f2 f3 f4 f5 f6 f7 f8 f9) := by
  rw [cc0_spec_verify_eq_skeleton]; unfold cc0_spec_verify_skel
  refine seq _ h ?_
  rintro ⟨arg0, v29, v131, hw9, v1358, v1475, v1486⟩
  unfold tiled
  iintro ⟨⟨%n, %a, %f10, %f21, %f29, %hf, H1, H2, H3, H4, H7, H8, H9, H10, HO, HR, ⟨%f16, H16⟩, ⟨%f17, H17⟩, ⟨%f18, H18⟩, ⟨%f19, H19⟩, ⟨%f20, H20⟩, ⟨%f22, H22⟩, ⟨%f23, H23⟩, ⟨%f24, H24⟩, ⟨%f25, H25⟩, H21, H29⟩,
    H5, H6, ⟨%f12, H12⟩, ⟨%f13, H13⟩, ⟨%f14, H14⟩, ⟨%f15, H15⟩, ⟨%f27, H27⟩, ⟨%f28, H28⟩⟩
  obtain ⟨hR, hlast, hz⟩ := hf
  by_cases h4 : k0_cond4 i = 1#1
  · have hi := (cond4_iff i).1 h4
    have h2 := hlast hi
    obtain ⟨-, hP, ha, hw⟩ := hR
    have hn := hP.1
    obtain ⟨e0, e1⟩ := word_at c arg29 f29 hw
    have hc1 : k0_chk10 i (arg29.view.readAt (Elt F) (Rect.unit (s := S2) ![1] S1.size inb_S2_S1_1).toLoadRect f29 (Shape.Idx.first (show 0 < S1.numel by decide)))
        (arg29.view.readAt (Elt F) (Rect.unit (s := S2) ![0] S1.size inb_S2_S1_0).toLoadRect f29 (Shape.Idx.first (show 0 < S1.numel by decide))) := by
      rw [e0, e1]; exact chk10 i hn ha
    unfold W
    dsimp only
    sl_exec
    have er : finish.sl.r c arg29 f29 = BitVec.ofNat 32 a := e1
    have er' : finish.sl.r_1 c arg29 f29 = BitVec.ofNat 32 n := e0
    have an : (BitVec.ofNat 32 a).toNat = a := by simp; omega
    have nn : (BitVec.ofNat 32 n).toNat = n := by simp; omega
    ihave HP : pairsAt c arg2 arg4 arg16 arg17 arg19 arg24 arg25 (finish.sl.r c arg29 f29) (finish.sl.r_1 c arg29 f29) f2 f4 0 $$ [H2 H4 H16 H17 H19 H24 H25 HO HR]
    · unfold pairsAt; rw [er, er', an, nn]
      isplitr; · ipureintro; exact ⟨hn, ha⟩
      isplitl [H2 H4 H16 H17 H19 H24 H25]
      · isplitl [H2]; · iexact H2
        isplitl [H4]; · iexact H4
        isplitl [H16]; · iexists _; iexact H16
        isplitl [H17]; · iexists _; iexact H17
        isplitl [H19]; · iexists _; iexact H19
        isplitl [H24]; · iexists _; iexact H24
        iexists _; iexact H25
      isplitl [HO]; · iexact HO
      iexact HR
    have hc2 : k0_chk10 i (finish.sl.r c arg29 f29) (finish.sl.r_1 c arg29 f29) := hc1
    sl_exec
    have ht : a + (k0_t3_loop (finish.sl.r c arg29 f29) (finish.sl.r_1 c arg29 f29)).trips = n / 256 := by
      rw [er, er', show k0_t3_loop (BitVec.ofNat 32 a) (BitVec.ofNat 32 n) = k0_t1_loop (BitVec.ofNat 32 a) (BitVec.ofNat 32 n) from rfl, trips1_eq hn ha]; omega
    unfold pairsAt
    rw [er, an, ← er, ht]
    icases HP with ⟨-, ⟨H2, H4, ⟨%g16, H16⟩, ⟨%g17, H17⟩, ⟨%g19, H19⟩, ⟨%g24, H24⟩, ⟨%g25, H25⟩⟩, ⟨%Wt, HO⟩, HR⟩
    ihave HR := (show ringAt F c (n / 256) ⊢ bothOut c from ring_out c (by omega) (by omega)) $$ HR
    unfold bothOut
    icases HR with ⟨%b0, %b1, %hne, ⟨%s0, %g0, HF0⟩, ⟨%s1, %g1, HF1⟩, HB⟩
    let I5 := loopInv5 (F := F) c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 h4 (fun _ => FloatOps.ofBits .f32 0#32) (fun _ => FloatOps.ofBits .f32 0#32)
    let I6 := loopInv6 (F := F) c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 h4 (fun _ => FloatOps.ofBits .f32 0#32) (fun _ => FloatOps.ofBits .f32 0#32) f6
    sl_exec
    sl_step
    unfold stepped carry
    rw [if_pos (by omega)]
    isplitl [H10]
    · iexists f10
      isplitr; · ipureintro; exact hz
      iexact H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexists _; iexact H12
    isplitl [H13]; · iexists _; iexact H13
    isplitl [H14]; · iexists _; iexact H14
    isplitl [H15]; · iexists _; iexact H15
    isplitl [HO]; · iexists _; iexact HO
    isplitl [H16]; · iexists _; iexact H16
    isplitl [H17]; · iexists _; iexact H17
    isplitl [H18]; · iexists _; iexact H18
    isplitl [H19]; · iexists _; iexact H19
    isplitl [H20]; · iexists _; iexact H20
    isplitl [H22]; · iexists _; iexact H22
    isplitl [H23]; · iexists _; iexact H23
    isplitl [H24]; · iexists _; iexact H24
    isplitl [H25]; · iexists _; iexact H25
    isplitl [H27]; · iexists _; iexact H27
    isplitl [H28]; · iexists _; iexact H28
    isplitl [HB HF1_dst HF1_src HF1 HF0_dst HF0_src HF0]
    · unfold allHome
      isplitl [HB HF1_dst HF0_dst]
      · iapply (home_again c hne)
        isplitl [HF0_dst]; · iexists _; iexact HF0_dst
        isplitl [HF1_dst]; · iexists _; iexact HF1_dst
        iexact HB
      isplitl [HF0 HF0_src]
      · isplitl [HF0]; · iexact HF0
        iexists _; iexact HF0_src
      isplitl [HF1]; · iexact HF1
      iexists _; iexact HF1_src
    isplitl [H21]; · iexists _; iexact H21
    iexists _; iexact H29
  · have hi : (i 0).val ≠ 148 := fun h => h4 ((cond4_iff i).2 h)
    have hlt : (i 0).val < 149 := (i 0).isLt
    unfold W
    dsimp only
    sl_exec
    sl_step
    unfold stepped carry
    rw [if_neg (by omega)]
    isplitl [H10]
    · iexists f10
      isplitr; · ipureintro; exact hz
      iexact H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexists _; iexact H12
    isplitl [H13]; · iexists _; iexact H13
    isplitl [H14]; · iexists _; iexact H14
    isplitl [H15]; · iexists _; iexact H15
    isplitl [HO]; · iexact HO
    isplitl [H16]; · iexists _; iexact H16
    isplitl [H17]; · iexists _; iexact H17
    isplitl [H18]; · iexists _; iexact H18
    isplitl [H19]; · iexists _; iexact H19
    isplitl [H20]; · iexists _; iexact H20
    isplitl [H22]; · iexists _; iexact H22
    isplitl [H23]; · iexists _; iexact H23
    isplitl [H24]; · iexists _; iexact H24
    isplitl [H25]; · iexists _; iexact H25
    isplitl [H27]; · iexists _; iexact H27
    isplitl [H28]; · iexists _; iexact H28
    iexists n; iexists a; iexists f21; iexists f29
    isplitr; · ipureintro; exact hR
    isplitl [HR]; · iexact HR
    isplitl [H21]; · iexact H21
    iexact H29

/-- At the first step the ring is all at home. -/
theorem ring_start : allHome c ⊢ ringAt F c 0 := by
  unfold allHome ringAt busy prev
  rw [if_neg (by omega), if_neg (by omega)]
  have e : homes 0 = Finset.univ := by ext b; simp [mem_homes]
  rw [e]; exact .rfl

/-- The scratch the steps use without keeping anything in it. -/
abbrev freeBufs : sProp (𝕄 F) := iprop(pa F c arg16 ∗ pa F c arg17 ∗ pa F c arg18 ∗ pa F c arg19 ∗ pa F c arg20 ∗ pa F c arg22 ∗ pa F c arg23 ∗ pa F c arg24 ∗ pa F c arg25 ∗ pa F c arg27 ∗ pa F c arg28)

end Last

end Cert.KernelIdeal.Hand
end
-- ==== Proof.KernelIdealBody.lean ====
module

public import proofs.«01_k».proof.Proof.KernelIdealDrain
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! One whole step. -/

open Cert.Counting Idealize.ShloMosaic.ValueIdx

/-- A run keeps what it does not touch. -/
theorem keep {α : Type} {c : Dev nD} {P : sProp (𝕄 F)} {p : Prog (TpuEff nD τ sig (Elt F) Λ₀ .tc) α} {Q : α → sProp (𝕄 F)} (R : sProp (𝕄 F))
    (h : P ⊢ W c p Q) : iprop(P ∗ R) ⊢ W c p (fun r => iprop(Q r ∗ R)) := by
  unfold W at h ⊢
  iintro ⟨HP, HR⟩
  iapply (wp_wand_r Idealize.ShloMosaic.frame (wpE (defs₀ (F := F)) 𝒱₀ (c : Thread nD τ) none) Set.univ)
  isplitl [HP]; · iapply h; iexact HP
  iintro %a HQ
  isplitl [HQ]; · iexact HQ
  iexact HR

section Step
variable (c : Dev nD) (i : grid0.Coords) (arg1 : Memref sig .tc .vmem S240x2560 .fp8e4m3) (harg1 : arg1.IsWhole)
  (arg2 : Memref sig .tc .vmem S192x2560 .fp8e4m3) (harg2 : arg2.IsWhole)
  (arg3 : Memref sig .tc .vmem S240x1 .f32) (harg3 : arg3.IsWhole)
  (arg4 : Memref sig .tc .vmem S192x1 .f32) (harg4 : arg4.IsWhole)
  (arg5 : Memref sig .tc .vmem S192x1 .i32) (harg5 : arg5.IsWhole)
  (arg6 : Memref sig .tc .smem S192 .i32) (harg6 : arg6.IsWhole)
  (arg7 : Memref sig .tc .vmem S272x128 .i32) (harg7 : arg7.IsWhole)
  (arg8 : Memref sig .tc .vmem S8x128 .f32) (harg8 : arg8.IsWhole)
  (arg9 : Memref sig .tc .vmem S2560x1024 .fp8e4m3) (harg9 : arg9.IsWhole)
  (arg10 : Memref sig .tc .vmem S240x1024 .bf16) (harg10 : arg10.IsWhole)
  (arg12 : Memref sig .tc .vmem S192x1 .f32) (harg12 : arg12.IsWhole)
  (arg13 : Memref sig .tc .vmem S192x1 .f32) (harg13 : arg13.IsWhole)
  (arg14 : Memref sig .tc .vmem S240x1 .f32) (harg14 : arg14.IsWhole)
  (arg15 : Memref sig .tc .vmem S192x1 .f32) (harg15 : arg15.IsWhole)
  (arg16 : Memref sig .tc .vmem S6x2560x256 .fp8e4m3) (harg16 : arg16.IsWhole)
  (arg17 : Memref sig .tc .vmem S6x8x256 .f32) (harg17 : arg17.IsWhole)
  (arg18 : Memref sig .tc .vmem S251x192x128 .f32) (harg18 : arg18.IsWhole)
  (arg19 : Memref sig .tc .vmem S250x192x128 .f32) (harg19 : arg19.IsWhole)
  (arg20 : Memref sig .tc .vmem S192x1024 .f32) (harg20 : arg20.IsWhole)
  (arg21 : Memref sig .tc .vmem S272x128 .i32) (harg21 : arg21.IsWhole)
  (arg22 : Memref sig .tc .vmem S240x128 .f32) (harg22 : arg22.IsWhole)
  (arg23 : Memref sig .tc .vmem S240x128 .f32) (harg23 : arg23.IsWhole)
  (arg24 : Memref sig .tc .vmem S192x128 .f32) (harg24 : arg24.IsWhole)
  (arg25 : Memref sig .tc .vmem S192x128 .f32) (harg25 : arg25.IsWhole)
  (arg27 : Memref sig .tc .vmem S192x128 .f32) (harg27 : arg27.IsWhole)
  (arg28 : Memref sig .tc .vmem S192x128 .f32) (harg28 : arg28.IsWhole)
  (arg29 : Memref sig .tc .smem S2 .i32) (harg29 : arg29.IsWhole)
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ)))

/-- A step's start, the first or a later one. -/
theorem starts (h7 : DiffOK (arg7.view.read (Elt F) f7)) :
    iprop(sideP c arg2 arg4 arg16 arg17 arg19 arg24 arg25 f2 f4 ∗ (∃ Wt, owes (c : Thread nD τ) 0 Wt) ∗ carry c arg21 arg29 (i 0).val ∗ pt c arg7 f7 ∗ pa F c arg22 ∗ pa F c arg23)
    ⊢ W c (k0_part13 (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (started c i arg2 arg4 arg7 arg16 arg17 arg19 arg21 arg22 arg23 arg24 arg25 arg29 f2 f4 f7) := by
  have hlt : (i 0).val < 149 := (i 0).isLt
  by_cases hi : (i 0).val = 0
  · unfold carry; rw [if_pos (Or.inl hi)]
    iintro ⟨HS, HO, ⟨HR, H21, H29⟩, H7, H22, H23⟩
    iapply (start_first c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f2 f4 f7 hi h7)
    isplitl [HS]; · iexact HS
    isplitl [HO]; · iexact HO
    isplitl [HR]; · iapply (ring_start c); iexact HR
    isplitl [H7]; · iexact H7
    isplitl [H21]; · iexact H21
    isplitl [H22]; · iexact H22
    isplitl [H23]; · iexact H23
    iexact H29
  · unfold carry; rw [if_neg (by omega)]
    iintro ⟨HS, HO, ⟨%n, %a, %f21, %f29, %hR, HR, H21, H29⟩, H7, H22, H23⟩
    iapply (start_later c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f2 f4 f7 (by omega) f21 f29 hR)
    isplitl [HS]; · iexact HS
    isplitl [HO]; · iexact HO
    isplitl [HR]; · iexact HR
    isplitl [H7]; · iexact H7
    isplitl [H21]; · iexact H21
    isplitl [H22]; · iexact H22
    isplitl [H23]; · iexact H23
    iexact H29

/-- ONE STEP: from the operands' buffers, what the last step handed over and the scratch, to `stepped`. -/
theorem step (hF : Counts F) (h7 : DiffOK (arg7.view.read (Elt F) f7)) (h6 : TokOK c arg6 f6) :
    iprop((pt c arg1 f1 ∗ pt c arg2 f2 ∗ pt c arg3 f3 ∗ pt c arg4 f4 ∗ pt c arg5 f5 ∗ pt c arg6 f6 ∗ pt c arg7 f7 ∗ pt c arg8 f8 ∗ pt c arg9 f9) ∗ (pa F c arg10 ∗ pa F c arg12 ∗ pa F c arg13 ∗ pa F c arg14 ∗ pa F c arg15) ∗ (∃ Wt, owes (c : Thread nD τ) 0 Wt)
      ∗ freeBufs c arg16 arg17 arg18 arg19 arg20 arg22 arg23 arg24 arg25 arg27 arg28 ∗ carry c arg21 arg29 (i 0).val)
    ⊢ W c (cc0_spec_verify (F := F) i arg1 harg1 arg2 harg2 arg3 harg3 arg4 harg4 arg5 harg5 arg6 harg6 arg7 harg7 arg8 harg8 arg9 harg9 arg10 harg10 zdM (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 stM (Memref.isWhole_whole _) arg27 harg27 arg28 harg28 arg29 harg29 cc0_scratch14) (fun _ => stepped c i arg1 arg2 arg3 arg4 arg5 arg6 arg7 arg8 arg9 arg10 arg12 arg13 arg14 arg15 arg16 arg17 arg18 arg19 arg20 arg21 arg22 arg23 arg24 arg25 arg27 arg28 arg29 f1 f2 f3 f4 f5 f6 f7 f8 f9) := by
  have h := (finish c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f1 f2 f3 f4 f5 f6 f7 f8 f9 h6 _
    (keep iprop(pt c arg5 f5 ∗ pt c arg6 f6 ∗ pa F c arg12 ∗ pa F c arg13 ∗ pa F c arg14 ∗ pa F c arg15 ∗ pa F c arg27 ∗ pa F c arg28)
      (tiles c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f1 f2 f3 f4 f7 f8 f9 hF _
        (keep iprop(pt c arg1 f1 ∗ pt c arg3 f3 ∗ pt c arg8 f8 ∗ pt c arg9 f9 ∗ pa F c arg10 ∗ pa F c arg18 ∗ pa F c arg20)
          (starts c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 arg18 harg18 arg19 harg19 arg20 harg20 arg21 harg21 arg22 harg22 arg23 harg23 arg24 harg24 arg25 harg25 arg27 harg27 arg28 harg28 arg29 harg29 f2 f4 f7 h7)))))
  iintro ⟨⟨H1, H2, H3, H4, H5, H6, H7, H8, H9⟩, ⟨H10, H12, H13, H14, H15⟩, HO, ⟨H16, H17, H18, H19, H20, H22, H23, H24, H25, H27, H28⟩, HC⟩
  iapply h
  isplitr [H5 H6 H12 H13 H14 H15 H27 H28]
  · isplitr [H1 H3 H8 H9 H10 H18 H20]
    · isplitl [H2 H4 H16 H17 H19 H24 H25]
      · isplitl [H2]; · iexact H2
        isplitl [H4]; · iexact H4
        isplitl [H16]; · iexact H16
        isplitl [H17]; · iexact H17
        isplitl [H19]; · iexact H19
        isplitl [H24]; · iexact H24
        iexact H25
      isplitl [HO]; · iexact HO
      isplitl [HC]; · iexact HC
      isplitl [H7]; · iexact H7
      isplitl [H22]; · iexact H22
      iexact H23
    isplitl [H1]; · iexact H1
    isplitl [H3]; · iexact H3
    isplitl [H8]; · iexact H8
    isplitl [H9]; · iexact H9
    isplitl [H10]; · iexact H10
    isplitl [H18]; · iexact H18
    iexact H20
  isplitl [H5]; · iexact H5
  isplitl [H6]; · iexact H6
  isplitl [H12]; · iexact H12
  isplitl [H13]; · iexact H13
  isplitl [H14]; · iexact H14
  isplitl [H15]; · iexact H15
  isplitl [H27]; · iexact H27
  iexact H28
end Step

end Cert.KernelIdeal.Hand
end
-- ==== Proof.KernelIdealHome.lean ====
module

public import proofs.«01_k».proof.Proof.KernelIdealBody
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Cert.Counting Idealize.ShloMosaic.ValueIdx

/-! The result in HBM and the staging buffer, whole and in their pieces. -/

abbrev G125 (b : Fin 125) : Finset S192x32000.Idx := (Rect.unit (s := S192x32000) (blkOff b) S192x256.size (blkOff_inb b)).set
abbrev G2 (s : Fin 2) : Finset S2x192x256.Idx := (Rect.unit (s := S2x192x256) (slotOff s) S1x192x256.size (slotOff_inb s)).set
theorem hblk_set (b : Fin 125) : (hblk b).view.set = G125 b := View.set_slice_whole _ _
theorem rslot_set (s : Fin 2) : (rslot s).view.set = G2 s := (View.set_reshape _ _).trans (View.set_slice_whole _ _)

theorem mem_G125 (b : Fin 125) (y : S192x32000.Idx) : y ∈ G125 b ↔ (y 1).val / 256 = b.val := by
  rw [Rect.mem_set_unit]
  have h0 : (y 0).val < 192 := (y 0).isLt
  have h1 : (y 1).val < 32000 := (y 1).isLt
  have hb := b.isLt
  constructor
  · intro H; have a1 : b.val * 256 ≤ (y 1).val ∧ (y 1).val < b.val * 256 + 256 := H 1; omega
  · intro H i; fin_cases i
    · show 0 ≤ (y 0).val ∧ (y 0).val < 0 + 192; omega
    · show b.val * 256 ≤ (y 1).val ∧ (y 1).val < b.val * 256 + 256; omega
theorem mem_G2 (s : Fin 2) (y : S2x192x256.Idx) : y ∈ G2 s ↔ (y 0).val = s.val := by
  rw [Rect.mem_set_unit]
  have h1 : (y 1).val < 192 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 192; omega
    · show 0 ≤ (y 2).val ∧ (y 2).val < 0 + 256; omega
theorem G125_disjoint : ∀ b b' : Fin 125, b ≠ b' → Disjoint (G125 b) (G125 b') := by
  intro b b' hne; rw [Finset.disjoint_left]; intro y hy hy'; rw [mem_G125] at hy hy'; exact hne (Fin.ext (hy.symm.trans hy'))
theorem G125_cover : (Finset.univ : Finset (Fin 125)).biUnion G125 = Finset.univ := by
  ext y; simp only [Finset.mem_biUnion, Finset.mem_univ, true_and, iff_true]
  have h1 : (y 1).val < 32000 := (y 1).isLt
  exact ⟨⟨(y 1).val / 256, by omega⟩, (mem_G125 _ _).2 rfl⟩
theorem G2_disjoint : ∀ s s' : Fin 2, s ≠ s' → Disjoint (G2 s) (G2 s') := by
  intro s s' hne; rw [Finset.disjoint_left]; intro y hy hy'; rw [mem_G2] at hy hy'; exact hne (Fin.ext (hy.symm.trans hy'))
theorem G2_cover : (Finset.univ : Finset (Fin 2)).biUnion G2 = Finset.univ := by
  ext y; simp only [Finset.mem_biUnion, Finset.mem_univ, true_and, iff_true]
  have h1 : (y 0).val < 2 := (y 0).isLt
  exact ⟨⟨(y 0).val, h1⟩, (mem_G2 _ _).2 rfl⟩

theorem bigSep_fin2 (Φ : Fin 2 → sProp (𝕄 F)) : bigSep Finset.univ Φ = iprop(Φ 0 ∗ Φ 1) :=
  bigSep_univ_eq_bigSepL [(0 : Fin 2), (1 : Fin 2)] (by decide) (by decide) Φ

theorem entails_of_eq {P Q : sProp (𝕄 F)} (e : P = Q) : P ⊢ Q := e ▸ .rfl

section Whole
variable (c : Dev nD)

abbrev zdAny : sProp (𝕄 F) := iprop(∃ f : Buf (Elt F) ((c : Thread nD τ).loc main_v14_1), ((c : Thread nD τ).loc main_v14_1) ↦{fullShare} f)
abbrev stAny : sProp (𝕄 F) := iprop(∃ f : Buf (Elt F) ((c : Thread nD τ).loc cc0_scratch10), ((c : Thread nD τ).loc cc0_scratch10) ↦{fullShare} f)

theorem blkP_eq (b : Fin 125) (f) : blkP F c b f = (((c : Thread nD τ).loc main_v14_1) ↦[G125 b]{fullShare} f : sProp (𝕄 F)) :=
  congrArg (fun S => (_ ↦[S]{fullShare} f : sProp (𝕄 F))) (hblk_set b)
theorem slotP_eq (s : Fin 2) (f) : slotP F c s f = (((c : Thread nD τ).loc cc0_scratch10) ↦[G2 s]{fullShare} f : sProp (𝕄 F)) :=
  congrArg (fun S => (_ ↦[S]{fullShare} f : sProp (𝕄 F))) (rslot_set s)

theorem zd_piece (b : Fin 125) (f) : (((c : Thread nD τ).loc main_v14_1) ↦[G125 b]{fullShare} f : sProp (𝕄 F)) ⊢ homeP F c b := by
  iintro H; iexists f; iapply (entails_of_eq (blkP_eq c b f).symm); iexact H
theorem zd_piece' (b : Fin 125) : homeP F c b ⊢ (iprop(∃ f, (((c : Thread nD τ).loc main_v14_1) ↦[G125 b]{fullShare} f)) : sProp (𝕄 F)) := by
  iintro ⟨%f, H⟩; iexists f; iapply (entails_of_eq (blkP_eq c b f)); iexact H
theorem zd_pieces (f) : (bigSep Finset.univ (fun b => (((c : Thread nD τ).loc main_v14_1) ↦[G125 b]{fullShare} f)) : sProp (𝕄 F)) ⊢ bigSep Finset.univ (homeP F c) :=
  bigSep_mono fun b _ => zd_piece c b f
theorem zd_pieces' : bigSep Finset.univ (homeP F c) ⊢ (bigSep Finset.univ (fun b => iprop(∃ f, (((c : Thread nD τ).loc main_v14_1) ↦[G125 b]{fullShare} f))) : sProp (𝕄 F)) :=
  bigSep_mono fun b _ => zd_piece' c b
theorem zd_split : zdAny c ⊢ bigSep Finset.univ (homeP F c) := by
  iintro ⟨%f, H⟩
  ihave H2 := (entails_of_eq (Ring.pointsTo_blocks (Ix := Unit) (Name := ℕ) (U := Pipeline.UD sig nD τ) (Lvl := ℕ) (q := fullShare) (ℓ := (c : Thread nD τ).loc main_v14_1) G125 G125_disjoint G125_cover f)) $$ H
  iapply (zd_pieces c f)
  iexact H2
theorem zd_join (f₀ : Buf (Elt F) ((c : Thread nD τ).loc main_v14_1)) : bigSep Finset.univ (homeP F c) ⊢ zdAny c := by
  iintro H
  iapply (Ring.pointsTo_blocks_join_exists (ℓ := (c : Thread nD τ).loc main_v14_1) G125 G125_disjoint G125_cover f₀)
  iapply (zd_pieces' c)
  iexact H
theorem st_split : stAny c ⊢ (iprop((∃ f, slotP F c 0 f) ∗ ∃ f, slotP F c 1 f) : sProp (𝕄 F)) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch10) G2 G2_disjoint G2_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem st_join : (iprop((∃ f, slotP F c 0 f) ∗ ∃ f, slotP F c 1 f) : sProp (𝕄 F)) ⊢ stAny c := by
  iintro ⟨⟨%f0, H0⟩, ⟨%f1, H1⟩⟩
  iapply (Ring.pointsTo_blocks_join_exists (ℓ := (c : Thread nD τ).loc cc0_scratch10) G2 G2_disjoint G2_cover f0)
  irw [bigSep_fin2]
  isplitl [H0]
  · iexists f0; iapply (entails_of_eq (slotP_eq c 0 f0)); iexact H0
  · iexists f1; iapply (entails_of_eq (slotP_eq c 1 f1)); iexact H1
end Whole

/-- The kernel's own two semaphores. -/
abbrev osem : Fin 2 → SemLoc sig := fun s => .dma (csm s).sem
theorem ownSemFacts : Pipeline.OwnSemFacts spec0 osem := by decide
theorem ownSems0_eq (c : Dev nD) : (Pipeline.ownSems0 (Ix := Unit) (Name := ℕ) (U := Pipeline.UD sig nD τ) (Lvl := ℕ) (Val := Elt F) (τ := τ) osem c : sProp (𝕄 F))
    = iprop(cellP F c 0 ∗ cellP F c 1) := by
  unfold Pipeline.ownSems0; rw [bigSep_fin2]

/-- Everything the steps hold beside the windows, before point `t`. -/
def held (c : Dev nD) (t : ℕ) : sProp (𝕄 F) :=
  iprop(freeBufs c (Memref.whole cc0_scratch0) (Memref.whole cc0_scratch1) (Memref.whole cc0_scratch2) (Memref.whole cc0_scratch3) (Memref.whole cc0_scratch4)
      (Memref.whole cc0_scratch6) (Memref.whole cc0_scratch7) (Memref.whole cc0_scratch8) (Memref.whole cc0_scratch9) (Memref.whole cc0_scratch11) (Memref.whole cc0_scratch12)
    ∗ carry c (Memref.whole cc0_scratch5) (Memref.whole cc0_scratch13) t ∗ (∃ r, prngReg c r))

abbrev HH : Finset (Ref sig .tc) := ∅
abbrev RR : Finset (Ref sig .tc) := {main_v14_1}

/-- A whole buffer as a memref's, and back. -/
theorem pa_in (c : Dev nD) (b : Ref sig .tc) :
    (iprop(∃ f : Buf (Elt F) ((c : Thread nD τ).loc b), ((c : Thread nD τ).loc b) ↦{fullShare} f) : sProp (𝕄 F)) ⊢ pa F c (Memref.whole b) := by
  iintro ⟨%f, H⟩; iexists f; simp only [Memref.view_whole, View.set_whole]; iexact H
theorem pa_out (c : Dev nD) (b : Ref sig .tc) :
    pa F c (Memref.whole b) ⊢ (iprop(∃ f : Buf (Elt F) ((c : Thread nD τ).loc b), ((c : Thread nD τ).loc b) ↦{fullShare} f) : sProp (𝕄 F)) := by
  iintro ⟨%f, H⟩; iexists f; simp only [Memref.view_whole, View.set_whole]; iexact H

theorem held_in (V : (c : Dev nD) → (b : Ref sig .tc) → Buf (Elt F) ((c : Thread nD τ).loc b)) (c : Dev nD) :
    Pipeline.ΦDR osem spec0 HH RR V c ⊢ held c 0 := by
  rw [Pipeline.ΦDR_eq, scopedRest0_eq, ownSems0_eq]
  unfold Pipeline.owned held carry
  rw [if_pos (Or.inl rfl), BI.bigSep_empty, bigSep_singleton]
  unfold allHome
  iintro ⟨⟨S0, S1, S2, S3, S4, S5, S6, S7, S8, S9, S10, S11, S12, S13⟩, Hg, ⟨C0, C1⟩, -, HZ⟩
  ihave HS := (st_split c) $$ S10
  icases HS with ⟨T0, T1⟩
  isplitl [S0 S1 S2 S3 S4 S6 S7 S8 S9 S11 S12]
  · isplitl [S0]; · iapply (pa_in c cc0_scratch0); iexact S0
    isplitl [S1]; · iapply (pa_in c cc0_scratch1); iexact S1
    isplitl [S2]; · iapply (pa_in c cc0_scratch2); iexact S2
    isplitl [S3]; · iapply (pa_in c cc0_scratch3); iexact S3
    isplitl [S4]; · iapply (pa_in c cc0_scratch4); iexact S4
    isplitl [S6]; · iapply (pa_in c cc0_scratch6); iexact S6
    isplitl [S7]; · iapply (pa_in c cc0_scratch7); iexact S7
    isplitl [S8]; · iapply (pa_in c cc0_scratch8); iexact S8
    isplitl [S9]; · iapply (pa_in c cc0_scratch9); iexact S9
    isplitl [S11]; · iapply (pa_in c cc0_scratch11); iexact S11
    iapply (pa_in c cc0_scratch12); iexact S12
  isplitl [S5 S13 C0 C1 HZ T0 T1]
  · isplitl [HZ C0 C1 T0 T1]
    · isplitl [HZ]; · iapply (zd_split c); iexact HZ
      isplitl [C0 T0]
      · isplitl [C0]; · iexact C0
        iexact T0
      isplitl [C1]; · iexact C1
      iexact T1
    isplitl [S5]; · iapply (pa_in c cc0_scratch5); iexact S5
    iapply (pa_in c cc0_scratch13); iexact S13
  iexact Hg

theorem held_out (V : (c : Dev nD) → (b : Ref sig .tc) → Buf (Elt F) ((c : Thread nD τ).loc b)) (c : Dev nD) :
    held c 149 ⊢ Pipeline.ΦDR osem spec0 HH RR V c := by
  rw [Pipeline.ΦDR_eq, scopedRest0_eq, ownSems0_eq]
  unfold Pipeline.owned held carry
  rw [if_pos (Or.inr rfl), BI.bigSep_empty, bigSep_singleton]
  unfold allHome
  iintro ⟨⟨S0, S1, S2, S3, S4, S6, S7, S8, S9, S11, S12⟩, ⟨⟨HZ, ⟨C0, T0⟩, ⟨C1, T1⟩⟩, S5, S13⟩, Hg⟩
  isplitl [S0 S1 S2 S3 S4 S5 S6 S7 S8 S9 S11 S12 S13 T0 T1]
  · isplitl [S0]; · iapply (pa_out c cc0_scratch0); iexact S0
    isplitl [S1]; · iapply (pa_out c cc0_scratch1); iexact S1
    isplitl [S2]; · iapply (pa_out c cc0_scratch2); iexact S2
    isplitl [S3]; · iapply (pa_out c cc0_scratch3); iexact S3
    isplitl [S4]; · iapply (pa_out c cc0_scratch4); iexact S4
    isplitl [S5]; · iapply (pa_out c cc0_scratch5); iexact S5
    isplitl [S6]; · iapply (pa_out c cc0_scratch6); iexact S6
    isplitl [S7]; · iapply (pa_out c cc0_scratch7); iexact S7
    isplitl [S8]; · iapply (pa_out c cc0_scratch8); iexact S8
    isplitl [S9]; · iapply (pa_out c cc0_scratch9); iexact S9
    isplitl [T0 T1]
    · iapply (st_join c)
      isplitl [T0]; · iexact T0
      iexact T1
    isplitl [S11]; · iapply (pa_out c cc0_scratch11); iexact S11
    isplitl [S12]; · iapply (pa_out c cc0_scratch12); iexact S12
    iapply (pa_out c cc0_scratch13); iexact S13
  isplitl [Hg]; · iexact Hg
  isplitl [C0 C1]
  · isplitl [C0]; · iexact C0
    iexact C1
  isplitr; · iempintro
  iapply (zd_join c (V c main_v14_1)); iexact HZ

end Cert.KernelIdeal.Hand
end
-- ==== Proof.KernelIdealFrame.lean ====
module

public import proofs.«01_k».proof.Proof.KernelIdealHome
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.Frame
public import proofs.«01_k».proof.Proof.Gen.KernelIdeal.Frame
public import Idealize.ShloMosaic.Lib.Pipeline.DatRel
public import Idealize.ShloMosaic.Lib.Pipeline.ArrRel
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Cert.Counting Idealize.ShloMosaic.ValueIdx

open Idealize.ShloMosaic.Pipeline (Dat RDat Cfg Window BodyObligation cellOf)

/-! The whole run: what every window holds, the launch, and the arguments' return. -/

variable (m : (ℓ : Loc nD τ sig) → Buf (Elt F) ℓ) (ρ : Dev nD → PrngReg)

theorem before0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 800000 in
theorem enters : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The exact part of the proof data: the operands kept in place hold their block at every point; of the other windows nothing is named here. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
    | ⟨12, _⟩ => fun _ => Classical.arbitrary _
    | ⟨13, _⟩ => fun _ => Classical.arbitrary _
  Φ t := held c t.val
  q _ := fullShare
  owed _ := 0

theorem A_eq (c : Dev nD) (w : Fin cfg0.W) : (dats m 0 c).A w = V m c (Pipeline.arrRef spec0 w) := by dsimp only [dats]

/-- The windows of which the body leaves something that is not named exactly: the two clipped operands and the results. -/
def rel0 : Fin cfg0.W → Bool := fun w => match w with
  | ⟨0, _⟩ => false | ⟨1, _⟩ => false | ⟨2, _⟩ => false | ⟨3, _⟩ => false | ⟨4, _⟩ => false | ⟨5, _⟩ => false | ⟨6, _⟩ => false | ⟨7, _⟩ => true | ⟨8, _⟩ => true | ⟨9, _⟩ => true | ⟨10, _⟩ => true | ⟨11, _⟩ => true | ⟨12, _⟩ => true | ⟨13, _⟩ => true

/-- What is said of them: the tempered logits' buffer holds `zt` of the operands' blocks, those of the two clipped operands padded with anything;
    of the others nothing. -/
def Rl0 (c : Dev nD) : (w : Fin cfg0.W) → Fin cfg0.N → ((cfg0.win w).block.Idx → Elt F (cfg0.win w).elt) → Prop := fun w => match w with
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun _ _ => True
  | ⟨7, _⟩ => fun _ _ => True
  | ⟨8, _⟩ => fun _ _ => True
  | ⟨9, _⟩ => fun t X => ∃ d7 d8, X = zt (iblk m c 0 t) (iblk m c 2 t) ((cfg0.win 7).fill (grid0.coords t) d7 (iblk m c 7 t))
      ((cfg0.win 8).fill (grid0.coords t) d8 (iblk m c 8 t))
  | ⟨10, _⟩ => fun _ _ => True
  | ⟨11, _⟩ => fun _ _ => True
  | ⟨12, _⟩ => fun _ _ => True
  | ⟨13, _⟩ => fun _ _ => True

theorem finds7 (c : Dev nD) (t : Fin cfg0.N) (Y) (h : ((dats m 0 c).toRRel rel0 (Rl0 m c)).Finds 7 t Y) :
    ∃ d, Y = (cfg0.win 7).fill (grid0.coords t) d (iblk m c 7 t) := ((RDat.finds_of_fetch _ (fetch0_7 t) Y).mp h)
theorem finds8 (c : Dev nD) (t : Fin cfg0.N) (Y) (h : ((dats m 0 c).toRRel rel0 (Rl0 m c)).Finds 8 t Y) :
    ∃ d, Y = (cfg0.win 8).fill (grid0.coords t) d (iblk m c 8 t) := ((RDat.finds_of_fetch _ (fetch0_8 t) Y).mp h)

theorem coord (t : Fin cfg0.N) : (grid0.coords t 0).val = t.val := by
  have h : ∀ t : Fin 149, (grid0.coords t 0).val = t.val := by decide +kernel
  exact h t

/-- What is needed of the arguments: the ids lie in range, as the kernel's own blocks of them. -/
def InRange (c : Dev nD) : Prop :=
  (∀ t : Fin cfg0.N, DiffOK (iblk m c 6 t)) ∧ ∀ (t : Fin cfg0.N) (y), ∃ n : ℕ, n < 32000 ∧ iblk m c 5 t y = BitVec.ofNat 32 n

def bodyPre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel rel0 (Rl0 m c)).Finds 7 t Y⌝ ∗ owns (c : Thread nD τ) (st0_7 t) fullShare Y)
    ∗ (∃ Y, ⌜((dats m 0 c).toRRel rel0 (Rl0 m c)).Finds 8 t Y⌝ ∗ owns (c : Thread nD τ) (st0_8 t) fullShare Y)
    ∗ (∃ Y, ⌜((dats m 0 c).toRRel rel0 (Rl0 m c)).Finds 9 t Y⌝ ∗ owns (c : Thread nD τ) (st0_9 t) fullShare Y)
    ∗ (∃ Y, ⌜((dats m 0 c).toRRel rel0 (Rl0 m c)).Finds 10 t Y⌝ ∗ owns (c : Thread nD τ) (st0_10 t) fullShare Y)
    ∗ (∃ Y, ⌜((dats m 0 c).toRRel rel0 (Rl0 m c)).Finds 11 t Y⌝ ∗ owns (c : Thread nD τ) (st0_11 t) fullShare Y)
    ∗ (∃ Y, ⌜((dats m 0 c).toRRel rel0 (Rl0 m c)).Finds 12 t Y⌝ ∗ owns (c : Thread nD τ) (st0_12 t) fullShare Y)
    ∗ (∃ Y, ⌜((dats m 0 c).toRRel rel0 (Rl0 m c)).Finds 13 t Y⌝ ∗ owns (c : Thread nD τ) (st0_13 t) fullShare Y))
def bodyPost (c : Dev nD) (t : Fin cfg0.N) : sProp (𝕄 F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Rl0 m c 7 t X⌝ ∗ owns (c : Thread nD τ) (st0_7 t) fullShare X)
    ∗ (∃ X, ⌜Rl0 m c 8 t X⌝ ∗ owns (c : Thread nD τ) (st0_8 t) fullShare X)
    ∗ (∃ X, ⌜Rl0 m c 9 t X⌝ ∗ owns (c : Thread nD τ) (st0_9 t) fullShare X)
    ∗ (∃ X, ⌜Rl0 m c 10 t X⌝ ∗ owns (c : Thread nD τ) (st0_10 t) fullShare X)
    ∗ (∃ X, ⌜Rl0 m c 11 t X⌝ ∗ owns (c : Thread nD τ) (st0_11 t) fullShare X)
    ∗ (∃ X, ⌜Rl0 m c 12 t X⌝ ∗ owns (c : Thread nD τ) (st0_12 t) fullShare X)
    ∗ (∃ X, ⌜Rl0 m c 13 t X⌝ ∗ owns (c : Thread nD τ) (st0_13 t) fullShare X))

theorem owns_eq (c : Dev nD) {sp : Space} {s : Shape} {e : EltTy} (M : Memref sig .tc sp s e) (X : s.Idx → Elt F e) :
    (owns (c : Thread nD τ) M fullShare X : sProp (𝕄 F)) = iprop(∃ g, ⌜M.view.read (Elt F) g = X⌝ ∗ pt c M g) := rfl

theorem any_owns (c : Dev nD) {sp : Space} {s : Shape} {e : EltTy} (M : Memref sig .tc sp s e) :
    pa F c M ⊢ (iprop(∃ X, owns (c : Thread nD τ) M fullShare X) : sProp (𝕄 F)) := by
  iintro ⟨%g, H⟩; iexists (M.view.read (Elt F) g); iapply (entails_of_eq (owns_eq c M _).symm); iexists g; isplitr; swap; · iexact H
  ipureintro; rfl

set_option maxHeartbeats 4000000 in
/-- One step, from the windows' buffers as the pipeline states them. -/
theorem sound_body (hF : Counts F) (c : Dev nD) (hin : InRange m c) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = held c (t.val + 1) from rfl]
  rw [show (dats m 0 c).Φ t.castSucc = held c t.val from rfl]
  unfold Dat.owesAt Pipeline.owesWithin
  rw [show (dats m 0 c).owed t.castSucc = 0 from rfl, show (dats m 0 c).owed t.succ = 0 from rfl]
  simp only [before0 m (dats m 0 c) rfl (fun _ => rfl), before1 m (dats m 0 c) rfl (fun _ => rfl), before2 m (dats m 0 c) rfl (fun _ => rfl), before3 m (dats m 0 c) rfl (fun _ => rfl), before4 m (dats m 0 c) rfl (fun _ => rfl), before5 m (dats m 0 c) rfl (fun _ => rfl), before6 m (dats m 0 c) rfl (fun _ => rfl)]
  unfold held
  iintro ⟨⟨HF, HC, Hg⟩, ⟨%Wt, -, HO⟩, ⟨%d0, H0⟩, ⟨%d1, H1⟩, ⟨%d2, H2⟩, ⟨%d3, H3⟩, ⟨%d4, H4⟩, ⟨%d5, H5⟩, ⟨%d6, H6⟩, ⟨%Y7, %h7, H7⟩, ⟨%Y8, %h8, H8⟩, ⟨%Y9, %h9, H9⟩, ⟨%Y10, %h10, H10⟩, ⟨%Y11, %h11, H11⟩, ⟨%Y12, %h12, H12⟩, ⟨%Y13, %h13, H13⟩⟩
  obtain ⟨d7, rfl⟩ := finds7 m c t Y7 h7
  obtain ⟨d8, rfl⟩ := finds8 m c t Y8 h8
  ihave H0 := (entails_of_eq (owns_eq c (st0_0 t) _)) $$ H0
  icases H0 with ⟨%g0, %e0, H0⟩
  ihave H1 := (entails_of_eq (owns_eq c (st0_1 t) _)) $$ H1
  icases H1 with ⟨%g1, %e1, H1⟩
  ihave H2 := (entails_of_eq (owns_eq c (st0_2 t) _)) $$ H2
  icases H2 with ⟨%g2, %e2, H2⟩
  ihave H3 := (entails_of_eq (owns_eq c (st0_3 t) _)) $$ H3
  icases H3 with ⟨%g3, %e3, H3⟩
  ihave H4 := (entails_of_eq (owns_eq c (st0_4 t) _)) $$ H4
  icases H4 with ⟨%g4, %e4, H4⟩
  ihave H5 := (entails_of_eq (owns_eq c (st0_5 t) _)) $$ H5
  icases H5 with ⟨%g5, %e5, H5⟩
  ihave H6 := (entails_of_eq (owns_eq c (st0_6 t) _)) $$ H6
  icases H6 with ⟨%g6, %e6, H6⟩
  ihave H7 := (entails_of_eq (owns_eq c (st0_7 t) _)) $$ H7
  icases H7 with ⟨%g7, %e7, H7⟩
  ihave H8 := (entails_of_eq (owns_eq c (st0_8 t) _)) $$ H8
  icases H8 with ⟨%g8, %e8, H8⟩
  ihave H9 := (entails_of_eq (owns_eq c (st0_9 t) _)) $$ H9
  icases H9 with ⟨%g9, %e9, H9⟩
  ihave H10 := (entails_of_eq (owns_eq c (st0_10 t) _)) $$ H10
  icases H10 with ⟨%g10, %e10, H10⟩
  ihave H11 := (entails_of_eq (owns_eq c (st0_11 t) _)) $$ H11
  icases H11 with ⟨%g11, %e11, H11⟩
  ihave H12 := (entails_of_eq (owns_eq c (st0_12 t) _)) $$ H12
  icases H12 with ⟨%g12, %e12, H12⟩
  ihave H13 := (entails_of_eq (owns_eq c (st0_13 t) _)) $$ H13
  icases H13 with ⟨%g13, %e13, H13⟩
  have hD : DiffOK ((st0_6 t).view.read (Elt F) g6) := by rw [e6]; exact hin.1 t
  have hT : TokOK c (st0_5 t) g5 := fun y => by rw [e5]; exact hin.2 t y
  have hs := step c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch11) (Memref.isWhole_whole _) (Memref.whole cc0_scratch12) (Memref.isWhole_whole _) (Memref.whole cc0_scratch13) (Memref.isWhole_whole _) g0 g1 g2 g3 g4 g5 g6 g7 g8 hF hD hT
  rw [coord] at hs
  unfold W at hs
  iapply (wp_wand_r Idealize.ShloMosaic.frame (wpE (defs₀ (F := F)) 𝒱₀ (c : Thread nD τ) none) Set.univ)
  isplitr [Hg]
  · iapply hs
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 H10 H11 H12 H13]
    · isplitl [H9]; · iexists _; iexact H9
      isplitl [H10]; · iexists _; iexact H10
      isplitl [H11]; · iexists _; iexact H11
      isplitl [H12]; · iexists _; iexact H12
      iexists _; iexact H13
    isplitl [HO]; · iexists _; iexact HO
    isplitl [HF]; · iexact HF
    iexact HC
  iintro %a HQ
  unfold stepped
  rw [coord]
  icases HQ with ⟨⟨%f10, %e10, Z⟩, H0, H1, H2, H3, H4, H5, H6, H7, H8, A12, A13, A14, A15, ⟨%Wt2, HO⟩, S16, S17, S18, S19, S20, S22, S23, S24, S25, S27, S28, HC⟩
  isplitl [Hg HC S16 S17 S18 S19 S20 S22 S23 S24 S25 S27 S28]
  · isplitl [S16 S17 S18 S19 S20 S22 S23 S24 S25 S27 S28]
    · isplitl [S16]; · iexact S16
      isplitl [S17]; · iexact S17
      isplitl [S18]; · iexact S18
      isplitl [S19]; · iexact S19
      isplitl [S20]; · iexact S20
      isplitl [S22]; · iexact S22
      isplitl [S23]; · iexact S23
      isplitl [S24]; · iexact S24
      isplitl [S25]; · iexact S25
      isplitl [S27]; · iexact S27
      iexact S28
    isplitl [HC]; · iexact HC
    iexact Hg
  isplitl [HO]
  · iexists _; isplitr; swap; · iexact HO
    ipureintro; exact fun _ _ => Or.inl trivial
  isplitl [H0]
  · iapply (entails_of_eq (owns_eq c (st0_0 t) _).symm); iexists _; isplitr; swap; · iexact H0
    ipureintro; exact e0
  isplitl [H1]
  · iapply (entails_of_eq (owns_eq c (st0_1 t) _).symm); iexists _; isplitr; swap; · iexact H1
    ipureintro; exact e1
  isplitl [H2]
  · iapply (entails_of_eq (owns_eq c (st0_2 t) _).symm); iexists _; isplitr; swap; · iexact H2
    ipureintro; exact e2
  isplitl [H3]
  · iapply (entails_of_eq (owns_eq c (st0_3 t) _).symm); iexists _; isplitr; swap; · iexact H3
    ipureintro; exact e3
  isplitl [H4]
  · iapply (entails_of_eq (owns_eq c (st0_4 t) _).symm); iexists _; isplitr; swap; · iexact H4
    ipureintro; exact e4
  isplitl [H5]
  · iapply (entails_of_eq (owns_eq c (st0_5 t) _).symm); iexists _; isplitr; swap; · iexact H5
    ipureintro; exact e5
  isplitl [H6]
  · iapply (entails_of_eq (owns_eq c (st0_6 t) _).symm); iexists _; isplitr; swap; · iexact H6
    ipureintro; exact e6
  isplitl [H7]
  · iexists _; isplitr; swap
    · iapply (entails_of_eq (owns_eq c (st0_7 t) _).symm); iexists _; isplitr; swap; · iexact H7
      ipureintro; exact e7
    ipureintro; exact trivial
  isplitl [H8]
  · iexists _; isplitr; swap
    · iapply (entails_of_eq (owns_eq c (st0_8 t) _).symm); iexists _; isplitr; swap; · iexact H8
      ipureintro; exact e8
    ipureintro; exact trivial
  isplitl [Z]
  · iexists (zt (iblk m c 0 t) (iblk m c 2 t) ((cfg0.win 7).fill (grid0.coords t) d7 (iblk m c 7 t)) ((cfg0.win 8).fill (grid0.coords t) d8 (iblk m c 8 t))); isplitr; swap
    · iapply (entails_of_eq (owns_eq c (st0_9 t) _).symm); iexists _; isplitr; swap; · iexact Z
      ipureintro; rw [e0, e2, e7, e8] at e10; exact e10
    ipureintro; exact ⟨d7, d8, rfl⟩
  ihave A12 := (any_owns c (st0_10 t)) $$ A12
  icases A12 with ⟨%X10, A12⟩
  ihave A13 := (any_owns c (st0_11 t)) $$ A13
  icases A13 with ⟨%X11, A13⟩
  ihave A14 := (any_owns c (st0_12 t)) $$ A14
  icases A14 with ⟨%X12, A14⟩
  ihave A15 := (any_owns c (st0_13 t)) $$ A15
  icases A15 with ⟨%X13, A15⟩
  isplitl [A12]
  · iexists X10; isplitr; swap; · iexact A12
    ipureintro; exact trivial
  isplitl [A13]
  · iexists X11; isplitr; swap; · iexact A13
    ipureintro; exact trivial
  isplitl [A14]
  · iexists X12; isplitr; swap; · iexact A14
    ipureintro; exact trivial
  iexists X13; isplitr; swap; · iexact A15
  ipureintro; exact trivial

theorem defs₀_row (t : Fin cfg0.N) :
    defs₀ (F := F) .tc cfg0.body (cfg0.bodyArgs t (cfg0.slots t)) = bodyAt0 t := by
  unfold defs₀; rw [Defs.onTc_tc]

theorem body_obligation (hF : Counts F) (c : Dev nD) (hin : InRange m c) :
    Pipeline.BodyObligationRel (dats (F := F) m 0 c) (defs₀ (F := F)) Variants.none () Set.univ rel0 (Rl0 m c) := fun t => by
  rw [bigSep_W0, bigSep_W0, defs₀_row]
  exact triple_restated (sound_body m hF c hin t) rfl .rfl fun _ => .rfl

/-- The relational proof data of the run. -/
abbrev rdat (c : Dev nD) : RDat τ (Elt F) Unit ℕ (Pipeline.UD sig nD τ) ℕ cfg0 c := (dats m 0 c).toRRel rel0 (Rl0 m c)

set_option backward.isDefEq.respectTransparency.types false in
theorem run_main (hF : Counts F) (hin : ∀ c, InRange m c) : θ_run defs (onTc (τ := τ) (main (F := F))) (s₀ m ρ)
    (fun r => RDat.FramePostR cfg0 (rdat m) RR (V m) r ∧ r.2.sem = fun _ => 0) :=
  RDat.θ_run_frame_dmaR cfgs (0 : Fin 1) launch0 osem defs₀ Variants.none (rdat m) ownSemFacts HH RR (by decide) (by decide) m ρ main
    (hbody := fun c => (body_obligation m hF c (hin c)).toRRel) (hshare := fun c => (dats m 0 c).share_full fun _ => rfl)
    (howed := fun _ _ => rfl) (V := V m) (hmain := enters m) (hA := A_eq m)
    (hin := fun c => held_in (V m) c) (hout := fun c => held_out (V m) c) (Q' := _)

theorem kept (b : Ref sig .tc) (h : b ∈ Pipeline.restRefs sig spec0) (hb : b ≠ main_v14_1) : b ∈ Pipeline.restRefs sig spec0 \ RR :=
  Finset.mem_sdiff.mpr ⟨h, fun h' => hb (Finset.mem_singleton.mp h')⟩

/-- The run's post gives the arguments back unchanged. -/
theorem frame_post {r : PUnit × MemSt nD τ sig (Elt F)} (h : RDat.FramePostR cfg0 (rdat m) RR (V m) r ∧ r.2.sem = fun _ => 0) :
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  ⟨fun c => ⟨((h.1 c).2 main_arg0 (kept main_arg0 (Pipeline.mem_restRefs_of main_arg0 (by decide) (by decide)) (by decide))).trans (V_main_arg0 m c),
      ((h.1 c).2 main_arg1 (kept main_arg1 (Pipeline.mem_restRefs_of main_arg1 (by decide) (by decide)) (by decide))).trans (V_main_arg1 m c),
      (h.1.arr_in c 8 rfl).trans (V_main_arg2 m c),
      ((h.1 c).2 main_arg3 (kept main_arg3 (Pipeline.mem_restRefs_of main_arg3 (by decide) (by decide)) (by decide))).trans (V_main_arg3 m c),
      ((h.1 c).2 main_arg4 (kept main_arg4 (Pipeline.mem_restRefs_of main_arg4 (by decide) (by decide)) (by decide))).trans (V_main_arg4 m c),
      ((h.1 c).2 main_arg5 (kept main_arg5 (Pipeline.mem_restRefs_of main_arg5 (by decide) (by decide)) (by decide))).trans (V_main_arg5 m c),
      ((h.1 c).2 main_arg6 (kept main_arg6 (Pipeline.mem_restRefs_of main_arg6 (by decide) (by decide)) (by decide))).trans (V_main_arg6 m c),
      ((h.1 c).2 main_arg7 (kept main_arg7 (Pipeline.mem_restRefs_of main_arg7 (by decide) (by decide)) (by decide))).trans (V_main_arg7 m c)⟩, h.2⟩

end Cert.KernelIdeal.Hand
end
-- ==== Proof.KernelIdealInputs.lean ====
module

public import proofs.«01_k».proof.Proof.KernelIdealFrame
public import proofs.«01_k».proof.Proof.Tokens
public import Idealize.ShloMosaic.Lib.StableHlo.ReadAt

@[expose] public section

set_option maxRecDepth 16384

noncomputable section

/-! # The tokens a step sees are in range, of arguments the precondition allows -/

namespace Cert.KernelIdeal.Hand

open Cert.KernelIdeal Cert.KernelIdeal.Gen
open Idealize.ShloMosaic Idealize.ShloMosaic.TcCoe Idealize.SL.Sem
open Idealize.ShloMosaic.Pipeline (Window)

variable {F : FTy → Type} [FloatOps F] [Named F]
variable (m : (ℓ : Loc nD τ sig) → Buf (Elt F) ℓ)

theorem whole_blocks : ∀ t : Fin grid0.N, win0_5.index t 0 = 0 ∧ win0_6.index t 0 = 0 ∧ win0_6.index t 1 = 0 := by decide +kernel

/-- The table of differences as the call finds it: row by row the argument's, where the argument has a position. -/
theorem table_read (c : Dev nD) (r : Fin 272) (l : Fin 128) (h : r.val * 128 + l.val < 32000) :
    V m c main_v12 (ix2 r l) = m ((c.tc : Thread nD τ).loc main_arg6) (ix1 (⟨r.val * 128 + l.val, h⟩ : Fin 32000)) := by
  unfold V
  after_reads_at
  exact dif_pos h

/-- The drafted tokens as the call finds them: column by column the argument's. -/
theorem drafted_read (c : Dev nD) (y : Fin 192) :
    V m c main_v9 (ix1 y) = m ((c.tc : Thread nD τ).loc main_arg7) (ix2 (⟨y.val % 48, by omega⟩ : Fin 48) (⟨y.val / 48, by omega⟩ : Fin 4)) := by
  unfold V
  after_reads_at

theorem in_range (c : Dev nD) (D : S32000.Idx → BitVec 32) (T : S48x4.Idx → BitVec 32)
    (hD : m ((c.tc : Thread nD τ).loc main_arg6) = D) (hT : m ((c.tc : Thread nD τ).loc main_arg7) = T)
    (h6 : ∀ j : Fin 32000, 0 ≤ (D (ix1 j) + BitVec.ofNat 32 j.val).toInt ∧ (D (ix1 j) + BitVec.ofNat 32 j.val).toInt < 151936)
    (h7 : ∀ (r : Fin 48) (k : Fin 4), ∃ n : ℕ, n < 32000 ∧ T (ix2 r k) = BitVec.ofNat 32 n) :
    InRange m c := by
  constructor
  · intro t r l h
    obtain ⟨-, h60, h61⟩ := whole_blocks t
    have e : (iblk m c 6 t : S272x128.Idx → BitVec 32) (ix2 r l) = D (ix1 (⟨r.val * 128 + l.val, h⟩ : Fin 32000)) := by
      refine Eq.trans ?_ ((table_read m c r l h).trans (congrFun hD _))
      show V m c main_v12 (((cfg0.win 6).rect t).emb (ix2 r l)) = _
      refine congrArg (V m c main_v12) (funext fun a => Fin.ext ?_)
      rw [Window.rect_emb_val (cfg0.win 6)]
      fin_cases a
      · show win0_6.index t 0 * 272 + r.val = r.val; omega
      · show win0_6.index t 1 * 128 + l.val = l.val; omega
    have hj := h6 ⟨r.val * 128 + l.val, h⟩
    rw [← e] at hj
    exact hj
  · intro t y
    obtain ⟨h50, -, -⟩ := whole_blocks t
    have e : (iblk m c 5 t : S192.Idx → BitVec 32) y = T (ix2 (⟨(y 0).val % 48, by omega⟩ : Fin 48) (⟨(y 0).val / 48, by have := (y 0).isLt; change (y 0).val < 192 at this; omega⟩ : Fin 4)) := by
      refine Eq.trans ?_ ((drafted_read m c (y 0)).trans (congrFun hT _))
      show V m c main_v9 (((cfg0.win 5).rect t).emb y) = _
      refine congrArg (V m c main_v9) (funext fun a => Fin.ext ?_)
      rw [Window.rect_emb_val (cfg0.win 5)]
      fin_cases a
      show win0_5.index t 0 * 192 + (y 0).val = (y 0).val; omega
    obtain ⟨n, hn, en⟩ := h7 ⟨(y 0).val % 48, by omega⟩ ⟨(y 0).val / 48, by have := (y 0).isLt; change (y 0).val < 192 at this; omega⟩
    exact ⟨n, hn, e.trans en⟩

/-- Arguments of which the precondition holds are in range. -/
theorem in_range_of_pre [Cert.Pre_tokens_named.Facts] (m : (ℓ : Loc nD τ sig) → Buf (Elt Ideal) ℓ) (h : Cert.Pre_KernelIdeal m) (c : Dev nD) : InRange (F := Ideal) m c := by
  obtain ⟨h6, h7⟩ := Cert.Proof.Tokens.ranges (F := Ideal) _ _ _ _ _ _ _ _ (h c)
  exact in_range m c _ _ rfl rfl h6 h7

end Cert.KernelIdeal.Hand
end
-- ==== Proof.ValueTile.lean ====
module

public import proofs.«01_k».proof.Proof.KernelIdealStep
public import Idealize.ShloMosaic.Lib.Pointwise
public import Idealize.ShloMosaic.Lib.ValueIdx
public import Idealize.ShloMosaic.Lib.Pipeline.ValueKit
public import Idealize.ShloMosaic.PureOps.IdealRules

@[expose] public section

set_option maxRecDepth 16384

noncomputable section

/-! # What one step leaves in the logits' buffer, at an element

At `Ideal` element (r, j) of the block is the product of row r of the activations with column j of the weights, times the weights'
scale of that column, times the activations' scale of that row over the temperature. -/

namespace Cert.KernelIdeal.Hand

open Cert.KernelIdeal Cert.KernelIdeal.Gen
open Idealize.ShloMosaic

/-- The scaled product at an element of the block. -/
def ztAt (X : Vec Ideal S240x2560 .fp8e4m3) (XS : Vec Ideal S240x1 .f32) (WS : Vec Ideal S8x128 .f32) (W : Vec Ideal S2560x1024 .fp8e4m3)
    (r : Fin 240) (j : Fin 1024) : EReal :=
  (∑ k : Fin 2560, (X (ix2 r k) : EReal) * (W (ix2 k j) : EReal))
    * (WS (ix2 (⟨j.val / 128, by omega⟩ : Fin 8) (⟨j.val % 128, by omega⟩ : Fin 128)) : EReal)
    * ((XS (ix2 r (0 : Fin 1)) : EReal) * (Named.named (F := Ideal) κ "inv_temp" (φ := .f32) 0x3FB6DB6E#32 : EReal))

/-- The same element by its lane tile `t` and its lane `l`, as a payload reads it. -/
theorem ztAt_of (X : Vec Ideal S240x2560 .fp8e4m3) (XS : Vec Ideal S240x1 .f32) (WS : Vec Ideal S8x128 .f32) (W : Vec Ideal S2560x1024 .fp8e4m3)
    (r r' : Fin 240) (t : Fin 8) (l : Fin 128) (j j' : Fin 1024) (hr : r'.val = r.val) (hj : j.val = 128 * t.val + l.val) (hj' : j'.val = j.val) :
    (∑ k : Fin 2560, (X (ix2 r k) : EReal) * (W (ix2 k j) : EReal)) * (WS (ix2 t l) : EReal)
      * ((XS (ix2 r (0 : Fin 1)) : EReal) * (Named.named (F := Ideal) κ "inv_temp" (φ := .f32) 0x3FB6DB6E#32 : EReal)) = ztAt X XS WS W r' j' := by
  obtain rfl := Fin.ext hr
  obtain rfl := Fin.ext hj'
  have h1 : (⟨j'.val / 128, by omega⟩ : Fin 8) = t := Fin.ext (by show j'.val / 128 = t.val; omega)
  have h2 : (⟨j'.val % 128, by omega⟩ : Fin 128) = l := Fin.ext (by show j'.val % 128 = l.val; omega)
  unfold ztAt
  rw [h1, h2]

theorem zt_apply (X : Vec Ideal S240x2560 .fp8e4m3) (XS : Vec Ideal S240x1 .f32) (WS : Vec Ideal S8x128 .f32) (W : Vec Ideal S2560x1024 .fp8e4m3)
    (y : S240x1024.Idx) : zt X XS WS W y = ztAt X XS WS W (y 0) (y 1) := by
  refine View.canon_apply_of_pieces (fun y : S240x1024.Idx => (ztAt X XS WS W (y 0) (y 1) : Elt Ideal .bf16)) _ ?_ y (ztCover X XS WS W y)
  intro p hp x
  simp only [ztPieces, List.mem_cons, List.not_mem_nil, or_false] at hp
  rcases hp with rfl | rfl | rfl | rfl | rfl | rfl | rfl | rfl
  all_goals
    change (⟨2, ![240, 128]⟩ : Shape).Idx at x
    idx_vars x
    pointwise [k0_pay110, k0_pay109, k0_pay95, k0_pay105, k0_pay104, k0_pay101, k0_pay100, k0_pay97, k0_pay96, k0_pay88,
      k0_pay87, k0_pay86, k0_pay73, k0_pay72, k0_pay83, k0_pay82, k0_pay79, k0_pay78, k0_pay75, k0_pay74]
    refine ztAt_of X XS WS W _ _ _ _ _ _ ?_ ?_ ?_
    all_goals first
      | rfl
      | (simp only [Rect.emb_apply]; simp [Rect.unit]; done)
      | (simp only [Rect.emb_apply]; simp [Rect.unit]; omega)

end Cert.KernelIdeal.Hand
end
-- ==== Proof.ValueKernel.lean ====
module

public import proofs.«01_k».proof.Proof.KernelIdealFrame
public import proofs.«01_k».proof.Proof.ValueTile
public import Idealize.ShloMosaic.Lib.Pipeline.ArrRel

@[expose] public section

set_option maxRecDepth 16384

noncomputable section

/-! # What the logits' array holds after the run

Each step writes its block of 1024 columns, the last one only the 384 that lie in the array. -/

namespace Cert.KernelIdeal.Hand

open Cert.KernelIdeal Cert.KernelIdeal.Gen
open Idealize.ShloMosaic Idealize.ShloMosaic.TcCoe Idealize.SL.Sem
open Idealize.ShloMosaic.Pipeline (Dat RDat Cfg Window)

variable (m : (ℓ : Loc nD τ sig) → Buf (Elt Ideal) ℓ) (ρ : Dev nD → PrngReg)

/-- The logits of the kernel's four operands, at row `r` and column `j`. -/
def logitAt (X : S240x2560.Idx → EReal) (XS : S240x1.Idx → EReal) (WS : S1187x128.Idx → EReal) (W : S2560x151936.Idx → EReal)
    (r : Fin 240) (j : Fin 151936) : EReal :=
  (∑ k : Fin 2560, X (ix2 r k) * W (ix2 k j))
    * WS (ix2 (⟨j.val / 128, by omega⟩ : Fin 1187) (⟨j.val % 128, by omega⟩ : Fin 128))
    * (XS (ix2 r (0 : Fin 1)) * (Named.named (F := Ideal) κ "inv_temp" (φ := .f32) 0x3FB6DB6E#32 : EReal))

/-- The array of them, of the buffers as the call finds them. -/
def logits (c : Dev nD) : Buf (Elt Ideal) ((c.tc : Thread nD τ).loc main_v14_0) :=
  fun y : S240x151936.Idx => logitAt (V m c main_v1) (V m c main_v5) (V m c main_v10) (V m c main_arg2) (y 0) (y 1)

/-- A buffer filled with a moved block reads the block at every index the transfer moves. -/
theorem fill_at {G : Pipeline.Grid} (w : Window sig G) {α : Type} (i : G.Coords) (d : w.block.Idx → α) (g : (w.xblock i).Idx → α)
    (j : w.block.Idx) (h : ∀ a, (j a).val < w.xsize i a) : w.fill i d g j = g fun a => ⟨(j a).val, h a⟩ := by
  unfold Window.fill
  rw [dif_pos ((w.moved_iff i j).mpr h)]

/-- Which block of each clipped array a step works on, and how much of it is moved. -/
theorem sizes : ∀ t : Fin grid0.N, (win0_7.index t 0 = t.val ∧ win0_7.index t 1 = 0 ∧ win0_7.xsize (grid0.coords t) 1 = 128)
    ∧ (win0_8.index t 0 = 0 ∧ win0_8.index t 1 = t.val ∧ win0_8.xsize (grid0.coords t) 0 = 2560)
    ∧ (win0_9.index t 0 = 0 ∧ win0_9.index t 1 = t.val)
    ∧ win0_8.xsize (grid0.coords t) 1 = win0_9.xsize (grid0.coords t) 1
    ∧ win0_9.xsize (grid0.coords t) 1 ≤ 128 * win0_7.xsize (grid0.coords t) 0
    ∧ t.val * 1024 + win0_9.xsize (grid0.coords t) 1 ≤ 151936
    ∧ win0_0.index t 0 = 0 ∧ win0_0.index t 1 = 0 ∧ win0_2.index t 0 = 0 ∧ win0_2.index t 1 = 0 := by decide +kernel

/-- The activations' block is the whole array. -/
theorem x_block (c : Dev nD) (t : Fin cfg0.N) (r : Fin 240) (k : Fin 2560) :
    (iblk m c 0 t : S240x2560.Idx → Elt Ideal .fp8e4m3) (ix2 r k) = V m c main_v1 (ix2 r k) := by
  obtain ⟨-, -, -, -, -, -, h00, h01, h10, h11⟩ := sizes t
  show V m c main_v1 (((cfg0.win 0).rect t).emb (ix2 r k)) = _
  refine congrArg (V m c main_v1) (funext fun a => Fin.ext ?_)
  rw [Window.rect_emb_val (cfg0.win 0)]
  fin_cases a
  · show win0_0.index t 0 * 240 + r.val = r.val; omega
  · show win0_0.index t 1 * 2560 + k.val = k.val; omega

/-- So is the activations' scales'. -/
theorem xs_block (c : Dev nD) (t : Fin cfg0.N) (r : Fin 240) :
    (iblk m c 2 t : S240x1.Idx → Elt Ideal .f32) (ix2 r (0 : Fin 1)) = V m c main_v5 (ix2 r (0 : Fin 1)) := by
  obtain ⟨-, -, -, -, -, -, h00, h01, h10, h11⟩ := sizes t
  show V m c main_v5 (((cfg0.win 2).rect t).emb (ix2 r (0 : Fin 1))) = _
  refine congrArg (V m c main_v5) (funext fun a => Fin.ext ?_)
  rw [Window.rect_emb_val (cfg0.win 2)]
  fin_cases a
  · show win0_2.index t 0 * 240 + r.val = r.val; omega
  · show win0_2.index t 1 * 1 + 0 = 0; omega

/-- Column `j` of the weights' block at step `t` is column `1024 t + j` of the array, where that lies in the array. -/
theorem w_block (c : Dev nD) (t : Fin cfg0.N) (d : S2560x1024.Idx → Elt Ideal .fp8e4m3) (k : Fin 2560) (j : Fin 1024) (j' : Fin 151936)
    (h : j.val < win0_9.xsize (grid0.coords t) 1) (hj : j'.val = t.val * 1024 + j.val) :
    ((cfg0.win 8).fill (grid0.coords t) d (iblk m c 8 t) : S2560x1024.Idx → Elt Ideal .fp8e4m3) (ix2 k j) = V m c main_arg2 (ix2 k j') := by
  obtain ⟨-, ⟨h30, h31, hx3⟩, -, e34, -, -, -⟩ := sizes t
  rw [fill_at (cfg0.win 8) (grid0.coords t) d (iblk m c 8 t) (ix2 k j) (fun a => by
    fin_cases a
    · show k.val < win0_8.xsize (grid0.coords t) 0; omega
    · show j.val < win0_8.xsize (grid0.coords t) 1; omega)]
  show V m c main_arg2 (((cfg0.win 8).rect t).emb _) = _
  refine congrArg (V m c main_arg2) (funext fun a => Fin.ext ?_)
  rw [Window.rect_emb_val (cfg0.win 8)]
  fin_cases a
  · show win0_8.index t 0 * 2560 + k.val = k.val; omega
  · show win0_8.index t 1 * 1024 + j.val = j'.val; rw [h31]; omega

/-- The same of the weights' scales, kept as rows of 128 lanes. -/
theorem ws_block (c : Dev nD) (t : Fin cfg0.N) (d : S8x128.Idx → Elt Ideal .f32) (a : Fin 8) (b b' : Fin 128) (a' : Fin 1187) (j : ℕ)
    (h : j < win0_9.xsize (grid0.coords t) 1) (ha : a.val = j / 128) (ha' : a'.val = (t.val * 1024 + j) / 128) (hb : b'.val = b.val) :
    ((cfg0.win 7).fill (grid0.coords t) d (iblk m c 7 t) : S8x128.Idx → Elt Ideal .f32) (ix2 a b) = V m c main_v10 (ix2 a' b') := by
  obtain ⟨⟨h20, h21, hx2⟩, -, -, -, e24, -, -⟩ := sizes t
  rw [fill_at (cfg0.win 7) (grid0.coords t) d (iblk m c 7 t) (ix2 a b) (fun x => by
    fin_cases x
    · show a.val < win0_7.xsize (grid0.coords t) 0; omega
    · show b.val < win0_7.xsize (grid0.coords t) 1; omega)]
  show V m c main_v10 (((cfg0.win 7).rect t).emb _) = _
  refine congrArg (V m c main_v10) (funext fun x => Fin.ext ?_)
  rw [Window.rect_emb_val (cfg0.win 7)]
  fin_cases x
  · show win0_7.index t 0 * 8 + a.val = a'.val; rw [h20]; omega
  · show win0_7.index t 1 * 128 + b.val = b'.val; omega

/-- What a step leaves in its buffer, at an element of the part that is written back, is the array's logit there. -/
theorem zt_block (c : Dev nD) (t : Fin cfg0.N) (d2 : S8x128.Idx → Elt Ideal .f32) (d3 : S2560x1024.Idx → Elt Ideal .fp8e4m3)
    (r r' : Fin 240) (j : Fin 1024) (j' : Fin 151936) (hr : r'.val = r.val) (h : j.val < win0_9.xsize (grid0.coords t) 1)
    (hj : j'.val = t.val * 1024 + j.val) :
    ztAt (iblk m c 0 t) (iblk m c 2 t) ((cfg0.win 7).fill (grid0.coords t) d2 (iblk m c 7 t))
      ((cfg0.win 8).fill (grid0.coords t) d3 (iblk m c 8 t)) r j
      = logitAt (V m c main_v1) (V m c main_v5) (V m c main_v10) (V m c main_arg2) r' j' := by
  obtain rfl := Fin.ext hr
  unfold ztAt logitAt
  rw [ws_block m c t d2 _ _ (⟨j'.val % 128, by omega⟩ : Fin 128) (⟨j'.val / 128, by omega⟩ : Fin 1187) j.val h rfl
    (by show j'.val / 128 = _; rw [hj]) (by show j'.val % 128 = j.val % 128; omega), xs_block m c t]
  refine congrArg (· * _ * _) (Finset.sum_congr rfl fun k _ => ?_)
  rw [x_block m c t, w_block m c t d3 k j j' h hj]

/-- After a run the logits' array holds them. -/
theorem arr_logits {r : PUnit × MemSt nD τ sig (Elt Ideal)} (h : RDat.FramePostR cfg0 (rdat m) RR (V m) r) (c : Dev nD) :
    r.2.mem ((c.tc : Thread nD τ).loc main_v14_0) = logits m c := by
  obtain ⟨after, hL, hA⟩ := h.exists_exact c
  refine (hA 9).trans ?_
  refine Dat.arrAt_eq_of_covers (cfg := cfg0) ((rdat m c).withAfter after) 9 (logits m c) (by decide +kernel) fun t hf y => ?_
  obtain ⟨d2, d3, e⟩ : Rl0 m c 9 t (after 9 t) := (Dat.toRRel_leaves (dat := dats m 0 c) (fgt := rel0) (Rl := Rl0 m c) (by rfl)) (hL 9 t hf)
  obtain ⟨-, -, ⟨h40, h41⟩, -⟩ := sizes t
  show after 9 t ((cfg0.win 9).xinj (cfg0.grid.coords t) y) = logits m c (((cfg0.win 9).blk t).view.emb y)
  rw [e]
  refine (zt_apply _ _ _ _ _).trans (zt_block m c t d2 d3 _ _ _ _ ?_ (y 1).isLt ?_)
  · show (((cfg0.win 9).rect t).emb y 0 : Nat) = (y 0).val
    rw [Window.rect_emb_val (cfg0.win 9)]
    show win0_9.index t 0 * 240 + (y 0).val = (y 0).val; omega
  · show (((cfg0.win 9).rect t).emb y 1 : Nat) = t.val * 1024 + (y 1).val
    rw [Window.rect_emb_val (cfg0.win 9)]
    show win0_9.index t 1 * 1024 + (y 1).val = _; rw [h41]

end Cert.KernelIdeal.Hand
end
-- ==== Proof.ValueReference.lean ====
module

public import proofs.«01_k».proof.Proof.Gen.ReferenceIdeal.Value
public import Idealize.ShloMosaic.Lib.Pointwise
public import Idealize.ShloMosaic.Lib.Pipeline.ValueKit
public import Idealize.ShloMosaic.PureOps.IdealRules

@[expose] public section

set_option maxRecDepth 16384

noncomputable section

/-! # What the reference's array holds after the run -/

namespace Cert.ReferenceIdeal.Hand

open Cert.ReferenceIdeal Cert.ReferenceIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The logits of the reference's four operands, at row `r` and column `j`. -/
def logitAt (X : S240x2560.Idx → EReal) (XS : S240x1.Idx → EReal) (WS : S1x151936.Idx → EReal) (W : S2560x151936.Idx → EReal)
    (r : Fin 240) (j : Fin 151936) : EReal :=
  Ideal.div ((∑ k : Fin 2560, X (ix2 r k) * W (ix2 k j)) * (XS (ix2 r (0 : Fin 1)) * WS (ix2 (0 : Fin 1) j)))
    (Named.named (F := Ideal) κ "temp" (φ := .f32) 0x3F333333#32 : EReal)

/-- The array of them, of the buffers as the call finds them. -/
def logits (c : Dev nD) : Buf (Elt Ideal) ((c.tc : Thread nD τ).loc main_v5) :=
  fun y : S240x151936.Idx => logitAt (V m c main_v1) (V m c main_v3) (V m c main_v4) (V m c main_arg2) (y 0) (y 1)

/-- Every block is its whole array, at the indices it has there. -/
theorem emb_self (w : Fin cfg0.W) (t : Fin cfg0.N) (y : ((cfg0.win w).xblock (cfg0.grid.coords t)).Idx) (a : Fin (cfg0.win w).shape.rank) :
    (((cfg0.win w).rect t).emb y a : Nat) = y a :=
  Window.rect_emb_val_of_index_zero (cfg0.win w) t a (by fin_cases w <;> rfl) y

theorem block0 (c : Dev nD) (t : Fin cfg0.N) : (iblk m c 0 t : S240x2560.Idx → Elt Ideal .fp8e4m3) = V m c main_v1 :=
  funext fun y => congrArg (V m c main_v1) (funext fun a => Fin.ext (emb_self 0 t y a))
theorem block1 (c : Dev nD) (t : Fin cfg0.N) : (iblk m c 1 t : S240x1.Idx → Elt Ideal .f32) = V m c main_v3 :=
  funext fun y => congrArg (V m c main_v3) (funext fun a => Fin.ext (emb_self 1 t y a))
theorem block2 (c : Dev nD) (t : Fin cfg0.N) : (iblk m c 2 t : S2560x151936.Idx → Elt Ideal .fp8e4m3) = V m c main_arg2 :=
  funext fun y => congrArg (V m c main_arg2) (funext fun a => Fin.ext (emb_self 2 t y a))
theorem block3 (c : Dev nD) (t : Fin cfg0.N) : (iblk m c 3 t : S1x151936.Idx → Elt Ideal .f32) = V m c main_v4 :=
  funext fun y => congrArg (V m c main_v4) (funext fun a => Fin.ext (emb_self 3 t y a))

/-- The body's product, at an element. -/
theorem pay_apply (X : Vec Ideal S240x2560 .fp8e4m3) (W : Vec Ideal S2560x151936 .fp8e4m3) (XS : Vec Ideal S240x1 .f32) (WS : Vec Ideal S1x151936 .f32)
    (r : Fin 240) (j : Fin 151936) : (k0_pay1 X W XS WS (ix2 r j) : EReal) = logitAt X XS WS W r j := by
  pointwise [k0_pay1, logitAt]

theorem arr_logits (c : Dev nD) : (dats m 0 c).arrAt 4 cfg0.N = logits m c := by
  refine (dats m 0 c).arrAt_eq_of_covers 4 _ (by decide +kernel) fun t hf y => ?_
  blk_simp
  rw [after0_4]
  frame_out
  rw [block0, block1, block2, block3]
  have e : (((cfg0.win 4).rect t).emb y : S240x151936.Idx) = y := funext fun a => Fin.ext (emb_self 4 t y a)
  refine Eq.trans ?_ (congrArg (logits m c) e.symm)
  change S240x151936.Idx at y
  obtain ⟨r, j, rfl⟩ : ∃ (r : Fin 240) (j : Fin 151936), y = ix2 r j := ⟨y 0, y 1, eq_ix2 y⟩
  exact pay_apply _ _ _ _ r j

end Cert.ReferenceIdeal.Hand
end
-- ==== Proof.Value.lean ====
module

public import proofs.«01_k».proof.Defs
public import proofs.«01_k».proof.Proof.ValueKernel
public import proofs.«01_k».proof.Proof.ValueReference
public import proofs.«01_k».proof.Proof.KernelIdealInputs
public import Idealize.ShloMosaic.Lib.StableHlo.ReadAt

@[expose] public section

set_option maxRecDepth 16384

noncomputable section

/-! # The two programs' logits are one array

The kernel multiplies the product by the weights' scale and then by the activations' scale times 10/7; the reference multiplies it by the
product of the two scales and divides by 7/10. On the extended reals these are equal, whatever the operands. -/

namespace Cert.Proof.Logits

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem inv_temp : Named.named (F := Ideal) KernelIdeal.κ "inv_temp" (φ := .f32) 0x3FB6DB6E#32 = ((10 / 7 : ℝ) : EReal) :=
  IdealRules.named_const.ideal_named_scalar _ _ _ _ rfl
theorem temp : Named.named (F := Ideal) ReferenceIdeal.κ "temp" (φ := .f32) 0x3F333333#32 = ((7 / 10 : ℝ) : EReal) :=
  IdealRules.named_const.ideal_named_scalar _ _ _ _ rfl

/-- Division by the temperature is multiplication by its inverse. -/
theorem scale_eq (s a b : EReal) : Ideal.div (s * (a * b)) ((7 / 10 : ℝ) : EReal) = s * b * (a * ((10 / 7 : ℝ) : EReal)) := by
  rw [Ideal.div_coe (by norm_num : (7 / 10 : ℝ) ≠ 0), show (1 / (7 / 10 : ℝ)) = 10 / 7 by norm_num]
  ac_rfl

/-- The activations, token rows in the order of the result. -/
theorem x_eq (c : Dev KernelIdeal.nD) (h : m' ((c.tc : Thread ReferenceIdeal.nD ReferenceIdeal.τ).loc ReferenceIdeal.main_arg0) = m ((c.tc : Thread KernelIdeal.nD KernelIdeal.τ).loc KernelIdeal.main_arg0))
    (r : Fin 240) (k : Fin 2560) :
    (ReferenceIdeal.Gen.V m' c ReferenceIdeal.main_v1 (ix2 r k) : EReal) = KernelIdeal.Gen.V m c KernelIdeal.main_v1 (ix2 r k) := by
  unfold ReferenceIdeal.Gen.V KernelIdeal.Gen.V
  after_reads_at
  exact congrFun h _

theorem xs_eq (c : Dev KernelIdeal.nD) (h : m' ((c.tc : Thread ReferenceIdeal.nD ReferenceIdeal.τ).loc ReferenceIdeal.main_arg1) = m ((c.tc : Thread KernelIdeal.nD KernelIdeal.τ).loc KernelIdeal.main_arg1))
    (r : Fin 240) :
    (ReferenceIdeal.Gen.V m' c ReferenceIdeal.main_v3 (ix2 r (0 : Fin 1)) : EReal) = KernelIdeal.Gen.V m c KernelIdeal.main_v5 (ix2 r (0 : Fin 1)) := by
  unfold ReferenceIdeal.Gen.V KernelIdeal.Gen.V
  after_reads_at
  exact congrFun h _

theorem ws_eq (c : Dev KernelIdeal.nD) (h : m' ((c.tc : Thread ReferenceIdeal.nD ReferenceIdeal.τ).loc ReferenceIdeal.main_arg3) = m ((c.tc : Thread KernelIdeal.nD KernelIdeal.τ).loc KernelIdeal.main_arg3))
    (j : Fin 151936) :
    (ReferenceIdeal.Gen.V m' c ReferenceIdeal.main_v4 (ix2 (0 : Fin 1) j) : EReal)
      = KernelIdeal.Gen.V m c KernelIdeal.main_v10 (ix2 (⟨j.val / 128, by omega⟩ : Fin 1187) (⟨j.val % 128, by omega⟩ : Fin 128)) := by
  unfold ReferenceIdeal.Gen.V KernelIdeal.Gen.V
  after_reads_at
  exact congrFun h _

/-- The two arrays of logits are one, of arguments that agree. -/
theorem logits_eq (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)) :
    (ReferenceIdeal.Hand.logits m' c : ReferenceIdeal.S240x151936.Idx → EReal) = KernelIdeal.Hand.logits m c := by
  suffices hs : ∀ (r : Fin 240) (j : Fin 151936),
      ReferenceIdeal.Hand.logitAt (ReferenceIdeal.Gen.V m' c ReferenceIdeal.main_v1) (ReferenceIdeal.Gen.V m' c ReferenceIdeal.main_v3)
        (ReferenceIdeal.Gen.V m' c ReferenceIdeal.main_v4) (ReferenceIdeal.Gen.V m' c ReferenceIdeal.main_arg2) r j
        = KernelIdeal.Hand.logitAt (KernelIdeal.Gen.V m c KernelIdeal.main_v1) (KernelIdeal.Gen.V m c KernelIdeal.main_v5)
          (KernelIdeal.Gen.V m c KernelIdeal.main_v10) (KernelIdeal.Gen.V m c KernelIdeal.main_arg2) r j from
    funext fun y => hs (y 0) (y 1)
  intro r j
  unfold ReferenceIdeal.Hand.logitAt KernelIdeal.Hand.logitAt
  rw [temp, inv_temp, scale_eq, xs_eq m m' c h.2.1, ws_eq m m' c h.2.2.2]
  refine congrArg (· * _ * _) (Finset.sum_congr rfl fun k _ => ?_)
  rw [x_eq m m' c h.1, ReferenceIdeal.Gen.V_main_arg2, KernelIdeal.Gen.V_main_arg2]
  exact congrArg (HMul.hMul (α := EReal) (β := EReal) (γ := EReal) _) (congrFun h.2.2.1 _)

theorem algebraic [Cert.Pre_tokens_named.Facts] : Cert.algebraic_KernelIdeal_ReferenceIdeal := by
  intro m ρ m' ρ' hpre hagree
  refine ⟨fun c => KernelIdeal.Hand.logits m c, ?_, ?_⟩
  · refine (θ_run KernelIdeal.defs _ _).mono (fun r h c => ⟨KernelIdeal.Hand.arr_logits m h.1 c, ?_⟩)
      (KernelIdeal.Hand.run_main (F := Ideal) m ρ Cert.Counting.counts_ideal (KernelIdeal.Hand.in_range_of_pre m hpre))
    exact (KernelIdeal.Hand.frame_post m h).1 c
  · refine (θ_run ReferenceIdeal.defs _ _).mono (fun r h c => ⟨(h c).1.trans ?_, (h c).2⟩) (ReferenceIdeal.Value.run_blocks (F := Ideal) m' ρ')
    refine (ReferenceIdeal.Hand.arr_logits m' c).trans (logits_eq m m' c ?_)
    have h := hagree c
    exact ⟨h.1, h.2.1, h.2.2.1, h.2.2.2.1⟩

end Cert.Proof.Logits
end
-- ==== Proof.lean ====
module

public import proofs.«01_k».proof.Proof.Gen.ReferenceIdeal.Value
public import proofs.«01_k».proof.Proof.KernelInputs
public import proofs.«01_k».proof.Proof.KernelIdealInputs
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tokens_named
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_tokens_named.Gen.facts, by
  exact ⟨fun m ρ hpre => (θ_run Cert.Kernel.defs _ _).mono (fun _ h => Cert.Kernel.Hand.frame_post m h)
      (Cert.Kernel.Hand.run_main (F := Bits) m ρ Cert.Counting.counts_bits (Cert.Kernel.Hand.in_range_of_pre m hpre)),
    fun m ρ hpre => (θ_run Cert.KernelIdeal.defs _ _).mono (fun _ h => Cert.KernelIdeal.Hand.frame_post m h)
      (Cert.KernelIdeal.Hand.run_main (F := Ideal) m ρ Cert.Counting.counts_ideal (Cert.KernelIdeal.Hand.in_range_of_pre m hpre)),
    fun m ρ _ => Cert.ReferenceIdeal.Gen.frame m ρ,
    fun m ρ _ => Cert.ReferenceIdeal.Gen.frame m ρ,
    IdealRules.named_const.statement Cert.KernelIdeal.κ "inv_temp" .f32 0x3FB6DB6E#32 ((10 / 7 : ℝ) : EReal) rfl,
    Cert.Proof.Logits.algebraic⟩⟩

end Cert.Proof

end
